-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_graph_inputs_ok [hPre_graph_inputs_ok : Cert.Pre_graph_inputs_ok.Facts] (m : (ℓ : Loc Cert.KernelIdeal.nD Cert.KernelIdeal.τ Cert.KernelIdeal.sig) → Buf (Elt Ideal) ℓ) : Prop :=
  ∀ c : Dev Cert.KernelIdeal.nD,
    (Cert.Pre_graph_inputs_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_graph_inputs_ok [hPre_graph_inputs_ok : Cert.Pre_graph_inputs_ok.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_graph_inputs_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_KernelIdeal_pre_graph_inputs_ok [hKernelIdeal : Cert.KernelIdeal.Facts] [hPre_graph_inputs_ok : Cert.Pre_graph_inputs_ok.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_graph_inputs_ok m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def quiescent_ReferenceIdeal_pre_graph_inputs_ok [hReferenceIdeal : Cert.ReferenceIdeal.Facts] [hPre_graph_inputs_ok : Cert.Pre_graph_inputs_ok.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_graph_inputs_ok m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def preserves_Kernel_KernelIdeal : Prop :=
  IdealRules.named_const.Statement Cert.KernelIdeal.κ "rsqrt_dh" .f32 0x3E3504F3#32 (((Real.sqrt 32)⁻¹ : ℝ) : EReal)

def algebraic_KernelIdeal_ReferenceIdeal_pre_graph_inputs_ok [hKernelIdeal : Cert.KernelIdeal.Facts] [hReferenceIdeal : Cert.ReferenceIdeal.Facts] [hPre_graph_inputs_ok : Cert.Pre_graph_inputs_ok.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_graph_inputs_ok m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v156)) (v1 : (c : Dev Cert.KernelIdeal.nD) → Buf (Elt Ideal) ((c.tc : Thread Cert.KernelIdeal.nD Cert.KernelIdeal.τ).loc Cert.KernelIdeal.main_v155)) (v2 : (c : Dev Cert.KernelIdeal.nD) → Buf (Elt Ideal) ((c.tc : Thread Cert.KernelIdeal.nD Cert.KernelIdeal.τ).loc Cert.KernelIdeal.main_v59_0)) (v3 : (c : Dev Cert.KernelIdeal.nD) → Buf (Elt Ideal) ((c.tc : Thread Cert.KernelIdeal.nD Cert.KernelIdeal.τ).loc Cert.KernelIdeal.main_cst_16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v156) = v0 c
          ∧ r.2.mem ((c.tc : Thread Cert.KernelIdeal.nD Cert.KernelIdeal.τ).loc Cert.KernelIdeal.main_v155) = v1 c
          ∧ r.2.mem ((c.tc : Thread Cert.KernelIdeal.nD Cert.KernelIdeal.τ).loc Cert.KernelIdeal.main_v59_0) = v2 c
          ∧ r.2.mem ((c.tc : Thread Cert.KernelIdeal.nD Cert.KernelIdeal.τ).loc Cert.KernelIdeal.main_cst_16) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_v284) = v1 c
          ∧ r.2.mem ((c.tc : Thread Cert.ReferenceIdeal.nD Cert.ReferenceIdeal.τ).loc Cert.ReferenceIdeal.main_v97) = v2 c
          ∧ r.2.mem ((c.tc : Thread Cert.ReferenceIdeal.nD Cert.ReferenceIdeal.τ).loc Cert.ReferenceIdeal.main_cst_50) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_graph_inputs_ok : Cert.Pre_graph_inputs_ok.Facts),
    quiescent_Kernel (hKernel := hKernel)
    ∧ quiescent_KernelIdeal (hKernelIdeal := hKernelIdeal)
    ∧ quiescent_KernelIdeal_pre_graph_inputs_ok (hKernelIdeal := hKernelIdeal) (hPre_graph_inputs_ok := hPre_graph_inputs_ok)
    ∧ quiescent_ReferenceIdeal (hReferenceIdeal := hReferenceIdeal)
    ∧ quiescent_ReferenceIdeal_pre_graph_inputs_ok (hReferenceIdeal := hReferenceIdeal) (hPre_graph_inputs_ok := hPre_graph_inputs_ok)
    ∧ preserves_Kernel_KernelIdeal
    ∧ algebraic_KernelIdeal_ReferenceIdeal_pre_graph_inputs_ok (hKernelIdeal := hKernelIdeal) (hReferenceIdeal := hReferenceIdeal) (hPre_graph_inputs_ok := hPre_graph_inputs_ok)
-- ==== Pre_graph_inputs_ok.lean ====
abbrev S2048x20x128 : Shape := ⟨3, ![2048, 20, 128]⟩
abbrev S2048x128 : Shape := ⟨2, ![2048, 128]⟩
abbrev S2x131072 : Shape := ⟨2, ![2, 131072]⟩
abbrev S131072 : Shape := ⟨1, ![131072]⟩
abbrev S384x128 : Shape := ⟨2, ![384, 128]⟩
abbrev S384 : Shape := ⟨1, ![384]⟩
abbrev S128x128 : Shape := ⟨2, ![128, 128]⟩
abbrev S128 : Shape := ⟨1, ![128]⟩
abbrev S128x256 : Shape := ⟨2, ![128, 256]⟩
abbrev S_ : Shape := ⟨0, ![]⟩
abbrev S2x128x128 : Shape := ⟨3, ![2, 128, 128]⟩
abbrev S2x128 : Shape := ⟨2, ![2, 128]⟩

class Facts : Prop where
  bcast_S_S131072 : S_.BroadcastsInDim S131072 (![] : Fin 0 → Fin S131072.rank)
  reducesTo_S131072_S_d0 : S131072.ReducesTo [0] S_
  h_S_ : 0 < S_.numel
  bcast_S_S2048x20x128 : S_.BroadcastsInDim S2048x20x128 (![] : Fin 0 → Fin S2048x20x128.rank)
  reducesTo_S2048x20x128_S_d0_1_2 : S2048x20x128.ReducesTo [0, 1, 2] S_
  bcast_S_S2048x128 : S_.BroadcastsInDim S2048x128 (![] : Fin 0 → Fin S2048x128.rank)
  reducesTo_S2048x128_S_d0_1 : S2048x128.ReducesTo [0, 1] S_
  bcast_S_S384x128 : S_.BroadcastsInDim S384x128 (![] : Fin 0 → Fin S384x128.rank)
  reducesTo_S384x128_S_d0_1 : S384x128.ReducesTo [0, 1] S_
  bcast_S_S384 : S_.BroadcastsInDim S384 (![] : Fin 0 → Fin S384.rank)
  reducesTo_S384_S_d0 : S384.ReducesTo [0] S_

variable [Facts]

def fn_part1 {F : FTy → Type} [FloatOps F] (main_arg5 : FVec F S384x128 .f32) (main_arg6 : FVec F S384 .f32) (main_v12 : IVec S_ 1) (main_v15 : IVec S2048x128 1) (main_c_5 : IVec S_ 1) : IVec S_ 1 :=
  let main_v16 : IVec S_ 1 := (fun x v => Host.reduce IntOp.andi x v reducesTo_S2048x128_S_d0_1 h_S_) main_v15 main_c_5
  let main_v17 : IVec S_ 1 := andi main_v12 main_v16
  let main_v18 : FVec F S384x128 .f32 := Host.absf main_arg5
  let main_cst_6 : FVec F S_ .f32 := constant S_ .f32 0x7F800000#32
  let main_v19 : FVec F S384x128 .f32 := broadcastInDim S384x128 ![] bcast_S_S384x128 main_cst_6
  let main_v20 : IVec S384x128 1 := cmpf .olt main_v18 main_v19
  let main_c_7 : IVec S_ 1 := constantI S_ 1 1#1
  let main_v21 : IVec S_ 1 := (fun x v => Host.reduce IntOp.andi x v reducesTo_S384x128_S_d0_1 h_S_) main_v20 main_c_7
  let main_v22 : IVec S_ 1 := andi main_v17 main_v21
  let main_v23 : FVec F S384 .f32 := Host.absf main_arg6
  let main_cst_8 : FVec F S_ .f32 := constant S_ .f32 0x7F800000#32
  let main_v24 : FVec F S384 .f32 := broadcastInDim S384 ![] bcast_S_S384 main_cst_8
  let main_v25 : IVec S384 1 := cmpf .olt main_v23 main_v24
  let main_c_9 : IVec S_ 1 := constantI S_ 1 1#1
  let main_v26 : IVec S_ 1 := (fun x v => Host.reduce IntOp.andi x v reducesTo_S384_S_d0 h_S_) main_v25 main_c_9
  let main_v27 : IVec S_ 1 := andi main_v22 main_v26
  main_v27

def fn {F : FTy → Type} [FloatOps F] (main_arg0 : FVec F S2048x20x128 .f32) (main_arg1 : FVec F S2048x20x128 .f32) (main_arg2 : FVec F S2048x128 .f32) (main_arg3 : IVec S2x131072 32) (main_arg4 : FVec F S131072 .f32) (main_arg5 : FVec F S384x128 .f32) (main_arg6 : FVec F S384 .f32) (main_arg7 : FVec F S128x128 .f32) (main_arg8 : FVec F S128 .f32) (main_arg9 : FVec F S128x256 .f32) (main_arg10 : FVec F S128 .f32) (main_arg11 : FVec F S_ .f32) (main_arg12 : FVec F S_ .f32) (main_arg13 : FVec F S2x128x128 .f32) (main_arg14 : FVec F S2x128 .f32) (main_arg15 : FVec F S2x128x128 .f32) (main_arg16 : FVec F S2x128 .f32) : IVec S_ 1 :=
  let main_cst : FVec F S_ .f32 := constant S_ .f32 0x00000000#32
  let main_v0 : FVec F S131072 .f32 := broadcastInDim S131072 ![] bcast_S_S131072 main_cst
  let main_v1 : IVec S131072 1 := cmpf .oge main_arg4 main_v0
  let main_c : IVec S_ 1 := constantI S_ 1 1#1
  let main_v2 : IVec S_ 1 := (fun x v => Host.reduce IntOp.andi x v reducesTo_S131072_S_d0 h_S_) main_v1 main_c
  let main_v3 : FVec F S2048x20x128 .f32 := Host.absf main_arg0
  let main_cst_0 : FVec F S_ .f32 := constant S_ .f32 0x7F800000#32
  let main_v4 : FVec F S2048x20x128 .f32 := broadcastInDim S2048x20x128 ![] bcast_S_S2048x20x128 main_cst_0
  let main_v5 : IVec S2048x20x128 1 := cmpf .olt main_v3 main_v4
  let main_c_1 : IVec S_ 1 := constantI S_ 1 1#1
  let main_v6 : IVec S_ 1 := (fun x v => Host.reduce IntOp.andi x v reducesTo_S2048x20x128_S_d0_1_2 h_S_) main_v5 main_c_1
  let main_v7 : IVec S_ 1 := andi main_v2 main_v6
  let main_v8 : FVec F S2048x20x128 .f32 := Host.absf main_arg1
  let main_cst_2 : FVec F S_ .f32 := constant S_ .f32 0x7F800000#32
  let main_v9 : FVec F S2048x20x128 .f32 := broadcastInDim S2048x20x128 ![] bcast_S_S2048x20x128 main_cst_2
  let main_v10 : IVec S2048x20x128 1 := cmpf .olt main_v8 main_v9
  let main_c_3 : IVec S_ 1 := constantI S_ 1 1#1
  let main_v11 : IVec S_ 1 := (fun x v => Host.reduce IntOp.andi x v reducesTo_S2048x20x128_S_d0_1_2 h_S_) main_v10 main_c_3
  let main_v12 : IVec S_ 1 := andi main_v7 main_v11
  let main_v13 : FVec F S2048x128 .f32 := Host.absf main_arg2
  let main_cst_4 : FVec F S_ .f32 := constant S_ .f32 0x7F800000#32
  let main_v14 : FVec F S2048x128 .f32 := broadcastInDim S2048x128 ![] bcast_S_S2048x128 main_cst_4
  let main_v15 : IVec S2048x128 1 := cmpf .olt main_v13 main_v14
  let main_c_5 : IVec S_ 1 := constantI S_ 1 1#1
  fn_part1 (F := F) main_arg5 main_arg6 main_v12 main_v15 main_c_5
-- ==== Kernel.lean ====
abbrev S2048x20x128 : Shape := ⟨3, ![2048, 20, 128]⟩
abbrev S2048x128 : Shape := ⟨2, ![2048, 128]⟩
abbrev S2x131072 : Shape := ⟨2, ![2, 131072]⟩
abbrev S131072 : Shape := ⟨1, ![131072]⟩
abbrev S384x128 : Shape := ⟨2, ![384, 128]⟩
abbrev S384 : Shape := ⟨1, ![384]⟩
abbrev S128x128 : Shape := ⟨2, ![128, 128]⟩
abbrev S128 : Shape := ⟨1, ![128]⟩
abbrev S128x256 : Shape := ⟨2, ![128, 256]⟩
abbrev S_ : Shape := ⟨0, ![]⟩
abbrev S2x128x128 : Shape := ⟨3, ![2, 128, 128]⟩
abbrev S2x128 : Shape := ⟨2, ![2, 128]⟩
abbrev S1x128 : Shape := ⟨2, ![1, 128]⟩
abbrev S128x1 : Shape := ⟨2, ![128, 1]⟩
abbrev S4 : Shape := ⟨1, ![4]⟩
abbrev S1x4 : Shape := ⟨2, ![1, 4]⟩
abbrev S128x4 : Shape := ⟨2, ![128, 4]⟩
abbrev S4x128 : Shape := ⟨2, ![4, 128]⟩
abbrev S256x256 : Shape := ⟨2, ![256, 256]⟩
abbrev S1x1 : Shape := ⟨2, ![1, 1]⟩
abbrev S2048x1x128 : Shape := ⟨3, ![2048, 1, 128]⟩
abbrev S256x128 : Shape := ⟨2, ![256, 128]⟩
abbrev S256x20x128 : Shape := ⟨3, ![256, 20, 128]⟩
abbrev S256x4 : Shape := ⟨2, ![256, 4]⟩
abbrev S256x1x128 : Shape := ⟨3, ![256, 1, 128]⟩
abbrev S4096x128 : Shape := ⟨2, ![4096, 128]⟩
abbrev S4096x4096 : Shape := ⟨2, ![4096, 4096]⟩
abbrev S1x4096 : Shape := ⟨2, ![1, 4096]⟩
abbrev S128x4096 : Shape := ⟨2, ![128, 4096]⟩
abbrev S4096 : Shape := ⟨1, ![4096]⟩
abbrev S1x128x128 : Shape := ⟨3, ![1, 128, 128]⟩
abbrev S4096x256 : Shape := ⟨2, ![4096, 256]⟩
abbrev S1x256 : Shape := ⟨2, ![1, 256]⟩
abbrev S256x1 : Shape := ⟨2, ![256, 1]⟩
abbrev S1x131072 : Shape := ⟨2, ![1, 131072]⟩
abbrev S131072x1 : Shape := ⟨2, ![131072, 1]⟩
abbrev S32x4096 : Shape := ⟨2, ![32, 4096]⟩
abbrev S1 : Shape := ⟨1, ![1]⟩
abbrev S524288 : Shape := ⟨1, ![524288]⟩
abbrev S131072x128 : Shape := ⟨2, ![131072, 128]⟩

abbrev nBuf : Space → Nat
  | .hbm => 215
  | .vmem => 142
  | .smem => 0
  | _ => 0

abbrev hbmTy0_0 (i : Nat) : BufTy := match i % 128 with
  | 0 => ⟨S2048x20x128, .f32⟩
  | 1 => ⟨S2048x20x128, .f32⟩
  | 2 => ⟨S2048x128, .f32⟩
  | 3 => ⟨S2x131072, .i32⟩
  | 4 => ⟨S131072, .f32⟩
  | 5 => ⟨S384x128, .f32⟩
  | 6 => ⟨S384, .f32⟩
  | 7 => ⟨S128x128, .f32⟩
  | 8 => ⟨S128, .f32⟩
  | 9 => ⟨S128x256, .f32⟩
  | 10 => ⟨S128, .f32⟩
  | 11 => ⟨S_, .f32⟩
  | 12 => ⟨S_, .f32⟩
  | 13 => ⟨S2x128x128, .f32⟩
  | 14 => ⟨S2x128, .f32⟩
  | 15 => ⟨S2x128x128, .f32⟩
  | 16 => ⟨S2x128, .f32⟩
  | 17 => ⟨S128x128, .f32⟩
  | 18 => ⟨S128x128, .f32⟩
  | 19 => ⟨S128x128, .f32⟩
  | 20 => ⟨S128x128, .f32⟩
  | 21 => ⟨S128x128, .f32⟩
  | 22 => ⟨S128x128, .f32⟩
  | 23 => ⟨S128, .f32⟩
  | 24 => ⟨S1x128, .f32⟩
  | 25 => ⟨S128, .f32⟩
  | 26 => ⟨S1x128, .f32⟩
  | 27 => ⟨S128, .f32⟩
  | 28 => ⟨S1x128, .f32⟩
  | 29 => ⟨S128x128, .f32⟩
  | 30 => ⟨S1x128, .f32⟩
  | 31 => ⟨S128x128, .f32⟩
  | 32 => ⟨S128x128, .f32⟩
  | 33 => ⟨S128x128, .f32⟩
  | 34 => ⟨S128x128, .f32⟩
  | 35 => ⟨S1x128, .f32⟩
  | 36 => ⟨S128, .i32⟩
  | 37 => ⟨S128x1, .i32⟩
  | 38 => ⟨S_, .i32⟩
  | 39 => ⟨S_, .i32⟩
  | 40 => ⟨S128x1, .i32⟩
  | 41 => ⟨S128x1, .i32⟩
  | 42 => ⟨S128x1, .i32⟩
  | 43 => ⟨S_, .i32⟩
  | 44 => ⟨S128x1, .i32⟩
  | 45 => ⟨S128x1, .i1⟩
  | 46 => ⟨S128x1, .i32⟩
  | 47 => ⟨S128x1, .i32⟩
  | 48 => ⟨S_, .i32⟩
  | 49 => ⟨S128x1, .i32⟩
  | 50 => ⟨S128x1, .i1⟩
  | 51 => ⟨S128x1, .i1⟩
  | 52 => ⟨S_, .i32⟩
  | 53 => ⟨S128x1, .i32⟩
  | 54 => ⟨S128x1, .i32⟩
  | 55 => ⟨S128x1, .i32⟩
  | 56 => ⟨S4, .i32⟩
  | 57 => ⟨S1x4, .i32⟩
  | 58 => ⟨S128x4, .i32⟩
  | 59 => ⟨S128x4, .i32⟩
  | 60 => ⟨S128x4, .i1⟩
  | 61 => ⟨S128x4, .f32⟩
  | 62 => ⟨S4x128, .f32⟩
  | 63 => ⟨S128x128, .i32⟩
  | 64 => ⟨S128x128, .i32⟩
  | 65 => ⟨S_, .i32⟩
  | 66 => ⟨S128x128, .i32⟩
  | 67 => ⟨S128x128, .i32⟩
  | 68 => ⟨S128x128, .i1⟩
  | 69 => ⟨S128x128, .f32⟩
  | 70 => ⟨S256x256, .i32⟩
  | 71 => ⟨S256x256, .i32⟩
  | 72 => ⟨S_, .i32⟩
  | 73 => ⟨S256x256, .i32⟩
  | 74 => ⟨S256x256, .i32⟩
  | 75 => ⟨S256x256, .i1⟩
  | 76 => ⟨S256x256, .f32⟩
  | 77 => ⟨S_, .f32⟩
  | 78 => ⟨S1x1, .f32⟩
  | 79 => ⟨S1x1, .f32⟩
  | 80 => ⟨S1x1, .f32⟩
  | 81 => ⟨S_, .f32⟩
  | 82 => ⟨S1x1, .f32⟩
  | 83 => ⟨S1x1, .f32⟩
  | 84 => ⟨S1x1, .f32⟩
  | 85 => ⟨S2048x1x128, .f32⟩
  | 86 => ⟨S2048x128, .f32⟩
  | 87 => ⟨S2048x1x128, .f32⟩
  | 88 => ⟨S2048x128, .f32⟩
  | 89 => ⟨S2x128, .f32⟩
  | 90 => ⟨S1x128, .f32⟩
  | 91 => ⟨S2048x128, .f32⟩
  | 92 => ⟨S2048x128, .f32⟩
  | 93 => ⟨S2048x128, .f32⟩
  | 94 => ⟨S1x128, .f32⟩
  | 95 => ⟨S2048x128, .f32⟩
  | 96 => ⟨S2048x128, .f32⟩
  | 97 => ⟨S2048x128, .f32⟩
  | 98 => ⟨S4096x128, .f32⟩
  | 99 => ⟨S4096x128, .f32⟩
  | 100 => ⟨S4096x128, .f32⟩
  | 101 => ⟨S4096x4096, .f32⟩
  | 102 => ⟨S1x4096, .f32⟩
  | 103 => ⟨S1x128x128, .f32⟩
  | 104 => ⟨S128x128, .f32⟩
  | 105 => ⟨S128x128, .f32⟩
  | 106 => ⟨S4096x128, .f32⟩
  | 107 => ⟨S1x128, .f32⟩
  | 108 => ⟨S128, .f32⟩
  | 109 => ⟨S1x128, .f32⟩
  | 110 => ⟨S4096x128, .f32⟩
  | 111 => ⟨S1x128x128, .f32⟩
  | 112 => ⟨S128x128, .f32⟩
  | 113 => ⟨S128x128, .f32⟩
  | 114 => ⟨S4096x128, .f32⟩
  | 115 => ⟨S1x128, .f32⟩
  | 116 => ⟨S128, .f32⟩
  | 117 => ⟨S1x128, .f32⟩
  | 118 => ⟨S4096x128, .f32⟩
  | 119 => ⟨S1x131072, .i32⟩
  | 120 => ⟨S131072, .i32⟩
  | 121 => ⟨S1x131072, .i32⟩
  | 122 => ⟨S131072, .i32⟩
  | 123 => ⟨S_, .f32⟩
  | 124 => ⟨S4096, .f32⟩
  | 125 => ⟨S131072x1, .i32⟩
  | 126 => ⟨S4096, .f32⟩
  | 127 => ⟨S_, .f32⟩
  | _ => ⟨S2048x20x128, .f32⟩

abbrev hbmTy0_1 (i : Nat) : BufTy := match i % 128 with
  | 0 => ⟨S32x4096, .f32⟩
  | 1 => ⟨S_, .i32⟩
  | 2 => ⟨S1, .i32⟩
  | 3 => ⟨S32x4096, .f32⟩
  | 4 => ⟨S1x4096, .f32⟩
  | 5 => ⟨S1x4096, .f32⟩
  | 6 => ⟨S4096, .f32⟩
  | 7 => ⟨S_, .i32⟩
  | 8 => ⟨S131072, .i32⟩
  | 9 => ⟨S131072, .i1⟩
  | 10 => ⟨S_, .i32⟩
  | 11 => ⟨S131072, .i32⟩
  | 12 => ⟨S131072, .i32⟩
  | 13 => ⟨S131072, .i32⟩
  | 14 => ⟨S131072x1, .i32⟩
  | 15 => ⟨S131072, .f32⟩
  | 16 => ⟨S131072, .f32⟩
  | 17 => ⟨S_, .i32⟩
  | 18 => ⟨S131072, .i32⟩
  | 19 => ⟨S131072, .i1⟩
  | 20 => ⟨S_, .i32⟩
  | 21 => ⟨S131072, .i32⟩
  | 22 => ⟨S131072, .i32⟩
  | 23 => ⟨S131072, .i32⟩
  | 24 => ⟨S131072x1, .i32⟩
  | 25 => ⟨S131072, .f32⟩
  | 26 => ⟨S131072, .f32⟩
  | 27 => ⟨S1x128x128, .f32⟩
  | 28 => ⟨S128x128, .f32⟩
  | 29 => ⟨S128x4096, .f32⟩
  | 30 => ⟨S524288, .f32⟩
  | 31 => ⟨S128x4096, .f32⟩
  | 32 => ⟨S4096x128, .f32⟩
  | 33 => ⟨S131072x1, .f32⟩
  | 34 => ⟨S_, .i32⟩
  | 35 => ⟨S131072, .i32⟩
  | 36 => ⟨S131072, .i1⟩
  | 37 => ⟨S_, .i32⟩
  | 38 => ⟨S131072, .i32⟩
  | 39 => ⟨S131072, .i32⟩
  | 40 => ⟨S131072, .i32⟩
  | 41 => ⟨S131072x1, .i32⟩
  | 42 => ⟨S131072x128, .f32⟩
  | 43 => ⟨S131072x128, .f32⟩
  | 44 => ⟨S131072x128, .f32⟩
  | 45 => ⟨S_, .f32⟩
  | 46 => ⟨S4096x128, .f32⟩
  | 47 => ⟨S131072x1, .i32⟩
  | 48 => ⟨S4096x128, .f32⟩
  | 49 => ⟨S128x4096, .f32⟩
  | 50 => ⟨S524288, .f32⟩
  | 51 => ⟨S128x4096, .f32⟩
  | 52 => ⟨S1x128, .f32⟩
  | 53 => ⟨S128, .f32⟩
  | 54 => ⟨S1x128, .f32⟩
  | 55 => ⟨S4096x128, .f32⟩
  | 56 => ⟨S1x128x128, .f32⟩
  | 57 => ⟨S128x128, .f32⟩
  | 58 => ⟨S128x4096, .f32⟩
  | 59 => ⟨S524288, .f32⟩
  | 60 => ⟨S128x4096, .f32⟩
  | 61 => ⟨S4096x128, .f32⟩
  | 62 => ⟨S131072x1, .f32⟩
  | 63 => ⟨S_, .i32⟩
  | 64 => ⟨S131072, .i32⟩
  | 65 => ⟨S131072, .i1⟩
  | 66 => ⟨S_, .i32⟩
  | 67 => ⟨S131072, .i32⟩
  | 68 => ⟨S131072, .i32⟩
  | 69 => ⟨S131072, .i32⟩
  | 70 => ⟨S131072x1, .i32⟩
  | 71 => ⟨S131072x128, .f32⟩
  | 72 => ⟨S131072x128, .f32⟩
  | 73 => ⟨S131072x128, .f32⟩
  | 74 => ⟨S_, .f32⟩
  | 75 => ⟨S4096x128, .f32⟩
  | 76 => ⟨S131072x1, .i32⟩
  | 77 => ⟨S4096x128, .f32⟩
  | 78 => ⟨S128x4096, .f32⟩
  | 79 => ⟨S524288, .f32⟩
  | 80 => ⟨S128x4096, .f32⟩
  | 81 => ⟨S1x128, .f32⟩
  | 82 => ⟨S128, .f32⟩
  | 83 => ⟨S1x128, .f32⟩
  | 84 => ⟨S4096x128, .f32⟩
  | 85 => ⟨S4096x128, .f32⟩
  | 86 => ⟨S_, .f32⟩
  | _ => ⟨S2048x20x128, .f32⟩

abbrev hbmTy (i : Nat) : BufTy := match i / 128 with
  | 0 => hbmTy0_0 i
  | 1 => hbmTy0_1 i
  | _ => ⟨S2048x20x128, .f32⟩

abbrev vmemTy0_0 (i : Nat) : BufTy := match i % 128 with
  | 0 => ⟨S2048x128, .f32⟩
  | 1 => ⟨S2048x128, .f32⟩
  | 2 => ⟨S2x128, .f32⟩
  | 3 => ⟨S256x128, .f32⟩
  | 4 => ⟨S256x128, .f32⟩
  | 5 => ⟨S256x20x128, .f32⟩
  | 6 => ⟨S256x20x128, .f32⟩
  | 7 => ⟨S1x128, .f32⟩
  | 8 => ⟨S128x128, .f32⟩
  | 9 => ⟨S128x128, .f32⟩
  | 10 => ⟨S128x128, .f32⟩
  | 11 => ⟨S1x128, .f32⟩
  | 12 => ⟨S1x128, .f32⟩
  | 13 => ⟨S1x128, .f32⟩
  | 14 => ⟨S128x128, .f32⟩
  | 15 => ⟨S1x128, .f32⟩
  | 16 => ⟨S128x128, .f32⟩
  | 17 => ⟨S128x128, .f32⟩
  | 18 => ⟨S1x128, .f32⟩
  | 19 => ⟨S128x4, .f32⟩
  | 20 => ⟨S4x128, .f32⟩
  | 21 => ⟨S1x1, .f32⟩
  | 22 => ⟨S1x1, .f32⟩
  | 23 => ⟨S256x128, .f32⟩
  | 24 => ⟨S256x128, .f32⟩
  | 25 => ⟨S256x128, .f32⟩
  | 26 => ⟨S256x128, .f32⟩
  | 27 => ⟨S256x128, .f32⟩
  | 28 => ⟨S256x128, .f32⟩
  | 29 => ⟨S256x128, .f32⟩
  | 30 => ⟨S256x128, .f32⟩
  | 31 => ⟨S256x20x128, .f32⟩
  | 32 => ⟨S256x20x128, .f32⟩
  | 33 => ⟨S1x128, .f32⟩
  | 34 => ⟨S128x128, .f32⟩
  | 35 => ⟨S128x128, .f32⟩
  | 36 => ⟨S128x128, .f32⟩
  | 37 => ⟨S1x128, .f32⟩
  | 38 => ⟨S1x128, .f32⟩
  | 39 => ⟨S1x128, .f32⟩
  | 40 => ⟨S128x128, .f32⟩
  | 41 => ⟨S1x128, .f32⟩
  | 42 => ⟨S128x128, .f32⟩
  | 43 => ⟨S128x128, .f32⟩
  | 44 => ⟨S1x128, .f32⟩
  | 45 => ⟨S128x4, .f32⟩
  | 46 => ⟨S4x128, .f32⟩
  | 47 => ⟨S1x1, .f32⟩
  | 48 => ⟨S1x1, .f32⟩
  | 49 => ⟨S256x128, .f32⟩
  | 50 => ⟨S256x128, .f32⟩
  | 51 => ⟨S256x128, .f32⟩
  | 52 => ⟨S256x128, .f32⟩
  | 53 => ⟨S256x128, .f32⟩
  | 54 => ⟨S256x128, .f32⟩
  | 55 => ⟨S4096x128, .f32⟩
  | 56 => ⟨S4096x128, .f32⟩
  | 57 => ⟨S128x128, .f32⟩
  | 58 => ⟨S128x128, .f32⟩
  | 59 => ⟨S128x128, .f32⟩
  | 60 => ⟨S128x128, .f32⟩
  | 61 => ⟨S128x4096, .f32⟩
  | 62 => ⟨S128x4096, .f32⟩
  | 63 => ⟨S1x4096, .f32⟩
  | 64 => ⟨S1x4096, .f32⟩
  | 65 => ⟨S128x128, .f32⟩
  | 66 => ⟨S128x128, .f32⟩
  | 67 => ⟨S128x128, .f32⟩
  | 68 => ⟨S1x128, .f32⟩
  | 69 => ⟨S1x128, .f32⟩
  | 70 => ⟨S128x128, .f32⟩
  | 71 => ⟨S128x128, .f32⟩
  | 72 => ⟨S128x128, .f32⟩
  | 73 => ⟨S4096x256, .f32⟩
  | 74 => ⟨S4096x256, .f32⟩
  | 75 => ⟨S4096x128, .f32⟩
  | 76 => ⟨S256x128, .f32⟩
  | 77 => ⟨S256x128, .f32⟩
  | 78 => ⟨S1x256, .f32⟩
  | 79 => ⟨S1x256, .f32⟩
  | 80 => ⟨S256x128, .f32⟩
  | 81 => ⟨S256x128, .f32⟩
  | 82 => ⟨S1x128, .f32⟩
  | 83 => ⟨S256x256, .f32⟩
  | 84 => ⟨S256x128, .f32⟩
  | 85 => ⟨S256x128, .f32⟩
  | 86 => ⟨S128x128, .f32⟩
  | 87 => ⟨S128x128, .f32⟩
  | 88 => ⟨S128x128, .f32⟩
  | 89 => ⟨S1x128, .f32⟩
  | 90 => ⟨S1x128, .f32⟩
  | 91 => ⟨S128x128, .f32⟩
  | 92 => ⟨S128x128, .f32⟩
  | 93 => ⟨S128x128, .f32⟩
  | 94 => ⟨S4096x256, .f32⟩
  | 95 => ⟨S4096x256, .f32⟩
  | 96 => ⟨S4096x128, .f32⟩
  | 97 => ⟨S256x128, .f32⟩
  | 98 => ⟨S256x128, .f32⟩
  | 99 => ⟨S1x256, .f32⟩
  | 100 => ⟨S1x256, .f32⟩
  | 101 => ⟨S256x128, .f32⟩
  | 102 => ⟨S256x128, .f32⟩
  | 103 => ⟨S1x128, .f32⟩
  | 104 => ⟨S256x256, .f32⟩
  | 105 => ⟨S256x128, .f32⟩
  | 106 => ⟨S256x128, .f32⟩
  | 107 => ⟨S32x4096, .f32⟩
  | 108 => ⟨S1x4096, .f32⟩
  | 109 => ⟨S1x4096, .f32⟩
  | 110 => ⟨S128x128, .f32⟩
  | 111 => ⟨S4096x128, .f32⟩
  | 112 => ⟨S128x4096, .f32⟩
  | 113 => ⟨S128x128, .f32⟩
  | 114 => ⟨S128x128, .f32⟩
  | 115 => ⟨S128x128, .f32⟩
  | 116 => ⟨S128x128, .f32⟩
  | 117 => ⟨S1x128, .f32⟩
  | 118 => ⟨S1x128, .f32⟩
  | 119 => ⟨S128x128, .f32⟩
  | 120 => ⟨S128x128, .f32⟩
  | 121 => ⟨S1x128, .f32⟩
  | 122 => ⟨S128x128, .f32⟩
  | 123 => ⟨S128x128, .f32⟩
  | 124 => ⟨S128x128, .f32⟩
  | 125 => ⟨S128x128, .f32⟩
  | 126 => ⟨S4096x128, .f32⟩
  | 127 => ⟨S128x4096, .f32⟩
  | _ => ⟨S2048x20x128, .f32⟩

abbrev vmemTy0_1 (i : Nat) : BufTy := match i % 128 with
  | 0 => ⟨S128x128, .f32⟩
  | 1 => ⟨S128x128, .f32⟩
  | 2 => ⟨S128x128, .f32⟩
  | 3 => ⟨S128x128, .f32⟩
  | 4 => ⟨S1x128, .f32⟩
  | 5 => ⟨S1x128, .f32⟩
  | 6 => ⟨S128x128, .f32⟩
  | 7 => ⟨S128x128, .f32⟩
  | 8 => ⟨S1x128, .f32⟩
  | 9 => ⟨S128x128, .f32⟩
  | 10 => ⟨S128x128, .f32⟩
  | 11 => ⟨S128x128, .f32⟩
  | 12 => ⟨S128x128, .f32⟩
  | 13 => ⟨S128x128, .f32⟩
  | _ => ⟨S2048x20x128, .f32⟩

abbrev vmemTy (i : Nat) : BufTy := match i / 128 with
  | 0 => vmemTy0_0 i
  | 1 => vmemTy0_1 i
  | _ => ⟨S2048x20x128, .f32⟩

abbrev bufTy : (tb : Table) → Fin (tcTables nBuf tb) → BufTy
  | .hbm, ⟨i, _⟩ => hbmTy i
  | .local _ .vmem, ⟨i, _⟩ => vmemTy i
  | _, _ => ⟨S2048x20x128, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | _ => false

abbrev dmaSemScopedAt (i : Nat) : Bool := match i / 128 with
  | 0 => dmaSemScopedAt0_0 i
  | 1 => dmaSemScopedAt0_1 i
  | _ => false

abbrev vmemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | _ => false

abbrev vmemScopedAt (i : Nat) : Bool := match i / 128 with
  | 0 => vmemScopedAt0_0 i
  | 1 => vmemScopedAt0_1 i
  | _ => false

abbrev bufScoped : (cs : CoreSpace) → Fin (nBuf (.core cs)) → Bool
  | .vmem, ⟨i, _⟩ => vmemScopedAt i
  | _, _ => false

abbrev semScoped : Fin 0 → Bool
  | ⟨_, h⟩ => absurd h (Nat.not_lt_zero _)

abbrev dmaSemScoped : Fin 141 → Bool
  | ⟨i, _⟩ => dmaSemScopedAt i

abbrev sig : RefSig :=
  ofTc nBuf bufTy 0 141 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_c : Ref sig .tc := ⟨.hbm, 38, rfl⟩
abbrev main_call0_v0 : Ref sig .tc := ⟨.hbm, 39, rfl⟩
abbrev main_call0_v1 : Ref sig .tc := ⟨.hbm, 40, rfl⟩
abbrev main_call0_v2 : Ref sig .tc := ⟨.hbm, 41, rfl⟩
abbrev main_call0_v3 : Ref sig .tc := ⟨.hbm, 42, rfl⟩
abbrev main_call0_v4 : Ref sig .tc := ⟨.hbm, 43, rfl⟩
abbrev main_call0_v5 : Ref sig .tc := ⟨.hbm, 44, rfl⟩
abbrev main_call0_v6 : Ref sig .tc := ⟨.hbm, 45, rfl⟩
abbrev main_call0_v7 : Ref sig .tc := ⟨.hbm, 46, rfl⟩
abbrev main_call0_v8 : Ref sig .tc := ⟨.hbm, 47, rfl⟩
abbrev main_call0_c : Ref sig .tc := ⟨.hbm, 48, rfl⟩
abbrev main_call0_v9 : Ref sig .tc := ⟨.hbm, 49, rfl⟩
abbrev main_call0_v10 : Ref sig .tc := ⟨.hbm, 50, rfl⟩
abbrev main_call0_v11 : Ref sig .tc := ⟨.hbm, 51, rfl⟩
abbrev main_call0_c_0 : Ref sig .tc := ⟨.hbm, 52, rfl⟩
abbrev main_call0_v12 : Ref sig .tc := ⟨.hbm, 53, rfl⟩
abbrev main_call0_v13 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_c_0 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_c_1 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_cst : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_cst_2 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53_0 : Ref sig .tc := ⟨.hbm, 91, rfl⟩
abbrev main_v53_1 : Ref sig .tc := ⟨.hbm, 92, rfl⟩
abbrev main_v53_2 : Ref sig .tc := ⟨.hbm, 93, rfl⟩
abbrev main_v54 : Ref sig .tc := ⟨.hbm, 94, rfl⟩
abbrev main_v55_0 : Ref sig .tc := ⟨.hbm, 95, rfl⟩
abbrev main_v55_1 : Ref sig .tc := ⟨.hbm, 96, rfl⟩
abbrev main_v55_2 : Ref sig .tc := ⟨.hbm, 97, rfl⟩
abbrev main_v56 : Ref sig .tc := ⟨.hbm, 98, rfl⟩
abbrev main_v57 : Ref sig .tc := ⟨.hbm, 99, rfl⟩
abbrev main_v58 : Ref sig .tc := ⟨.hbm, 100, rfl⟩
abbrev main_v59_0 : Ref sig .tc := ⟨.hbm, 101, rfl⟩
abbrev main_v59_1 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_cst_3 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_cst_4 : Ref sig .tc := ⟨.hbm, 127, rfl⟩
abbrev main_v83 : Ref sig .tc := ⟨.hbm, 128, rfl⟩
abbrev main_c_5 : Ref sig .tc := ⟨.hbm, 129, rfl⟩
abbrev main_v84 : Ref sig .tc := ⟨.hbm, 130, rfl⟩
abbrev main_v85 : Ref sig .tc := ⟨.hbm, 131, rfl⟩
abbrev main_v86_0 : Ref sig .tc := ⟨.hbm, 132, rfl⟩
abbrev main_v86_1 : Ref sig .tc := ⟨.hbm, 133, rfl⟩
abbrev main_v87 : Ref sig .tc := ⟨.hbm, 134, rfl⟩
abbrev main_c_6 : Ref sig .tc := ⟨.hbm, 135, rfl⟩
abbrev main_v88 : Ref sig .tc := ⟨.hbm, 136, rfl⟩
abbrev main_v89 : Ref sig .tc := ⟨.hbm, 137, rfl⟩
abbrev main_c_7 : Ref sig .tc := ⟨.hbm, 138, rfl⟩
abbrev main_v90 : Ref sig .tc := ⟨.hbm, 139, rfl⟩
abbrev main_v91 : Ref sig .tc := ⟨.hbm, 140, rfl⟩
abbrev main_v92 : Ref sig .tc := ⟨.hbm, 141, rfl⟩
abbrev main_v93 : Ref sig .tc := ⟨.hbm, 142, rfl⟩
abbrev main_v94 : Ref sig .tc := ⟨.hbm, 143, rfl⟩
abbrev main_v95 : Ref sig .tc := ⟨.hbm, 144, rfl⟩
abbrev main_c_8 : Ref sig .tc := ⟨.hbm, 145, rfl⟩
abbrev main_v96 : Ref sig .tc := ⟨.hbm, 146, rfl⟩
abbrev main_v97 : Ref sig .tc := ⟨.hbm, 147, rfl⟩
abbrev main_c_9 : Ref sig .tc := ⟨.hbm, 148, rfl⟩
abbrev main_v98 : Ref sig .tc := ⟨.hbm, 149, rfl⟩
abbrev main_v99 : Ref sig .tc := ⟨.hbm, 150, rfl⟩
abbrev main_v100 : Ref sig .tc := ⟨.hbm, 151, rfl⟩
abbrev main_v101 : Ref sig .tc := ⟨.hbm, 152, rfl⟩
abbrev main_v102 : Ref sig .tc := ⟨.hbm, 153, rfl⟩
abbrev main_v103 : Ref sig .tc := ⟨.hbm, 154, rfl⟩
abbrev main_v104 : Ref sig .tc := ⟨.hbm, 155, rfl⟩
abbrev main_v105 : Ref sig .tc := ⟨.hbm, 156, rfl⟩
abbrev main_v106 : Ref sig .tc := ⟨.hbm, 157, rfl⟩
abbrev main_v107 : Ref sig .tc := ⟨.hbm, 158, rfl⟩
abbrev main_v108 : Ref sig .tc := ⟨.hbm, 159, rfl⟩
abbrev main_v109 : Ref sig .tc := ⟨.hbm, 160, rfl⟩
abbrev main_v110 : Ref sig .tc := ⟨.hbm, 161, rfl⟩
abbrev main_c_10 : Ref sig .tc := ⟨.hbm, 162, rfl⟩
abbrev main_v111 : Ref sig .tc := ⟨.hbm, 163, rfl⟩
abbrev main_v112 : Ref sig .tc := ⟨.hbm, 164, rfl⟩
abbrev main_c_11 : Ref sig .tc := ⟨.hbm, 165, rfl⟩
abbrev main_v113 : Ref sig .tc := ⟨.hbm, 166, rfl⟩
abbrev main_v114 : Ref sig .tc := ⟨.hbm, 167, rfl⟩
abbrev main_v115 : Ref sig .tc := ⟨.hbm, 168, rfl⟩
abbrev main_v116 : Ref sig .tc := ⟨.hbm, 169, rfl⟩
abbrev main_v117 : Ref sig .tc := ⟨.hbm, 170, rfl⟩
abbrev main_v118 : Ref sig .tc := ⟨.hbm, 171, rfl⟩
abbrev main_v119 : Ref sig .tc := ⟨.hbm, 172, rfl⟩
abbrev main_cst_12 : Ref sig .tc := ⟨.hbm, 173, rfl⟩
abbrev main_v120 : Ref sig .tc := ⟨.hbm, 174, rfl⟩
abbrev main_v121 : Ref sig .tc := ⟨.hbm, 175, rfl⟩
abbrev main_v122 : Ref sig .tc := ⟨.hbm, 176, rfl⟩
abbrev main_v123 : Ref sig .tc := ⟨.hbm, 177, rfl⟩
abbrev main_v124 : Ref sig .tc := ⟨.hbm, 178, rfl⟩
abbrev main_v125 : Ref sig .tc := ⟨.hbm, 179, rfl⟩
abbrev main_v126 : Ref sig .tc := ⟨.hbm, 180, rfl⟩
abbrev main_v127 : Ref sig .tc := ⟨.hbm, 181, rfl⟩
abbrev main_v128 : Ref sig .tc := ⟨.hbm, 182, rfl⟩
abbrev main_v129 : Ref sig .tc := ⟨.hbm, 183, rfl⟩
abbrev main_v130 : Ref sig .tc := ⟨.hbm, 184, rfl⟩
abbrev main_v131 : Ref sig .tc := ⟨.hbm, 185, rfl⟩
abbrev main_v132 : Ref sig .tc := ⟨.hbm, 186, rfl⟩
abbrev main_v133 : Ref sig .tc := ⟨.hbm, 187, rfl⟩
abbrev main_v134 : Ref sig .tc := ⟨.hbm, 188, rfl⟩
abbrev main_v135 : Ref sig .tc := ⟨.hbm, 189, rfl⟩
abbrev main_v136 : Ref sig .tc := ⟨.hbm, 190, rfl⟩
abbrev main_c_13 : Ref sig .tc := ⟨.hbm, 191, rfl⟩
abbrev main_v137 : Ref sig .tc := ⟨.hbm, 192, rfl⟩
abbrev main_v138 : Ref sig .tc := ⟨.hbm, 193, rfl⟩
abbrev main_c_14 : Ref sig .tc := ⟨.hbm, 194, rfl⟩
abbrev main_v139 : Ref sig .tc := ⟨.hbm, 195, rfl⟩
abbrev main_v140 : Ref sig .tc := ⟨.hbm, 196, rfl⟩
abbrev main_v141 : Ref sig .tc := ⟨.hbm, 197, rfl⟩
abbrev main_v142 : Ref sig .tc := ⟨.hbm, 198, rfl⟩
abbrev main_v143 : Ref sig .tc := ⟨.hbm, 199, rfl⟩
abbrev main_v144 : Ref sig .tc := ⟨.hbm, 200, rfl⟩
abbrev main_v145 : Ref sig .tc := ⟨.hbm, 201, rfl⟩
abbrev main_cst_15 : Ref sig .tc := ⟨.hbm, 202, rfl⟩
abbrev main_v146 : Ref sig .tc := ⟨.hbm, 203, rfl⟩
abbrev main_v147 : Ref sig .tc := ⟨.hbm, 204, rfl⟩
abbrev main_v148 : Ref sig .tc := ⟨.hbm, 205, rfl⟩
abbrev main_v149 : Ref sig .tc := ⟨.hbm, 206, rfl⟩
abbrev main_v150 : Ref sig .tc := ⟨.hbm, 207, rfl⟩
abbrev main_v151 : Ref sig .tc := ⟨.hbm, 208, rfl⟩
abbrev main_v152 : Ref sig .tc := ⟨.hbm, 209, rfl⟩
abbrev main_v153 : Ref sig .tc := ⟨.hbm, 210, rfl⟩
abbrev main_v154 : Ref sig .tc := ⟨.hbm, 211, rfl⟩
abbrev main_v155 : Ref sig .tc := ⟨.hbm, 212, rfl⟩
abbrev main_v156 : Ref sig .tc := ⟨.hbm, 213, rfl⟩
abbrev main_cst_16 : Ref sig .tc := ⟨.hbm, 214, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg1_1 : Ref sig .tc := ⟨.vmem, 6, rfl⟩
abbrev cc1_stg2_0 : Ref sig .tc := ⟨.vmem, 7, rfl⟩
abbrev cc1_stg3_0 : Ref sig .tc := ⟨.vmem, 8, rfl⟩
abbrev cc1_stg4_0 : Ref sig .tc := ⟨.vmem, 9, rfl⟩
abbrev cc1_stg5_0 : Ref sig .tc := ⟨.vmem, 10, rfl⟩
abbrev cc1_stg6_0 : Ref sig .tc := ⟨.vmem, 11, rfl⟩
abbrev cc1_stg7_0 : Ref sig .tc := ⟨.vmem, 12, rfl⟩
abbrev cc1_stg8_0 : Ref sig .tc := ⟨.vmem, 13, rfl⟩
abbrev cc1_stg9_0 : Ref sig .tc := ⟨.vmem, 14, rfl⟩
abbrev cc1_stg10_0 : Ref sig .tc := ⟨.vmem, 15, rfl⟩
abbrev cc1_stg11_0 : Ref sig .tc := ⟨.vmem, 16, rfl⟩
abbrev cc1_stg12_0 : Ref sig .tc := ⟨.vmem, 17, rfl⟩
abbrev cc1_stg13_0 : Ref sig .tc := ⟨.vmem, 18, rfl⟩
abbrev cc1_stg14_0 : Ref sig .tc := ⟨.vmem, 19, rfl⟩
abbrev cc1_stg15_0 : Ref sig .tc := ⟨.vmem, 20, rfl⟩
abbrev cc1_stg16_0 : Ref sig .tc := ⟨.vmem, 21, rfl⟩
abbrev cc1_stg17_0 : Ref sig .tc := ⟨.vmem, 22, rfl⟩
abbrev cc1_stg18_0 : Ref sig .tc := ⟨.vmem, 23, rfl⟩
abbrev cc1_stg18_1 : Ref sig .tc := ⟨.vmem, 24, rfl⟩
abbrev cc1_stg19_0 : Ref sig .tc := ⟨.vmem, 25, rfl⟩
abbrev cc1_stg19_1 : Ref sig .tc := ⟨.vmem, 26, rfl⟩
abbrev cc1_stg20_0 : Ref sig .tc := ⟨.vmem, 27, rfl⟩
abbrev cc1_stg20_1 : Ref sig .tc := ⟨.vmem, 28, rfl⟩
abbrev cc2_stg0_0 : Ref sig .tc := ⟨.vmem, 29, rfl⟩
abbrev cc2_stg0_1 : Ref sig .tc := ⟨.vmem, 30, rfl⟩
abbrev cc2_stg1_0 : Ref sig .tc := ⟨.vmem, 31, rfl⟩
abbrev cc2_stg1_1 : Ref sig .tc := ⟨.vmem, 32, rfl⟩
abbrev cc2_stg2_0 : Ref sig .tc := ⟨.vmem, 33, rfl⟩
abbrev cc2_stg3_0 : Ref sig .tc := ⟨.vmem, 34, rfl⟩
abbrev cc2_stg4_0 : Ref sig .tc := ⟨.vmem, 35, rfl⟩
abbrev cc2_stg5_0 : Ref sig .tc := ⟨.vmem, 36, rfl⟩
abbrev cc2_stg6_0 : Ref sig .tc := ⟨.vmem, 37, rfl⟩
abbrev cc2_stg7_0 : Ref sig .tc := ⟨.vmem, 38, rfl⟩
abbrev cc2_stg8_0 : Ref sig .tc := ⟨.vmem, 39, rfl⟩
abbrev cc2_stg9_0 : Ref sig .tc := ⟨.vmem, 40, rfl⟩
abbrev cc2_stg10_0 : Ref sig .tc := ⟨.vmem, 41, rfl⟩
abbrev cc2_stg11_0 : Ref sig .tc := ⟨.vmem, 42, rfl⟩
abbrev cc2_stg12_0 : Ref sig .tc := ⟨.vmem, 43, rfl⟩
abbrev cc2_stg13_0 : Ref sig .tc := ⟨.vmem, 44, rfl⟩
abbrev cc2_stg14_0 : Ref sig .tc := ⟨.vmem, 45, rfl⟩
abbrev cc2_stg15_0 : Ref sig .tc := ⟨.vmem, 46, rfl⟩
abbrev cc2_stg16_0 : Ref sig .tc := ⟨.vmem, 47, rfl⟩
abbrev cc2_stg17_0 : Ref sig .tc := ⟨.vmem, 48, rfl⟩
abbrev cc2_stg18_0 : Ref sig .tc := ⟨.vmem, 49, rfl⟩
abbrev cc2_stg18_1 : Ref sig .tc := ⟨.vmem, 50, rfl⟩
abbrev cc2_stg19_0 : Ref sig .tc := ⟨.vmem, 51, rfl⟩
abbrev cc2_stg19_1 : Ref sig .tc := ⟨.vmem, 52, rfl⟩
abbrev cc2_stg20_0 : Ref sig .tc := ⟨.vmem, 53, rfl⟩
abbrev cc2_stg20_1 : Ref sig .tc := ⟨.vmem, 54, rfl⟩
abbrev cc3_stg0_0 : Ref sig .tc := ⟨.vmem, 55, rfl⟩
abbrev cc3_stg1_0 : Ref sig .tc := ⟨.vmem, 56, rfl⟩
abbrev cc3_stg2_0 : Ref sig .tc := ⟨.vmem, 57, rfl⟩
abbrev cc3_stg2_1 : Ref sig .tc := ⟨.vmem, 58, rfl⟩
abbrev cc3_stg3_0 : Ref sig .tc := ⟨.vmem, 59, rfl⟩
abbrev cc3_stg3_1 : Ref sig .tc := ⟨.vmem, 60, rfl⟩
abbrev cc3_stg4_0 : Ref sig .tc := ⟨.vmem, 61, rfl⟩
abbrev cc3_stg4_1 : Ref sig .tc := ⟨.vmem, 62, rfl⟩
abbrev cc3_stg5_0 : Ref sig .tc := ⟨.vmem, 63, rfl⟩
abbrev cc3_scratch0 : Ref sig .tc := ⟨.vmem, 64, rfl⟩
abbrev cc4_stg0_0 : Ref sig .tc := ⟨.vmem, 65, rfl⟩
abbrev cc4_stg0_1 : Ref sig .tc := ⟨.vmem, 66, rfl⟩
abbrev cc4_stg1_0 : Ref sig .tc := ⟨.vmem, 67, rfl⟩
abbrev cc4_stg2_0 : Ref sig .tc := ⟨.vmem, 68, rfl⟩
abbrev cc4_stg2_1 : Ref sig .tc := ⟨.vmem, 69, rfl⟩
abbrev cc4_stg3_0 : Ref sig .tc := ⟨.vmem, 70, rfl⟩
abbrev cc4_stg4_0 : Ref sig .tc := ⟨.vmem, 71, rfl⟩
abbrev cc4_stg4_1 : Ref sig .tc := ⟨.vmem, 72, rfl⟩
abbrev cc5_stg0_0 : Ref sig .tc := ⟨.vmem, 73, rfl⟩
abbrev cc5_stg0_1 : Ref sig .tc := ⟨.vmem, 74, rfl⟩
abbrev cc5_stg1_0 : Ref sig .tc := ⟨.vmem, 75, rfl⟩
abbrev cc5_stg2_0 : Ref sig .tc := ⟨.vmem, 76, rfl⟩
abbrev cc5_stg2_1 : Ref sig .tc := ⟨.vmem, 77, rfl⟩
abbrev cc5_stg3_0 : Ref sig .tc := ⟨.vmem, 78, rfl⟩
abbrev cc5_stg3_1 : Ref sig .tc := ⟨.vmem, 79, rfl⟩
abbrev cc5_stg4_0 : Ref sig .tc := ⟨.vmem, 80, rfl⟩
abbrev cc5_stg4_1 : Ref sig .tc := ⟨.vmem, 81, rfl⟩
abbrev cc5_stg5_0 : Ref sig .tc := ⟨.vmem, 82, rfl⟩
abbrev cc5_stg6_0 : Ref sig .tc := ⟨.vmem, 83, rfl⟩
abbrev cc5_stg7_0 : Ref sig .tc := ⟨.vmem, 84, rfl⟩
abbrev cc5_stg7_1 : Ref sig .tc := ⟨.vmem, 85, rfl⟩
abbrev cc6_stg0_0 : Ref sig .tc := ⟨.vmem, 86, rfl⟩
abbrev cc6_stg0_1 : Ref sig .tc := ⟨.vmem, 87, rfl⟩
abbrev cc6_stg1_0 : Ref sig .tc := ⟨.vmem, 88, rfl⟩
abbrev cc6_stg2_0 : Ref sig .tc := ⟨.vmem, 89, rfl⟩
abbrev cc6_stg2_1 : Ref sig .tc := ⟨.vmem, 90, rfl⟩
abbrev cc6_stg3_0 : Ref sig .tc := ⟨.vmem, 91, rfl⟩
abbrev cc6_stg4_0 : Ref sig .tc := ⟨.vmem, 92, rfl⟩
abbrev cc6_stg4_1 : Ref sig .tc := ⟨.vmem, 93, rfl⟩
abbrev cc7_stg0_0 : Ref sig .tc := ⟨.vmem, 94, rfl⟩
abbrev cc7_stg0_1 : Ref sig .tc := ⟨.vmem, 95, rfl⟩
abbrev cc7_stg1_0 : Ref sig .tc := ⟨.vmem, 96, rfl⟩
abbrev cc7_stg2_0 : Ref sig .tc := ⟨.vmem, 97, rfl⟩
abbrev cc7_stg2_1 : Ref sig .tc := ⟨.vmem, 98, rfl⟩
abbrev cc7_stg3_0 : Ref sig .tc := ⟨.vmem, 99, rfl⟩
abbrev cc7_stg3_1 : Ref sig .tc := ⟨.vmem, 100, rfl⟩
abbrev cc7_stg4_0 : Ref sig .tc := ⟨.vmem, 101, rfl⟩
abbrev cc7_stg4_1 : Ref sig .tc := ⟨.vmem, 102, rfl⟩
abbrev cc7_stg5_0 : Ref sig .tc := ⟨.vmem, 103, rfl⟩
abbrev cc7_stg6_0 : Ref sig .tc := ⟨.vmem, 104, rfl⟩
abbrev cc7_stg7_0 : Ref sig .tc := ⟨.vmem, 105, rfl⟩
abbrev cc7_stg7_1 : Ref sig .tc := ⟨.vmem, 106, rfl⟩
abbrev cc8_stg0_0 : Ref sig .tc := ⟨.vmem, 107, rfl⟩
abbrev cc8_stg1_0 : Ref sig .tc := ⟨.vmem, 108, rfl⟩
abbrev cc8_stg2_0 : Ref sig .tc := ⟨.vmem, 109, rfl⟩
abbrev cc9_stg0_0 : Ref sig .tc := ⟨.vmem, 110, rfl⟩
abbrev cc9_stg1_0 : Ref sig .tc := ⟨.vmem, 111, rfl⟩
abbrev cc9_stg2_0 : Ref sig .tc := ⟨.vmem, 112, rfl⟩
abbrev cc10_stg0_0 : Ref sig .tc := ⟨.vmem, 113, rfl⟩
abbrev cc10_stg0_1 : Ref sig .tc := ⟨.vmem, 114, rfl⟩
abbrev cc10_stg1_0 : Ref sig .tc := ⟨.vmem, 115, rfl⟩
abbrev cc10_stg1_1 : Ref sig .tc := ⟨.vmem, 116, rfl⟩
abbrev cc10_stg2_0 : Ref sig .tc := ⟨.vmem, 117, rfl⟩
abbrev cc10_stg2_1 : Ref sig .tc := ⟨.vmem, 118, rfl⟩
abbrev cc10_stg3_0 : Ref sig .tc := ⟨.vmem, 119, rfl⟩
abbrev cc10_stg3_1 : Ref sig .tc := ⟨.vmem, 120, rfl⟩
abbrev cc10_stg4_0 : Ref sig .tc := ⟨.vmem, 121, rfl⟩
abbrev cc10_stg5_0 : Ref sig .tc := ⟨.vmem, 122, rfl⟩
abbrev cc10_stg6_0 : Ref sig .tc := ⟨.vmem, 123, rfl⟩
abbrev cc10_stg6_1 : Ref sig .tc := ⟨.vmem, 124, rfl⟩
abbrev cc11_stg0_0 : Ref sig .tc := ⟨.vmem, 125, rfl⟩
abbrev cc11_stg1_0 : Ref sig .tc := ⟨.vmem, 126, rfl⟩
abbrev cc11_stg2_0 : Ref sig .tc := ⟨.vmem, 127, rfl⟩
abbrev cc12_stg0_0 : Ref sig .tc := ⟨.vmem, 128, rfl⟩
abbrev cc12_stg0_1 : Ref sig .tc := ⟨.vmem, 129, rfl⟩
abbrev cc12_stg1_0 : Ref sig .tc := ⟨.vmem, 130, rfl⟩
abbrev cc12_stg1_1 : Ref sig .tc := ⟨.vmem, 131, rfl⟩
abbrev cc12_stg2_0 : Ref sig .tc := ⟨.vmem, 132, rfl⟩
abbrev cc12_stg2_1 : Ref sig .tc := ⟨.vmem, 133, rfl⟩
abbrev cc12_stg3_0 : Ref sig .tc := ⟨.vmem, 134, rfl⟩
abbrev cc12_stg3_1 : Ref sig .tc := ⟨.vmem, 135, rfl⟩
abbrev cc12_stg4_0 : Ref sig .tc := ⟨.vmem, 136, rfl⟩
abbrev cc12_stg5_0 : Ref sig .tc := ⟨.vmem, 137, rfl⟩
abbrev cc12_stg6_0 : Ref sig .tc := ⟨.vmem, 138, rfl⟩
abbrev cc12_stg6_1 : Ref sig .tc := ⟨.vmem, 139, rfl⟩
abbrev cc12_stg7_0 : Ref sig .tc := ⟨.vmem, 140, rfl⟩
abbrev cc12_stg7_1 : Ref sig .tc := ⟨.vmem, 141, rfl⟩
abbrev cc0_sem0_0 : DmaSem sig := 0
abbrev cc0_sem1_0 : DmaSem sig := 1
abbrev cc0_sem2_0 : DmaSem sig := 2
abbrev cc1_sem0_0 : DmaSem sig := 3
abbrev cc1_sem0_1 : DmaSem sig := 4
abbrev cc1_sem1_0 : DmaSem sig := 5
abbrev cc1_sem1_1 : DmaSem sig := 6
abbrev cc1_sem2_0 : DmaSem sig := 7
abbrev cc1_sem3_0 : DmaSem sig := 8
abbrev cc1_sem4_0 : DmaSem sig := 9
abbrev cc1_sem5_0 : DmaSem sig := 10
abbrev cc1_sem6_0 : DmaSem sig := 11
abbrev cc1_sem7_0 : DmaSem sig := 12
abbrev cc1_sem8_0 : DmaSem sig := 13
abbrev cc1_sem9_0 : DmaSem sig := 14
abbrev cc1_sem10_0 : DmaSem sig := 15
abbrev cc1_sem11_0 : DmaSem sig := 16
abbrev cc1_sem12_0 : DmaSem sig := 17
abbrev cc1_sem13_0 : DmaSem sig := 18
abbrev cc1_sem14_0 : DmaSem sig := 19
abbrev cc1_sem15_0 : DmaSem sig := 20
abbrev cc1_sem16_0 : DmaSem sig := 21
abbrev cc1_sem17_0 : DmaSem sig := 22
abbrev cc1_sem18_0 : DmaSem sig := 23
abbrev cc1_sem18_1 : DmaSem sig := 24
abbrev cc1_sem19_0 : DmaSem sig := 25
abbrev cc1_sem19_1 : DmaSem sig := 26
abbrev cc1_sem20_0 : DmaSem sig := 27
abbrev cc1_sem20_1 : DmaSem sig := 28
abbrev cc2_sem0_0 : DmaSem sig := 29
abbrev cc2_sem0_1 : DmaSem sig := 30
abbrev cc2_sem1_0 : DmaSem sig := 31
abbrev cc2_sem1_1 : DmaSem sig := 32
abbrev cc2_sem2_0 : DmaSem sig := 33
abbrev cc2_sem3_0 : DmaSem sig := 34
abbrev cc2_sem4_0 : DmaSem sig := 35
abbrev cc2_sem5_0 : DmaSem sig := 36
abbrev cc2_sem6_0 : DmaSem sig := 37
abbrev cc2_sem7_0 : DmaSem sig := 38
abbrev cc2_sem8_0 : DmaSem sig := 39
abbrev cc2_sem9_0 : DmaSem sig := 40
abbrev cc2_sem10_0 : DmaSem sig := 41
abbrev cc2_sem11_0 : DmaSem sig := 42
abbrev cc2_sem12_0 : DmaSem sig := 43
abbrev cc2_sem13_0 : DmaSem sig := 44
abbrev cc2_sem14_0 : DmaSem sig := 45
abbrev cc2_sem15_0 : DmaSem sig := 46
abbrev cc2_sem16_0 : DmaSem sig := 47
abbrev cc2_sem17_0 : DmaSem sig := 48
abbrev cc2_sem18_0 : DmaSem sig := 49
abbrev cc2_sem18_1 : DmaSem sig := 50
abbrev cc2_sem19_0 : DmaSem sig := 51
abbrev cc2_sem19_1 : DmaSem sig := 52
abbrev cc2_sem20_0 : DmaSem sig := 53
abbrev cc2_sem20_1 : DmaSem sig := 54
abbrev cc3_sem0_0 : DmaSem sig := 55
abbrev cc3_sem1_0 : DmaSem sig := 56
abbrev cc3_sem2_0 : DmaSem sig := 57
abbrev cc3_sem2_1 : DmaSem sig := 58
abbrev cc3_sem3_0 : DmaSem sig := 59
abbrev cc3_sem3_1 : DmaSem sig := 60
abbrev cc3_sem4_0 : DmaSem sig := 61
abbrev cc3_sem4_1 : DmaSem sig := 62
abbrev cc3_sem5_0 : DmaSem sig := 63
abbrev cc4_sem0_0 : DmaSem sig := 64
abbrev cc4_sem0_1 : DmaSem sig := 65
abbrev cc4_sem1_0 : DmaSem sig := 66
abbrev cc4_sem2_0 : DmaSem sig := 67
abbrev cc4_sem2_1 : DmaSem sig := 68
abbrev cc4_sem3_0 : DmaSem sig := 69
abbrev cc4_sem4_0 : DmaSem sig := 70
abbrev cc4_sem4_1 : DmaSem sig := 71
abbrev cc5_sem0_0 : DmaSem sig := 72
abbrev cc5_sem0_1 : DmaSem sig := 73
abbrev cc5_sem1_0 : DmaSem sig := 74
abbrev cc5_sem2_0 : DmaSem sig := 75
abbrev cc5_sem2_1 : DmaSem sig := 76
abbrev cc5_sem3_0 : DmaSem sig := 77
abbrev cc5_sem3_1 : DmaSem sig := 78
abbrev cc5_sem4_0 : DmaSem sig := 79
abbrev cc5_sem4_1 : DmaSem sig := 80
abbrev cc5_sem5_0 : DmaSem sig := 81
abbrev cc5_sem6_0 : DmaSem sig := 82
abbrev cc5_sem7_0 : DmaSem sig := 83
abbrev cc5_sem7_1 : DmaSem sig := 84
abbrev cc6_sem0_0 : DmaSem sig := 85
abbrev cc6_sem0_1 : DmaSem sig := 86
abbrev cc6_sem1_0 : DmaSem sig := 87
abbrev cc6_sem2_0 : DmaSem sig := 88
abbrev cc6_sem2_1 : DmaSem sig := 89
abbrev cc6_sem3_0 : DmaSem sig := 90
abbrev cc6_sem4_0 : DmaSem sig := 91
abbrev cc6_sem4_1 : DmaSem sig := 92
abbrev cc7_sem0_0 : DmaSem sig := 93
abbrev cc7_sem0_1 : DmaSem sig := 94
abbrev cc7_sem1_0 : DmaSem sig := 95
abbrev cc7_sem2_0 : DmaSem sig := 96
abbrev cc7_sem2_1 : DmaSem sig := 97
abbrev cc7_sem3_0 : DmaSem sig := 98
abbrev cc7_sem3_1 : DmaSem sig := 99
abbrev cc7_sem4_0 : DmaSem sig := 100
abbrev cc7_sem4_1 : DmaSem sig := 101
abbrev cc7_sem5_0 : DmaSem sig := 102
abbrev cc7_sem6_0 : DmaSem sig := 103
abbrev cc7_sem7_0 : DmaSem sig := 104
abbrev cc7_sem7_1 : DmaSem sig := 105
abbrev cc8_sem0_0 : DmaSem sig := 106
abbrev cc8_sem1_0 : DmaSem sig := 107
abbrev cc8_sem2_0 : DmaSem sig := 108
abbrev cc9_sem0_0 : DmaSem sig := 109
abbrev cc9_sem1_0 : DmaSem sig := 110
abbrev cc9_sem2_0 : DmaSem sig := 111
abbrev cc10_sem0_0 : DmaSem sig := 112
abbrev cc10_sem0_1 : DmaSem sig := 113
abbrev cc10_sem1_0 : DmaSem sig := 114
abbrev cc10_sem1_1 : DmaSem sig := 115
abbrev cc10_sem2_0 : DmaSem sig := 116
abbrev cc10_sem2_1 : DmaSem sig := 117
abbrev cc10_sem3_0 : DmaSem sig := 118
abbrev cc10_sem3_1 : DmaSem sig := 119
abbrev cc10_sem4_0 : DmaSem sig := 120
abbrev cc10_sem5_0 : DmaSem sig := 121
abbrev cc10_sem6_0 : DmaSem sig := 122
abbrev cc10_sem6_1 : DmaSem sig := 123
abbrev cc11_sem0_0 : DmaSem sig := 124
abbrev cc11_sem1_0 : DmaSem sig := 125
abbrev cc11_sem2_0 : DmaSem sig := 126
abbrev cc12_sem0_0 : DmaSem sig := 127
abbrev cc12_sem0_1 : DmaSem sig := 128
abbrev cc12_sem1_0 : DmaSem sig := 129
abbrev cc12_sem1_1 : DmaSem sig := 130
abbrev cc12_sem2_0 : DmaSem sig := 131
abbrev cc12_sem2_1 : DmaSem sig := 132
abbrev cc12_sem3_0 : DmaSem sig := 133
abbrev cc12_sem3_1 : DmaSem sig := 134
abbrev cc12_sem4_0 : DmaSem sig := 135
abbrev cc12_sem5_0 : DmaSem sig := 136
abbrev cc12_sem6_0 : DmaSem sig := 137
abbrev cc12_sem6_1 : DmaSem sig := 138
abbrev cc12_sem7_0 : DmaSem sig := 139
abbrev cc12_sem7_1 : DmaSem sig := 140

abbrev nD : Nat := 1
abbrev τ : Topo := Topo.v7x

variable {F : FTy → Type} [FloatOps F]

abbrev grid0 : Pipeline.Grid := .none

abbrev stage0_0 : Fin 1 → Memref sig .tc .vmem S2048x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_14 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_15 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_16 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_17 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_18 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_19 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_20 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x20x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S128x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x128 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S128x128 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S128x128 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S1x128 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 1 → Memref sig .tc .vmem S128x4 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false]

abbrev stage1_15 : Fin 1 → Memref sig .tc .vmem S4x128 .f32 := fun | 0 => Memref.whole cc1_stg15_0 | ⟨_ + 1, h⟩ => absurd h (Nat.not_lt.2 (Nat.le_add_left _ _))
abbrev sem1_15 : Fin 1 → DmaSem sig := fun | 0 => cc1_sem15_0 | ⟨_ + 1, h⟩ => absurd h (Nat.not_lt.2 (Nat.le_add_left _ _))
abbrev reads1_15 : Fin grid1.rank → Bool := ![false]

abbrev stage1_16 : Fin 1 → Memref sig .tc .vmem S1x1 .f32 := fun | 0 => Memref.whole cc1_stg16_0 | ⟨_ + 1, h⟩ => absurd h (Nat.not_lt.2 (Nat.le_add_left _ _))
abbrev sem1_16 : Fin 1 → DmaSem sig := fun | 0 => cc1_sem16_0 | ⟨_ + 1, h⟩ => absurd h (Nat.not_lt.2 (Nat.le_add_left _ _))
abbrev reads1_16 : Fin grid1.rank → Bool := ![false]

abbrev stage1_17 : Fin 1 → Memref sig .tc .vmem S1x1 .f32 := fun | 0 => Memref.whole cc1_stg17_0 | ⟨_ + 1, h⟩ => absurd h (Nat.not_lt.2 (Nat.le_add_left _ _))
abbrev sem1_17 : Fin 1 → DmaSem sig := fun | 0 => cc1_sem17_0 | ⟨_ + 1, h⟩ => absurd h (Nat.not_lt.2 (Nat.le_add_left _ _))
abbrev reads1_17 : Fin grid1.rank → Bool := ![false]

abbrev stage1_18 : Fin 2 → Memref sig .tc .vmem S256x128 .f32 := fun | 0 => Memref.whole cc1_stg18_0 | 1 => Memref.whole cc1_stg18_1 | ⟨_ + 2, h⟩ => absurd h (Nat.not_lt.2 (Nat.le_add_left _ _))
abbrev sem1_18 : Fin 2 → DmaSem sig := fun | 0 => cc1_sem18_0 | 1 => cc1_sem18_1 | ⟨_ + 2, h⟩ => absurd h (Nat.not_lt.2 (Nat.le_add_left _ _))
abbrev reads1_18 : Fin grid1.rank → Bool := ![true]

abbrev stage1_19 : Fin 2 → Memref sig .tc .vmem S256x128 .f32 := fun | 0 => Memref.whole cc1_stg19_0 | 1 => Memref.whole cc1_stg19_1 | ⟨_ + 2, h⟩ => absurd h (Nat.not_lt.2 (Nat.le_add_left _ _))
abbrev sem1_19 : Fin 2 → DmaSem sig := fun | 0 => cc1_sem19_0 | 1 => cc1_sem19_1 | ⟨_ + 2, h⟩ => absurd h (Nat.not_lt.2 (Nat.le_add_left _ _))
abbrev reads1_19 : Fin grid1.rank → Bool := ![true]

abbrev stage1_20 : Fin 2 → Memref sig .tc .vmem S256x128 .f32 := fun | 0 => Memref.whole cc1_stg20_0 | 1 => Memref.whole cc1_stg20_1 | ⟨_ + 2, h⟩ => absurd h (Nat.not_lt.2 (Nat.le_add_left _ _))
abbrev sem1_20 : Fin 2 → DmaSem sig := fun | 0 => cc1_sem20_0 | 1 => cc1_sem20_1 | ⟨_ + 2, h⟩ => absurd h (Nat.not_lt.2 (Nat.le_add_left _ _))
abbrev reads1_20 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_12 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_13 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_14 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_15 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_16 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_17 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_18 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_19 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_20 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S256x20x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S128x128 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S1x128 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 1 → Memref sig .tc .vmem S128x128 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false]

abbrev stage2_12 : Fin 1 → Memref sig .tc .vmem S128x128 .f32 := fun | 0 => Memref.whole cc2_stg12_0 | ⟨_ + 1, h⟩ => absurd h (Nat.not_lt.2 (Nat.le_add_left _ _))
abbrev sem2_12 : Fin 1 → DmaSem sig := fun | 0 => cc2_sem12_0 | ⟨_ + 1, h⟩ => absurd h (Nat.not_lt.2 (Nat.le_add_left _ _))
abbrev reads2_12 : Fin grid2.rank → Bool := ![false]

abbrev stage2_13 : Fin 1 → Memref sig .tc .vmem S1x128 .f32 := fun | 0 => Memref.whole cc2_stg13_0 | ⟨_ + 1, h⟩ => absurd h (Nat.not_lt.2 (Nat.le_add_left _ _))
abbrev sem2_13 : Fin 1 → DmaSem sig := fun | 0 => cc2_sem13_0 | ⟨_ + 1, h⟩ => absurd h (Nat.not_lt.2 (Nat.le_add_left _ _))
abbrev reads2_13 : Fin grid2.rank → Bool := ![false]

abbrev stage2_14 : Fin 1 → Memref sig .tc .vmem S128x4 .f32 := fun | 0 => Memref.whole cc2_stg14_0 | ⟨_ + 1, h⟩ => absurd h (Nat.not_lt.2 (Nat.le_add_left _ _))
abbrev sem2_14 : Fin 1 → DmaSem sig := fun | 0 => cc2_sem14_0 | ⟨_ + 1, h⟩ => absurd h (Nat.not_lt.2 (Nat.le_add_left _ _))
abbrev reads2_14 : Fin grid2.rank → Bool := ![false]

abbrev stage2_15 : Fin 1 → Memref sig .tc .vmem S4x128 .f32 := fun | 0 => Memref.whole cc2_stg15_0 | ⟨_ + 1, h⟩ => absurd h (Nat.not_lt.2 (Nat.le_add_left _ _))
abbrev sem2_15 : Fin 1 → DmaSem sig := fun | 0 => cc2_sem15_0 | ⟨_ + 1, h⟩ => absurd h (Nat.not_lt.2 (Nat.le_add_left _ _))
abbrev reads2_15 : Fin grid2.rank → Bool := ![false]

abbrev stage2_16 : Fin 1 → Memref sig .tc .vmem S1x1 .f32 := fun | 0 => Memref.whole cc2_stg16_0 | ⟨_ + 1, h⟩ => absurd h (Nat.not_lt.2 (Nat.le_add_left _ _))
abbrev sem2_16 : Fin 1 → DmaSem sig := fun | 0 => cc2_sem16_0 | ⟨_ + 1, h⟩ => absurd h (Nat.not_lt.2 (Nat.le_add_left _ _))
abbrev reads2_16 : Fin grid2.rank → Bool := ![false]

abbrev stage2_17 : Fin 1 → Memref sig .tc .vmem S1x1 .f32 := fun | 0 => Memref.whole cc2_stg17_0 | ⟨_ + 1, h⟩ => absurd h (Nat.not_lt.2 (Nat.le_add_left _ _))
abbrev sem2_17 : Fin 1 → DmaSem sig := fun | 0 => cc2_sem17_0 | ⟨_ + 1, h⟩ => absurd h (Nat.not_lt.2 (Nat.le_add_left _ _))
abbrev reads2_17 : Fin grid2.rank → Bool := ![false]

abbrev stage2_18 : Fin 2 → Memref sig .tc .vmem S256x128 .f32 := fun | 0 => Memref.whole cc2_stg18_0 | 1 => Memref.whole cc2_stg18_1 | ⟨_ + 2, h⟩ => absurd h (Nat.not_lt.2 (Nat.le_add_left _ _))
abbrev sem2_18 : Fin 2 → DmaSem sig := fun | 0 => cc2_sem18_0 | 1 => cc2_sem18_1 | ⟨_ + 2, h⟩ => absurd h (Nat.not_lt.2 (Nat.le_add_left _ _))
abbrev reads2_18 : Fin grid2.rank → Bool := ![true]

abbrev stage2_19 : Fin 2 → Memref sig .tc .vmem S256x128 .f32 := fun | 0 => Memref.whole cc2_stg19_0 | 1 => Memref.whole cc2_stg19_1 | ⟨_ + 2, h⟩ => absurd h (Nat.not_lt.2 (Nat.le_add_left _ _))
abbrev sem2_19 : Fin 2 → DmaSem sig := fun | 0 => cc2_sem19_0 | 1 => cc2_sem19_1 | ⟨_ + 2, h⟩ => absurd h (Nat.not_lt.2 (Nat.le_add_left _ _))
abbrev reads2_19 : Fin grid2.rank → Bool := ![true]

abbrev stage2_20 : Fin 2 → Memref sig .tc .vmem S256x128 .f32 := fun | 0 => Memref.whole cc2_stg20_0 | 1 => Memref.whole cc2_stg20_1 | ⟨_ + 2, h⟩ => absurd h (Nat.not_lt.2 (Nat.le_add_left _ _))
abbrev sem2_20 : Fin 2 → DmaSem sig := fun | 0 => cc2_sem20_0 | 1 => cc2_sem20_1 | ⟨_ + 2, h⟩ => absurd h (Nat.not_lt.2 (Nat.le_add_left _ _))
abbrev reads2_20 : Fin grid2.rank → Bool := ![true]

abbrev grid3 : Pipeline.Grid := ⟨1, ![32], ![false]⟩

def k3_cond2 (i : grid3.Coords) : BitVec 1 :=
  let arg0 : BitVec 32 := BitVec.ofNat 32 (i 0).val
  let c31_i32 : BitVec 32 := 31#32
  let v37 : BitVec 1 := Scalar.cmpi .eq arg0 c31_i32
  let v38 : BitVec 32 := Scalar.extui v37
  let c0_i32_21 : BitVec 32 := 0#32
  let v39 : BitVec 1 := Scalar.cmpi .ne v38 c0_i32_21
  v39

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S4096x128 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S4096x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S128x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S128x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S128x4096 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 1 → Memref sig .tc .vmem S1x4096 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev grid4 : Pipeline.Grid := ⟨1, ![32], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S128x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S1x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S128x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S128x128 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![16], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![c0_i32.toNat, arg0.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![c0_i32.toNat, arg0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S4096x256 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S4096x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S256x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 2 → Memref sig .tc .vmem S1x256 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev stage5_4 : Fin 2 → Memref sig .tc .vmem S256x128 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev stage5_5 : Fin 1 → Memref sig .tc .vmem S1x128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S256x256 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 2 → Memref sig .tc .vmem S256x128 .f32 := fun | 0 => Memref.whole cc5_stg7_0 | 1 => Memref.whole cc5_stg7_1 | ⟨_ + 2, h⟩ => absurd h (Nat.not_lt.2 (Nat.le_add_left _ _))
abbrev sem5_7 : Fin 2 → DmaSem sig := fun | 0 => cc5_sem7_0 | 1 => cc5_sem7_1 | ⟨_ + 2, h⟩ => absurd h (Nat.not_lt.2 (Nat.le_add_left _ _))
abbrev reads5_7 : Fin grid5.rank → Bool := ![true]

abbrev grid6 : Pipeline.Grid := ⟨1, ![32], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![c0_i32.toNat, arg0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S128x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S1x128 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 1 → Memref sig .tc .vmem S128x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 2 → Memref sig .tc .vmem S128x128 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev grid7 : Pipeline.Grid := ⟨1, ![16], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![c0_i32.toNat, arg0.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  ![c0_i32.toNat, arg0.toNat]

def cc7_transform_4 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_7 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S4096x256 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S4096x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S256x128 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 2 → Memref sig .tc .vmem S1x256 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev stage7_4 : Fin 2 → Memref sig .tc .vmem S256x128 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true]

abbrev stage7_5 : Fin 1 → Memref sig .tc .vmem S1x128 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 1 → Memref sig .tc .vmem S256x256 .f32 := fun | 0 => Memref.whole cc7_stg6_0 | ⟨_ + 1, h⟩ => absurd h (Nat.not_lt.2 (Nat.le_add_left _ _))
abbrev sem7_6 : Fin 1 → DmaSem sig := fun | 0 => cc7_sem6_0 | ⟨_ + 1, h⟩ => absurd h (Nat.not_lt.2 (Nat.le_add_left _ _))
abbrev reads7_6 : Fin grid7.rank → Bool := ![false]

abbrev stage7_7 : Fin 2 → Memref sig .tc .vmem S256x128 .f32 := fun | 0 => Memref.whole cc7_stg7_0 | 1 => Memref.whole cc7_stg7_1 | ⟨_ + 2, h⟩ => absurd h (Nat.not_lt.2 (Nat.le_add_left _ _))
abbrev sem7_7 : Fin 2 → DmaSem sig := fun | 0 => cc7_sem7_0 | 1 => cc7_sem7_1 | ⟨_ + 2, h⟩ => absurd h (Nat.not_lt.2 (Nat.le_add_left _ _))
abbrev reads7_7 : Fin grid7.rank → Bool := ![true]

abbrev grid8 : Pipeline.Grid := .none

abbrev stage8_0 : Fin 1 → Memref sig .tc .vmem S32x4096 .f32 := fun | 0 => Memref.whole cc8_stg0_0 | ⟨_ + 1, h⟩ => absurd h (Nat.not_lt.2 (Nat.le_add_left _ _))
abbrev sem8_0 : Fin 1 → DmaSem sig := fun | 0 => cc8_sem0_0 | ⟨_ + 1, h⟩ => absurd h (Nat.not_lt.2 (Nat.le_add_left _ _))

abbrev stage8_1 : Fin 1 → Memref sig .tc .vmem S1x4096 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))

abbrev stage8_2 : Fin 1 → Memref sig .tc .vmem S1x4096 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))

abbrev grid9 : Pipeline.Grid := .none

abbrev stage9_0 : Fin 1 → Memref sig .tc .vmem S128x128 .f32 := fun | 0 => Memref.whole cc9_stg0_0 | ⟨_ + 1, h⟩ => absurd h (Nat.not_lt.2 (Nat.le_add_left _ _))
abbrev sem9_0 : Fin 1 → DmaSem sig := fun | 0 => cc9_sem0_0 | ⟨_ + 1, h⟩ => absurd h (Nat.not_lt.2 (Nat.le_add_left _ _))

abbrev stage9_1 : Fin 1 → Memref sig .tc .vmem S4096x128 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))

abbrev stage9_2 : Fin 1 → Memref sig .tc .vmem S128x4096 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))

abbrev grid10 : Pipeline.Grid := ⟨1, ![32], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![c0_i32.toNat, arg0.toNat]

def cc10_transform_1 (i : grid10.Coords) : Fin 2 → Nat :=
  let arg0 : BitVec 32 := BitVec.ofNat 32 (i 0).val
  let c0_i32 : BitVec 32 := 0#32
  let c0_i32_0 : BitVec 32 := 0#32
  ![c0_i32.toNat, arg0.toNat]

def cc10_transform_2 (i : grid10.Coords) : Fin 2 → Nat :=
  let arg0 : BitVec 32 := BitVec.ofNat 32 (i 0).val
  let c0_i32 : BitVec 32 := 0#32
  let c0_i32_0 : BitVec 32 := 0#32
  ![c0_i32.toNat, arg0.toNat]

def cc10_transform_3 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_4 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_5 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_6 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S128x128 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 2 → Memref sig .tc .vmem S128x128 .f32 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![true]

abbrev stage10_2 : Fin 2 → Memref sig .tc .vmem S1x128 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true]

abbrev stage10_3 : Fin 2 → Memref sig .tc .vmem S128x128 .f32 := fun | 0 => Memref.whole cc10_stg3_0 | 1 => Memref.whole cc10_stg3_1 | ⟨_ + 2, h⟩ => absurd h (Nat.not_lt.2 (Nat.le_add_left _ _))
abbrev sem10_3 : Fin 2 → DmaSem sig := fun | 0 => cc10_sem3_0 | 1 => cc10_sem3_1 | ⟨_ + 2, h⟩ => absurd h (Nat.not_lt.2 (Nat.le_add_left _ _))
abbrev reads10_3 : Fin grid10.rank → Bool := ![true]

abbrev stage10_4 : Fin 1 → Memref sig .tc .vmem S1x128 .f32 := fun | 0 => Memref.whole cc10_stg4_0 | ⟨_ + 1, h⟩ => absurd h (Nat.not_lt.2 (Nat.le_add_left _ _))
abbrev sem10_4 : Fin 1 → DmaSem sig := fun | 0 => cc10_sem4_0 | ⟨_ + 1, h⟩ => absurd h (Nat.not_lt.2 (Nat.le_add_left _ _))
abbrev reads10_4 : Fin grid10.rank → Bool := ![false]

abbrev stage10_5 : Fin 1 → Memref sig .tc .vmem S128x128 .f32 := fun | 0 => Memref.whole cc10_stg5_0 | ⟨_ + 1, h⟩ => absurd h (Nat.not_lt.2 (Nat.le_add_left _ _))
abbrev sem10_5 : Fin 1 → DmaSem sig := fun | 0 => cc10_sem5_0 | ⟨_ + 1, h⟩ => absurd h (Nat.not_lt.2 (Nat.le_add_left _ _))
abbrev reads10_5 : Fin grid10.rank → Bool := ![false]

abbrev stage10_6 : Fin 2 → Memref sig .tc .vmem S128x128 .f32 := fun | 0 => Memref.whole cc10_stg6_0 | 1 => Memref.whole cc10_stg6_1 | ⟨_ + 2, h⟩ => absurd h (Nat.not_lt.2 (Nat.le_add_left _ _))
abbrev sem10_6 : Fin 2 → DmaSem sig := fun | 0 => cc10_sem6_0 | 1 => cc10_sem6_1 | ⟨_ + 2, h⟩ => absurd h (Nat.not_lt.2 (Nat.le_add_left _ _))
abbrev reads10_6 : Fin grid10.rank → Bool := ![true]

abbrev grid11 : Pipeline.Grid := .none

abbrev stage11_0 : Fin 1 → Memref sig .tc .vmem S128x128 .f32 := fun | 0 => Memref.whole cc11_stg0_0 | ⟨_ + 1, h⟩ => absurd h (Nat.not_lt.2 (Nat.le_add_left _ _))
abbrev sem11_0 : Fin 1 → DmaSem sig := fun | 0 => cc11_sem0_0 | ⟨_ + 1, h⟩ => absurd h (Nat.not_lt.2 (Nat.le_add_left _ _))

abbrev stage11_1 : Fin 1 → Memref sig .tc .vmem S4096x128 .f32 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))

abbrev stage11_2 : Fin 1 → Memref sig .tc .vmem S128x4096 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))

abbrev grid12 : Pipeline.Grid := ⟨1, ![32], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![c0_i32.toNat, arg0.toNat]

def cc12_transform_1 (i : grid12.Coords) : Fin 2 → Nat :=
  let arg0 : BitVec 32 := BitVec.ofNat 32 (i 0).val
  let c0_i32 : BitVec 32 := 0#32
  let c0_i32_0 : BitVec 32 := 0#32
  ![c0_i32.toNat, arg0.toNat]

def cc12_transform_2 (i : grid12.Coords) : Fin 2 → Nat :=
  let arg0 : BitVec 32 := BitVec.ofNat 32 (i 0).val
  let c0_i32 : BitVec 32 := 0#32
  let c0_i32_0 : BitVec 32 := 0#32
  ![c0_i32.toNat, arg0.toNat]

def cc12_transform_3 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_4 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_5 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_6 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_7 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage12_0 : Fin 2 → Memref sig .tc .vmem S128x128 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 2 → Memref sig .tc .vmem S128x128 .f32 := fun | 0 => Memref.whole cc12_stg1_0 | 1 => Memref.whole cc12_stg1_1 | ⟨_ + 2, h⟩ => absurd h (Nat.not_lt.2 (Nat.le_add_left _ _))
abbrev sem12_1 : Fin 2 → DmaSem sig := fun | 0 => cc12_sem1_0 | 1 => cc12_sem1_1 | ⟨_ + 2, h⟩ => absurd h (Nat.not_lt.2 (Nat.le_add_left _ _))
abbrev reads12_1 : Fin grid12.rank → Bool := ![true]

abbrev stage12_2 : Fin 2 → Memref sig .tc .vmem S1x128 .f32 := fun | 0 => Memref.whole cc12_stg2_0 | 1 => Memref.whole cc12_stg2_1 | ⟨_ + 2, h⟩ => absurd h (Nat.not_lt.2 (Nat.le_add_left _ _))
abbrev sem12_2 : Fin 2 → DmaSem sig := fun | 0 => cc12_sem2_0 | 1 => cc12_sem2_1 | ⟨_ + 2, h⟩ => absurd h (Nat.not_lt.2 (Nat.le_add_left _ _))
abbrev reads12_2 : Fin grid12.rank → Bool := ![true]

abbrev stage12_3 : Fin 2 → Memref sig .tc .vmem S128x128 .f32 := fun | 0 => Memref.whole cc12_stg3_0 | 1 => Memref.whole cc12_stg3_1 | ⟨_ + 2, h⟩ => absurd h (Nat.not_lt.2 (Nat.le_add_left _ _))
abbrev sem12_3 : Fin 2 → DmaSem sig := fun | 0 => cc12_sem3_0 | 1 => cc12_sem3_1 | ⟨_ + 2, h⟩ => absurd h (Nat.not_lt.2 (Nat.le_add_left _ _))
abbrev reads12_3 : Fin grid12.rank → Bool := ![true]

abbrev stage12_4 : Fin 1 → Memref sig .tc .vmem S1x128 .f32 := fun | 0 => Memref.whole cc12_stg4_0 | ⟨_ + 1, h⟩ => absurd h (Nat.not_lt.2 (Nat.le_add_left _ _))
abbrev sem12_4 : Fin 1 → DmaSem sig := fun | 0 => cc12_sem4_0 | ⟨_ + 1, h⟩ => absurd h (Nat.not_lt.2 (Nat.le_add_left _ _))
abbrev reads12_4 : Fin grid12.rank → Bool := ![false]

abbrev stage12_5 : Fin 1 → Memref sig .tc .vmem S128x128 .f32 := fun | 0 => Memref.whole cc12_stg5_0 | ⟨_ + 1, h⟩ => absurd h (Nat.not_lt.2 (Nat.le_add_left _ _))
abbrev sem12_5 : Fin 1 → DmaSem sig := fun | 0 => cc12_sem5_0 | ⟨_ + 1, h⟩ => absurd h (Nat.not_lt.2 (Nat.le_add_left _ _))
abbrev reads12_5 : Fin grid12.rank → Bool := ![false]

abbrev stage12_6 : Fin 2 → Memref sig .tc .vmem S128x128 .f32 := fun | 0 => Memref.whole cc12_stg6_0 | 1 => Memref.whole cc12_stg6_1 | ⟨_ + 2, h⟩ => absurd h (Nat.not_lt.2 (Nat.le_add_left _ _))
abbrev sem12_6 : Fin 2 → DmaSem sig := fun | 0 => cc12_sem6_0 | 1 => cc12_sem6_1 | ⟨_ + 2, h⟩ => absurd h (Nat.not_lt.2 (Nat.le_add_left _ _))
abbrev reads12_6 : Fin grid12.rank → Bool := ![true]

abbrev stage12_7 : Fin 2 → Memref sig .tc .vmem S128x128 .f32 := fun | 0 => Memref.whole cc12_stg7_0 | 1 => Memref.whole cc12_stg7_1 | ⟨_ + 2, h⟩ => absurd h (Nat.not_lt.2 (Nat.le_add_left _ _))
abbrev sem12_7 : Fin 2 → DmaSem sig := fun | 0 => cc12_sem7_0 | 1 => cc12_sem7_1 | ⟨_ + 2, h⟩ => absurd h (Nat.not_lt.2 (Nat.le_add_left _ _))
abbrev reads12_7 : Fin grid12.rank → Bool := ![true]
-- ==== KernelIdeal.lean ====
variable {F : FTy → Type} [FloatOps F] [Named F]
def κ : String → Option EReal := fun
  | "rsqrt_dh" => some (((Real.sqrt 32)⁻¹ : ℝ) : EReal)
  | _ => none
-- ==== ReferenceIdeal.lean ====
abbrev S2048x20x128 : Shape := ⟨3, ![2048, 20, 128]⟩
abbrev S2048x128 : Shape := ⟨2, ![2048, 128]⟩
abbrev S2x131072 : Shape := ⟨2, ![2, 131072]⟩
abbrev S131072 : Shape := ⟨1, ![131072]⟩
abbrev S384x128 : Shape := ⟨2, ![384, 128]⟩
abbrev S384 : Shape := ⟨1, ![384]⟩
abbrev S128x128 : Shape := ⟨2, ![128, 128]⟩
abbrev S128 : Shape := ⟨1, ![128]⟩
abbrev S128x256 : Shape := ⟨2, ![128, 256]⟩
abbrev S_ : Shape := ⟨0, ![]⟩
abbrev S2x128x128 : Shape := ⟨3, ![2, 128, 128]⟩
abbrev S2x128 : Shape := ⟨2, ![2, 128]⟩
abbrev S4096x128 : Shape := ⟨2, ![4096, 128]⟩
abbrev S4096x20x128 : Shape := ⟨3, ![4096, 20, 128]⟩
abbrev S2048x1x128 : Shape := ⟨3, ![2048, 1, 128]⟩
abbrev S1x128 : Shape := ⟨2, ![1, 128]⟩
abbrev S4096x1x128 : Shape := ⟨3, ![4096, 1, 128]⟩
abbrev S1x1x128 : Shape := ⟨3, ![1, 1, 128]⟩
abbrev S4096x1x4x32 : Shape := ⟨4, ![4096, 1, 4, 32]⟩
abbrev S4096x4x1x32 : Shape := ⟨4, ![4096, 4, 1, 32]⟩
abbrev S4096x20x4x32 : Shape := ⟨4, ![4096, 20, 4, 32]⟩
abbrev S4096x4x20x32 : Shape := ⟨4, ![4096, 4, 20, 32]⟩
abbrev S4096x4x1x20 : Shape := ⟨4, ![4096, 4, 1, 20]⟩
abbrev S4096x4x1 : Shape := ⟨3, ![4096, 4, 1]⟩
abbrev S4096x4x1x1 : Shape := ⟨4, ![4096, 4, 1, 1]⟩
abbrev S4096x256 : Shape := ⟨2, ![4096, 256]⟩
abbrev S256x128 : Shape := ⟨2, ![256, 128]⟩
abbrev S128x4096 : Shape := ⟨2, ![128, 4096]⟩
abbrev S4096x4096 : Shape := ⟨2, ![4096, 4096]⟩
abbrev S4096 : Shape := ⟨1, ![4096]⟩
abbrev S4096x1 : Shape := ⟨2, ![4096, 1]⟩
abbrev S1x128x128 : Shape := ⟨3, ![1, 128, 128]⟩
abbrev S1x4096 : Shape := ⟨2, ![1, 4096]⟩
abbrev S1x131072 : Shape := ⟨2, ![1, 131072]⟩
abbrev S135168 : Shape := ⟨1, ![135168]⟩
abbrev S135168x1 : Shape := ⟨2, ![135168, 1]⟩
abbrev S135168x128 : Shape := ⟨2, ![135168, 128]⟩

abbrev nBuf : Space → Nat
  | .hbm => 367
  | .vmem => 0
  | .smem => 0
  | _ => 0

abbrev hbmTy0_0 (i : Nat) : BufTy := match i % 128 with
  | 0 => ⟨S2048x20x128, .f32⟩
  | 1 => ⟨S2048x20x128, .f32⟩
  | 2 => ⟨S2048x128, .f32⟩
  | 3 => ⟨S2x131072, .i32⟩
  | 4 => ⟨S131072, .f32⟩
  | 5 => ⟨S384x128, .f32⟩
  | 6 => ⟨S384, .f32⟩
  | 7 => ⟨S128x128, .f32⟩
  | 8 => ⟨S128, .f32⟩
  | 9 => ⟨S128x256, .f32⟩
  | 10 => ⟨S128, .f32⟩
  | 11 => ⟨S_, .f32⟩
  | 12 => ⟨S_, .f32⟩
  | 13 => ⟨S2x128x128, .f32⟩
  | 14 => ⟨S2x128, .f32⟩
  | 15 => ⟨S2x128x128, .f32⟩
  | 16 => ⟨S2x128, .f32⟩
  | 17 => ⟨S4096x128, .f32⟩
  | 18 => ⟨S4096x20x128, .f32⟩
  | 19 => ⟨S2048x1x128, .f32⟩
  | 20 => ⟨S2048x128, .f32⟩
  | 21 => ⟨S_, .f32⟩
  | 22 => ⟨S128, .f32⟩
  | 23 => ⟨S1x128, .f32⟩
  | 24 => ⟨S2048x128, .f32⟩
  | 25 => ⟨S2048x128, .f32⟩
  | 26 => ⟨S2048x1x128, .f32⟩
  | 27 => ⟨S2048x128, .f32⟩
  | 28 => ⟨S_, .f32⟩
  | 29 => ⟨S128, .f32⟩
  | 30 => ⟨S1x128, .f32⟩
  | 31 => ⟨S2048x128, .f32⟩
  | 32 => ⟨S2048x128, .f32⟩
  | 33 => ⟨S4096x128, .f32⟩
  | 34 => ⟨S4096x1x128, .f32⟩
  | 35 => ⟨S128x128, .f32⟩
  | 36 => ⟨S128x128, .f32⟩
  | 37 => ⟨S4096x1x128, .f32⟩
  | 38 => ⟨S128, .f32⟩
  | 39 => ⟨S1x1x128, .f32⟩
  | 40 => ⟨S4096x1x128, .f32⟩
  | 41 => ⟨S4096x1x128, .f32⟩
  | 42 => ⟨S128x128, .f32⟩
  | 43 => ⟨S128x128, .f32⟩
  | 44 => ⟨S4096x20x128, .f32⟩
  | 45 => ⟨S128, .f32⟩
  | 46 => ⟨S1x1x128, .f32⟩
  | 47 => ⟨S4096x20x128, .f32⟩
  | 48 => ⟨S4096x20x128, .f32⟩
  | 49 => ⟨S128x128, .f32⟩
  | 50 => ⟨S128x128, .f32⟩
  | 51 => ⟨S4096x20x128, .f32⟩
  | 52 => ⟨S128, .f32⟩
  | 53 => ⟨S1x1x128, .f32⟩
  | 54 => ⟨S4096x20x128, .f32⟩
  | 55 => ⟨S4096x20x128, .f32⟩
  | 56 => ⟨S4096x1x4x32, .f32⟩
  | 57 => ⟨S4096x4x1x32, .f32⟩
  | 58 => ⟨S4096x20x4x32, .f32⟩
  | 59 => ⟨S4096x4x20x32, .f32⟩
  | 60 => ⟨S4096x20x4x32, .f32⟩
  | 61 => ⟨S4096x4x20x32, .f32⟩
  | 62 => ⟨S4096x4x1x20, .f32⟩
  | 63 => ⟨S_, .f32⟩
  | 64 => ⟨S_, .f32⟩
  | 65 => ⟨S4096x4x1x20, .f32⟩
  | 66 => ⟨S4096x4x1x20, .f32⟩
  | 67 => ⟨S_, .f32⟩
  | 68 => ⟨S4096x4x1, .f32⟩
  | 69 => ⟨S_, .f32⟩
  | 70 => ⟨S4096x4x1, .f32⟩
  | 71 => ⟨S4096x4x1, .f32⟩
  | 72 => ⟨S4096x4x1x1, .f32⟩
  | 73 => ⟨S4096x4x1x20, .f32⟩
  | 74 => ⟨S4096x4x1x20, .f32⟩
  | 75 => ⟨S4096x4x1x20, .f32⟩
  | 76 => ⟨S_, .f32⟩
  | 77 => ⟨S4096x4x1, .f32⟩
  | 78 => ⟨S4096x4x1x1, .f32⟩
  | 79 => ⟨S4096x4x1x20, .f32⟩
  | 80 => ⟨S4096x4x1x20, .f32⟩
  | 81 => ⟨S4096x4x1x32, .f32⟩
  | 82 => ⟨S4096x1x4x32, .f32⟩
  | 83 => ⟨S4096x1x128, .f32⟩
  | 84 => ⟨S128x128, .f32⟩
  | 85 => ⟨S4096x1x128, .f32⟩
  | 86 => ⟨S1x1x128, .f32⟩
  | 87 => ⟨S4096x1x128, .f32⟩
  | 88 => ⟨S4096x1x128, .f32⟩
  | 89 => ⟨S4096x128, .f32⟩
  | 90 => ⟨S4096x256, .f32⟩
  | 91 => ⟨S256x128, .f32⟩
  | 92 => ⟨S4096x128, .f32⟩
  | 93 => ⟨S1x128, .f32⟩
  | 94 => ⟨S4096x128, .f32⟩
  | 95 => ⟨S4096x128, .f32⟩
  | 96 => ⟨S4096x128, .f32⟩
  | 97 => ⟨S4096x128, .f32⟩
  | 98 => ⟨S4096x128, .f32⟩
  | 99 => ⟨S4096x128, .f32⟩
  | 100 => ⟨S4096x128, .f32⟩
  | 101 => ⟨S4096x128, .f32⟩
  | 102 => ⟨S128x4096, .f32⟩
  | 103 => ⟨S4096x4096, .f32⟩
  | 104 => ⟨S4096x4096, .f32⟩
  | 105 => ⟨S4096x4096, .f32⟩
  | 106 => ⟨S_, .f32⟩
  | 107 => ⟨S4096x4096, .f32⟩
  | 108 => ⟨S4096x4096, .f32⟩
  | 109 => ⟨S_, .f32⟩
  | 110 => ⟨S4096, .f32⟩
  | 111 => ⟨S_, .f32⟩
  | 112 => ⟨S4096, .f32⟩
  | 113 => ⟨S4096, .f32⟩
  | 114 => ⟨S4096x1, .f32⟩
  | 115 => ⟨S4096x4096, .f32⟩
  | 116 => ⟨S4096x4096, .f32⟩
  | 117 => ⟨S4096x4096, .f32⟩
  | 118 => ⟨S_, .f32⟩
  | 119 => ⟨S4096, .f32⟩
  | 120 => ⟨S4096x1, .f32⟩
  | 121 => ⟨S4096x4096, .f32⟩
  | 122 => ⟨S4096x4096, .f32⟩
  | 123 => ⟨S_, .f32⟩
  | 124 => ⟨S4096x4096, .f32⟩
  | 125 => ⟨S4096x4096, .f32⟩
  | 126 => ⟨S_, .f32⟩
  | 127 => ⟨S4096x4096, .f32⟩
  | _ => ⟨S2048x20x128, .f32⟩

abbrev hbmTy0_1 (i : Nat) : BufTy := match i % 128 with
  | 0 => ⟨S4096x4096, .f32⟩
  | 1 => ⟨S1x128x128, .f32⟩
  | 2 => ⟨S128x128, .f32⟩
  | 3 => ⟨S1x128, .f32⟩
  | 4 => ⟨S128, .f32⟩
  | 5 => ⟨S4096x4096, .i32⟩
  | 6 => ⟨S4096x4096, .i32⟩
  | 7 => ⟨S_, .i32⟩
  | 8 => ⟨S4096x4096, .i32⟩
  | 9 => ⟨S4096x4096, .i32⟩
  | 10 => ⟨S4096x4096, .i1⟩
  | 11 => ⟨S4096x4096, .f32⟩
  | 12 => ⟨S4096x4096, .f32⟩
  | 13 => ⟨S_, .f32⟩
  | 14 => ⟨S4096, .f32⟩
  | 15 => ⟨S_, .f32⟩
  | 16 => ⟨S4096, .f32⟩
  | 17 => ⟨S4096, .i1⟩
  | 18 => ⟨S_, .f32⟩
  | 19 => ⟨S4096, .f32⟩
  | 20 => ⟨S4096, .f32⟩
  | 21 => ⟨S_, .f32⟩
  | 22 => ⟨S_, .f32⟩
  | 23 => ⟨S4096, .f32⟩
  | 24 => ⟨S4096, .f32⟩
  | 25 => ⟨S4096x1, .f32⟩
  | 26 => ⟨S4096x4096, .f32⟩
  | 27 => ⟨S4096x4096, .f32⟩
  | 28 => ⟨S1x4096, .f32⟩
  | 29 => ⟨S4096x4096, .f32⟩
  | 30 => ⟨S4096x4096, .f32⟩
  | 31 => ⟨S4096x4096, .f32⟩
  | 32 => ⟨S128x128, .f32⟩
  | 33 => ⟨S4096x128, .f32⟩
  | 34 => ⟨S4096x128, .f32⟩
  | 35 => ⟨S1x128, .f32⟩
  | 36 => ⟨S4096x128, .f32⟩
  | 37 => ⟨S4096x128, .f32⟩
  | 38 => ⟨S_, .f32⟩
  | 39 => ⟨S4096x128, .f32⟩
  | 40 => ⟨S4096x128, .f32⟩
  | 41 => ⟨S_, .f32⟩
  | 42 => ⟨S4096x128, .f32⟩
  | 43 => ⟨S4096x128, .f32⟩
  | 44 => ⟨S4096x128, .f32⟩
  | 45 => ⟨S1x128x128, .f32⟩
  | 46 => ⟨S128x128, .f32⟩
  | 47 => ⟨S1x128, .f32⟩
  | 48 => ⟨S128, .f32⟩
  | 49 => ⟨S4096x4096, .i32⟩
  | 50 => ⟨S4096x4096, .i32⟩
  | 51 => ⟨S_, .i32⟩
  | 52 => ⟨S4096x4096, .i32⟩
  | 53 => ⟨S4096x4096, .i32⟩
  | 54 => ⟨S4096x4096, .i1⟩
  | 55 => ⟨S4096x4096, .f32⟩
  | 56 => ⟨S4096x4096, .f32⟩
  | 57 => ⟨S_, .f32⟩
  | 58 => ⟨S4096, .f32⟩
  | 59 => ⟨S_, .f32⟩
  | 60 => ⟨S4096, .f32⟩
  | 61 => ⟨S4096, .i1⟩
  | 62 => ⟨S_, .f32⟩
  | 63 => ⟨S4096, .f32⟩
  | 64 => ⟨S4096, .f32⟩
  | 65 => ⟨S_, .f32⟩
  | 66 => ⟨S_, .f32⟩
  | 67 => ⟨S4096, .f32⟩
  | 68 => ⟨S4096, .f32⟩
  | 69 => ⟨S4096x1, .f32⟩
  | 70 => ⟨S4096x4096, .f32⟩
  | 71 => ⟨S4096x4096, .f32⟩
  | 72 => ⟨S1x4096, .f32⟩
  | 73 => ⟨S4096x4096, .f32⟩
  | 74 => ⟨S4096x4096, .f32⟩
  | 75 => ⟨S4096x4096, .f32⟩
  | 76 => ⟨S128x128, .f32⟩
  | 77 => ⟨S4096x128, .f32⟩
  | 78 => ⟨S4096x128, .f32⟩
  | 79 => ⟨S1x128, .f32⟩
  | 80 => ⟨S4096x128, .f32⟩
  | 81 => ⟨S4096x128, .f32⟩
  | 82 => ⟨S_, .f32⟩
  | 83 => ⟨S4096x128, .f32⟩
  | 84 => ⟨S4096x128, .f32⟩
  | 85 => ⟨S_, .f32⟩
  | 86 => ⟨S4096x128, .f32⟩
  | 87 => ⟨S4096x128, .f32⟩
  | 88 => ⟨S4096x128, .f32⟩
  | 89 => ⟨S1x131072, .i32⟩
  | 90 => ⟨S131072, .i32⟩
  | 91 => ⟨S1x131072, .i32⟩
  | 92 => ⟨S131072, .i32⟩
  | 93 => ⟨S1x128x128, .f32⟩
  | 94 => ⟨S128x128, .f32⟩
  | 95 => ⟨S1x128, .f32⟩
  | 96 => ⟨S128, .f32⟩
  | 97 => ⟨S4096, .i32⟩
  | 98 => ⟨S135168, .i32⟩
  | 99 => ⟨S135168, .i32⟩
  | 100 => ⟨S_, .f32⟩
  | 101 => ⟨S4096, .f32⟩
  | 102 => ⟨S135168, .f32⟩
  | 103 => ⟨S_, .f32⟩
  | 104 => ⟨S4096, .f32⟩
  | 105 => ⟨S135168x1, .i32⟩
  | 106 => ⟨S4096, .f32⟩
  | 107 => ⟨S_, .f32⟩
  | 108 => ⟨S4096, .f32⟩
  | 109 => ⟨S4096, .i1⟩
  | 110 => ⟨S_, .f32⟩
  | 111 => ⟨S4096, .f32⟩
  | 112 => ⟨S4096, .f32⟩
  | 113 => ⟨S_, .f32⟩
  | 114 => ⟨S_, .f32⟩
  | 115 => ⟨S4096, .f32⟩
  | 116 => ⟨S4096, .f32⟩
  | 117 => ⟨S_, .i32⟩
  | 118 => ⟨S135168, .i32⟩
  | 119 => ⟨S135168, .i1⟩
  | 120 => ⟨S_, .i32⟩
  | 121 => ⟨S135168, .i32⟩
  | 122 => ⟨S135168, .i32⟩
  | 123 => ⟨S135168, .i32⟩
  | 124 => ⟨S135168x1, .i32⟩
  | 125 => ⟨S135168, .f32⟩
  | 126 => ⟨S135168, .f32⟩
  | 127 => ⟨S_, .i32⟩
  | _ => ⟨S2048x20x128, .f32⟩

abbrev hbmTy0_2 (i : Nat) : BufTy := match i % 128 with
  | 0 => ⟨S135168, .i32⟩
  | 1 => ⟨S135168, .i1⟩
  | 2 => ⟨S_, .i32⟩
  | 3 => ⟨S135168, .i32⟩
  | 4 => ⟨S135168, .i32⟩
  | 5 => ⟨S135168, .i32⟩
  | 6 => ⟨S135168x1, .i32⟩
  | 7 => ⟨S135168, .f32⟩
  | 8 => ⟨S135168, .f32⟩
  | 9 => ⟨S128x128, .f32⟩
  | 10 => ⟨S4096x128, .f32⟩
  | 11 => ⟨S135168x1, .f32⟩
  | 12 => ⟨S_, .i32⟩
  | 13 => ⟨S135168, .i32⟩
  | 14 => ⟨S135168, .i1⟩
  | 15 => ⟨S_, .i32⟩
  | 16 => ⟨S135168, .i32⟩
  | 17 => ⟨S135168, .i32⟩
  | 18 => ⟨S135168, .i32⟩
  | 19 => ⟨S135168x1, .i32⟩
  | 20 => ⟨S135168x128, .f32⟩
  | 21 => ⟨S135168x128, .f32⟩
  | 22 => ⟨S135168x128, .f32⟩
  | 23 => ⟨S_, .f32⟩
  | 24 => ⟨S4096x128, .f32⟩
  | 25 => ⟨S135168x1, .i32⟩
  | 26 => ⟨S4096x128, .f32⟩
  | 27 => ⟨S1x128, .f32⟩
  | 28 => ⟨S4096x128, .f32⟩
  | 29 => ⟨S4096x128, .f32⟩
  | 30 => ⟨S_, .f32⟩
  | 31 => ⟨S4096x128, .f32⟩
  | 32 => ⟨S4096x128, .f32⟩
  | 33 => ⟨S_, .f32⟩
  | 34 => ⟨S4096x128, .f32⟩
  | 35 => ⟨S4096x128, .f32⟩
  | 36 => ⟨S4096x128, .f32⟩
  | 37 => ⟨S1x128x128, .f32⟩
  | 38 => ⟨S128x128, .f32⟩
  | 39 => ⟨S1x128, .f32⟩
  | 40 => ⟨S128, .f32⟩
  | 41 => ⟨S4096, .i32⟩
  | 42 => ⟨S135168, .i32⟩
  | 43 => ⟨S135168, .i32⟩
  | 44 => ⟨S_, .f32⟩
  | 45 => ⟨S4096, .f32⟩
  | 46 => ⟨S135168, .f32⟩
  | 47 => ⟨S_, .f32⟩
  | 48 => ⟨S4096, .f32⟩
  | 49 => ⟨S135168x1, .i32⟩
  | 50 => ⟨S4096, .f32⟩
  | 51 => ⟨S_, .f32⟩
  | 52 => ⟨S4096, .f32⟩
  | 53 => ⟨S4096, .i1⟩
  | 54 => ⟨S_, .f32⟩
  | 55 => ⟨S4096, .f32⟩
  | 56 => ⟨S4096, .f32⟩
  | 57 => ⟨S_, .f32⟩
  | 58 => ⟨S_, .f32⟩
  | 59 => ⟨S4096, .f32⟩
  | 60 => ⟨S4096, .f32⟩
  | 61 => ⟨S_, .i32⟩
  | 62 => ⟨S135168, .i32⟩
  | 63 => ⟨S135168, .i1⟩
  | 64 => ⟨S_, .i32⟩
  | 65 => ⟨S135168, .i32⟩
  | 66 => ⟨S135168, .i32⟩
  | 67 => ⟨S135168, .i32⟩
  | 68 => ⟨S135168x1, .i32⟩
  | 69 => ⟨S135168, .f32⟩
  | 70 => ⟨S135168, .f32⟩
  | 71 => ⟨S_, .i32⟩
  | 72 => ⟨S135168, .i32⟩
  | 73 => ⟨S135168, .i1⟩
  | 74 => ⟨S_, .i32⟩
  | 75 => ⟨S135168, .i32⟩
  | 76 => ⟨S135168, .i32⟩
  | 77 => ⟨S135168, .i32⟩
  | 78 => ⟨S135168x1, .i32⟩
  | 79 => ⟨S135168, .f32⟩
  | 80 => ⟨S135168, .f32⟩
  | 81 => ⟨S128x128, .f32⟩
  | 82 => ⟨S4096x128, .f32⟩
  | 83 => ⟨S135168x1, .f32⟩
  | 84 => ⟨S_, .i32⟩
  | 85 => ⟨S135168, .i32⟩
  | 86 => ⟨S135168, .i1⟩
  | 87 => ⟨S_, .i32⟩
  | 88 => ⟨S135168, .i32⟩
  | 89 => ⟨S135168, .i32⟩
  | 90 => ⟨S135168, .i32⟩
  | 91 => ⟨S135168x1, .i32⟩
  | 92 => ⟨S135168x128, .f32⟩
  | 93 => ⟨S135168x128, .f32⟩
  | 94 => ⟨S135168x128, .f32⟩
  | 95 => ⟨S_, .f32⟩
  | 96 => ⟨S4096x128, .f32⟩
  | 97 => ⟨S135168x1, .i32⟩
  | 98 => ⟨S4096x128, .f32⟩
  | 99 => ⟨S1x128, .f32⟩
  | 100 => ⟨S4096x128, .f32⟩
  | 101 => ⟨S4096x128, .f32⟩
  | 102 => ⟨S_, .f32⟩
  | 103 => ⟨S4096x128, .f32⟩
  | 104 => ⟨S4096x128, .f32⟩
  | 105 => ⟨S_, .f32⟩
  | 106 => ⟨S4096x128, .f32⟩
  | 107 => ⟨S4096x128, .f32⟩
  | 108 => ⟨S4096x128, .f32⟩
  | 109 => ⟨S4096x128, .f32⟩
  | 110 => ⟨S_, .f32⟩
  | _ => ⟨S2048x20x128, .f32⟩

abbrev hbmTy (i : Nat) : BufTy := match i / 128 with
  | 0 => hbmTy0_0 i
  | 1 => hbmTy0_1 i
  | 2 => hbmTy0_2 i
  | _ => ⟨S2048x20x128, .f32⟩

abbrev bufTy : (tb : Table) → Fin (tcTables nBuf tb) → BufTy
  | .hbm, ⟨i, _⟩ => hbmTy i
  | _, _ => ⟨S2048x20x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_cst : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_cst_0 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_1 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_2 : Ref sig .tc := ⟨.hbm, 67, rfl⟩
abbrev main_v47 : Ref sig .tc := ⟨.hbm, 68, rfl⟩
abbrev main_cst_3 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_4 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_call0_cst : Ref sig .tc := ⟨.hbm, 106, rfl⟩
abbrev main_call0_v0 : Ref sig .tc := ⟨.hbm, 107, rfl⟩
abbrev main_v83 : Ref sig .tc := ⟨.hbm, 108, rfl⟩
abbrev main_cst_5 : Ref sig .tc := ⟨.hbm, 109, rfl⟩
abbrev main_v84 : Ref sig .tc := ⟨.hbm, 110, rfl⟩
abbrev main_cst_6 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_cst_7 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_cst_8 : Ref sig .tc := ⟨.hbm, 123, rfl⟩
abbrev main_v95 : Ref sig .tc := ⟨.hbm, 124, rfl⟩
abbrev main_v96 : Ref sig .tc := ⟨.hbm, 125, rfl⟩
abbrev main_call1_cst : Ref sig .tc := ⟨.hbm, 126, rfl⟩
abbrev main_call1_v0 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_c : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_cst_9 : Ref sig .tc := ⟨.hbm, 141, rfl⟩
abbrev main_v109 : Ref sig .tc := ⟨.hbm, 142, rfl⟩
abbrev main_cst_10 : Ref sig .tc := ⟨.hbm, 143, rfl⟩
abbrev main_v110 : Ref sig .tc := ⟨.hbm, 144, rfl⟩
abbrev main_v111 : Ref sig .tc := ⟨.hbm, 145, rfl⟩
abbrev main_cst_11 : Ref sig .tc := ⟨.hbm, 146, rfl⟩
abbrev main_v112 : Ref sig .tc := ⟨.hbm, 147, rfl⟩
abbrev main_v113 : Ref sig .tc := ⟨.hbm, 148, rfl⟩
abbrev main_cst_12 : Ref sig .tc := ⟨.hbm, 149, rfl⟩
abbrev main_call2_v0 : Ref sig .tc := ⟨.hbm, 150, rfl⟩
abbrev main_call2_v1 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_v124 : Ref sig .tc := ⟨.hbm, 162, rfl⟩
abbrev main_v125 : Ref sig .tc := ⟨.hbm, 163, rfl⟩
abbrev main_v126 : Ref sig .tc := ⟨.hbm, 164, rfl⟩
abbrev main_v127 : Ref sig .tc := ⟨.hbm, 165, rfl⟩
abbrev main_cst_13 : Ref sig .tc := ⟨.hbm, 166, rfl⟩
abbrev main_v128 : Ref sig .tc := ⟨.hbm, 167, rfl⟩
abbrev main_v129 : Ref sig .tc := ⟨.hbm, 168, rfl⟩
abbrev main_cst_14 : Ref sig .tc := ⟨.hbm, 169, rfl⟩
abbrev main_v130 : Ref sig .tc := ⟨.hbm, 170, rfl⟩
abbrev main_v131 : Ref sig .tc := ⟨.hbm, 171, rfl⟩
abbrev main_v132 : Ref sig .tc := ⟨.hbm, 172, rfl⟩
abbrev main_v133 : Ref sig .tc := ⟨.hbm, 173, rfl⟩
abbrev main_v134 : Ref sig .tc := ⟨.hbm, 174, rfl⟩
abbrev main_v135 : Ref sig .tc := ⟨.hbm, 175, rfl⟩
abbrev main_v136 : Ref sig .tc := ⟨.hbm, 176, rfl⟩
abbrev main_v137 : Ref sig .tc := ⟨.hbm, 177, rfl⟩
abbrev main_v138 : Ref sig .tc := ⟨.hbm, 178, rfl⟩
abbrev main_c_15 : Ref sig .tc := ⟨.hbm, 179, rfl⟩
abbrev main_v139 : Ref sig .tc := ⟨.hbm, 180, rfl⟩
abbrev main_v140 : Ref sig .tc := ⟨.hbm, 181, rfl⟩
abbrev main_v141 : Ref sig .tc := ⟨.hbm, 182, rfl⟩
abbrev main_v142 : Ref sig .tc := ⟨.hbm, 183, rfl⟩
abbrev main_v143 : Ref sig .tc := ⟨.hbm, 184, rfl⟩
abbrev main_cst_16 : Ref sig .tc := ⟨.hbm, 185, rfl⟩
abbrev main_v144 : Ref sig .tc := ⟨.hbm, 186, rfl⟩
abbrev main_cst_17 : Ref sig .tc := ⟨.hbm, 187, rfl⟩
abbrev main_v145 : Ref sig .tc := ⟨.hbm, 188, rfl⟩
abbrev main_v146 : Ref sig .tc := ⟨.hbm, 189, rfl⟩
abbrev main_cst_18 : Ref sig .tc := ⟨.hbm, 190, rfl⟩
abbrev main_v147 : Ref sig .tc := ⟨.hbm, 191, rfl⟩
abbrev main_v148 : Ref sig .tc := ⟨.hbm, 192, rfl⟩
abbrev main_cst_19 : Ref sig .tc := ⟨.hbm, 193, rfl⟩
abbrev main_call3_v0 : Ref sig .tc := ⟨.hbm, 194, rfl⟩
abbrev main_call3_v1 : Ref sig .tc := ⟨.hbm, 195, rfl⟩
abbrev main_v149 : Ref sig .tc := ⟨.hbm, 196, rfl⟩
abbrev main_v150 : Ref sig .tc := ⟨.hbm, 197, rfl⟩
abbrev main_v151 : Ref sig .tc := ⟨.hbm, 198, rfl⟩
abbrev main_v152 : Ref sig .tc := ⟨.hbm, 199, rfl⟩
abbrev main_v153 : Ref sig .tc := ⟨.hbm, 200, rfl⟩
abbrev main_v154 : Ref sig .tc := ⟨.hbm, 201, rfl⟩
abbrev main_v155 : Ref sig .tc := ⟨.hbm, 202, rfl⟩
abbrev main_v156 : Ref sig .tc := ⟨.hbm, 203, rfl⟩
abbrev main_v157 : Ref sig .tc := ⟨.hbm, 204, rfl⟩
abbrev main_v158 : Ref sig .tc := ⟨.hbm, 205, rfl⟩
abbrev main_v159 : Ref sig .tc := ⟨.hbm, 206, rfl⟩
abbrev main_v160 : Ref sig .tc := ⟨.hbm, 207, rfl⟩
abbrev main_v161 : Ref sig .tc := ⟨.hbm, 208, rfl⟩
abbrev main_v162 : Ref sig .tc := ⟨.hbm, 209, rfl⟩
abbrev main_cst_20 : Ref sig .tc := ⟨.hbm, 210, rfl⟩
abbrev main_v163 : Ref sig .tc := ⟨.hbm, 211, rfl⟩
abbrev main_v164 : Ref sig .tc := ⟨.hbm, 212, rfl⟩
abbrev main_cst_21 : Ref sig .tc := ⟨.hbm, 213, rfl⟩
abbrev main_v165 : Ref sig .tc := ⟨.hbm, 214, rfl⟩
abbrev main_v166 : Ref sig .tc := ⟨.hbm, 215, rfl⟩
abbrev main_v167 : Ref sig .tc := ⟨.hbm, 216, rfl⟩
abbrev main_v168 : Ref sig .tc := ⟨.hbm, 217, rfl⟩
abbrev main_v169 : Ref sig .tc := ⟨.hbm, 218, rfl⟩
abbrev main_v170 : Ref sig .tc := ⟨.hbm, 219, rfl⟩
abbrev main_v171 : Ref sig .tc := ⟨.hbm, 220, rfl⟩
abbrev main_v172 : Ref sig .tc := ⟨.hbm, 221, rfl⟩
abbrev main_v173 : Ref sig .tc := ⟨.hbm, 222, rfl⟩
abbrev main_v174 : Ref sig .tc := ⟨.hbm, 223, rfl⟩
abbrev main_v175 : Ref sig .tc := ⟨.hbm, 224, rfl⟩
abbrev main_v176 : Ref sig .tc := ⟨.hbm, 225, rfl⟩
abbrev main_v177 : Ref sig .tc := ⟨.hbm, 226, rfl⟩
abbrev main_v178 : Ref sig .tc := ⟨.hbm, 227, rfl⟩
abbrev main_cst_22 : Ref sig .tc := ⟨.hbm, 228, rfl⟩
abbrev main_v179 : Ref sig .tc := ⟨.hbm, 229, rfl⟩
abbrev main_v180 : Ref sig .tc := ⟨.hbm, 230, rfl⟩
abbrev main_cst_23 : Ref sig .tc := ⟨.hbm, 231, rfl⟩
abbrev main_v181 : Ref sig .tc := ⟨.hbm, 232, rfl⟩
abbrev main_v182 : Ref sig .tc := ⟨.hbm, 233, rfl⟩
abbrev main_v183 : Ref sig .tc := ⟨.hbm, 234, rfl⟩
abbrev main_cst_24 : Ref sig .tc := ⟨.hbm, 235, rfl⟩
abbrev main_v184 : Ref sig .tc := ⟨.hbm, 236, rfl⟩
abbrev main_v185 : Ref sig .tc := ⟨.hbm, 237, rfl⟩
abbrev main_cst_25 : Ref sig .tc := ⟨.hbm, 238, rfl⟩
abbrev main_v186 : Ref sig .tc := ⟨.hbm, 239, rfl⟩
abbrev main_v187 : Ref sig .tc := ⟨.hbm, 240, rfl⟩
abbrev main_cst_26 : Ref sig .tc := ⟨.hbm, 241, rfl⟩
abbrev main_call4_v0 : Ref sig .tc := ⟨.hbm, 242, rfl⟩
abbrev main_call4_v1 : Ref sig .tc := ⟨.hbm, 243, rfl⟩
abbrev main_v188 : Ref sig .tc := ⟨.hbm, 244, rfl⟩
abbrev main_c_27 : Ref sig .tc := ⟨.hbm, 245, rfl⟩
abbrev main_v189 : Ref sig .tc := ⟨.hbm, 246, rfl⟩
abbrev main_v190 : Ref sig .tc := ⟨.hbm, 247, rfl⟩
abbrev main_c_28 : Ref sig .tc := ⟨.hbm, 248, rfl⟩
abbrev main_v191 : Ref sig .tc := ⟨.hbm, 249, rfl⟩
abbrev main_v192 : Ref sig .tc := ⟨.hbm, 250, rfl⟩
abbrev main_v193 : Ref sig .tc := ⟨.hbm, 251, rfl⟩
abbrev main_v194 : Ref sig .tc := ⟨.hbm, 252, rfl⟩
abbrev main_v195 : Ref sig .tc := ⟨.hbm, 253, rfl⟩
abbrev main_v196 : Ref sig .tc := ⟨.hbm, 254, rfl⟩
abbrev main_c_29 : Ref sig .tc := ⟨.hbm, 255, rfl⟩
abbrev main_v197 : Ref sig .tc := ⟨.hbm, 256, rfl⟩
abbrev main_v198 : Ref sig .tc := ⟨.hbm, 257, rfl⟩
abbrev main_c_30 : Ref sig .tc := ⟨.hbm, 258, rfl⟩
abbrev main_v199 : Ref sig .tc := ⟨.hbm, 259, rfl⟩
abbrev main_v200 : Ref sig .tc := ⟨.hbm, 260, rfl⟩
abbrev main_v201 : Ref sig .tc := ⟨.hbm, 261, rfl⟩
abbrev main_v202 : Ref sig .tc := ⟨.hbm, 262, rfl⟩
abbrev main_v203 : Ref sig .tc := ⟨.hbm, 263, rfl⟩
abbrev main_v204 : Ref sig .tc := ⟨.hbm, 264, rfl⟩
abbrev main_v205 : Ref sig .tc := ⟨.hbm, 265, rfl⟩
abbrev main_v206 : Ref sig .tc := ⟨.hbm, 266, rfl⟩
abbrev main_v207 : Ref sig .tc := ⟨.hbm, 267, rfl⟩
abbrev main_c_31 : Ref sig .tc := ⟨.hbm, 268, rfl⟩
abbrev main_v208 : Ref sig .tc := ⟨.hbm, 269, rfl⟩
abbrev main_v209 : Ref sig .tc := ⟨.hbm, 270, rfl⟩
abbrev main_c_32 : Ref sig .tc := ⟨.hbm, 271, rfl⟩
abbrev main_v210 : Ref sig .tc := ⟨.hbm, 272, rfl⟩
abbrev main_v211 : Ref sig .tc := ⟨.hbm, 273, rfl⟩
abbrev main_v212 : Ref sig .tc := ⟨.hbm, 274, rfl⟩
abbrev main_v213 : Ref sig .tc := ⟨.hbm, 275, rfl⟩
abbrev main_v214 : Ref sig .tc := ⟨.hbm, 276, rfl⟩
abbrev main_v215 : Ref sig .tc := ⟨.hbm, 277, rfl⟩
abbrev main_v216 : Ref sig .tc := ⟨.hbm, 278, rfl⟩
abbrev main_cst_33 : Ref sig .tc := ⟨.hbm, 279, rfl⟩
abbrev main_v217 : Ref sig .tc := ⟨.hbm, 280, rfl⟩
abbrev main_v218 : Ref sig .tc := ⟨.hbm, 281, rfl⟩
abbrev main_v219 : Ref sig .tc := ⟨.hbm, 282, rfl⟩
abbrev main_v220 : Ref sig .tc := ⟨.hbm, 283, rfl⟩
abbrev main_v221 : Ref sig .tc := ⟨.hbm, 284, rfl⟩
abbrev main_v222 : Ref sig .tc := ⟨.hbm, 285, rfl⟩
abbrev main_cst_34 : Ref sig .tc := ⟨.hbm, 286, rfl⟩
abbrev main_v223 : Ref sig .tc := ⟨.hbm, 287, rfl⟩
abbrev main_v224 : Ref sig .tc := ⟨.hbm, 288, rfl⟩
abbrev main_cst_35 : Ref sig .tc := ⟨.hbm, 289, rfl⟩
abbrev main_v225 : Ref sig .tc := ⟨.hbm, 290, rfl⟩
abbrev main_v226 : Ref sig .tc := ⟨.hbm, 291, rfl⟩
abbrev main_v227 : Ref sig .tc := ⟨.hbm, 292, rfl⟩
abbrev main_v228 : Ref sig .tc := ⟨.hbm, 293, rfl⟩
abbrev main_v229 : Ref sig .tc := ⟨.hbm, 294, rfl⟩
abbrev main_v230 : Ref sig .tc := ⟨.hbm, 295, rfl⟩
abbrev main_v231 : Ref sig .tc := ⟨.hbm, 296, rfl⟩
abbrev main_v232 : Ref sig .tc := ⟨.hbm, 297, rfl⟩
abbrev main_v233 : Ref sig .tc := ⟨.hbm, 298, rfl⟩
abbrev main_v234 : Ref sig .tc := ⟨.hbm, 299, rfl⟩
abbrev main_cst_36 : Ref sig .tc := ⟨.hbm, 300, rfl⟩
abbrev main_v235 : Ref sig .tc := ⟨.hbm, 301, rfl⟩
abbrev main_v236 : Ref sig .tc := ⟨.hbm, 302, rfl⟩
abbrev main_cst_37 : Ref sig .tc := ⟨.hbm, 303, rfl⟩
abbrev main_v237 : Ref sig .tc := ⟨.hbm, 304, rfl⟩
abbrev main_v238 : Ref sig .tc := ⟨.hbm, 305, rfl⟩
abbrev main_v239 : Ref sig .tc := ⟨.hbm, 306, rfl⟩
abbrev main_cst_38 : Ref sig .tc := ⟨.hbm, 307, rfl⟩
abbrev main_v240 : Ref sig .tc := ⟨.hbm, 308, rfl⟩
abbrev main_v241 : Ref sig .tc := ⟨.hbm, 309, rfl⟩
abbrev main_cst_39 : Ref sig .tc := ⟨.hbm, 310, rfl⟩
abbrev main_v242 : Ref sig .tc := ⟨.hbm, 311, rfl⟩
abbrev main_v243 : Ref sig .tc := ⟨.hbm, 312, rfl⟩
abbrev main_cst_40 : Ref sig .tc := ⟨.hbm, 313, rfl⟩
abbrev main_call5_v0 : Ref sig .tc := ⟨.hbm, 314, rfl⟩
abbrev main_call5_v1 : Ref sig .tc := ⟨.hbm, 315, rfl⟩
abbrev main_v244 : Ref sig .tc := ⟨.hbm, 316, rfl⟩
abbrev main_c_41 : Ref sig .tc := ⟨.hbm, 317, rfl⟩
abbrev main_v245 : Ref sig .tc := ⟨.hbm, 318, rfl⟩
abbrev main_v246 : Ref sig .tc := ⟨.hbm, 319, rfl⟩
abbrev main_c_42 : Ref sig .tc := ⟨.hbm, 320, rfl⟩
abbrev main_v247 : Ref sig .tc := ⟨.hbm, 321, rfl⟩
abbrev main_v248 : Ref sig .tc := ⟨.hbm, 322, rfl⟩
abbrev main_v249 : Ref sig .tc := ⟨.hbm, 323, rfl⟩
abbrev main_v250 : Ref sig .tc := ⟨.hbm, 324, rfl⟩
abbrev main_v251 : Ref sig .tc := ⟨.hbm, 325, rfl⟩
abbrev main_v252 : Ref sig .tc := ⟨.hbm, 326, rfl⟩
abbrev main_c_43 : Ref sig .tc := ⟨.hbm, 327, rfl⟩
abbrev main_v253 : Ref sig .tc := ⟨.hbm, 328, rfl⟩
abbrev main_v254 : Ref sig .tc := ⟨.hbm, 329, rfl⟩
abbrev main_c_44 : Ref sig .tc := ⟨.hbm, 330, rfl⟩
abbrev main_v255 : Ref sig .tc := ⟨.hbm, 331, rfl⟩
abbrev main_v256 : Ref sig .tc := ⟨.hbm, 332, rfl⟩
abbrev main_v257 : Ref sig .tc := ⟨.hbm, 333, rfl⟩
abbrev main_v258 : Ref sig .tc := ⟨.hbm, 334, rfl⟩
abbrev main_v259 : Ref sig .tc := ⟨.hbm, 335, rfl⟩
abbrev main_v260 : Ref sig .tc := ⟨.hbm, 336, rfl⟩
abbrev main_v261 : Ref sig .tc := ⟨.hbm, 337, rfl⟩
abbrev main_v262 : Ref sig .tc := ⟨.hbm, 338, rfl⟩
abbrev main_v263 : Ref sig .tc := ⟨.hbm, 339, rfl⟩
abbrev main_c_45 : Ref sig .tc := ⟨.hbm, 340, rfl⟩
abbrev main_v264 : Ref sig .tc := ⟨.hbm, 341, rfl⟩
abbrev main_v265 : Ref sig .tc := ⟨.hbm, 342, rfl⟩
abbrev main_c_46 : Ref sig .tc := ⟨.hbm, 343, rfl⟩
abbrev main_v266 : Ref sig .tc := ⟨.hbm, 344, rfl⟩
abbrev main_v267 : Ref sig .tc := ⟨.hbm, 345, rfl⟩
abbrev main_v268 : Ref sig .tc := ⟨.hbm, 346, rfl⟩
abbrev main_v269 : Ref sig .tc := ⟨.hbm, 347, rfl⟩
abbrev main_v270 : Ref sig .tc := ⟨.hbm, 348, rfl⟩
abbrev main_v271 : Ref sig .tc := ⟨.hbm, 349, rfl⟩
abbrev main_v272 : Ref sig .tc := ⟨.hbm, 350, rfl⟩
abbrev main_cst_47 : Ref sig .tc := ⟨.hbm, 351, rfl⟩
abbrev main_v273 : Ref sig .tc := ⟨.hbm, 352, rfl⟩
abbrev main_v274 : Ref sig .tc := ⟨.hbm, 353, rfl⟩
abbrev main_v275 : Ref sig .tc := ⟨.hbm, 354, rfl⟩
abbrev main_v276 : Ref sig .tc := ⟨.hbm, 355, rfl⟩
abbrev main_v277 : Ref sig .tc := ⟨.hbm, 356, rfl⟩
abbrev main_v278 : Ref sig .tc := ⟨.hbm, 357, rfl⟩
abbrev main_cst_48 : Ref sig .tc := ⟨.hbm, 358, rfl⟩
abbrev main_v279 : Ref sig .tc := ⟨.hbm, 359, rfl⟩
abbrev main_v280 : Ref sig .tc := ⟨.hbm, 360, rfl⟩
abbrev main_cst_49 : Ref sig .tc := ⟨.hbm, 361, rfl⟩
abbrev main_v281 : Ref sig .tc := ⟨.hbm, 362, rfl⟩
abbrev main_v282 : Ref sig .tc := ⟨.hbm, 363, rfl⟩
abbrev main_v283 : Ref sig .tc := ⟨.hbm, 364, rfl⟩
abbrev main_v284 : Ref sig .tc := ⟨.hbm, 365, rfl⟩
abbrev main_cst_50 : Ref sig .tc := ⟨.hbm, 366, rfl⟩

abbrev nD : Nat := 1
abbrev τ : Topo := Topo.v7x

variable {F : FTy → Type} [FloatOps F]
-- ==== Proof.Bodies.lean ====
/- The printed kernel at bits. The idealized kernel differs from it in one constant, printed at a name: at bits a name means
   the literal it stands for, so the two programs are one, and the run of the idealized program is the kernel's. -/
module

public import proofs.«01_k».proof.Defs
public import proofs.«01_k».proof.Proof.Gen.Kernel
public import proofs.«01_k».proof.Proof.Gen.KernelIdeal

@[expose] public section

set_option maxRecDepth 16384

noncomputable section

namespace Cert.AtBits

open Idealize.ShloMosaic Idealize.ShloMosaic.TcCoe

/-- At bits a named constant is the literal it replaced. -/
instance named : Named Bits := ⟨fun _ _ φ b => FloatOps.ofBits φ b⟩

set_option maxHeartbeats 40000000 in
theorem main_eq : Cert.Kernel.main (F := Bits) = Cert.KernelIdeal.main (F := Bits) := by with_unfolding_all rfl

set_option maxHeartbeats 40000000 in
theorem defs₀_eq : Cert.Kernel.defs₀ (F := Bits) = Cert.KernelIdeal.defs₀ (F := Bits) := by
  unfold Cert.Kernel.defs₀ Cert.KernelIdeal.defs₀
  refine congrArg (Defs.onTc) (funext fun l => funext fun x => ?_)
  obtain ⟨l, hl⟩ := l
  match l, hl, x with
  | 0, _, (_, _) => with_unfolding_all rfl
  | 1, _, (_, _) => with_unfolding_all rfl
  | 2, _, (_, _) => with_unfolding_all rfl
  | 3, _, (_, _) => with_unfolding_all rfl
  | 4, _, (_, _) => with_unfolding_all rfl
  | 5, _, (_, _) => with_unfolding_all rfl
  | 6, _, (_, _) => with_unfolding_all rfl
  | 7, _, (_, _) => with_unfolding_all rfl
  | 8, _, (_, _) => with_unfolding_all rfl
  | 9, _, (_, _) => with_unfolding_all rfl
  | 10, _, (_, _) => with_unfolding_all rfl
  | 11, _, (_, _) => with_unfolding_all rfl
  | 12, _, (_, _) => with_unfolding_all rfl
  | n + 13, h, _ => exact absurd h (by omega)

end Cert.AtBits

end
-- ==== Proof.Run.Region0.lean ====
/- The pipeline of custom call 0, at any contents `V` of the buffers on entry: the blocks its body reads, what the body
   leaves in each output's staging buffer, the body's triple, the proof data, the body obligation. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.KernelIdeal.Run

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

section Regions

variable (V : (c : Dev nD) → (b : Ref sig .tc) → Buf (Elt F) ((c : Thread nD τ).loc b))

noncomputable def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S2048x128 := Rect.unit (s := S2048x128) ![0, 0] S2048x128.size inb_S2048x128_S2048x128_0_0
abbrev r0_1 : Rect S2x128 := Rect.unit (s := S2x128) ![0, 0] S2x128.size inb_S2x128_S2x128_0_0

def out0_2 (x0 : Vec F S2048x128 .f32) (x1 : Vec F S2048x128 .f32) : Vec F S2x128 .f32 :=
  View.canon [⟨r0_1, k0_pay1 (View.ld x0 r0_0) (View.ld x1 r0_0)⟩]

theorem cover0_2 (p0 : Vec F S2x128 .f32) (y : S2x128.Idx) :
    ∃ pc ∈ ([⟨r0_1, p0⟩] : List (View.Piece (Elt F) S2x128 .f32)), y ∈ pc.1.set :=
  View.cover_of_tiled [⟨r0_1, p0⟩] S2x128.size (by rfl) y

set_option maxHeartbeats 1000000 in
theorem sound_kernel0 (c : Dev nD) (E : Set ℕ) (arg0 : Memref sig .tc .vmem S2048x128 .f32) (harg0 : arg0.IsWhole) (arg1 : Memref sig .tc .vmem S2048x128 .f32) (harg1 : arg1.IsWhole) (arg2 : Memref sig .tc .vmem S2x128 .f32) (harg2 : arg2.IsWhole)
    (x0 : Vec F S2048x128 .f32) (x1 : Vec F S2048x128 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out0_2 x0 x1)) -∗ K ⟨⟩))
      ⊢ wp frame (wpE (defs₀ (F := F)) Variants.none c none) E (cc0__qsum_body arg0 harg0 arg1 harg1 arg2 harg2) K := by
  simp only [cc0__qsum_body_eq_skeleton]; unfold cc0__qsum_body_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  (dat0 V c).before_in_eq_fetched 0 rfl (fun _ => rfl) (fun _ _ _ => rfl) (after0_0 V c) t d
theorem before0_1 (c : Dev nD) (t : Fin cfg0.N) (d) : (dat0 V c).before 1 t d = iblk0 V c 1 t :=
  (dat0 V c).before_in_eq_fetched 1 rfl (fun _ => rfl) (fun _ _ _ => rfl) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem defs₀_row0 (t : Fin cfg0.N) :
    defs₀ (F := F) .tc cfg0.body (cfg0.bodyArgs t (cfg0.slots t)) = bodyAt0 t := by
  unfold defs₀; rw [Defs.onTc_tc]

theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Regions

end Cert.KernelIdeal.Run

end
-- ==== Proof.Run.Region1.lean ====
/- The pipeline of custom call 1, at any contents `V` of the buffers on entry: the blocks its body reads, what the body
   leaves in each output's staging buffer, the body's triple, the proof data, the body obligation. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.KernelIdeal.Run

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

section Regions

variable (V : (c : Dev nD) → (b : Ref sig .tc) → Buf (Elt F) ((c : Thread nD τ).loc b))

noncomputable def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S256x128 := Rect.unit (s := S256x128) ![0, 0] S256x128.size inb_S256x128_S256x128_0_0
abbrev r1_1 : Rect S1x128 := Rect.unit (s := S1x128) ![0, 0] S1x128.size inb_S1x128_S1x128_0_0
abbrev r1_2 : Rect S128x128 := Rect.unit (s := S128x128) ![0, 0] S128x128.size inb_S128x128_S128x128_0_0
abbrev r1_3 : Rect S128x4 := Rect.unit (s := S128x4) ![0, 0] S128x4.size inb_S128x4_S128x4_0_0
abbrev r1_4 : Rect S4x128 := Rect.unit (s := S4x128) ![0, 0] S4x128.size inb_S4x128_S4x128_0_0
abbrev r1_5 : Rect S256x20x128 := Rect.unit (s := S256x20x128) ![0, 0, 0] S256x1x128.size inb_S256x20x128_S256x1x128_0_0_0
abbrev r1_6 : Rect S256x20x128 := Rect.unit (s := S256x20x128) ![0, 1, 0] S256x1x128.size inb_S256x20x128_S256x1x128_0_1_0
abbrev r1_7 : Rect S256x20x128 := Rect.unit (s := S256x20x128) ![0, 2, 0] S256x1x128.size inb_S256x20x128_S256x1x128_0_2_0
abbrev r1_8 : Rect S256x20x128 := Rect.unit (s := S256x20x128) ![0, 3, 0] S256x1x128.size inb_S256x20x128_S256x1x128_0_3_0
abbrev r1_9 : Rect S256x20x128 := Rect.unit (s := S256x20x128) ![0, 4, 0] S256x1x128.size inb_S256x20x128_S256x1x128_0_4_0
abbrev r1_10 : Rect S256x20x128 := Rect.unit (s := S256x20x128) ![0, 5, 0] S256x1x128.size inb_S256x20x128_S256x1x128_0_5_0
abbrev r1_11 : Rect S256x20x128 := Rect.unit (s := S256x20x128) ![0, 6, 0] S256x1x128.size inb_S256x20x128_S256x1x128_0_6_0
abbrev r1_12 : Rect S256x20x128 := Rect.unit (s := S256x20x128) ![0, 7, 0] S256x1x128.size inb_S256x20x128_S256x1x128_0_7_0
abbrev r1_13 : Rect S256x20x128 := Rect.unit (s := S256x20x128) ![0, 8, 0] S256x1x128.size inb_S256x20x128_S256x1x128_0_8_0
abbrev r1_14 : Rect S256x20x128 := Rect.unit (s := S256x20x128) ![0, 9, 0] S256x1x128.size inb_S256x20x128_S256x1x128_0_9_0
abbrev r1_15 : Rect S256x20x128 := Rect.unit (s := S256x20x128) ![0, 10, 0] S256x1x128.size inb_S256x20x128_S256x1x128_0_10_0
abbrev r1_16 : Rect S256x20x128 := Rect.unit (s := S256x20x128) ![0, 11, 0] S256x1x128.size inb_S256x20x128_S256x1x128_0_11_0
abbrev r1_17 : Rect S256x20x128 := Rect.unit (s := S256x20x128) ![0, 12, 0] S256x1x128.size inb_S256x20x128_S256x1x128_0_12_0
abbrev r1_18 : Rect S256x20x128 := Rect.unit (s := S256x20x128) ![0, 13, 0] S256x1x128.size inb_S256x20x128_S256x1x128_0_13_0
abbrev r1_19 : Rect S256x20x128 := Rect.unit (s := S256x20x128) ![0, 14, 0] S256x1x128.size inb_S256x20x128_S256x1x128_0_14_0
abbrev r1_20 : Rect S256x20x128 := Rect.unit (s := S256x20x128) ![0, 15, 0] S256x1x128.size inb_S256x20x128_S256x1x128_0_15_0
abbrev r1_21 : Rect S256x20x128 := Rect.unit (s := S256x20x128) ![0, 16, 0] S256x1x128.size inb_S256x20x128_S256x1x128_0_16_0
abbrev r1_22 : Rect S256x20x128 := Rect.unit (s := S256x20x128) ![0, 17, 0] S256x1x128.size inb_S256x20x128_S256x1x128_0_17_0
abbrev r1_23 : Rect S256x20x128 := Rect.unit (s := S256x20x128) ![0, 18, 0] S256x1x128.size inb_S256x20x128_S256x1x128_0_18_0
abbrev r1_24 : Rect S256x20x128 := Rect.unit (s := S256x20x128) ![0, 19, 0] S256x1x128.size inb_S256x20x128_S256x1x128_0_19_0
abbrev r1_25 : Rect S1x1 := Rect.unit (s := S1x1) ![0, 0] S1x1.size inb_S1x1_S1x1_0_0

/-! What the body computes from the eighteen blocks it reads, step by step. -/

section Steps

variable (x0 : Vec F S256x128 .f32) (x1 : Vec F S256x20x128 .f32) (x2 : Vec F S1x128 .f32) (x3 : Vec F S128x128 .f32) (x4 : Vec F S128x128 .f32) (x5 : Vec F S128x128 .f32) (x6 : Vec F S1x128 .f32) (x7 : Vec F S1x128 .f32) (x8 : Vec F S1x128 .f32)
  (x9 : Vec F S128x128 .f32) (x10 : Vec F S1x128 .f32) (x11 : Vec F S128x128 .f32) (x12 : Vec F S128x128 .f32) (x13 : Vec F S1x128 .f32) (x14 : Vec F S128x4 .f32) (x15 : Vec F S4x128 .f32) (x16 : Vec F S1x1 .f32) (x17 : Vec F S1x1 .f32)

def k1_pay159 : FVec F S256x128 .f32 :=
  k1_pay2 (View.ld x0 r1_0) (View.ld x2 r1_1) (View.ld x3 r1_2) (View.ld x6 r1_1)
def k1_pay160 : FVec F S128x4 .f32 :=
  k1_pay3 (View.ld x14 r1_3)
def k1_pay161 : FVec F S4x128 .f32 :=
  k1_pay4 (View.ld x15 r1_4)
def k1_pay162 : FVec F S256x4 .f32 :=
  k1_pay5 (F := F)
def k1_pay163 : FVec F S256x128 .f32 :=
  k1_pay9 (View.ld x1 r1_5) (View.ld x4 r1_2) (View.ld x7 r1_1)
def k1_pay164 : FVec F S256x4 .f32 :=
  k1_pay19 (k1_pay159 x0 x2 x3 x6) (k1_pay160 x14) (View.ld x1 r1_6) (View.ld x4 r1_2) (View.ld x7 r1_1)
def k1_pay165 : FVec F S256x4 .f32 :=
  k1_pay20 (k1_pay159 x0 x2 x3 x6) (k1_pay160 x14) k1_pay162 (k1_pay163 x1 x4 x7) (View.ld x1 r1_6) (View.ld x4 r1_2) (View.ld x7 r1_1)
def k1_pay166 : FVec F S256x4 .f32 :=
  k1_pay21 (k1_pay159 x0 x2 x3 x6) (k1_pay160 x14) k1_pay162 (k1_pay163 x1 x4 x7) (View.ld x1 r1_6) (View.ld x4 r1_2) (View.ld x7 r1_1)
def k1_pay167 : FVec F S256x4 .f32 :=
  k1_pay25 (k1_pay159 x0 x2 x3 x6) (k1_pay160 x14) (k1_pay165 x0 x1 x2 x3 x4 x6 x7 x14) (View.ld x1 r1_7) (View.ld x4 r1_2) (View.ld x7 r1_1)
def k1_pay168 : FVec F S256x4 .f32 :=
  k1_pay32 (k1_pay159 x0 x2 x3 x6) (k1_pay160 x14) (k1_pay167 x0 x1 x2 x3 x4 x6 x7 x14) (View.ld x1 r1_8) (View.ld x4 r1_2) (View.ld x7 r1_1)
def k1_pay169 : FVec F S256x128 .f32 :=
  k1_pay38 (View.ld x1 r1_9) (View.ld x4 r1_2) (View.ld x7 r1_1)
def k1_pay170 : FVec F S256x4 .f32 :=
  constant S256x4 .f32 0x00000000#32
def k1_pay171 : FVec F S256x4 .f32 :=
  k1_pay40 (k1_pay159 x0 x2 x3 x6) (k1_pay160 x14) (k1_pay168 x0 x1 x2 x3 x4 x6 x7 x14) (k1_pay169 x1 x4 x7)
def k1_pay172 : FVec F S256x128 .f32 :=
  k1_pay47 (k1_pay159 x0 x2 x3 x6) (View.ld x1 r1_10) (View.ld x4 r1_2) (View.ld x7 r1_1)
def k1_pay173 : FVec F S256x4 .f32 :=
  k1_pay54 (k1_pay159 x0 x2 x3 x6) (k1_pay160 x14) (k1_pay171 x0 x1 x2 x3 x4 x6 x7 x14) (k1_pay172 x0 x1 x2 x3 x4 x6 x7) k1_pay170 (View.ld x1 r1_11) (View.ld x4 r1_2) (View.ld x7 r1_1)
def k1_pay174 : FVec F S256x4 .f32 :=
  k1_pay62 (k1_pay159 x0 x2 x3 x6) (k1_pay160 x14) (k1_pay173 x0 x1 x2 x3 x4 x6 x7 x14) (View.ld x1 r1_12) (View.ld x4 r1_2) (View.ld x7 r1_1)
def k1_pay175 : FVec F S256x128 .f32 :=
  k1_pay68 (View.ld x1 r1_13) (View.ld x4 r1_2)
def k1_pay176 : FVec F S256x4 .f32 :=
  k1_pay70 (k1_pay159 x0 x2 x3 x6) (k1_pay160 x14) (k1_pay174 x0 x1 x2 x3 x4 x6 x7 x14) (k1_pay175 x1 x4) (View.ld x7 r1_1)
def k1_pay177 : FVec F S256x128 .f32 :=
  k1_pay76 (View.ld x1 r1_14) (View.ld x4 r1_2) (View.ld x7 r1_1)
def k1_pay178 : FVec F S256x4 .f32 :=
  k1_pay87 (k1_pay159 x0 x2 x3 x6) (k1_pay160 x14) (k1_pay176 x0 x1 x2 x3 x4 x6 x7 x14) (k1_pay177 x1 x4 x7) (View.ld x1 r1_15) (View.ld x4 r1_2) (View.ld x7 r1_1)
def k1_pay179 : FVec F S256x4 .f32 :=
  k1_pay94 (k1_pay159 x0 x2 x3 x6) (k1_pay160 x14) (k1_pay178 x0 x1 x2 x3 x4 x6 x7 x14) (View.ld x1 r1_16) (View.ld x4 r1_2) (View.ld x7 r1_1)
def k1_pay180 : FVec F S256x128 .f32 :=
  k1_pay99 (View.ld x1 r1_17)
def k1_pay181 : FVec F S128x128 .f32 :=
  k1_pay100 (View.ld x4 r1_2)
def k1_pay182 : FVec F S256x4 .f32 :=
  k1_pay102 (k1_pay159 x0 x2 x3 x6) (k1_pay160 x14) (k1_pay179 x0 x1 x2 x3 x4 x6 x7 x14) (k1_pay180 x1) (k1_pay181 x4) (View.ld x7 r1_1)
def k1_pay183 : FVec F S256x128 .f32 :=
  k1_pay108 (View.ld x1 r1_18) (View.ld x4 r1_2) (View.ld x7 r1_1)
def k1_pay184 : FVec F S256x4 .f32 :=
  k1_pay119 (k1_pay159 x0 x2 x3 x6) (k1_pay160 x14) (k1_pay182 x0 x1 x2 x3 x4 x6 x7 x14) (k1_pay183 x1 x4 x7) (View.ld x1 r1_19) (View.ld x4 r1_2) (View.ld x7 r1_1)
def k1_pay185 : FVec F S256x4 .f32 :=
  k1_pay120 (k1_pay159 x0 x2 x3 x6) (k1_pay160 x14) (k1_pay182 x0 x1 x2 x3 x4 x6 x7 x14) (k1_pay183 x1 x4 x7) (View.ld x1 r1_19) (View.ld x4 r1_2) (View.ld x7 r1_1)
def k1_pay186 : FVec F S256x4 .f32 :=
  k1_pay121 (k1_pay159 x0 x2 x3 x6) (k1_pay160 x14) (k1_pay182 x0 x1 x2 x3 x4 x6 x7 x14) (k1_pay183 x1 x4 x7) (View.ld x1 r1_19) (View.ld x4 r1_2) (View.ld x7 r1_1)
def k1_pay187 : FVec F S256x4 .f32 :=
  k1_pay124 (k1_pay159 x0 x2 x3 x6) (k1_pay160 x14) (k1_pay184 x0 x1 x2 x3 x4 x6 x7 x14) (View.ld x1 r1_20) (View.ld x4 r1_2) (View.ld x7 r1_1)
def k1_pay188 : FVec F S256x128 .f32 :=
  k1_pay129 (View.ld x1 r1_21)
def k1_pay189 : FVec F S256x4 .f32 :=
  k1_pay131 (k1_pay159 x0 x2 x3 x6) (k1_pay160 x14) (k1_pay187 x0 x1 x2 x3 x4 x6 x7 x14) (k1_pay188 x1) (View.ld x4 r1_2) (View.ld x7 r1_1)
def k1_pay190 : FVec F S256x128 .f32 :=
  k1_pay137 (View.ld x1 r1_22) (View.ld x4 r1_2) (View.ld x7 r1_1)
def k1_pay191 : FVec F S256x4 .f32 :=
  k1_pay139 (k1_pay159 x0 x2 x3 x6) (k1_pay160 x14) (k1_pay189 x0 x1 x2 x3 x4 x6 x7 x14) (k1_pay190 x1 x4 x7)
def k1_pay192 : FVec F S256x4 .f32 :=
  k1_pay146 (k1_pay159 x0 x2 x3 x6) (k1_pay160 x14) (View.ld x1 r1_23) (View.ld x4 r1_2) (View.ld x7 r1_1)
def k1_pay193 : FVec F S256x4 .f32 :=
  k1_pay147 (k1_pay159 x0 x2 x3 x6) (k1_pay160 x14) (k1_pay189 x0 x1 x2 x3 x4 x6 x7 x14) (k1_pay190 x1 x4 x7) (View.ld x1 r1_23) (View.ld x4 r1_2) (View.ld x7 r1_1)
def k1_pay194 : FVec F S256x128 .f32 :=
  constant S256x128 .f32 0x00000000#32
def k1_pay195 : FVec F S256x4 .f32 :=
  k1_pay155 (k1_pay159 x0 x2 x3 x6) (k1_pay160 x14) (k1_pay191 x0 x1 x2 x3 x4 x6 x7 x14) (k1_pay142 (k1_pay159 x0 x2 x3 x6) (k1_pay160 x14) (k1_pay189 x0 x1 x2 x3 x4 x6 x7 x14) (k1_pay134 (k1_pay159 x0 x2 x3 x6) (k1_pay160 x14) (k1_pay187 x0 x1 x2 x3 x4 x6 x7 x14) (k1_pay127 (k1_pay159 x0 x2 x3 x6) (k1_pay160 x14) (k1_pay114 (k1_pay159 x0 x2 x3 x6) (k1_pay160 x14) (k1_pay182 x0 x1 x2 x3 x4 x6 x7 x14) (k1_pay105 (k1_pay159 x0 x2 x3 x6) (k1_pay160 x14) (k1_pay179 x0 x1 x2 x3 x4 x6 x7 x14) (k1_pay97 (k1_pay159 x0 x2 x3 x6) (k1_pay160 x14) (k1_pay178 x0 x1 x2 x3 x4 x6 x7 x14) (k1_pay90 (k1_pay159 x0 x2 x3 x6) (k1_pay160 x14) (k1_pay176 x0 x1 x2 x3 x4 x6 x7 x14) (k1_pay73 (k1_pay159 x0 x2 x3 x6) (k1_pay160 x14) (k1_pay174 x0 x1 x2 x3 x4 x6 x7 x14) (k1_pay65 (k1_pay159 x0 x2 x3 x6) (k1_pay160 x14) (k1_pay173 x0 x1 x2 x3 x4 x6 x7 x14) (k1_pay57 (k1_pay159 x0 x2 x3 x6) (k1_pay160 x14) (k1_pay171 x0 x1 x2 x3 x4 x6 x7 x14) (k1_pay43 (k1_pay159 x0 x2 x3 x6) (k1_pay160 x14) (k1_pay168 x0 x1 x2 x3 x4 x6 x7 x14) (k1_pay35 (k1_pay159 x0 x2 x3 x6) (k1_pay160 x14) (k1_pay167 x0 x1 x2 x3 x4 x6 x7 x14) (k1_pay28 (k1_pay159 x0 x2 x3 x6) (k1_pay160 x14) (k1_pay15 (k1_pay159 x0 x2 x3 x6) (k1_pay160 x14) k1_pay162 (k1_pay6 (F := F)) (k1_pay163 x1 x4 x7)) (k1_pay164 x0 x1 x2 x3 x4 x6 x7 x14) (k1_pay165 x0 x1 x2 x3 x4 x6 x7 x14) (k1_pay166 x0 x1 x2 x3 x4 x6 x7 x14) (View.ld x1 r1_7) (View.ld x4 r1_2) (View.ld x7 r1_1)) (View.ld x1 r1_8) (View.ld x4 r1_2) (View.ld x7 r1_1)) (k1_pay169 x1 x4 x7)) (k1_pay172 x0 x1 x2 x3 x4 x6 x7) k1_pay170 (View.ld x1 r1_11) (View.ld x4 r1_2) (View.ld x7 r1_1)) (View.ld x1 r1_12) (View.ld x4 r1_2) (View.ld x7 r1_1)) (k1_pay175 x1 x4) (View.ld x7 r1_1)) (k1_pay177 x1 x4 x7) (View.ld x1 r1_15) (View.ld x4 r1_2) (View.ld x7 r1_1)) (View.ld x1 r1_16) (View.ld x4 r1_2) (View.ld x7 r1_1)) (k1_pay180 x1) (k1_pay181 x4) (View.ld x7 r1_1)) (k1_pay183 x1 x4 x7)) (k1_pay184 x0 x1 x2 x3 x4 x6 x7 x14) (k1_pay185 x0 x1 x2 x3 x4 x6 x7 x14) (k1_pay186 x0 x1 x2 x3 x4 x6 x7 x14) (View.ld x1 r1_20) (View.ld x4 r1_2) (View.ld x7 r1_1)) (k1_pay188 x1) (View.ld x4 r1_2) (View.ld x7 r1_1)) (k1_pay190 x1 x4 x7)) (k1_pay192 x0 x1 x2 x3 x4 x6 x7 x14) (k1_pay193 x0 x1 x2 x3 x4 x6 x7 x14) (View.ld x1 r1_24) (View.ld x4 r1_2) (View.ld x7 r1_1)
def k1_pay196 : FVec F S256x128 .f32 :=
  k1_pay156 (k1_pay159 x0 x2 x3 x6) (k1_pay160 x14) (k1_pay161 x15) (k1_pay191 x0 x1 x2 x3 x4 x6 x7 x14) (k1_pay143 (k1_pay159 x0 x2 x3 x6) (k1_pay160 x14) (k1_pay161 x15) (k1_pay189 x0 x1 x2 x3 x4 x6 x7 x14) (k1_pay135 (k1_pay159 x0 x2 x3 x6) (k1_pay160 x14) (k1_pay161 x15) (k1_pay187 x0 x1 x2 x3 x4 x6 x7 x14) (k1_pay128 (k1_pay159 x0 x2 x3 x6) (k1_pay160 x14) (k1_pay161 x15) (k1_pay115 (k1_pay159 x0 x2 x3 x6) (k1_pay160 x14) (k1_pay161 x15) (k1_pay182 x0 x1 x2 x3 x4 x6 x7 x14) (k1_pay106 (k1_pay159 x0 x2 x3 x6) (k1_pay160 x14) (k1_pay161 x15) (k1_pay179 x0 x1 x2 x3 x4 x6 x7 x14) (k1_pay98 (k1_pay159 x0 x2 x3 x6) (k1_pay160 x14) (k1_pay161 x15) (k1_pay83 (k1_pay159 x0 x2 x3 x6) (k1_pay160 x14) (k1_pay161 x15) (k1_pay176 x0 x1 x2 x3 x4 x6 x7 x14) (k1_pay74 (k1_pay159 x0 x2 x3 x6) (k1_pay160 x14) (k1_pay161 x15) (k1_pay174 x0 x1 x2 x3 x4 x6 x7 x14) (k1_pay66 (k1_pay159 x0 x2 x3 x6) (k1_pay160 x14) (k1_pay161 x15) (k1_pay173 x0 x1 x2 x3 x4 x6 x7 x14) (k1_pay58 (k1_pay159 x0 x2 x3 x6) (k1_pay160 x14) (k1_pay161 x15) (k1_pay171 x0 x1 x2 x3 x4 x6 x7 x14) (k1_pay44 (k1_pay159 x0 x2 x3 x6) (k1_pay160 x14) (k1_pay161 x15) (k1_pay168 x0 x1 x2 x3 x4 x6 x7 x14) (k1_pay36 (k1_pay159 x0 x2 x3 x6) (k1_pay160 x14) (k1_pay161 x15) (k1_pay167 x0 x1 x2 x3 x4 x6 x7 x14) (k1_pay29 (k1_pay159 x0 x2 x3 x6) (k1_pay160 x14) (k1_pay161 x15) (k1_pay16 (k1_pay159 x0 x2 x3 x6) (k1_pay160 x14) (k1_pay161 x15) k1_pay162 (k1_pay7 (F := F)) (k1_pay8 (View.ld x1 r1_5)) (k1_pay163 x1 x4 x7) (k1_pay10 (View.ld x5 r1_2)) (View.ld x8 r1_1)) (k1_pay18 (View.ld x1 r1_6) (View.ld x5 r1_2) (View.ld x8 r1_1)) (k1_pay164 x0 x1 x2 x3 x4 x6 x7 x14) (k1_pay165 x0 x1 x2 x3 x4 x6 x7 x14) (k1_pay166 x0 x1 x2 x3 x4 x6 x7 x14) (View.ld x1 r1_7) (View.ld x4 r1_2) (View.ld x7 r1_1) (View.ld x5 r1_2) (View.ld x8 r1_1)) (View.ld x1 r1_8) (View.ld x4 r1_2) (View.ld x7 r1_1) (View.ld x5 r1_2) (View.ld x8 r1_1)) (k1_pay37 (View.ld x1 r1_9)) (k1_pay169 x1 x4 x7) (View.ld x5 r1_2) (View.ld x8 r1_1)) (k1_pay46 (View.ld x1 r1_10) (View.ld x5 r1_2) (View.ld x8 r1_1)) (k1_pay172 x0 x1 x2 x3 x4 x6 x7) k1_pay170 (View.ld x1 r1_11) (View.ld x4 r1_2) (View.ld x7 r1_1)) (k1_pay59 (k1_pay159 x0 x2 x3 x6) (k1_pay160 x14) (k1_pay161 x15) (k1_pay171 x0 x1 x2 x3 x4 x6 x7 x14) (k1_pay172 x0 x1 x2 x3 x4 x6 x7) k1_pay170 (View.ld x1 r1_11) (View.ld x4 r1_2) (View.ld x7 r1_1) (View.ld x5 r1_2) (View.ld x8 r1_1)) (View.ld x1 r1_12) (View.ld x4 r1_2) (View.ld x7 r1_1) (View.ld x5 r1_2) (View.ld x8 r1_1)) (k1_pay67 (View.ld x1 r1_13)) (k1_pay175 x1 x4) (View.ld x7 r1_1) (View.ld x5 r1_2) (View.ld x8 r1_1)) (k1_pay177 x1 x4 x7) (k1_pay77 (View.ld x1 r1_14) (View.ld x5 r1_2)) (k1_pay78 (View.ld x8 r1_1))) (k1_pay85 (View.ld x1 r1_15) (View.ld x5 r1_2) (View.ld x8 r1_1)) (k1_pay178 x0 x1 x2 x3 x4 x6 x7 x14) (k1_pay89 (k1_pay159 x0 x2 x3 x6) (k1_pay160 x14) (k1_pay176 x0 x1 x2 x3 x4 x6 x7 x14) (k1_pay177 x1 x4 x7) (View.ld x1 r1_15) (View.ld x4 r1_2) (View.ld x7 r1_1)) (k1_pay91 (k1_pay159 x0 x2 x3 x6) (k1_pay160 x14) (k1_pay161 x15) (k1_pay176 x0 x1 x2 x3 x4 x6 x7 x14) (k1_pay177 x1 x4 x7) (View.ld x1 r1_15) (View.ld x4 r1_2) (View.ld x7 r1_1)) (View.ld x1 r1_16) (View.ld x4 r1_2) (View.ld x7 r1_1) (View.ld x5 r1_2) (View.ld x8 r1_1)) (k1_pay180 x1) (k1_pay181 x4) (View.ld x7 r1_1) (View.ld x5 r1_2) (View.ld x8 r1_1)) (k1_pay183 x1 x4 x7) (k1_pay109 (View.ld x1 r1_18) (View.ld x5 r1_2)) (View.ld x8 r1_1)) (k1_pay117 (View.ld x1 r1_19) (View.ld x5 r1_2) (View.ld x8 r1_1)) (k1_pay184 x0 x1 x2 x3 x4 x6 x7 x14) (k1_pay185 x0 x1 x2 x3 x4 x6 x7 x14) (k1_pay186 x0 x1 x2 x3 x4 x6 x7 x14) (View.ld x1 r1_20) (View.ld x4 r1_2) (View.ld x7 r1_1) (View.ld x5 r1_2) (View.ld x8 r1_1)) (k1_pay188 x1) (View.ld x4 r1_2) (View.ld x7 r1_1) (View.ld x5 r1_2) (View.ld x8 r1_1)) (k1_pay136 (View.ld x1 r1_22)) (k1_pay190 x1 x4 x7) (View.ld x5 r1_2) (View.ld x8 r1_1)) (k1_pay145 (View.ld x1 r1_23) (View.ld x5 r1_2) (View.ld x8 r1_1)) (k1_pay192 x0 x1 x2 x3 x4 x6 x7 x14) (k1_pay193 x0 x1 x2 x3 x4 x6 x7 x14) (View.ld x1 r1_24) (View.ld x4 r1_2) (View.ld x7 r1_1) (View.ld x5 r1_2) (View.ld x8 r1_1)

def out1_18 : Vec F S256x128 .f32 :=
  View.canon [⟨r1_0, k1_pay157 (View.ld x0 r1_0) (k1_pay161 x15) (k1_pay195 x0 x1 x2 x3 x4 x6 x7 x14) (k1_pay196 x0 x1 x2 x3 x4 x5 x6 x7 x8 x14 x15) k1_pay194 (View.ld x9 r1_2) (View.ld x10 r1_1) (View.ld x11 r1_2) (View.ld x12 r1_2) (View.ld x13 r1_1)⟩]

def out1_19 : Vec F S256x128 .f32 :=
  View.canon [⟨r1_0, k1_pay158 (View.ld x0 r1_0) (k1_pay161 x15) (k1_pay195 x0 x1 x2 x3 x4 x6 x7 x14) (k1_pay196 x0 x1 x2 x3 x4 x5 x6 x7 x8 x14 x15) k1_pay194 (View.ld x9 r1_2) (View.ld x10 r1_1) (View.ld x11 r1_2) (View.ld x12 r1_2) (View.ld x13 r1_1) (View.ld x16 r1_25)⟩]

def out1_20 : Vec F S256x128 .f32 :=
  View.canon [⟨r1_0, k1_pay1 (k1_pay157 (View.ld x0 r1_0) (k1_pay161 x15) (k1_pay195 x0 x1 x2 x3 x4 x6 x7 x14) (k1_pay196 x0 x1 x2 x3 x4 x5 x6 x7 x8 x14 x15) k1_pay194 (View.ld x9 r1_2) (View.ld x10 r1_1) (View.ld x11 r1_2) (View.ld x12 r1_2) (View.ld x13 r1_1)) (View.ld x17 r1_25)⟩]

end Steps

theorem cover1_18 (p0 : Vec F S256x128 .f32) (y : S256x128.Idx) :
    ∃ pc ∈ ([⟨r1_0, p0⟩] : List (View.Piece (Elt F) S256x128 .f32)), y ∈ pc.1.set :=
  View.cover_of_tiled [⟨r1_0, p0⟩] S256x128.size (by rfl) y

theorem cover1_19 (p0 : Vec F S256x128 .f32) (y : S256x128.Idx) :
    ∃ pc ∈ ([⟨r1_0, p0⟩] : List (View.Piece (Elt F) S256x128 .f32)), y ∈ pc.1.set :=
  View.cover_of_tiled [⟨r1_0, p0⟩] S256x128.size (by rfl) y

theorem cover1_20 (p0 : Vec F S256x128 .f32) (y : S256x128.Idx) :
    ∃ pc ∈ ([⟨r1_0, p0⟩] : List (View.Piece (Elt F) S256x128 .f32)), y ∈ pc.1.set :=
  View.cover_of_tiled [⟨r1_0, p0⟩] S256x128.size (by rfl) y

set_option maxHeartbeats 11188450 in
theorem sound_kernel1 (c : Dev nD) (E : Set ℕ) (i : grid1.Coords) (arg1 : Memref sig .tc .vmem S256x128 .f32) (harg1 : arg1.IsWhole) (arg2 : Memref sig .tc .vmem S256x20x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S1x128 .f32) (harg14 : arg14.IsWhole) (arg15 : Memref sig .tc .vmem S128x4 .f32) (harg15 : arg15.IsWhole) (arg16 : Memref sig .tc .vmem S4x128 .f32) (harg16 : arg16.IsWhole) (arg17 : Memref sig .tc .vmem S1x1 .f32) (harg17 : arg17.IsWhole) (arg18 : Memref sig .tc .vmem S1x1 .f32) (harg18 : arg18.IsWhole) (arg19 : Memref sig .tc .vmem S256x128 .f32) (harg19 : arg19.IsWhole) (arg20 : Memref sig .tc .vmem S256x128 .f32) (harg20 : arg20.IsWhole) (arg21 : Memref sig .tc .vmem S256x128 .f32) (harg21 : arg21.IsWhole)
    (x0 : Vec F S256x128 .f32) (x1 : Vec F S256x20x128 .f32) (x2 : Vec F S1x128 .f32) (x3 : Vec F S128x128 .f32) (x4 : Vec F S128x128 .f32) (x5 : Vec F S128x128 .f32) (x6 : Vec F S1x128 .f32) (x7 : Vec F S1x128 .f32) (x8 : Vec F S1x128 .f32) (x9 : Vec F S128x128 .f32) (x10 : Vec F S1x128 .f32) (x11 : Vec F S128x128 .f32) (x12 : Vec F S128x128 .f32) (x13 : Vec F S1x128 .f32) (x14 : Vec F S128x4 .f32) (x15 : Vec F S4x128 .f32) (x16 : Vec F S1x1 .f32) (x17 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ (∃ d, owns (c : Thread nD τ) arg19 fullShare d) ∗ (∃ d, owns (c : Thread nD τ) arg20 fullShare d) ∗ (∃ d, owns (c : Thread nD τ) arg21 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare (out1_18 x0 x1 x2 x3 x4 x5 x6 x7 x8 x9 x10 x11 x12 x13 x14 x15) ∗ owns (c : Thread nD τ) arg20 fullShare (out1_19 x0 x1 x2 x3 x4 x5 x6 x7 x8 x9 x10 x11 x12 x13 x14 x15 x16) ∗ owns (c : Thread nD τ) arg21 fullShare (out1_20 x0 x1 x2 x3 x4 x5 x6 x7 x8 x9 x10 x11 x12 x13 x14 x15 x17)) -∗ K ⟨⟩))
      ⊢ wp frame (wpE (defs₀ (F := F)) Variants.none c none) E (cc1__mha_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  simp only [cc1__mha_body_eq_skeleton]; unfold cc1__mha_body_skel
  simp only [k1_part17_eq_skeleton, k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%d18, %f18, -, H18⟩, ⟨%d19, %f19, -, H19⟩, ⟨%d20, %f20, -, H20⟩, Hk⟩
  subst hf0 hf1 hf2 hf3 hf4 hf5 hf6 hf7 hf8 hf9 hf10 hf11 hf12 hf13 hf14 hf15 hf16 hf17
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists _; isplitr
    swap; · iexact H18
    ipureintro
    refine (View.read_writes_eq_canon _ _ _ (cover1_18 _)).trans ?_
    rfl
  isplitl [H19]
  · iexists _; isplitr
    swap; · iexact H19
    ipureintro
    refine (View.read_writes_eq_canon _ _ _ (cover1_19 _)).trans ?_
    rfl
  iexists _; isplitr
  swap; · iexact H20
  ipureintro
  refine (View.read_writes_eq_canon _ _ _ (cover1_20 _)).trans ?_
  rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => iblk1 V c 11 t
    | ⟨12, _⟩ => iblk1 V c 12 t
    | ⟨13, _⟩ => iblk1 V c 13 t
    | ⟨14, _⟩ => iblk1 V c 14 t
    | ⟨15, _⟩ => iblk1 V c 15 t
    | ⟨16, _⟩ => iblk1 V c 16 t
    | ⟨17, _⟩ => iblk1 V c 17 t
    | ⟨18, _⟩ => out1_18 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t)
    | ⟨19, _⟩ => out1_19 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (iblk1 V c 16 t)
    | ⟨20, _⟩ => out1_20 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (iblk1 V c 17 t)
    | ⟨_ + 21, h⟩ => absurd h (Nat.not_lt.2 (Nat.le_add_left _ _))
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = iblk1 V c 10 t := by dsimp only [dat1]
theorem after1_11 (c : Dev nD) (t : Fin cfg1.N) : (dat1 V c).after 11 t = iblk1 V c 11 t := by dsimp only [dat1]
theorem after1_12 (c : Dev nD) (t : Fin cfg1.N) : (dat1 V c).after 12 t = iblk1 V c 12 t := by dsimp only [dat1]
theorem after1_13 (c : Dev nD) (t : Fin cfg1.N) : (dat1 V c).after 13 t = iblk1 V c 13 t := by dsimp only [dat1]
theorem after1_14 (c : Dev nD) (t : Fin cfg1.N) : (dat1 V c).after 14 t = iblk1 V c 14 t := by dsimp only [dat1]
theorem after1_15 (c : Dev nD) (t : Fin cfg1.N) : (dat1 V c).after 15 t = iblk1 V c 15 t := by dsimp only [dat1]
theorem after1_16 (c : Dev nD) (t : Fin cfg1.N) : (dat1 V c).after 16 t = iblk1 V c 16 t := by dsimp only [dat1]
theorem after1_17 (c : Dev nD) (t : Fin cfg1.N) : (dat1 V c).after 17 t = iblk1 V c 17 t := by dsimp only [dat1]
theorem after1_18 (c : Dev nD) (t : Fin cfg1.N) : (dat1 V c).after 18 t = out1_18 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) := by dsimp only [dat1]
theorem after1_19 (c : Dev nD) (t : Fin cfg1.N) : (dat1 V c).after 19 t = out1_19 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (iblk1 V c 16 t) := by dsimp only [dat1]
theorem after1_20 (c : Dev nD) (t : Fin cfg1.N) : (dat1 V c).after 20 t = out1_20 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (iblk1 V c 17 t) := by dsimp only [dat1]

theorem before1_0 (c : Dev nD) (t : Fin cfg1.N) (d) : (dat1 V c).before 0 t d = iblk1 V c 0 t :=
  (dat1 V c).before_in_eq_fetched 0 rfl (fun _ => rfl) (fun _ _ _ => rfl) (after1_0 V c) t d
theorem before1_1 (c : Dev nD) (t : Fin cfg1.N) (d) : (dat1 V c).before 1 t d = iblk1 V c 1 t :=
  (dat1 V c).before_in_eq_fetched 1 rfl (fun _ => rfl) (fun _ _ _ => rfl) (after1_1 V c) t d
theorem before1_2 (c : Dev nD) (t : Fin cfg1.N) (d) : (dat1 V c).before 2 t d = iblk1 V c 2 t :=
  (dat1 V c).before_in_eq_fetched 2 rfl (fun _ => rfl) (fun _ _ _ => rfl) (after1_2 V c) t d
theorem before1_3 (c : Dev nD) (t : Fin cfg1.N) (d) : (dat1 V c).before 3 t d = iblk1 V c 3 t :=
  (dat1 V c).before_in_eq_fetched 3 rfl (fun _ => rfl) (fun _ _ _ => rfl) (after1_3 V c) t d
theorem before1_4 (c : Dev nD) (t : Fin cfg1.N) (d) : (dat1 V c).before 4 t d = iblk1 V c 4 t :=
  (dat1 V c).before_in_eq_fetched 4 rfl (fun _ => rfl) (fun _ _ _ => rfl) (after1_4 V c) t d
theorem before1_5 (c : Dev nD) (t : Fin cfg1.N) (d) : (dat1 V c).before 5 t d = iblk1 V c 5 t :=
  (dat1 V c).before_in_eq_fetched 5 rfl (fun _ => rfl) (fun _ _ _ => rfl) (after1_5 V c) t d
theorem before1_6 (c : Dev nD) (t : Fin cfg1.N) (d) : (dat1 V c).before 6 t d = iblk1 V c 6 t :=
  (dat1 V c).before_in_eq_fetched 6 rfl (fun _ => rfl) (fun _ _ _ => rfl) (after1_6 V c) t d
theorem before1_7 (c : Dev nD) (t : Fin cfg1.N) (d) : (dat1 V c).before 7 t d = iblk1 V c 7 t :=
  (dat1 V c).before_in_eq_fetched 7 rfl (fun _ => rfl) (fun _ _ _ => rfl) (after1_7 V c) t d
theorem before1_8 (c : Dev nD) (t : Fin cfg1.N) (d) : (dat1 V c).before 8 t d = iblk1 V c 8 t :=
  (dat1 V c).before_in_eq_fetched 8 rfl (fun _ => rfl) (fun _ _ _ => rfl) (after1_8 V c) t d
theorem before1_9 (c : Dev nD) (t : Fin cfg1.N) (d) : (dat1 V c).before 9 t d = iblk1 V c 9 t :=
  (dat1 V c).before_in_eq_fetched 9 rfl (fun _ => rfl) (fun _ _ _ => rfl) (after1_9 V c) t d
theorem before1_10 (c : Dev nD) (t : Fin cfg1.N) (d) : (dat1 V c).before 10 t d = iblk1 V c 10 t :=
  (dat1 V c).before_in_eq_fetched 10 rfl (fun _ => rfl) (fun _ _ _ => rfl) (after1_10 V c) t d
theorem before1_11 (c : Dev nD) (t : Fin cfg1.N) (d) : (dat1 V c).before 11 t d = iblk1 V c 11 t :=
  (dat1 V c).before_in_eq_fetched 11 rfl (fun _ => rfl) (fun _ _ _ => rfl) (after1_11 V c) t d
theorem before1_12 (c : Dev nD) (t : Fin cfg1.N) (d) : (dat1 V c).before 12 t d = iblk1 V c 12 t :=
  (dat1 V c).before_in_eq_fetched 12 rfl (fun _ => rfl) (fun _ _ _ => rfl) (after1_12 V c) t d
theorem before1_13 (c : Dev nD) (t : Fin cfg1.N) (d) : (dat1 V c).before 13 t d = iblk1 V c 13 t :=
  (dat1 V c).before_in_eq_fetched 13 rfl (fun _ => rfl) (fun _ _ _ => rfl) (after1_13 V c) t d
theorem before1_14 (c : Dev nD) (t : Fin cfg1.N) (d) : (dat1 V c).before 14 t d = iblk1 V c 14 t :=
  (dat1 V c).before_in_eq_fetched 14 rfl (fun _ => rfl) (fun _ _ _ => rfl) (after1_14 V c) t d
theorem before1_15 (c : Dev nD) (t : Fin cfg1.N) (d) : (dat1 V c).before 15 t d = iblk1 V c 15 t :=
  (dat1 V c).before_in_eq_fetched 15 rfl (fun _ => rfl) (fun _ _ _ => rfl) (after1_15 V c) t d
theorem before1_16 (c : Dev nD) (t : Fin cfg1.N) (d) : (dat1 V c).before 16 t d = iblk1 V c 16 t :=
  (dat1 V c).before_in_eq_fetched 16 rfl (fun _ => rfl) (fun _ _ _ => rfl) (after1_16 V c) t d
theorem before1_17 (c : Dev nD) (t : Fin cfg1.N) (d) : (dat1 V c).before 17 t d = iblk1 V c 17 t :=
  (dat1 V c).before_in_eq_fetched 17 rfl (fun _ => rfl) (fun _ _ _ => rfl) (after1_17 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d))
    ∗ (∃ d, owns (c : Thread nD τ) (st1_11 t) fullShare ((dat1 V c).before 11 t d))
    ∗ (∃ d, owns (c : Thread nD τ) (st1_12 t) fullShare ((dat1 V c).before 12 t d))
    ∗ (∃ d, owns (c : Thread nD τ) (st1_13 t) fullShare ((dat1 V c).before 13 t d))
    ∗ (∃ d, owns (c : Thread nD τ) (st1_14 t) fullShare ((dat1 V c).before 14 t d))
    ∗ (∃ d, owns (c : Thread nD τ) (st1_15 t) fullShare ((dat1 V c).before 15 t d))
    ∗ (∃ d, owns (c : Thread nD τ) (st1_16 t) fullShare ((dat1 V c).before 16 t d))
    ∗ (∃ d, owns (c : Thread nD τ) (st1_17 t) fullShare ((dat1 V c).before 17 t d))
    ∗ (∃ d, owns (c : Thread nD τ) (st1_18 t) fullShare ((dat1 V c).before 18 t d))
    ∗ (∃ d, owns (c : Thread nD τ) (st1_19 t) fullShare ((dat1 V c).before 19 t d))
    ∗ (∃ d, owns (c : Thread nD τ) (st1_20 t) fullShare ((dat1 V c).before 20 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t)
    ∗ owns (c : Thread nD τ) (st1_11 t) fullShare ((dat1 V c).after 11 t)
    ∗ owns (c : Thread nD τ) (st1_12 t) fullShare ((dat1 V c).after 12 t)
    ∗ owns (c : Thread nD τ) (st1_13 t) fullShare ((dat1 V c).after 13 t)
    ∗ owns (c : Thread nD τ) (st1_14 t) fullShare ((dat1 V c).after 14 t)
    ∗ owns (c : Thread nD τ) (st1_15 t) fullShare ((dat1 V c).after 15 t)
    ∗ owns (c : Thread nD τ) (st1_16 t) fullShare ((dat1 V c).after 16 t)
    ∗ owns (c : Thread nD τ) (st1_17 t) fullShare ((dat1 V c).after 17 t)
    ∗ owns (c : Thread nD τ) (st1_18 t) fullShare ((dat1 V c).after 18 t)
    ∗ owns (c : Thread nD τ) (st1_19 t) fullShare ((dat1 V c).after 19 t)
    ∗ owns (c : Thread nD τ) (st1_20 t) fullShare ((dat1 V c).after 20 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9, before1_10, before1_11, before1_12, before1_13, before1_14, before1_15, before1_16, before1_17]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10, after1_11, after1_12, after1_13, after1_14, after1_15, after1_16, after1_17, after1_18, after1_19, after1_20]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
  iapply (sound_kernel1 c Set.univ (grid1.coords t) _ _ _ _ _ _ _ _ _ _ _ _ _ _ _ _ _ _ _ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (iblk1 V c 16 t) (iblk1 V c 17 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexists _; iexact H18
  isplitl [H19]; · iexists _; iexact H19
  isplitl [H20]; · iexists _; iexact H20
  iintro ⟨H0, H1, H2, H3, H4, H5, H6, H7, H8, H9, H10, H11, H12, H13, H14, H15, H16, H17, H18, H19, H20⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  iexact H20

theorem defs₀_row1 (t : Fin cfg1.N) :
    defs₀ (F := F) .tc cfg1.body (cfg1.bodyArgs t (cfg1.slots t)) = bodyAt1 t := by
  unfold defs₀; rw [Defs.onTc_tc]

theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Regions

end Cert.KernelIdeal.Run

end
-- ==== Proof.Run.Region2.lean ====
/- The pipeline of custom call 2, at any contents `V` of the buffers on entry: the blocks its body reads, what the body
   leaves in each output's staging buffer, the body's triple, the proof data, the body obligation. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.KernelIdeal.Run

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

section Regions

variable (V : (c : Dev nD) → (b : Ref sig .tc) → Buf (Elt F) ((c : Thread nD τ).loc b))

noncomputable def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_0 : Rect S256x128 := Rect.unit (s := S256x128) ![0, 0] S256x128.size inb_S256x128_S256x128_0_0
abbrev r2_1 : Rect S1x128 := Rect.unit (s := S1x128) ![0, 0] S1x128.size inb_S1x128_S1x128_0_0
abbrev r2_2 : Rect S128x128 := Rect.unit (s := S128x128) ![0, 0] S128x128.size inb_S128x128_S128x128_0_0
abbrev r2_3 : Rect S128x4 := Rect.unit (s := S128x4) ![0, 0] S128x4.size inb_S128x4_S128x4_0_0
abbrev r2_4 : Rect S4x128 := Rect.unit (s := S4x128) ![0, 0] S4x128.size inb_S4x128_S4x128_0_0
abbrev r2_5 : Rect S256x20x128 := Rect.unit (s := S256x20x128) ![0, 0, 0] S256x1x128.size inb_S256x20x128_S256x1x128_0_0_0
abbrev r2_6 : Rect S256x20x128 := Rect.unit (s := S256x20x128) ![0, 1, 0] S256x1x128.size inb_S256x20x128_S256x1x128_0_1_0
abbrev r2_7 : Rect S256x20x128 := Rect.unit (s := S256x20x128) ![0, 2, 0] S256x1x128.size inb_S256x20x128_S256x1x128_0_2_0
abbrev r2_8 : Rect S256x20x128 := Rect.unit (s := S256x20x128) ![0, 3, 0] S256x1x128.size inb_S256x20x128_S256x1x128_0_3_0
abbrev r2_9 : Rect S256x20x128 := Rect.unit (s := S256x20x128) ![0, 4, 0] S256x1x128.size inb_S256x20x128_S256x1x128_0_4_0
abbrev r2_10 : Rect S256x20x128 := Rect.unit (s := S256x20x128) ![0, 5, 0] S256x1x128.size inb_S256x20x128_S256x1x128_0_5_0
abbrev r2_11 : Rect S256x20x128 := Rect.unit (s := S256x20x128) ![0, 6, 0] S256x1x128.size inb_S256x20x128_S256x1x128_0_6_0
abbrev r2_12 : Rect S256x20x128 := Rect.unit (s := S256x20x128) ![0, 7, 0] S256x1x128.size inb_S256x20x128_S256x1x128_0_7_0
abbrev r2_13 : Rect S256x20x128 := Rect.unit (s := S256x20x128) ![0, 8, 0] S256x1x128.size inb_S256x20x128_S256x1x128_0_8_0
abbrev r2_14 : Rect S256x20x128 := Rect.unit (s := S256x20x128) ![0, 9, 0] S256x1x128.size inb_S256x20x128_S256x1x128_0_9_0
abbrev r2_15 : Rect S256x20x128 := Rect.unit (s := S256x20x128) ![0, 10, 0] S256x1x128.size inb_S256x20x128_S256x1x128_0_10_0
abbrev r2_16 : Rect S256x20x128 := Rect.unit (s := S256x20x128) ![0, 11, 0] S256x1x128.size inb_S256x20x128_S256x1x128_0_11_0
abbrev r2_17 : Rect S256x20x128 := Rect.unit (s := S256x20x128) ![0, 12, 0] S256x1x128.size inb_S256x20x128_S256x1x128_0_12_0
abbrev r2_18 : Rect S256x20x128 := Rect.unit (s := S256x20x128) ![0, 13, 0] S256x1x128.size inb_S256x20x128_S256x1x128_0_13_0
abbrev r2_19 : Rect S256x20x128 := Rect.unit (s := S256x20x128) ![0, 14, 0] S256x1x128.size inb_S256x20x128_S256x1x128_0_14_0
abbrev r2_20 : Rect S256x20x128 := Rect.unit (s := S256x20x128) ![0, 15, 0] S256x1x128.size inb_S256x20x128_S256x1x128_0_15_0
abbrev r2_21 : Rect S256x20x128 := Rect.unit (s := S256x20x128) ![0, 16, 0] S256x1x128.size inb_S256x20x128_S256x1x128_0_16_0
abbrev r2_22 : Rect S256x20x128 := Rect.unit (s := S256x20x128) ![0, 17, 0] S256x1x128.size inb_S256x20x128_S256x1x128_0_17_0
abbrev r2_23 : Rect S256x20x128 := Rect.unit (s := S256x20x128) ![0, 18, 0] S256x1x128.size inb_S256x20x128_S256x1x128_0_18_0
abbrev r2_24 : Rect S256x20x128 := Rect.unit (s := S256x20x128) ![0, 19, 0] S256x1x128.size inb_S256x20x128_S256x1x128_0_19_0
abbrev r2_25 : Rect S1x1 := Rect.unit (s := S1x1) ![0, 0] S1x1.size inb_S1x1_S1x1_0_0

/-! What the body computes from the eighteen blocks it reads, step by step. -/

section Steps

variable (x0 : Vec F S256x128 .f32) (x1 : Vec F S256x20x128 .f32) (x2 : Vec F S1x128 .f32) (x3 : Vec F S128x128 .f32) (x4 : Vec F S128x128 .f32) (x5 : Vec F S128x128 .f32) (x6 : Vec F S1x128 .f32) (x7 : Vec F S1x128 .f32) (x8 : Vec F S1x128 .f32)
  (x9 : Vec F S128x128 .f32) (x10 : Vec F S1x128 .f32) (x11 : Vec F S128x128 .f32) (x12 : Vec F S128x128 .f32) (x13 : Vec F S1x128 .f32) (x14 : Vec F S128x4 .f32) (x15 : Vec F S4x128 .f32) (x16 : Vec F S1x1 .f32) (x17 : Vec F S1x1 .f32)

def k2_pay159 : FVec F S256x128 .f32 :=
  k2_pay2 (View.ld x0 r2_0) (View.ld x2 r2_1) (View.ld x3 r2_2) (View.ld x6 r2_1)
def k2_pay160 : FVec F S128x4 .f32 :=
  k2_pay3 (View.ld x14 r2_3)
def k2_pay161 : FVec F S4x128 .f32 :=
  k2_pay4 (View.ld x15 r2_4)
def k2_pay162 : FVec F S256x4 .f32 :=
  k2_pay5 (F := F)
def k2_pay163 : FVec F S256x128 .f32 :=
  k2_pay9 (View.ld x1 r2_5) (View.ld x4 r2_2) (View.ld x7 r2_1)
def k2_pay164 : FVec F S256x4 .f32 :=
  k2_pay19 (k2_pay159 x0 x2 x3 x6) (k2_pay160 x14) (View.ld x1 r2_6) (View.ld x4 r2_2) (View.ld x7 r2_1)
def k2_pay165 : FVec F S256x4 .f32 :=
  k2_pay20 (k2_pay159 x0 x2 x3 x6) (k2_pay160 x14) k2_pay162 (k2_pay163 x1 x4 x7) (View.ld x1 r2_6) (View.ld x4 r2_2) (View.ld x7 r2_1)
def k2_pay166 : FVec F S256x4 .f32 :=
  k2_pay21 (k2_pay159 x0 x2 x3 x6) (k2_pay160 x14) k2_pay162 (k2_pay163 x1 x4 x7) (View.ld x1 r2_6) (View.ld x4 r2_2) (View.ld x7 r2_1)
def k2_pay167 : FVec F S256x4 .f32 :=
  k2_pay25 (k2_pay159 x0 x2 x3 x6) (k2_pay160 x14) (k2_pay165 x0 x1 x2 x3 x4 x6 x7 x14) (View.ld x1 r2_7) (View.ld x4 r2_2) (View.ld x7 r2_1)
def k2_pay168 : FVec F S256x4 .f32 :=
  k2_pay32 (k2_pay159 x0 x2 x3 x6) (k2_pay160 x14) (k2_pay167 x0 x1 x2 x3 x4 x6 x7 x14) (View.ld x1 r2_8) (View.ld x4 r2_2) (View.ld x7 r2_1)
def k2_pay169 : FVec F S256x128 .f32 :=
  k2_pay38 (View.ld x1 r2_9) (View.ld x4 r2_2) (View.ld x7 r2_1)
def k2_pay170 : FVec F S256x4 .f32 :=
  constant S256x4 .f32 0x00000000#32
def k2_pay171 : FVec F S256x4 .f32 :=
  k2_pay40 (k2_pay159 x0 x2 x3 x6) (k2_pay160 x14) (k2_pay168 x0 x1 x2 x3 x4 x6 x7 x14) (k2_pay169 x1 x4 x7)
def k2_pay172 : FVec F S256x128 .f32 :=
  k2_pay47 (k2_pay159 x0 x2 x3 x6) (View.ld x1 r2_10) (View.ld x4 r2_2) (View.ld x7 r2_1)
def k2_pay173 : FVec F S256x4 .f32 :=
  k2_pay54 (k2_pay159 x0 x2 x3 x6) (k2_pay160 x14) (k2_pay171 x0 x1 x2 x3 x4 x6 x7 x14) (k2_pay172 x0 x1 x2 x3 x4 x6 x7) k2_pay170 (View.ld x1 r2_11) (View.ld x4 r2_2) (View.ld x7 r2_1)
def k2_pay174 : FVec F S256x4 .f32 :=
  k2_pay62 (k2_pay159 x0 x2 x3 x6) (k2_pay160 x14) (k2_pay173 x0 x1 x2 x3 x4 x6 x7 x14) (View.ld x1 r2_12) (View.ld x4 r2_2) (View.ld x7 r2_1)
def k2_pay175 : FVec F S256x128 .f32 :=
  k2_pay68 (View.ld x1 r2_13) (View.ld x4 r2_2)
def k2_pay176 : FVec F S256x4 .f32 :=
  k2_pay70 (k2_pay159 x0 x2 x3 x6) (k2_pay160 x14) (k2_pay174 x0 x1 x2 x3 x4 x6 x7 x14) (k2_pay175 x1 x4) (View.ld x7 r2_1)
def k2_pay177 : FVec F S256x128 .f32 :=
  k2_pay76 (View.ld x1 r2_14) (View.ld x4 r2_2) (View.ld x7 r2_1)
def k2_pay178 : FVec F S256x4 .f32 :=
  k2_pay87 (k2_pay159 x0 x2 x3 x6) (k2_pay160 x14) (k2_pay176 x0 x1 x2 x3 x4 x6 x7 x14) (k2_pay177 x1 x4 x7) (View.ld x1 r2_15) (View.ld x4 r2_2) (View.ld x7 r2_1)
def k2_pay179 : FVec F S256x4 .f32 :=
  k2_pay94 (k2_pay159 x0 x2 x3 x6) (k2_pay160 x14) (k2_pay178 x0 x1 x2 x3 x4 x6 x7 x14) (View.ld x1 r2_16) (View.ld x4 r2_2) (View.ld x7 r2_1)
def k2_pay180 : FVec F S256x128 .f32 :=
  k2_pay99 (View.ld x1 r2_17)
def k2_pay181 : FVec F S128x128 .f32 :=
  k2_pay100 (View.ld x4 r2_2)
def k2_pay182 : FVec F S256x4 .f32 :=
  k2_pay102 (k2_pay159 x0 x2 x3 x6) (k2_pay160 x14) (k2_pay179 x0 x1 x2 x3 x4 x6 x7 x14) (k2_pay180 x1) (k2_pay181 x4) (View.ld x7 r2_1)
def k2_pay183 : FVec F S256x128 .f32 :=
  k2_pay108 (View.ld x1 r2_18) (View.ld x4 r2_2) (View.ld x7 r2_1)
def k2_pay184 : FVec F S256x4 .f32 :=
  k2_pay119 (k2_pay159 x0 x2 x3 x6) (k2_pay160 x14) (k2_pay182 x0 x1 x2 x3 x4 x6 x7 x14) (k2_pay183 x1 x4 x7) (View.ld x1 r2_19) (View.ld x4 r2_2) (View.ld x7 r2_1)
def k2_pay185 : FVec F S256x4 .f32 :=
  k2_pay120 (k2_pay159 x0 x2 x3 x6) (k2_pay160 x14) (k2_pay182 x0 x1 x2 x3 x4 x6 x7 x14) (k2_pay183 x1 x4 x7) (View.ld x1 r2_19) (View.ld x4 r2_2) (View.ld x7 r2_1)
def k2_pay186 : FVec F S256x4 .f32 :=
  k2_pay121 (k2_pay159 x0 x2 x3 x6) (k2_pay160 x14) (k2_pay182 x0 x1 x2 x3 x4 x6 x7 x14) (k2_pay183 x1 x4 x7) (View.ld x1 r2_19) (View.ld x4 r2_2) (View.ld x7 r2_1)
def k2_pay187 : FVec F S256x4 .f32 :=
  k2_pay124 (k2_pay159 x0 x2 x3 x6) (k2_pay160 x14) (k2_pay184 x0 x1 x2 x3 x4 x6 x7 x14) (View.ld x1 r2_20) (View.ld x4 r2_2) (View.ld x7 r2_1)
def k2_pay188 : FVec F S256x128 .f32 :=
  k2_pay129 (View.ld x1 r2_21)
def k2_pay189 : FVec F S256x4 .f32 :=
  k2_pay131 (k2_pay159 x0 x2 x3 x6) (k2_pay160 x14) (k2_pay187 x0 x1 x2 x3 x4 x6 x7 x14) (k2_pay188 x1) (View.ld x4 r2_2) (View.ld x7 r2_1)
def k2_pay190 : FVec F S256x128 .f32 :=
  k2_pay137 (View.ld x1 r2_22) (View.ld x4 r2_2) (View.ld x7 r2_1)
def k2_pay191 : FVec F S256x4 .f32 :=
  k2_pay139 (k2_pay159 x0 x2 x3 x6) (k2_pay160 x14) (k2_pay189 x0 x1 x2 x3 x4 x6 x7 x14) (k2_pay190 x1 x4 x7)
def k2_pay192 : FVec F S256x4 .f32 :=
  k2_pay146 (k2_pay159 x0 x2 x3 x6) (k2_pay160 x14) (View.ld x1 r2_23) (View.ld x4 r2_2) (View.ld x7 r2_1)
def k2_pay193 : FVec F S256x4 .f32 :=
  k2_pay147 (k2_pay159 x0 x2 x3 x6) (k2_pay160 x14) (k2_pay189 x0 x1 x2 x3 x4 x6 x7 x14) (k2_pay190 x1 x4 x7) (View.ld x1 r2_23) (View.ld x4 r2_2) (View.ld x7 r2_1)
def k2_pay194 : FVec F S256x128 .f32 :=
  constant S256x128 .f32 0x00000000#32
def k2_pay195 : FVec F S256x4 .f32 :=
  k2_pay155 (k2_pay159 x0 x2 x3 x6) (k2_pay160 x14) (k2_pay191 x0 x1 x2 x3 x4 x6 x7 x14) (k2_pay142 (k2_pay159 x0 x2 x3 x6) (k2_pay160 x14) (k2_pay189 x0 x1 x2 x3 x4 x6 x7 x14) (k2_pay134 (k2_pay159 x0 x2 x3 x6) (k2_pay160 x14) (k2_pay187 x0 x1 x2 x3 x4 x6 x7 x14) (k2_pay127 (k2_pay159 x0 x2 x3 x6) (k2_pay160 x14) (k2_pay114 (k2_pay159 x0 x2 x3 x6) (k2_pay160 x14) (k2_pay182 x0 x1 x2 x3 x4 x6 x7 x14) (k2_pay105 (k2_pay159 x0 x2 x3 x6) (k2_pay160 x14) (k2_pay179 x0 x1 x2 x3 x4 x6 x7 x14) (k2_pay97 (k2_pay159 x0 x2 x3 x6) (k2_pay160 x14) (k2_pay178 x0 x1 x2 x3 x4 x6 x7 x14) (k2_pay90 (k2_pay159 x0 x2 x3 x6) (k2_pay160 x14) (k2_pay176 x0 x1 x2 x3 x4 x6 x7 x14) (k2_pay73 (k2_pay159 x0 x2 x3 x6) (k2_pay160 x14) (k2_pay174 x0 x1 x2 x3 x4 x6 x7 x14) (k2_pay65 (k2_pay159 x0 x2 x3 x6) (k2_pay160 x14) (k2_pay173 x0 x1 x2 x3 x4 x6 x7 x14) (k2_pay57 (k2_pay159 x0 x2 x3 x6) (k2_pay160 x14) (k2_pay171 x0 x1 x2 x3 x4 x6 x7 x14) (k2_pay43 (k2_pay159 x0 x2 x3 x6) (k2_pay160 x14) (k2_pay168 x0 x1 x2 x3 x4 x6 x7 x14) (k2_pay35 (k2_pay159 x0 x2 x3 x6) (k2_pay160 x14) (k2_pay167 x0 x1 x2 x3 x4 x6 x7 x14) (k2_pay28 (k2_pay159 x0 x2 x3 x6) (k2_pay160 x14) (k2_pay15 (k2_pay159 x0 x2 x3 x6) (k2_pay160 x14) k2_pay162 (k2_pay6 (F := F)) (k2_pay163 x1 x4 x7)) (k2_pay164 x0 x1 x2 x3 x4 x6 x7 x14) (k2_pay165 x0 x1 x2 x3 x4 x6 x7 x14) (k2_pay166 x0 x1 x2 x3 x4 x6 x7 x14) (View.ld x1 r2_7) (View.ld x4 r2_2) (View.ld x7 r2_1)) (View.ld x1 r2_8) (View.ld x4 r2_2) (View.ld x7 r2_1)) (k2_pay169 x1 x4 x7)) (k2_pay172 x0 x1 x2 x3 x4 x6 x7) k2_pay170 (View.ld x1 r2_11) (View.ld x4 r2_2) (View.ld x7 r2_1)) (View.ld x1 r2_12) (View.ld x4 r2_2) (View.ld x7 r2_1)) (k2_pay175 x1 x4) (View.ld x7 r2_1)) (k2_pay177 x1 x4 x7) (View.ld x1 r2_15) (View.ld x4 r2_2) (View.ld x7 r2_1)) (View.ld x1 r2_16) (View.ld x4 r2_2) (View.ld x7 r2_1)) (k2_pay180 x1) (k2_pay181 x4) (View.ld x7 r2_1)) (k2_pay183 x1 x4 x7)) (k2_pay184 x0 x1 x2 x3 x4 x6 x7 x14) (k2_pay185 x0 x1 x2 x3 x4 x6 x7 x14) (k2_pay186 x0 x1 x2 x3 x4 x6 x7 x14) (View.ld x1 r2_20) (View.ld x4 r2_2) (View.ld x7 r2_1)) (k2_pay188 x1) (View.ld x4 r2_2) (View.ld x7 r2_1)) (k2_pay190 x1 x4 x7)) (k2_pay192 x0 x1 x2 x3 x4 x6 x7 x14) (k2_pay193 x0 x1 x2 x3 x4 x6 x7 x14) (View.ld x1 r2_24) (View.ld x4 r2_2) (View.ld x7 r2_1)
def k2_pay196 : FVec F S256x128 .f32 :=
  k2_pay156 (k2_pay159 x0 x2 x3 x6) (k2_pay160 x14) (k2_pay161 x15) (k2_pay191 x0 x1 x2 x3 x4 x6 x7 x14) (k2_pay143 (k2_pay159 x0 x2 x3 x6) (k2_pay160 x14) (k2_pay161 x15) (k2_pay189 x0 x1 x2 x3 x4 x6 x7 x14) (k2_pay135 (k2_pay159 x0 x2 x3 x6) (k2_pay160 x14) (k2_pay161 x15) (k2_pay187 x0 x1 x2 x3 x4 x6 x7 x14) (k2_pay128 (k2_pay159 x0 x2 x3 x6) (k2_pay160 x14) (k2_pay161 x15) (k2_pay115 (k2_pay159 x0 x2 x3 x6) (k2_pay160 x14) (k2_pay161 x15) (k2_pay182 x0 x1 x2 x3 x4 x6 x7 x14) (k2_pay106 (k2_pay159 x0 x2 x3 x6) (k2_pay160 x14) (k2_pay161 x15) (k2_pay179 x0 x1 x2 x3 x4 x6 x7 x14) (k2_pay98 (k2_pay159 x0 x2 x3 x6) (k2_pay160 x14) (k2_pay161 x15) (k2_pay83 (k2_pay159 x0 x2 x3 x6) (k2_pay160 x14) (k2_pay161 x15) (k2_pay176 x0 x1 x2 x3 x4 x6 x7 x14) (k2_pay74 (k2_pay159 x0 x2 x3 x6) (k2_pay160 x14) (k2_pay161 x15) (k2_pay174 x0 x1 x2 x3 x4 x6 x7 x14) (k2_pay66 (k2_pay159 x0 x2 x3 x6) (k2_pay160 x14) (k2_pay161 x15) (k2_pay173 x0 x1 x2 x3 x4 x6 x7 x14) (k2_pay58 (k2_pay159 x0 x2 x3 x6) (k2_pay160 x14) (k2_pay161 x15) (k2_pay171 x0 x1 x2 x3 x4 x6 x7 x14) (k2_pay44 (k2_pay159 x0 x2 x3 x6) (k2_pay160 x14) (k2_pay161 x15) (k2_pay168 x0 x1 x2 x3 x4 x6 x7 x14) (k2_pay36 (k2_pay159 x0 x2 x3 x6) (k2_pay160 x14) (k2_pay161 x15) (k2_pay167 x0 x1 x2 x3 x4 x6 x7 x14) (k2_pay29 (k2_pay159 x0 x2 x3 x6) (k2_pay160 x14) (k2_pay161 x15) (k2_pay16 (k2_pay159 x0 x2 x3 x6) (k2_pay160 x14) (k2_pay161 x15) k2_pay162 (k2_pay7 (F := F)) (k2_pay8 (View.ld x1 r2_5)) (k2_pay163 x1 x4 x7) (k2_pay10 (View.ld x5 r2_2)) (View.ld x8 r2_1)) (k2_pay18 (View.ld x1 r2_6) (View.ld x5 r2_2) (View.ld x8 r2_1)) (k2_pay164 x0 x1 x2 x3 x4 x6 x7 x14) (k2_pay165 x0 x1 x2 x3 x4 x6 x7 x14) (k2_pay166 x0 x1 x2 x3 x4 x6 x7 x14) (View.ld x1 r2_7) (View.ld x4 r2_2) (View.ld x7 r2_1) (View.ld x5 r2_2) (View.ld x8 r2_1)) (View.ld x1 r2_8) (View.ld x4 r2_2) (View.ld x7 r2_1) (View.ld x5 r2_2) (View.ld x8 r2_1)) (k2_pay37 (View.ld x1 r2_9)) (k2_pay169 x1 x4 x7) (View.ld x5 r2_2) (View.ld x8 r2_1)) (k2_pay46 (View.ld x1 r2_10) (View.ld x5 r2_2) (View.ld x8 r2_1)) (k2_pay172 x0 x1 x2 x3 x4 x6 x7) k2_pay170 (View.ld x1 r2_11) (View.ld x4 r2_2) (View.ld x7 r2_1)) (k2_pay59 (k2_pay159 x0 x2 x3 x6) (k2_pay160 x14) (k2_pay161 x15) (k2_pay171 x0 x1 x2 x3 x4 x6 x7 x14) (k2_pay172 x0 x1 x2 x3 x4 x6 x7) k2_pay170 (View.ld x1 r2_11) (View.ld x4 r2_2) (View.ld x7 r2_1) (View.ld x5 r2_2) (View.ld x8 r2_1)) (View.ld x1 r2_12) (View.ld x4 r2_2) (View.ld x7 r2_1) (View.ld x5 r2_2) (View.ld x8 r2_1)) (k2_pay67 (View.ld x1 r2_13)) (k2_pay175 x1 x4) (View.ld x7 r2_1) (View.ld x5 r2_2) (View.ld x8 r2_1)) (k2_pay177 x1 x4 x7) (k2_pay77 (View.ld x1 r2_14) (View.ld x5 r2_2)) (k2_pay78 (View.ld x8 r2_1))) (k2_pay85 (View.ld x1 r2_15) (View.ld x5 r2_2) (View.ld x8 r2_1)) (k2_pay178 x0 x1 x2 x3 x4 x6 x7 x14) (k2_pay89 (k2_pay159 x0 x2 x3 x6) (k2_pay160 x14) (k2_pay176 x0 x1 x2 x3 x4 x6 x7 x14) (k2_pay177 x1 x4 x7) (View.ld x1 r2_15) (View.ld x4 r2_2) (View.ld x7 r2_1)) (k2_pay91 (k2_pay159 x0 x2 x3 x6) (k2_pay160 x14) (k2_pay161 x15) (k2_pay176 x0 x1 x2 x3 x4 x6 x7 x14) (k2_pay177 x1 x4 x7) (View.ld x1 r2_15) (View.ld x4 r2_2) (View.ld x7 r2_1)) (View.ld x1 r2_16) (View.ld x4 r2_2) (View.ld x7 r2_1) (View.ld x5 r2_2) (View.ld x8 r2_1)) (k2_pay180 x1) (k2_pay181 x4) (View.ld x7 r2_1) (View.ld x5 r2_2) (View.ld x8 r2_1)) (k2_pay183 x1 x4 x7) (k2_pay109 (View.ld x1 r2_18) (View.ld x5 r2_2)) (View.ld x8 r2_1)) (k2_pay117 (View.ld x1 r2_19) (View.ld x5 r2_2) (View.ld x8 r2_1)) (k2_pay184 x0 x1 x2 x3 x4 x6 x7 x14) (k2_pay185 x0 x1 x2 x3 x4 x6 x7 x14) (k2_pay186 x0 x1 x2 x3 x4 x6 x7 x14) (View.ld x1 r2_20) (View.ld x4 r2_2) (View.ld x7 r2_1) (View.ld x5 r2_2) (View.ld x8 r2_1)) (k2_pay188 x1) (View.ld x4 r2_2) (View.ld x7 r2_1) (View.ld x5 r2_2) (View.ld x8 r2_1)) (k2_pay136 (View.ld x1 r2_22)) (k2_pay190 x1 x4 x7) (View.ld x5 r2_2) (View.ld x8 r2_1)) (k2_pay145 (View.ld x1 r2_23) (View.ld x5 r2_2) (View.ld x8 r2_1)) (k2_pay192 x0 x1 x2 x3 x4 x6 x7 x14) (k2_pay193 x0 x1 x2 x3 x4 x6 x7 x14) (View.ld x1 r2_24) (View.ld x4 r2_2) (View.ld x7 r2_1) (View.ld x5 r2_2) (View.ld x8 r2_1)

def out2_18 : Vec F S256x128 .f32 :=
  View.canon [⟨r2_0, k2_pay157 (View.ld x0 r2_0) (k2_pay161 x15) (k2_pay195 x0 x1 x2 x3 x4 x6 x7 x14) (k2_pay196 x0 x1 x2 x3 x4 x5 x6 x7 x8 x14 x15) k2_pay194 (View.ld x9 r2_2) (View.ld x10 r2_1) (View.ld x11 r2_2) (View.ld x12 r2_2) (View.ld x13 r2_1)⟩]

def out2_19 : Vec F S256x128 .f32 :=
  View.canon [⟨r2_0, k2_pay158 (View.ld x0 r2_0) (k2_pay161 x15) (k2_pay195 x0 x1 x2 x3 x4 x6 x7 x14) (k2_pay196 x0 x1 x2 x3 x4 x5 x6 x7 x8 x14 x15) k2_pay194 (View.ld x9 r2_2) (View.ld x10 r2_1) (View.ld x11 r2_2) (View.ld x12 r2_2) (View.ld x13 r2_1) (View.ld x16 r2_25)⟩]

def out2_20 : Vec F S256x128 .f32 :=
  View.canon [⟨r2_0, k2_pay1 (k2_pay157 (View.ld x0 r2_0) (k2_pay161 x15) (k2_pay195 x0 x1 x2 x3 x4 x6 x7 x14) (k2_pay196 x0 x1 x2 x3 x4 x5 x6 x7 x8 x14 x15) k2_pay194 (View.ld x9 r2_2) (View.ld x10 r2_1) (View.ld x11 r2_2) (View.ld x12 r2_2) (View.ld x13 r2_1)) (View.ld x17 r2_25)⟩]

end Steps

theorem cover2_18 (p0 : Vec F S256x128 .f32) (y : S256x128.Idx) :
    ∃ pc ∈ ([⟨r2_0, p0⟩] : List (View.Piece (Elt F) S256x128 .f32)), y ∈ pc.1.set :=
  View.cover_of_tiled [⟨r2_0, p0⟩] S256x128.size (by rfl) y

theorem cover2_19 (p0 : Vec F S256x128 .f32) (y : S256x128.Idx) :
    ∃ pc ∈ ([⟨r2_0, p0⟩] : List (View.Piece (Elt F) S256x128 .f32)), y ∈ pc.1.set :=
  View.cover_of_tiled [⟨r2_0, p0⟩] S256x128.size (by rfl) y

theorem cover2_20 (p0 : Vec F S256x128 .f32) (y : S256x128.Idx) :
    ∃ pc ∈ ([⟨r2_0, p0⟩] : List (View.Piece (Elt F) S256x128 .f32)), y ∈ pc.1.set :=
  View.cover_of_tiled [⟨r2_0, p0⟩] S256x128.size (by rfl) y

set_option maxHeartbeats 11188450 in
theorem sound_kernel2 (c : Dev nD) (E : Set ℕ) (i : grid2.Coords) (arg1 : Memref sig .tc .vmem S256x128 .f32) (harg1 : arg1.IsWhole) (arg2 : Memref sig .tc .vmem S256x20x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S1x128 .f32) (harg14 : arg14.IsWhole) (arg15 : Memref sig .tc .vmem S128x4 .f32) (harg15 : arg15.IsWhole) (arg16 : Memref sig .tc .vmem S4x128 .f32) (harg16 : arg16.IsWhole) (arg17 : Memref sig .tc .vmem S1x1 .f32) (harg17 : arg17.IsWhole) (arg18 : Memref sig .tc .vmem S1x1 .f32) (harg18 : arg18.IsWhole) (arg19 : Memref sig .tc .vmem S256x128 .f32) (harg19 : arg19.IsWhole) (arg20 : Memref sig .tc .vmem S256x128 .f32) (harg20 : arg20.IsWhole) (arg21 : Memref sig .tc .vmem S256x128 .f32) (harg21 : arg21.IsWhole)
    (x0 : Vec F S256x128 .f32) (x1 : Vec F S256x20x128 .f32) (x2 : Vec F S1x128 .f32) (x3 : Vec F S128x128 .f32) (x4 : Vec F S128x128 .f32) (x5 : Vec F S128x128 .f32) (x6 : Vec F S1x128 .f32) (x7 : Vec F S1x128 .f32) (x8 : Vec F S1x128 .f32) (x9 : Vec F S128x128 .f32) (x10 : Vec F S1x128 .f32) (x11 : Vec F S128x128 .f32) (x12 : Vec F S128x128 .f32) (x13 : Vec F S1x128 .f32) (x14 : Vec F S128x4 .f32) (x15 : Vec F S4x128 .f32) (x16 : Vec F S1x1 .f32) (x17 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ (∃ d, owns (c : Thread nD τ) arg19 fullShare d) ∗ (∃ d, owns (c : Thread nD τ) arg20 fullShare d) ∗ (∃ d, owns (c : Thread nD τ) arg21 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare (out2_18 x0 x1 x2 x3 x4 x5 x6 x7 x8 x9 x10 x11 x12 x13 x14 x15) ∗ owns (c : Thread nD τ) arg20 fullShare (out2_19 x0 x1 x2 x3 x4 x5 x6 x7 x8 x9 x10 x11 x12 x13 x14 x15 x16) ∗ owns (c : Thread nD τ) arg21 fullShare (out2_20 x0 x1 x2 x3 x4 x5 x6 x7 x8 x9 x10 x11 x12 x13 x14 x15 x17)) -∗ K ⟨⟩))
      ⊢ wp frame (wpE (defs₀ (F := F)) Variants.none c none) E (cc2__mha_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  simp only [cc2__mha_body_eq_skeleton]; unfold cc2__mha_body_skel
  simp only [k2_part17_eq_skeleton, k2_part1_eq_skeleton, k2_part2_eq_skeleton, k2_part3_eq_skeleton, k2_part4_eq_skeleton, k2_part5_eq_skeleton, k2_part6_eq_skeleton, k2_part7_eq_skeleton, k2_part8_eq_skeleton, k2_part9_eq_skeleton, k2_part10_eq_skeleton, k2_part11_eq_skeleton, k2_part12_eq_skeleton, k2_part13_eq_skeleton, k2_part14_eq_skeleton, k2_part15_eq_skeleton, k2_part16_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%d18, %f18, -, H18⟩, ⟨%d19, %f19, -, H19⟩, ⟨%d20, %f20, -, H20⟩, Hk⟩
  subst hf0 hf1 hf2 hf3 hf4 hf5 hf6 hf7 hf8 hf9 hf10 hf11 hf12 hf13 hf14 hf15 hf16 hf17
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists _; isplitr
    swap; · iexact H18
    ipureintro
    refine (View.read_writes_eq_canon _ _ _ (cover2_18 _)).trans ?_
    rfl
  isplitl [H19]
  · iexists _; isplitr
    swap; · iexact H19
    ipureintro
    refine (View.read_writes_eq_canon _ _ _ (cover2_19 _)).trans ?_
    rfl
  iexists _; isplitr
  swap; · iexact H20
  ipureintro
  refine (View.read_writes_eq_canon _ _ _ (cover2_20 _)).trans ?_
  rfl

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => iblk2 V c 9 t
    | ⟨10, _⟩ => iblk2 V c 10 t
    | ⟨11, _⟩ => iblk2 V c 11 t
    | ⟨12, _⟩ => iblk2 V c 12 t
    | ⟨13, _⟩ => iblk2 V c 13 t
    | ⟨14, _⟩ => iblk2 V c 14 t
    | ⟨15, _⟩ => iblk2 V c 15 t
    | ⟨16, _⟩ => iblk2 V c 16 t
    | ⟨17, _⟩ => iblk2 V c 17 t
    | ⟨18, _⟩ => out2_18 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t) (iblk2 V c 14 t) (iblk2 V c 15 t)
    | ⟨19, _⟩ => out2_19 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t) (iblk2 V c 14 t) (iblk2 V c 15 t) (iblk2 V c 16 t)
    | ⟨20, _⟩ => out2_20 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t) (iblk2 V c 14 t) (iblk2 V c 15 t) (iblk2 V c 17 t)
    | ⟨_ + 21, h⟩ => absurd h (Nat.not_lt.2 (Nat.le_add_left _ _))
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = iblk2 V c 8 t := by dsimp only [dat2]
theorem after2_9 (c : Dev nD) (t : Fin cfg2.N) : (dat2 V c).after 9 t = iblk2 V c 9 t := by dsimp only [dat2]
theorem after2_10 (c : Dev nD) (t : Fin cfg2.N) : (dat2 V c).after 10 t = iblk2 V c 10 t := by dsimp only [dat2]
theorem after2_11 (c : Dev nD) (t : Fin cfg2.N) : (dat2 V c).after 11 t = iblk2 V c 11 t := by dsimp only [dat2]
theorem after2_12 (c : Dev nD) (t : Fin cfg2.N) : (dat2 V c).after 12 t = iblk2 V c 12 t := by dsimp only [dat2]
theorem after2_13 (c : Dev nD) (t : Fin cfg2.N) : (dat2 V c).after 13 t = iblk2 V c 13 t := by dsimp only [dat2]
theorem after2_14 (c : Dev nD) (t : Fin cfg2.N) : (dat2 V c).after 14 t = iblk2 V c 14 t := by dsimp only [dat2]
theorem after2_15 (c : Dev nD) (t : Fin cfg2.N) : (dat2 V c).after 15 t = iblk2 V c 15 t := by dsimp only [dat2]
theorem after2_16 (c : Dev nD) (t : Fin cfg2.N) : (dat2 V c).after 16 t = iblk2 V c 16 t := by dsimp only [dat2]
theorem after2_17 (c : Dev nD) (t : Fin cfg2.N) : (dat2 V c).after 17 t = iblk2 V c 17 t := by dsimp only [dat2]
theorem after2_18 (c : Dev nD) (t : Fin cfg2.N) : (dat2 V c).after 18 t = out2_18 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t) (iblk2 V c 14 t) (iblk2 V c 15 t) := by dsimp only [dat2]
theorem after2_19 (c : Dev nD) (t : Fin cfg2.N) : (dat2 V c).after 19 t = out2_19 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t) (iblk2 V c 14 t) (iblk2 V c 15 t) (iblk2 V c 16 t) := by dsimp only [dat2]
theorem after2_20 (c : Dev nD) (t : Fin cfg2.N) : (dat2 V c).after 20 t = out2_20 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t) (iblk2 V c 14 t) (iblk2 V c 15 t) (iblk2 V c 17 t) := by dsimp only [dat2]

theorem before2_0 (c : Dev nD) (t : Fin cfg2.N) (d) : (dat2 V c).before 0 t d = iblk2 V c 0 t :=
  (dat2 V c).before_in_eq_fetched 0 rfl (fun _ => rfl) (fun _ _ _ => rfl) (after2_0 V c) t d
theorem before2_1 (c : Dev nD) (t : Fin cfg2.N) (d) : (dat2 V c).before 1 t d = iblk2 V c 1 t :=
  (dat2 V c).before_in_eq_fetched 1 rfl (fun _ => rfl) (fun _ _ _ => rfl) (after2_1 V c) t d
theorem before2_2 (c : Dev nD) (t : Fin cfg2.N) (d) : (dat2 V c).before 2 t d = iblk2 V c 2 t :=
  (dat2 V c).before_in_eq_fetched 2 rfl (fun _ => rfl) (fun _ _ _ => rfl) (after2_2 V c) t d
theorem before2_3 (c : Dev nD) (t : Fin cfg2.N) (d) : (dat2 V c).before 3 t d = iblk2 V c 3 t :=
  (dat2 V c).before_in_eq_fetched 3 rfl (fun _ => rfl) (fun _ _ _ => rfl) (after2_3 V c) t d
theorem before2_4 (c : Dev nD) (t : Fin cfg2.N) (d) : (dat2 V c).before 4 t d = iblk2 V c 4 t :=
  (dat2 V c).before_in_eq_fetched 4 rfl (fun _ => rfl) (fun _ _ _ => rfl) (after2_4 V c) t d
theorem before2_5 (c : Dev nD) (t : Fin cfg2.N) (d) : (dat2 V c).before 5 t d = iblk2 V c 5 t :=
  (dat2 V c).before_in_eq_fetched 5 rfl (fun _ => rfl) (fun _ _ _ => rfl) (after2_5 V c) t d
theorem before2_6 (c : Dev nD) (t : Fin cfg2.N) (d) : (dat2 V c).before 6 t d = iblk2 V c 6 t :=
  (dat2 V c).before_in_eq_fetched 6 rfl (fun _ => rfl) (fun _ _ _ => rfl) (after2_6 V c) t d
theorem before2_7 (c : Dev nD) (t : Fin cfg2.N) (d) : (dat2 V c).before 7 t d = iblk2 V c 7 t :=
  (dat2 V c).before_in_eq_fetched 7 rfl (fun _ => rfl) (fun _ _ _ => rfl) (after2_7 V c) t d
theorem before2_8 (c : Dev nD) (t : Fin cfg2.N) (d) : (dat2 V c).before 8 t d = iblk2 V c 8 t :=
  (dat2 V c).before_in_eq_fetched 8 rfl (fun _ => rfl) (fun _ _ _ => rfl) (after2_8 V c) t d
theorem before2_9 (c : Dev nD) (t : Fin cfg2.N) (d) : (dat2 V c).before 9 t d = iblk2 V c 9 t :=
  (dat2 V c).before_in_eq_fetched 9 rfl (fun _ => rfl) (fun _ _ _ => rfl) (after2_9 V c) t d
theorem before2_10 (c : Dev nD) (t : Fin cfg2.N) (d) : (dat2 V c).before 10 t d = iblk2 V c 10 t :=
  (dat2 V c).before_in_eq_fetched 10 rfl (fun _ => rfl) (fun _ _ _ => rfl) (after2_10 V c) t d
theorem before2_11 (c : Dev nD) (t : Fin cfg2.N) (d) : (dat2 V c).before 11 t d = iblk2 V c 11 t :=
  (dat2 V c).before_in_eq_fetched 11 rfl (fun _ => rfl) (fun _ _ _ => rfl) (after2_11 V c) t d
theorem before2_12 (c : Dev nD) (t : Fin cfg2.N) (d) : (dat2 V c).before 12 t d = iblk2 V c 12 t :=
  (dat2 V c).before_in_eq_fetched 12 rfl (fun _ => rfl) (fun _ _ _ => rfl) (after2_12 V c) t d
theorem before2_13 (c : Dev nD) (t : Fin cfg2.N) (d) : (dat2 V c).before 13 t d = iblk2 V c 13 t :=
  (dat2 V c).before_in_eq_fetched 13 rfl (fun _ => rfl) (fun _ _ _ => rfl) (after2_13 V c) t d
theorem before2_14 (c : Dev nD) (t : Fin cfg2.N) (d) : (dat2 V c).before 14 t d = iblk2 V c 14 t :=
  (dat2 V c).before_in_eq_fetched 14 rfl (fun _ => rfl) (fun _ _ _ => rfl) (after2_14 V c) t d
theorem before2_15 (c : Dev nD) (t : Fin cfg2.N) (d) : (dat2 V c).before 15 t d = iblk2 V c 15 t :=
  (dat2 V c).before_in_eq_fetched 15 rfl (fun _ => rfl) (fun _ _ _ => rfl) (after2_15 V c) t d
theorem before2_16 (c : Dev nD) (t : Fin cfg2.N) (d) : (dat2 V c).before 16 t d = iblk2 V c 16 t :=
  (dat2 V c).before_in_eq_fetched 16 rfl (fun _ => rfl) (fun _ _ _ => rfl) (after2_16 V c) t d
theorem before2_17 (c : Dev nD) (t : Fin cfg2.N) (d) : (dat2 V c).before 17 t d = iblk2 V c 17 t :=
  (dat2 V c).before_in_eq_fetched 17 rfl (fun _ => rfl) (fun _ _ _ => rfl) (after2_17 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d))
    ∗ (∃ d, owns (c : Thread nD τ) (st2_9 t) fullShare ((dat2 V c).before 9 t d))
    ∗ (∃ d, owns (c : Thread nD τ) (st2_10 t) fullShare ((dat2 V c).before 10 t d))
    ∗ (∃ d, owns (c : Thread nD τ) (st2_11 t) fullShare ((dat2 V c).before 11 t d))
    ∗ (∃ d, owns (c : Thread nD τ) (st2_12 t) fullShare ((dat2 V c).before 12 t d))
    ∗ (∃ d, owns (c : Thread nD τ) (st2_13 t) fullShare ((dat2 V c).before 13 t d))
    ∗ (∃ d, owns (c : Thread nD τ) (st2_14 t) fullShare ((dat2 V c).before 14 t d))
    ∗ (∃ d, owns (c : Thread nD τ) (st2_15 t) fullShare ((dat2 V c).before 15 t d))
    ∗ (∃ d, owns (c : Thread nD τ) (st2_16 t) fullShare ((dat2 V c).before 16 t d))
    ∗ (∃ d, owns (c : Thread nD τ) (st2_17 t) fullShare ((dat2 V c).before 17 t d))
    ∗ (∃ d, owns (c : Thread nD τ) (st2_18 t) fullShare ((dat2 V c).before 18 t d))
    ∗ (∃ d, owns (c : Thread nD τ) (st2_19 t) fullShare ((dat2 V c).before 19 t d))
    ∗ (∃ d, owns (c : Thread nD τ) (st2_20 t) fullShare ((dat2 V c).before 20 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t)
    ∗ owns (c : Thread nD τ) (st2_9 t) fullShare ((dat2 V c).after 9 t)
    ∗ owns (c : Thread nD τ) (st2_10 t) fullShare ((dat2 V c).after 10 t)
    ∗ owns (c : Thread nD τ) (st2_11 t) fullShare ((dat2 V c).after 11 t)
    ∗ owns (c : Thread nD τ) (st2_12 t) fullShare ((dat2 V c).after 12 t)
    ∗ owns (c : Thread nD τ) (st2_13 t) fullShare ((dat2 V c).after 13 t)
    ∗ owns (c : Thread nD τ) (st2_14 t) fullShare ((dat2 V c).after 14 t)
    ∗ owns (c : Thread nD τ) (st2_15 t) fullShare ((dat2 V c).after 15 t)
    ∗ owns (c : Thread nD τ) (st2_16 t) fullShare ((dat2 V c).after 16 t)
    ∗ owns (c : Thread nD τ) (st2_17 t) fullShare ((dat2 V c).after 17 t)
    ∗ owns (c : Thread nD τ) (st2_18 t) fullShare ((dat2 V c).after 18 t)
    ∗ owns (c : Thread nD τ) (st2_19 t) fullShare ((dat2 V c).after 19 t)
    ∗ owns (c : Thread nD τ) (st2_20 t) fullShare ((dat2 V c).after 20 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7, before2_8, before2_9, before2_10, before2_11, before2_12, before2_13, before2_14, before2_15, before2_16, before2_17]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8, after2_9, after2_10, after2_11, after2_12, after2_13, after2_14, after2_15, after2_16, after2_17, after2_18, after2_19, after2_20]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
  iapply (sound_kernel2 c Set.univ (grid2.coords t) _ _ _ _ _ _ _ _ _ _ _ _ _ _ _ _ _ _ _ _ _ _ _ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t) (iblk2 V c 14 t) (iblk2 V c 15 t) (iblk2 V c 16 t) (iblk2 V c 17 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexists _; iexact H18
  isplitl [H19]; · iexists _; iexact H19
  isplitl [H20]; · iexists _; iexact H20
  iintro ⟨H0, H1, H2, H3, H4, H5, H6, H7, H8, H9, H10, H11, H12, H13, H14, H15, H16, H17, H18, H19, H20⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  iexact H20

theorem defs₀_row2 (t : Fin cfg2.N) :
    defs₀ (F := F) .tc cfg2.body (cfg2.bodyArgs t (cfg2.slots t)) = bodyAt2 t := by
  unfold defs₀; rw [Defs.onTc_tc]

theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

end Regions

end Cert.KernelIdeal.Run

end
-- ==== Proof.Run.Region3Base.lean ====
/- The pipeline of custom call 3 (the adjacency): its blocks, the two conditions on the grid position in closed form, the
   points at which the second output is idle, the scratch it carries from point to point. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Run

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev cond3_0 (i : grid3.Coords) : Prop := (Scalar.cmpi .ne (Scalar.extui (Scalar.cmpi .eq (BitVec.ofNat 32 (i 0).val) 0#32)) 0#32) = 1#1

theorem hcond3_0 : ∀ t : Fin cfg3.N, cond3_0 (grid3.coords t) ↔ t.val % 32 = 0 :=
  (fun t => by
    have ht : t.val < 32 := Nat.lt_of_lt_of_eq t.isLt N_3
    have e0 : (grid3.coords t 0).val = t.val / 1 % 32 := Pipeline.Grid.coords_val t 0 (by decide) rfl
    simp only [cond3_0, e0]
    word_cmp
   : ∀ t : Fin grid3.N, cond3_0 (grid3.coords t) ↔ t.val % 32 = 0)

abbrev cond3_1 (i : grid3.Coords) : Prop := k3_cond2 i = 1#1

theorem hcond3_1 : ∀ t : Fin cfg3.N, cond3_1 (grid3.coords t) ↔ t.val % 32 = 31 :=
  (fun t => by
    have ht : t.val < 32 := Nat.lt_of_lt_of_eq t.isLt N_3
    have e0 : (grid3.coords t 0).val = t.val / 1 % 32 := Pipeline.Grid.coords_val t 0 (by decide) rfl
    simp only [cond3_1, k3_cond2, e0]
    word_cmp
   : ∀ t : Fin grid3.N, cond3_1 (grid3.coords t) ↔ t.val % 32 = 31)

theorem liveAt3_0 : ∀ t : Fin cfg3.N, cfg3.idle 0 (grid3.coords t) = false := fun _ => rfl

theorem liveAt3_1 : ∀ t : Fin cfg3.N, cfg3.idle 1 (grid3.coords t) = false := fun _ => rfl

theorem liveAt3_2 : ∀ t : Fin cfg3.N, cfg3.idle 2 (grid3.coords t) = false := fun _ => rfl

theorem liveAt3_3 : ∀ t : Fin cfg3.N, cfg3.idle 3 (grid3.coords t) = false := fun _ => rfl

theorem liveAt3_4 : ∀ t : Fin cfg3.N, cfg3.idle 4 (grid3.coords t) = false := fun _ => rfl

theorem idleAt3_5_A : ∀ t : Fin cfg3.N, cond3_0 (grid3.coords t) → ¬cond3_1 (grid3.coords t) → cfg3.idle 5 (grid3.coords t) = true := by decide +kernel

theorem noFlush3_5_A : ∀ t : Fin cfg3.N, cond3_0 (grid3.coords t) → ¬cond3_1 (grid3.coords t) → (cfg3.win 5).flush t = false := by decide +kernel

theorem idleAt3_5_B : ∀ t : Fin cfg3.N, ¬cond3_0 (grid3.coords t) → ¬cond3_1 (grid3.coords t) → cfg3.idle 5 (grid3.coords t) = true := by decide +kernel

theorem noFlush3_5_B : ∀ t : Fin cfg3.N, ¬cond3_0 (grid3.coords t) → ¬cond3_1 (grid3.coords t) → (cfg3.win 5).flush t = false := by decide +kernel

theorem liveAt3_5_C : ∀ t : Fin cfg3.N, ¬cond3_0 (grid3.coords t) → cond3_1 (grid3.coords t) → cfg3.idle 5 (grid3.coords t) = false := by decide +kernel

abbrev VO3_4 : View sig .tc .vmem S128x4096 .f32 := (Memref.whole cc3_stg4_0 : Memref sig .tc .vmem S128x4096 .f32).view

abbrev VO3_5 : View sig .tc .vmem S1x4096 .f32 := (Memref.whole cc3_stg5_0 : Memref sig .tc .vmem S1x4096 .f32).view

abbrev ms3_0 (t : Fin cfg3.N) : Memref sig .tc .vmem S4096x128 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S4096x128 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S128x128 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S128x128 .f32 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S128x4096 .f32 := win3_4.stage (cfg3.slots t 4)
abbrev hs3_4 (t : Fin cfg3.N) : (ms3_4 t).IsWhole := hstage3_4 ((cfg3.slots t 4).cast nbuf3_4)
abbrev ms3_5 (t : Fin cfg3.N) : Memref sig .tc .vmem S1x4096 .f32 := win3_5.stage (cfg3.slots t 5)
abbrev hs3_5 (t : Fin cfg3.N) : (ms3_5 t).IsWhole := hstage3_5 ((cfg3.slots t 5).cast nbuf3_5)

abbrev scM3_0 : Memref sig .tc .vmem S1x4096 .f32 := Memref.whole cc3_scratch0

abbrev VS3_0 : View sig .tc .vmem S1x4096 .f32 := scM3_0.view

/-- What the pipeline's invariant holds besides the carried scratch: every other scoped buffer at anything, and the
    generator register at some state. -/
abbrev G3 (c : Dev nD) : sProp 𝕄 :=
  iprop(Pipeline.scopedRestBut (Ix := Unit) (Name := ℕ) (U := UR sig nD τ) (Lvl := ℕ) (Val := Elt F) spec3 c [cc3_scratch0] ∗ (∃ r, prngReg c r))

theorem PhiA3_eq (c : Dev nD) :
    (Pipeline.ΦA spec3 c : sProp 𝕄)
      = iprop(iprop((∃ d, owns (c : Thread nD τ) scM3_0 fullShare d)) ∗ G3 c) := by
  unfold Pipeline.ΦA; rw [scopedRest3_split]; refine (Idealize.SL.BI.equiv_iff.mp ⟨Idealize.SL.BI.sep_assoc, Idealize.SL.BI.sep_assoc'⟩).trans ?_; simp only [scM3_0, owns_whole]; try rfl

end Cert.KernelIdeal.Run

end
-- ==== Proof.Run.Region3A.lean ====
/- The body of custom call 3 at the first grid point. -/
module

public import proofs.«01_k».proof.Proof.Run.Region3Base

@[expose] public section

set_option maxRecDepth 16384

noncomputable section

namespace Cert.KernelIdeal.Run

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

set_option maxHeartbeats 1000000 in
noncomputable def kernelRun3_A (c : Dev nD) (i : grid3.Coords) (arg1 : Memref sig .tc .vmem S4096x128 .f32) (harg1 : arg1.IsWhole) (arg2 : Memref sig .tc .vmem S4096x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x4096 .f32) (harg5 : arg5.IsWhole) (arg6 : Memref sig .tc .vmem S1x4096 .f32) (harg6 : arg6.IsWhole) (arg7 : Memref sig .tc .vmem S1x4096 .f32) (harg7 : arg7.IsWhole) (hc0 : cond3_0 i) (hc1 : ¬cond3_1 i)
    (x0 : Vec F S4096x128 .f32) (x1 : Vec F S4096x128 .f32) (x2 : Vec F S128x128 .f32) (x3 : Vec F S128x128 .f32) :
    Σ' (L4 : List (View.Piece (Elt F) S128x4096 .f32)), Σ' (L5 : List (View.Piece (Elt F) S1x4096 .f32)), { LS0 : List (View.Piece (Elt F) S1x4096 .f32) //
      ∀ (xi5 : Vec F S1x4096 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xi5 ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ owns (c : Thread nD τ) arg6 fullShare xi5 ∗ (∃ f, arg7.view.loc (c : Thread nD τ) ↦[arg7.view.set]{fullShare} arg7.view.writes (Elt F) f LS0)) -∗ K ⟨⟩))
          ⊢ wp frame (wpE (defs₀ (F := F)) Variants.none c none) E (cc3__adj_body i arg1 harg1 arg2 harg2 arg3 harg3 arg4 harg4 arg5 harg5 arg6 harg6 arg7 harg7) K } := by
  refine ⟨?_, [], ?_, fun xi5 E K => ?run⟩
  case run =>
    simp only [cc3__adj_body_eq_skeleton]; unfold cc3__adj_body_skel
    simp only [k3_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%ds0, %fs0, -, HS0⟩, Hk⟩
    obtain rfl := harg1.eq_unread hf0; obtain rfl := harg2.eq_unread hf1; obtain rfl := harg3.eq_unread hf2; obtain rfl := harg4.eq_unread hf3; obtain rfl := harg6.eq_unread hf5
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]
    · iexists _; isplitr; · ipureintro; exact harg6.read_unread _
      iexact H5
    iexists _; iexact HS0

end Cert.KernelIdeal.Run

end
-- ==== Proof.Run.Region3B.lean ====
/- The body of custom call 3 at a point neither first nor last. -/
module

public import proofs.«01_k».proof.Proof.Run.Region3Base

@[expose] public section

set_option maxRecDepth 16384

noncomputable section

namespace Cert.KernelIdeal.Run

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

set_option maxHeartbeats 1000000 in
noncomputable def kernelRun3_B (c : Dev nD) (i : grid3.Coords) (arg1 : Memref sig .tc .vmem S4096x128 .f32) (harg1 : arg1.IsWhole) (arg2 : Memref sig .tc .vmem S4096x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x4096 .f32) (harg5 : arg5.IsWhole) (arg6 : Memref sig .tc .vmem S1x4096 .f32) (harg6 : arg6.IsWhole) (arg7 : Memref sig .tc .vmem S1x4096 .f32) (harg7 : arg7.IsWhole) (hc0 : ¬cond3_0 i) (hc1 : ¬cond3_1 i)
    (x0 : Vec F S4096x128 .f32) (x1 : Vec F S4096x128 .f32) (x2 : Vec F S128x128 .f32) (x3 : Vec F S128x128 .f32) (xs0 : Vec F S1x4096 .f32) :
    Σ' (L4 : List (View.Piece (Elt F) S128x4096 .f32)), Σ' (L5 : List (View.Piece (Elt F) S1x4096 .f32)), { LS0 : List (View.Piece (Elt F) S1x4096 .f32) //
      ∀ (xi5 : Vec F S1x4096 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xi5 ∗ owns (c : Thread nD τ) arg7 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ owns (c : Thread nD τ) arg6 fullShare xi5 ∗ (∃ f, arg7.view.loc (c : Thread nD τ) ↦[arg7.view.set]{fullShare} arg7.view.writes (Elt F) f LS0)) -∗ K ⟨⟩))
          ⊢ wp frame (wpE (defs₀ (F := F)) Variants.none c none) E (cc3__adj_body i arg1 harg1 arg2 harg2 arg3 harg3 arg4 harg4 arg5 harg5 arg6 harg6 arg7 harg7) K } := by
  refine ⟨?_, [], ?_, fun xi5 E K => ?run⟩
  case run =>
    simp only [cc3__adj_body_eq_skeleton]; unfold cc3__adj_body_skel
    simp only [k3_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%fs0, %hfs0, HS0⟩, Hk⟩
    obtain rfl := harg1.eq_unread hf0; obtain rfl := harg2.eq_unread hf1; obtain rfl := harg3.eq_unread hf2; obtain rfl := harg4.eq_unread hf3; obtain rfl := harg6.eq_unread hf5; obtain rfl := harg7.eq_unread hfs0
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]
    · iexists _; isplitr; · ipureintro; exact harg6.read_unread _
      iexact H5
    iexists _; iexact HS0

end Cert.KernelIdeal.Run

end
-- ==== Proof.Run.Region3C.lean ====
/- The body of custom call 3 at the last grid point. -/
module

public import proofs.«01_k».proof.Proof.Run.Region3Base

@[expose] public section

set_option maxRecDepth 16384

noncomputable section

namespace Cert.KernelIdeal.Run

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

set_option maxHeartbeats 1000000 in
noncomputable def kernelRun3_C (c : Dev nD) (i : grid3.Coords) (arg1 : Memref sig .tc .vmem S4096x128 .f32) (harg1 : arg1.IsWhole) (arg2 : Memref sig .tc .vmem S4096x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x4096 .f32) (harg5 : arg5.IsWhole) (arg6 : Memref sig .tc .vmem S1x4096 .f32) (harg6 : arg6.IsWhole) (arg7 : Memref sig .tc .vmem S1x4096 .f32) (harg7 : arg7.IsWhole) (hc0 : ¬cond3_0 i) (hc1 : cond3_1 i)
    (x0 : Vec F S4096x128 .f32) (x1 : Vec F S4096x128 .f32) (x2 : Vec F S128x128 .f32) (x3 : Vec F S128x128 .f32) (xs0 : Vec F S1x4096 .f32) :
    Σ' (L4 : List (View.Piece (Elt F) S128x4096 .f32)), Σ' (L5 : List (View.Piece (Elt F) S1x4096 .f32)), { LS0 : List (View.Piece (Elt F) S1x4096 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ owns (c : Thread nD τ) arg7 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f LS0)) -∗ K ⟨⟩))
          ⊢ wp frame (wpE (defs₀ (F := F)) Variants.none c none) E (cc3__adj_body i arg1 harg1 arg2 harg2 arg3 harg3 arg4 harg4 arg5 harg5 arg6 harg6 arg7 harg7) K } := by
  refine ⟨?_, ?_, ?_, fun E K => ?run⟩
  case run =>
    simp only [cc3__adj_body_eq_skeleton]; unfold cc3__adj_body_skel
    simp only [k3_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, Hk⟩
    obtain rfl := harg1.eq_unread hf0; obtain rfl := harg2.eq_unread hf1; obtain rfl := harg3.eq_unread hf2; obtain rfl := harg4.eq_unread hf3; obtain rfl := harg7.eq_unread hfs0
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    iexists _; iexact HS0

end Cert.KernelIdeal.Run

end
-- ==== Proof.Run.Region3.lean ====
/- Custom call 3 point by point: what its outputs and its carried scratch hold, the proof data, the body obligation. -/
module

public import proofs.«01_k».proof.Proof.Run.Region3A
public import proofs.«01_k».proof.Proof.Run.Region3B
public import proofs.«01_k».proof.Proof.Run.Region3C
public import Idealize.ShloMosaic.Lib.Claim

@[expose] public section

set_option maxRecDepth 16384

noncomputable section

namespace Cert.KernelIdeal.Run

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

theorem cover3_A_4 (c : Dev nD) (i : grid3.Coords) (arg1 : Memref sig .tc .vmem S4096x128 .f32) (harg1 : arg1.IsWhole) (arg2 : Memref sig .tc .vmem S4096x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x4096 .f32) (harg5 : arg5.IsWhole) (arg6 : Memref sig .tc .vmem S1x4096 .f32) (harg6 : arg6.IsWhole) (arg7 : Memref sig .tc .vmem S1x4096 .f32) (harg7 : arg7.IsWhole) (hc0 : cond3_0 i) (hc1 : ¬cond3_1 i)
    (x0 : Vec F S4096x128 .f32) (x1 : Vec F S4096x128 .f32) (x2 : Vec F S128x128 .f32) (x3 : Vec F S128x128 .f32) (y : S128x4096.Idx) :
    ∃ pc ∈ (kernelRun3_A c i arg1 harg1 arg2 harg2 arg3 harg3 arg4 harg4 arg5 harg5 arg6 harg6 arg7 harg7 hc0 hc1 x0 x1 x2 x3).1, y ∈ pc.1.set :=
  View.cover_of_tiledL (kernelRun3_A c i arg1 harg1 arg2 harg2 arg3 harg3 arg4 harg4 arg5 harg5 arg6 harg6 arg7 harg7 hc0 hc1 x0 x1 x2 x3).1 S128x4096.size (by sl_kernel_rfl) y

def out3_A_4 (c : Dev nD) (i : grid3.Coords) (arg1 : Memref sig .tc .vmem S4096x128 .f32) (harg1 : arg1.IsWhole) (arg2 : Memref sig .tc .vmem S4096x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x4096 .f32) (harg5 : arg5.IsWhole) (arg6 : Memref sig .tc .vmem S1x4096 .f32) (harg6 : arg6.IsWhole) (arg7 : Memref sig .tc .vmem S1x4096 .f32) (harg7 : arg7.IsWhole) (hc0 : cond3_0 i) (hc1 : ¬cond3_1 i)
    (x0 : Vec F S4096x128 .f32) (x1 : Vec F S4096x128 .f32) (x2 : Vec F S128x128 .f32) (x3 : Vec F S128x128 .f32) : Vec F S128x4096 .f32 :=
  VO3_4.read (Elt F) (VO3_4.writes (Elt F) VO3_4.junk (kernelRun3_A c i arg1 harg1 arg2 harg2 arg3 harg3 arg4 harg4 arg5 harg5 arg6 harg6 arg7 harg7 hc0 hc1 x0 x1 x2 x3).1)

def out3_A_5 (c : Dev nD) (i : grid3.Coords) (arg1 : Memref sig .tc .vmem S4096x128 .f32) (harg1 : arg1.IsWhole) (arg2 : Memref sig .tc .vmem S4096x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x4096 .f32) (harg5 : arg5.IsWhole) (arg6 : Memref sig .tc .vmem S1x4096 .f32) (harg6 : arg6.IsWhole) (arg7 : Memref sig .tc .vmem S1x4096 .f32) (harg7 : arg7.IsWhole) (hc0 : cond3_0 i) (hc1 : ¬cond3_1 i)
    (x0 : Vec F S4096x128 .f32) (x1 : Vec F S4096x128 .f32) (x2 : Vec F S128x128 .f32) (x3 : Vec F S128x128 .f32) : Vec F S1x4096 .f32 :=
  VO3_5.read (Elt F) (VO3_5.writes (Elt F) VO3_5.junk (kernelRun3_A c i arg1 harg1 arg2 harg2 arg3 harg3 arg4 harg4 arg5 harg5 arg6 harg6 arg7 harg7 hc0 hc1 x0 x1 x2 x3).2.1)

theorem scover3_A_0 (c : Dev nD) (i : grid3.Coords) (arg1 : Memref sig .tc .vmem S4096x128 .f32) (harg1 : arg1.IsWhole) (arg2 : Memref sig .tc .vmem S4096x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x4096 .f32) (harg5 : arg5.IsWhole) (arg6 : Memref sig .tc .vmem S1x4096 .f32) (harg6 : arg6.IsWhole) (arg7 : Memref sig .tc .vmem S1x4096 .f32) (harg7 : arg7.IsWhole) (hc0 : cond3_0 i) (hc1 : ¬cond3_1 i)
    (x0 : Vec F S4096x128 .f32) (x1 : Vec F S4096x128 .f32) (x2 : Vec F S128x128 .f32) (x3 : Vec F S128x128 .f32) (y : S1x4096.Idx) :
    ∃ pc ∈ (kernelRun3_A c i arg1 harg1 arg2 harg2 arg3 harg3 arg4 harg4 arg5 harg5 arg6 harg6 arg7 harg7 hc0 hc1 x0 x1 x2 x3).2.2.1, y ∈ pc.1.set :=
  View.cover_of_tiledL (kernelRun3_A c i arg1 harg1 arg2 harg2 arg3 harg3 arg4 harg4 arg5 harg5 arg6 harg6 arg7 harg7 hc0 hc1 x0 x1 x2 x3).2.2.1 S1x4096.size (by sl_kernel_rfl) y

def sout3_A_0 (c : Dev nD) (i : grid3.Coords) (arg1 : Memref sig .tc .vmem S4096x128 .f32) (harg1 : arg1.IsWhole) (arg2 : Memref sig .tc .vmem S4096x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x4096 .f32) (harg5 : arg5.IsWhole) (arg6 : Memref sig .tc .vmem S1x4096 .f32) (harg6 : arg6.IsWhole) (arg7 : Memref sig .tc .vmem S1x4096 .f32) (harg7 : arg7.IsWhole) (hc0 : cond3_0 i) (hc1 : ¬cond3_1 i)
    (x0 : Vec F S4096x128 .f32) (x1 : Vec F S4096x128 .f32) (x2 : Vec F S128x128 .f32) (x3 : Vec F S128x128 .f32) : Vec F S1x4096 .f32 :=
  VS3_0.read (Elt F) (VS3_0.writes (Elt F) VS3_0.junk (kernelRun3_A c i arg1 harg1 arg2 harg2 arg3 harg3 arg4 harg4 arg5 harg5 arg6 harg6 arg7 harg7 hc0 hc1 x0 x1 x2 x3).2.2.1)

theorem cover3_B_4 (c : Dev nD) (i : grid3.Coords) (arg1 : Memref sig .tc .vmem S4096x128 .f32) (harg1 : arg1.IsWhole) (arg2 : Memref sig .tc .vmem S4096x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x4096 .f32) (harg5 : arg5.IsWhole) (arg6 : Memref sig .tc .vmem S1x4096 .f32) (harg6 : arg6.IsWhole) (arg7 : Memref sig .tc .vmem S1x4096 .f32) (harg7 : arg7.IsWhole) (hc0 : ¬cond3_0 i) (hc1 : ¬cond3_1 i)
    (x0 : Vec F S4096x128 .f32) (x1 : Vec F S4096x128 .f32) (x2 : Vec F S128x128 .f32) (x3 : Vec F S128x128 .f32) (xs0 : Vec F S1x4096 .f32) (y : S128x4096.Idx) :
    ∃ pc ∈ (kernelRun3_B c i arg1 harg1 arg2 harg2 arg3 harg3 arg4 harg4 arg5 harg5 arg6 harg6 arg7 harg7 hc0 hc1 x0 x1 x2 x3 xs0).1, y ∈ pc.1.set :=
  View.cover_of_tiledL (kernelRun3_B c i arg1 harg1 arg2 harg2 arg3 harg3 arg4 harg4 arg5 harg5 arg6 harg6 arg7 harg7 hc0 hc1 x0 x1 x2 x3 xs0).1 S128x4096.size (by sl_kernel_rfl) y

def out3_B_4 (c : Dev nD) (i : grid3.Coords) (arg1 : Memref sig .tc .vmem S4096x128 .f32) (harg1 : arg1.IsWhole) (arg2 : Memref sig .tc .vmem S4096x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x4096 .f32) (harg5 : arg5.IsWhole) (arg6 : Memref sig .tc .vmem S1x4096 .f32) (harg6 : arg6.IsWhole) (arg7 : Memref sig .tc .vmem S1x4096 .f32) (harg7 : arg7.IsWhole) (hc0 : ¬cond3_0 i) (hc1 : ¬cond3_1 i)
    (x0 : Vec F S4096x128 .f32) (x1 : Vec F S4096x128 .f32) (x2 : Vec F S128x128 .f32) (x3 : Vec F S128x128 .f32) (xs0 : Vec F S1x4096 .f32) : Vec F S128x4096 .f32 :=
  VO3_4.read (Elt F) (VO3_4.writes (Elt F) VO3_4.junk (kernelRun3_B c i arg1 harg1 arg2 harg2 arg3 harg3 arg4 harg4 arg5 harg5 arg6 harg6 arg7 harg7 hc0 hc1 x0 x1 x2 x3 xs0).1)

def out3_B_5 (c : Dev nD) (i : grid3.Coords) (arg1 : Memref sig .tc .vmem S4096x128 .f32) (harg1 : arg1.IsWhole) (arg2 : Memref sig .tc .vmem S4096x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x4096 .f32) (harg5 : arg5.IsWhole) (arg6 : Memref sig .tc .vmem S1x4096 .f32) (harg6 : arg6.IsWhole) (arg7 : Memref sig .tc .vmem S1x4096 .f32) (harg7 : arg7.IsWhole) (hc0 : ¬cond3_0 i) (hc1 : ¬cond3_1 i)
    (x0 : Vec F S4096x128 .f32) (x1 : Vec F S4096x128 .f32) (x2 : Vec F S128x128 .f32) (x3 : Vec F S128x128 .f32) (xs0 : Vec F S1x4096 .f32) : Vec F S1x4096 .f32 :=
  VO3_5.read (Elt F) (VO3_5.writes (Elt F) VO3_5.junk (kernelRun3_B c i arg1 harg1 arg2 harg2 arg3 harg3 arg4 harg4 arg5 harg5 arg6 harg6 arg7 harg7 hc0 hc1 x0 x1 x2 x3 xs0).2.1)

theorem scover3_B_0 (c : Dev nD) (i : grid3.Coords) (arg1 : Memref sig .tc .vmem S4096x128 .f32) (harg1 : arg1.IsWhole) (arg2 : Memref sig .tc .vmem S4096x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x4096 .f32) (harg5 : arg5.IsWhole) (arg6 : Memref sig .tc .vmem S1x4096 .f32) (harg6 : arg6.IsWhole) (arg7 : Memref sig .tc .vmem S1x4096 .f32) (harg7 : arg7.IsWhole) (hc0 : ¬cond3_0 i) (hc1 : ¬cond3_1 i)
    (x0 : Vec F S4096x128 .f32) (x1 : Vec F S4096x128 .f32) (x2 : Vec F S128x128 .f32) (x3 : Vec F S128x128 .f32) (xs0 : Vec F S1x4096 .f32) (y : S1x4096.Idx) :
    ∃ pc ∈ (kernelRun3_B c i arg1 harg1 arg2 harg2 arg3 harg3 arg4 harg4 arg5 harg5 arg6 harg6 arg7 harg7 hc0 hc1 x0 x1 x2 x3 xs0).2.2.1, y ∈ pc.1.set :=
  View.cover_of_tiledL (kernelRun3_B c i arg1 harg1 arg2 harg2 arg3 harg3 arg4 harg4 arg5 harg5 arg6 harg6 arg7 harg7 hc0 hc1 x0 x1 x2 x3 xs0).2.2.1 S1x4096.size (by sl_kernel_rfl) y

def sout3_B_0 (c : Dev nD) (i : grid3.Coords) (arg1 : Memref sig .tc .vmem S4096x128 .f32) (harg1 : arg1.IsWhole) (arg2 : Memref sig .tc .vmem S4096x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x4096 .f32) (harg5 : arg5.IsWhole) (arg6 : Memref sig .tc .vmem S1x4096 .f32) (harg6 : arg6.IsWhole) (arg7 : Memref sig .tc .vmem S1x4096 .f32) (harg7 : arg7.IsWhole) (hc0 : ¬cond3_0 i) (hc1 : ¬cond3_1 i)
    (x0 : Vec F S4096x128 .f32) (x1 : Vec F S4096x128 .f32) (x2 : Vec F S128x128 .f32) (x3 : Vec F S128x128 .f32) (xs0 : Vec F S1x4096 .f32) : Vec F S1x4096 .f32 :=
  VS3_0.read (Elt F) (VS3_0.writes (Elt F) VS3_0.junk (kernelRun3_B c i arg1 harg1 arg2 harg2 arg3 harg3 arg4 harg4 arg5 harg5 arg6 harg6 arg7 harg7 hc0 hc1 x0 x1 x2 x3 xs0).2.2.1)

theorem cover3_C_4 (c : Dev nD) (i : grid3.Coords) (arg1 : Memref sig .tc .vmem S4096x128 .f32) (harg1 : arg1.IsWhole) (arg2 : Memref sig .tc .vmem S4096x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x4096 .f32) (harg5 : arg5.IsWhole) (arg6 : Memref sig .tc .vmem S1x4096 .f32) (harg6 : arg6.IsWhole) (arg7 : Memref sig .tc .vmem S1x4096 .f32) (harg7 : arg7.IsWhole) (hc0 : ¬cond3_0 i) (hc1 : cond3_1 i)
    (x0 : Vec F S4096x128 .f32) (x1 : Vec F S4096x128 .f32) (x2 : Vec F S128x128 .f32) (x3 : Vec F S128x128 .f32) (xs0 : Vec F S1x4096 .f32) (y : S128x4096.Idx) :
    ∃ pc ∈ (kernelRun3_C c i arg1 harg1 arg2 harg2 arg3 harg3 arg4 harg4 arg5 harg5 arg6 harg6 arg7 harg7 hc0 hc1 x0 x1 x2 x3 xs0).1, y ∈ pc.1.set :=
  View.cover_of_tiledL (kernelRun3_C c i arg1 harg1 arg2 harg2 arg3 harg3 arg4 harg4 arg5 harg5 arg6 harg6 arg7 harg7 hc0 hc1 x0 x1 x2 x3 xs0).1 S128x4096.size (by sl_kernel_rfl) y

def out3_C_4 (c : Dev nD) (i : grid3.Coords) (arg1 : Memref sig .tc .vmem S4096x128 .f32) (harg1 : arg1.IsWhole) (arg2 : Memref sig .tc .vmem S4096x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x4096 .f32) (harg5 : arg5.IsWhole) (arg6 : Memref sig .tc .vmem S1x4096 .f32) (harg6 : arg6.IsWhole) (arg7 : Memref sig .tc .vmem S1x4096 .f32) (harg7 : arg7.IsWhole) (hc0 : ¬cond3_0 i) (hc1 : cond3_1 i)
    (x0 : Vec F S4096x128 .f32) (x1 : Vec F S4096x128 .f32) (x2 : Vec F S128x128 .f32) (x3 : Vec F S128x128 .f32) (xs0 : Vec F S1x4096 .f32) : Vec F S128x4096 .f32 :=
  VO3_4.read (Elt F) (VO3_4.writes (Elt F) VO3_4.junk (kernelRun3_C c i arg1 harg1 arg2 harg2 arg3 harg3 arg4 harg4 arg5 harg5 arg6 harg6 arg7 harg7 hc0 hc1 x0 x1 x2 x3 xs0).1)

theorem cover3_C_5 (c : Dev nD) (i : grid3.Coords) (arg1 : Memref sig .tc .vmem S4096x128 .f32) (harg1 : arg1.IsWhole) (arg2 : Memref sig .tc .vmem S4096x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x4096 .f32) (harg5 : arg5.IsWhole) (arg6 : Memref sig .tc .vmem S1x4096 .f32) (harg6 : arg6.IsWhole) (arg7 : Memref sig .tc .vmem S1x4096 .f32) (harg7 : arg7.IsWhole) (hc0 : ¬cond3_0 i) (hc1 : cond3_1 i)
    (x0 : Vec F S4096x128 .f32) (x1 : Vec F S4096x128 .f32) (x2 : Vec F S128x128 .f32) (x3 : Vec F S128x128 .f32) (xs0 : Vec F S1x4096 .f32) (y : S1x4096.Idx) :
    ∃ pc ∈ (kernelRun3_C c i arg1 harg1 arg2 harg2 arg3 harg3 arg4 harg4 arg5 harg5 arg6 harg6 arg7 harg7 hc0 hc1 x0 x1 x2 x3 xs0).2.1, y ∈ pc.1.set :=
  View.cover_of_tiledL (kernelRun3_C c i arg1 harg1 arg2 harg2 arg3 harg3 arg4 harg4 arg5 harg5 arg6 harg6 arg7 harg7 hc0 hc1 x0 x1 x2 x3 xs0).2.1 S1x4096.size (by sl_kernel_rfl) y

def out3_C_5 (c : Dev nD) (i : grid3.Coords) (arg1 : Memref sig .tc .vmem S4096x128 .f32) (harg1 : arg1.IsWhole) (arg2 : Memref sig .tc .vmem S4096x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x4096 .f32) (harg5 : arg5.IsWhole) (arg6 : Memref sig .tc .vmem S1x4096 .f32) (harg6 : arg6.IsWhole) (arg7 : Memref sig .tc .vmem S1x4096 .f32) (harg7 : arg7.IsWhole) (hc0 : ¬cond3_0 i) (hc1 : cond3_1 i)
    (x0 : Vec F S4096x128 .f32) (x1 : Vec F S4096x128 .f32) (x2 : Vec F S128x128 .f32) (x3 : Vec F S128x128 .f32) (xs0 : Vec F S1x4096 .f32) : Vec F S1x4096 .f32 :=
  VO3_5.read (Elt F) (VO3_5.writes (Elt F) VO3_5.junk (kernelRun3_C c i arg1 harg1 arg2 harg2 arg3 harg3 arg4 harg4 arg5 harg5 arg6 harg6 arg7 harg7 hc0 hc1 x0 x1 x2 x3 xs0).2.1)

theorem scover3_C_0 (c : Dev nD) (i : grid3.Coords) (arg1 : Memref sig .tc .vmem S4096x128 .f32) (harg1 : arg1.IsWhole) (arg2 : Memref sig .tc .vmem S4096x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x4096 .f32) (harg5 : arg5.IsWhole) (arg6 : Memref sig .tc .vmem S1x4096 .f32) (harg6 : arg6.IsWhole) (arg7 : Memref sig .tc .vmem S1x4096 .f32) (harg7 : arg7.IsWhole) (hc0 : ¬cond3_0 i) (hc1 : cond3_1 i)
    (x0 : Vec F S4096x128 .f32) (x1 : Vec F S4096x128 .f32) (x2 : Vec F S128x128 .f32) (x3 : Vec F S128x128 .f32) (xs0 : Vec F S1x4096 .f32) (y : S1x4096.Idx) :
    ∃ pc ∈ (kernelRun3_C c i arg1 harg1 arg2 harg2 arg3 harg3 arg4 harg4 arg5 harg5 arg6 harg6 arg7 harg7 hc0 hc1 x0 x1 x2 x3 xs0).2.2.1, y ∈ pc.1.set :=
  View.cover_of_tiledL (kernelRun3_C c i arg1 harg1 arg2 harg2 arg3 harg3 arg4 harg4 arg5 harg5 arg6 harg6 arg7 harg7 hc0 hc1 x0 x1 x2 x3 xs0).2.2.1 S1x4096.size (by sl_kernel_rfl) y

def sout3_C_0 (c : Dev nD) (i : grid3.Coords) (arg1 : Memref sig .tc .vmem S4096x128 .f32) (harg1 : arg1.IsWhole) (arg2 : Memref sig .tc .vmem S4096x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x4096 .f32) (harg5 : arg5.IsWhole) (arg6 : Memref sig .tc .vmem S1x4096 .f32) (harg6 : arg6.IsWhole) (arg7 : Memref sig .tc .vmem S1x4096 .f32) (harg7 : arg7.IsWhole) (hc0 : ¬cond3_0 i) (hc1 : cond3_1 i)
    (x0 : Vec F S4096x128 .f32) (x1 : Vec F S4096x128 .f32) (x2 : Vec F S128x128 .f32) (x3 : Vec F S128x128 .f32) (xs0 : Vec F S1x4096 .f32) : Vec F S1x4096 .f32 :=
  VS3_0.read (Elt F) (VS3_0.writes (Elt F) VS3_0.junk (kernelRun3_C c i arg1 harg1 arg2 harg2 arg3 harg3 arg4 harg4 arg5 harg5 arg6 harg6 arg7 harg7 hc0 hc1 x0 x1 x2 x3 xs0).2.2.1)

def outsAt3 (c : Dev nD) : (n : ℕ) → n < cfg3.N → Vec F S128x4096 .f32 × Vec F S1x4096 .f32 × Vec F S1x4096 .f32
  | 0, hn => (out3_A_4 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) (ms3_5 ⟨0, hn⟩) (hs3_5 ⟨0, hn⟩) scM3_0 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩) (iblk3 V c 2 ⟨0, hn⟩) (iblk3 V c 3 ⟨0, hn⟩), out3_A_5 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) (ms3_5 ⟨0, hn⟩) (hs3_5 ⟨0, hn⟩) scM3_0 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩) (iblk3 V c 2 ⟨0, hn⟩) (iblk3 V c 3 ⟨0, hn⟩), sout3_A_0 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) (ms3_5 ⟨0, hn⟩) (hs3_5 ⟨0, hn⟩) scM3_0 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩) (iblk3 V c 2 ⟨0, hn⟩) (iblk3 V c 3 ⟨0, hn⟩))
  | n + 1, hn =>
    if h0 : (n + 1) % 32 = 0 then
      if h1 : (n + 1) % 32 = 31 then
        False.elim (by have hN : n + 1 < 32 := lt_of_lt_of_eq hn (show cfg3.N = 32 from N_3); omega)
      else
        (out3_A_4 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) scM3_0 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩), out3_A_5 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) scM3_0 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩), sout3_A_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) scM3_0 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩))
    else
      if h1 : (n + 1) % 32 = 31 then
        (out3_C_4 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) scM3_0 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (iblk3 V c 3 ⟨n + 1, hn⟩) (outsAt3 c n (Nat.lt_of_succ_lt hn)).2.2, out3_C_5 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) scM3_0 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (iblk3 V c 3 ⟨n + 1, hn⟩) (outsAt3 c n (Nat.lt_of_succ_lt hn)).2.2, sout3_C_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) scM3_0 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (iblk3 V c 3 ⟨n + 1, hn⟩) (outsAt3 c n (Nat.lt_of_succ_lt hn)).2.2)
      else
        (out3_B_4 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) scM3_0 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (outsAt3 c n (Nat.lt_of_succ_lt hn)).2.2, out3_B_5 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) scM3_0 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (outsAt3 c n (Nat.lt_of_succ_lt hn)).2.2, sout3_B_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) scM3_0 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (outsAt3 c n (Nat.lt_of_succ_lt hn)).2.2)

theorem outsAt3_A (c : Dev nD) (t : Fin cfg3.N) (h0 : t.val % 32 = 0) (h1 : ¬t.val % 32 = 31) :
    outsAt3 V c t.val t.isLt = (out3_A_4 c (grid3.coords t) (ms3_0 t) (hs3_0 t) (ms3_1 t) (hs3_1 t) (ms3_2 t) (hs3_2 t) (ms3_3 t) (hs3_3 t) (ms3_4 t) (hs3_4 t) (ms3_5 t) (hs3_5 t) scM3_0 (Memref.isWhole_whole _) ((hcond3_0 t).mpr h0) (fun h => h1 ((hcond3_1 t).mp h)) (iblk3 V c 0 t) (iblk3 V c 1 t) (iblk3 V c 2 t) (iblk3 V c 3 t), out3_A_5 c (grid3.coords t) (ms3_0 t) (hs3_0 t) (ms3_1 t) (hs3_1 t) (ms3_2 t) (hs3_2 t) (ms3_3 t) (hs3_3 t) (ms3_4 t) (hs3_4 t) (ms3_5 t) (hs3_5 t) scM3_0 (Memref.isWhole_whole _) ((hcond3_0 t).mpr h0) (fun h => h1 ((hcond3_1 t).mp h)) (iblk3 V c 0 t) (iblk3 V c 1 t) (iblk3 V c 2 t) (iblk3 V c 3 t), sout3_A_0 c (grid3.coords t) (ms3_0 t) (hs3_0 t) (ms3_1 t) (hs3_1 t) (ms3_2 t) (hs3_2 t) (ms3_3 t) (hs3_3 t) (ms3_4 t) (hs3_4 t) (ms3_5 t) (hs3_5 t) scM3_0 (Memref.isWhole_whole _) ((hcond3_0 t).mpr h0) (fun h => h1 ((hcond3_1 t).mp h)) (iblk3 V c 0 t) (iblk3 V c 1 t) (iblk3 V c 2 t) (iblk3 V c 3 t)) := by
  obtain ⟨n, hn⟩ := t
  cases n with
  | zero => exact rfl
  | succ n => exact (dif_pos h0).trans ((dif_neg h1).trans rfl)

theorem outsAt3_B (c : Dev nD) (t : Fin cfg3.N) (h0 : ¬t.val % 32 = 0) (h1 : ¬t.val % 32 = 31) :
    outsAt3 V c t.val t.isLt = (out3_B_4 c (grid3.coords t) (ms3_0 t) (hs3_0 t) (ms3_1 t) (hs3_1 t) (ms3_2 t) (hs3_2 t) (ms3_3 t) (hs3_3 t) (ms3_4 t) (hs3_4 t) (ms3_5 t) (hs3_5 t) scM3_0 (Memref.isWhole_whole _) (fun h => h0 ((hcond3_0 t).mp h)) (fun h => h1 ((hcond3_1 t).mp h)) (iblk3 V c 0 t) (iblk3 V c 1 t) (iblk3 V c 2 t) (iblk3 V c 3 t) (outsAt3 V c (t.val - 1) (Nat.lt_of_le_of_lt (Nat.sub_le _ _) t.isLt)).2.2, out3_B_5 c (grid3.coords t) (ms3_0 t) (hs3_0 t) (ms3_1 t) (hs3_1 t) (ms3_2 t) (hs3_2 t) (ms3_3 t) (hs3_3 t) (ms3_4 t) (hs3_4 t) (ms3_5 t) (hs3_5 t) scM3_0 (Memref.isWhole_whole _) (fun h => h0 ((hcond3_0 t).mp h)) (fun h => h1 ((hcond3_1 t).mp h)) (iblk3 V c 0 t) (iblk3 V c 1 t) (iblk3 V c 2 t) (iblk3 V c 3 t) (outsAt3 V c (t.val - 1) (Nat.lt_of_le_of_lt (Nat.sub_le _ _) t.isLt)).2.2, sout3_B_0 c (grid3.coords t) (ms3_0 t) (hs3_0 t) (ms3_1 t) (hs3_1 t) (ms3_2 t) (hs3_2 t) (ms3_3 t) (hs3_3 t) (ms3_4 t) (hs3_4 t) (ms3_5 t) (hs3_5 t) scM3_0 (Memref.isWhole_whole _) (fun h => h0 ((hcond3_0 t).mp h)) (fun h => h1 ((hcond3_1 t).mp h)) (iblk3 V c 0 t) (iblk3 V c 1 t) (iblk3 V c 2 t) (iblk3 V c 3 t) (outsAt3 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

theorem outsAt3_C (c : Dev nD) (t : Fin cfg3.N) (h0 : ¬t.val % 32 = 0) (h1 : t.val % 32 = 31) :
    outsAt3 V c t.val t.isLt = (out3_C_4 c (grid3.coords t) (ms3_0 t) (hs3_0 t) (ms3_1 t) (hs3_1 t) (ms3_2 t) (hs3_2 t) (ms3_3 t) (hs3_3 t) (ms3_4 t) (hs3_4 t) (ms3_5 t) (hs3_5 t) scM3_0 (Memref.isWhole_whole _) (fun h => h0 ((hcond3_0 t).mp h)) ((hcond3_1 t).mpr h1) (iblk3 V c 0 t) (iblk3 V c 1 t) (iblk3 V c 2 t) (iblk3 V c 3 t) (outsAt3 V c (t.val - 1) (Nat.lt_of_le_of_lt (Nat.sub_le _ _) t.isLt)).2.2, out3_C_5 c (grid3.coords t) (ms3_0 t) (hs3_0 t) (ms3_1 t) (hs3_1 t) (ms3_2 t) (hs3_2 t) (ms3_3 t) (hs3_3 t) (ms3_4 t) (hs3_4 t) (ms3_5 t) (hs3_5 t) scM3_0 (Memref.isWhole_whole _) (fun h => h0 ((hcond3_0 t).mp h)) ((hcond3_1 t).mpr h1) (iblk3 V c 0 t) (iblk3 V c 1 t) (iblk3 V c 2 t) (iblk3 V c 3 t) (outsAt3 V c (t.val - 1) (Nat.lt_of_le_of_lt (Nat.sub_le _ _) t.isLt)).2.2, sout3_C_0 c (grid3.coords t) (ms3_0 t) (hs3_0 t) (ms3_1 t) (hs3_1 t) (ms3_2 t) (hs3_2 t) (ms3_3 t) (hs3_3 t) (ms3_4 t) (hs3_4 t) (ms3_5 t) (hs3_5 t) scM3_0 (Memref.isWhole_whole _) (fun h => h0 ((hcond3_0 t).mp h)) ((hcond3_1 t).mpr h1) (iblk3 V c 0 t) (iblk3 V c 1 t) (iblk3 V c 2 t) (iblk3 V c 3 t) (outsAt3 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

def PhiS3 (c : Dev nD) : (n : ℕ) → n ≤ cfg3.N → sProp 𝕄
  | 0, _ => Pipeline.ΦA spec3 c
  | n + 1, hn => iprop(iprop(owns (c : Thread nD τ) scM3_0 fullShare ((outsAt3 V c n hn).2.2)) ∗ G3 c)

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(iprop(owns (c : Thread nD τ) scM3_0 fullShare ((outsAt3 V c n hn).2.2)) ∗ G3 c) := rfl

theorem PhiS3_pos (c : Dev nD) (n : ℕ) (h : n ≤ cfg3.N) (hz : n ≠ 0) :
    PhiS3 V c n h = iprop(iprop(owns (c : Thread nD τ) scM3_0 fullShare ((outsAt3 V c (n - 1) (by omega)).2.2)) ∗ G3 c) := by
  cases n with
  | zero => exact absurd rfl hz
  | succ n => rfl

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => (outsAt3 V c t.val t.isLt).1
    | ⟨5, _⟩ => (outsAt3 V c t.val t.isLt).2.1
  Φ t := PhiS3 V c t.val (Nat.le_of_lt_succ t.isLt)
  q w := Pipeline.shareOf spec3 w
  owed _ := 0

theorem A_eq3 (c : Dev nD) (w : Fin cfg3.W) : (dat3 V c).A w = V c (Pipeline.arrRef spec3 w) := by
  dsimp only [dat3]

theorem PhiS3_castSucc (c : Dev nD) (t : Fin cfg3.N) :
    (dat3 V c).Φ t.castSucc = PhiS3 V c t.val (Nat.le_of_lt t.isLt) := by
  dsimp only [dat3]; exact Pipeline.Dat.Φ_castSucc (PhiS3 V c) t

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = (outsAt3 V c t.val t.isLt).1 := by dsimp only [dat3]
theorem after3_5 (c : Dev nD) (t : Fin cfg3.N) : (dat3 V c).after 5 t = (outsAt3 V c t.val t.isLt).2.1 := by dsimp only [dat3]

theorem before3_0 (c : Dev nD) (t : Fin cfg3.N) (d) : (dat3 V c).before 0 t d = iblk3 V c 0 t :=
  (dat3 V c).before_in_eq_fetched 0 rfl (fun _ => rfl) (fun _ _ _ => rfl) (after3_0 V c) t d
theorem before3_1 (c : Dev nD) (t : Fin cfg3.N) (d) : (dat3 V c).before 1 t d = iblk3 V c 1 t :=
  (dat3 V c).before_in_eq_fetched 1 rfl (fun _ => rfl) (fun _ _ _ => rfl) (after3_1 V c) t d
theorem before3_2 (c : Dev nD) (t : Fin cfg3.N) (d) : (dat3 V c).before 2 t d = iblk3 V c 2 t :=
  (dat3 V c).before_in_eq_fetched 2 rfl (fun _ => rfl) (fun _ _ _ => rfl) (after3_2 V c) t d
theorem before3_3 (c : Dev nD) (t : Fin cfg3.N) (d) : (dat3 V c).before 3 t d = iblk3 V c 3 t :=
  (dat3 V c).before_in_eq_fetched 3 rfl (fun _ => rfl) (fun _ _ _ => rfl) (after3_3 V c) t d

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d))
    ∗ (∃ d, owns (c : Thread nD τ) (ms3_5 t) fullShare ((dat3 V c).before 5 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t
    ∗ (dat3 V c).leavesExact 5 t)

set_option maxHeartbeats 4800000 in
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).owesAt () t.succ = (dat3 V c).owesAt () t.castSucc from rfl]
  rw [show (dat3 V c).Φ t.succ = PhiS3 V c (t.val + 1) t.isLt from rfl, PhiS3_succ]
  have hN : t.val < 32 := lt_of_lt_of_eq t.isLt (show cfg3.N = 32 from N_3)
  by_cases h0 : t.val % 32 = 0
  · by_cases h1 : t.val % 32 = 31
    · exfalso; omega
    · rw [show (dat3 V c).leavesExact 0 t = owns (c : Thread nD τ) (ms3_0 t) fullShare ((dat3 V c).after 0 t) from by
      unfold Dat.leavesExact; rw [liveAt3_0 t], after3_0]
      rw [show (dat3 V c).leavesExact 1 t = owns (c : Thread nD τ) (ms3_1 t) fullShare ((dat3 V c).after 1 t) from by
      unfold Dat.leavesExact; rw [liveAt3_1 t], after3_1]
      rw [show (dat3 V c).leavesExact 2 t = owns (c : Thread nD τ) (ms3_2 t) fullShare ((dat3 V c).after 2 t) from by
      unfold Dat.leavesExact; rw [liveAt3_2 t], after3_2]
      rw [show (dat3 V c).leavesExact 3 t = owns (c : Thread nD τ) (ms3_3 t) fullShare ((dat3 V c).after 3 t) from by
      unfold Dat.leavesExact; rw [liveAt3_3 t], after3_3]
      rw [show (dat3 V c).leavesExact 4 t = owns (c : Thread nD τ) (ms3_4 t) fullShare ((dat3 V c).after 4 t) from by
      unfold Dat.leavesExact; rw [liveAt3_4 t], after3_4]
      rw [Dat.leavesExact_idle (dat3 V c) 5 t (idleAt3_5_A t ((hcond3_0 t).mpr h0) (fun h => h1 ((hcond3_1 t).mp h))) (noFlush3_5_A t ((hcond3_0 t).mpr h0) (fun h => h1 ((hcond3_1 t).mp h)))]
      by_cases hz : t.val = 0
      · rw [PhiS3_castSucc V c t, PhiS3_zero V c _ _ hz, PhiA3_eq]
        rw [outsAt3_A V c t h0 h1]
        unfold out3_A_4 sout3_A_0; (try dsimp only)
        iintro ⟨⟨HS0, Hg⟩, Ho, ⟨%d0, H0⟩, ⟨%d1, H1⟩, ⟨%d2, H2⟩, ⟨%d3, H3⟩, ⟨%d4, H4⟩, ⟨%d5, H5⟩⟩
        iapply ((kernelRun3_A c (grid3.coords t) _ _ _ _ _ _ _ _ _ _ _ _ _ _ ((hcond3_0 t).mpr h0) (fun h => h1 ((hcond3_1 t).mp h)) (iblk3 V c 0 t) (iblk3 V c 1 t) (iblk3 V c 2 t) (iblk3 V c 3 t)).2.2.2 _ Set.univ _)
        isplitl [H0]; · iexact H0
        isplitl [H1]; · iexact H1
        isplitl [H2]; · iexact H2
        isplitl [H3]; · iexact H3
        isplitl [H4]; · iexists _; iexact H4
        isplitl [H5]; · iexact H5
        isplitl [HS0]; · iexact HS0
        iintro ⟨H0, H1, H2, H3, ⟨%e4, H4⟩, H5, ⟨%es0, HS0⟩⟩
        isplitl [HS0 Hg]
        · isplitl [HS0]
          · unfold owns; iexists _; isplitr
            swap; · iexact HS0
            ipureintro; exact View.read_writes_of_cover _ _ _ _ _ (scover3_A_0 c _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]
        · unfold owns; iexists _; isplitr
          swap; · iexact H4
          ipureintro; exact View.read_writes_of_cover _ _ _ _ _ (cover3_A_4 c _ _ _ _ _ _ _ _ _ _ _ _ _ _ _ _ _ _ _ _ _)
        iexists _; iexact H5
      · exfalso; have hN : t.val < 32 := lt_of_lt_of_eq t.isLt (show cfg3.N = 32 from N_3); omega
  · by_cases h1 : t.val % 32 = 31
    · rw [show (dat3 V c).leavesExact 0 t = owns (c : Thread nD τ) (ms3_0 t) fullShare ((dat3 V c).after 0 t) from by
      unfold Dat.leavesExact; rw [liveAt3_0 t], after3_0]
      rw [show (dat3 V c).leavesExact 1 t = owns (c : Thread nD τ) (ms3_1 t) fullShare ((dat3 V c).after 1 t) from by
      unfold Dat.leavesExact; rw [liveAt3_1 t], after3_1]
      rw [show (dat3 V c).leavesExact 2 t = owns (c : Thread nD τ) (ms3_2 t) fullShare ((dat3 V c).after 2 t) from by
      unfold Dat.leavesExact; rw [liveAt3_2 t], after3_2]
      rw [show (dat3 V c).leavesExact 3 t = owns (c : Thread nD τ) (ms3_3 t) fullShare ((dat3 V c).after 3 t) from by
      unfold Dat.leavesExact; rw [liveAt3_3 t], after3_3]
      rw [show (dat3 V c).leavesExact 4 t = owns (c : Thread nD τ) (ms3_4 t) fullShare ((dat3 V c).after 4 t) from by
      unfold Dat.leavesExact; rw [liveAt3_4 t], after3_4]
      rw [show (dat3 V c).leavesExact 5 t = owns (c : Thread nD τ) (ms3_5 t) fullShare ((dat3 V c).after 5 t) from by
      unfold Dat.leavesExact; rw [liveAt3_5_C t (fun h => h0 ((hcond3_0 t).mp h)) ((hcond3_1 t).mpr h1)], after3_5]
      by_cases hz : t.val = 0
      · exfalso; have hN : t.val < 32 := lt_of_lt_of_eq t.isLt (show cfg3.N = 32 from N_3); omega
      · rw [PhiS3_castSucc V c t, PhiS3_pos V c _ _ hz]
        rw [outsAt3_C V c t h0 h1]
        unfold out3_C_4 out3_C_5 sout3_C_0; (try dsimp only)
        iintro ⟨⟨HS0, Hg⟩, Ho, ⟨%d0, H0⟩, ⟨%d1, H1⟩, ⟨%d2, H2⟩, ⟨%d3, H3⟩, ⟨%d4, H4⟩, ⟨%d5, H5⟩⟩
        iapply ((kernelRun3_C c (grid3.coords t) _ _ _ _ _ _ _ _ _ _ _ _ _ _ (fun h => h0 ((hcond3_0 t).mp h)) ((hcond3_1 t).mpr h1) (iblk3 V c 0 t) (iblk3 V c 1 t) (iblk3 V c 2 t) (iblk3 V c 3 t) _).2.2.2 Set.univ _)
        isplitl [H0]; · iexact H0
        isplitl [H1]; · iexact H1
        isplitl [H2]; · iexact H2
        isplitl [H3]; · iexact H3
        isplitl [H4]; · iexists _; iexact H4
        isplitl [H5]; · iexists _; iexact H5
        isplitl [HS0]; · iexact HS0
        iintro ⟨H0, H1, H2, H3, ⟨%e4, H4⟩, ⟨%e5, H5⟩, ⟨%es0, HS0⟩⟩
        isplitl [HS0 Hg]
        · isplitl [HS0]
          · unfold owns; iexists _; isplitr
            swap; · iexact HS0
            ipureintro; exact View.read_writes_of_cover _ _ _ _ _ (scover3_C_0 c _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]
        · unfold owns; iexists _; isplitr
          swap; · iexact H4
          ipureintro; exact View.read_writes_of_cover _ _ _ _ _ (cover3_C_4 c _ _ _ _ _ _ _ _ _ _ _ _ _ _ _ _ _ _ _ _ _ _)
        unfold owns; iexists _; isplitr
        swap; · iexact H5
        ipureintro; exact View.read_writes_of_cover _ _ _ _ _ (cover3_C_5 c _ _ _ _ _ _ _ _ _ _ _ _ _ _ _ _ _ _ _ _ _ _)
    · rw [show (dat3 V c).leavesExact 0 t = owns (c : Thread nD τ) (ms3_0 t) fullShare ((dat3 V c).after 0 t) from by
      unfold Dat.leavesExact; rw [liveAt3_0 t], after3_0]
      rw [show (dat3 V c).leavesExact 1 t = owns (c : Thread nD τ) (ms3_1 t) fullShare ((dat3 V c).after 1 t) from by
      unfold Dat.leavesExact; rw [liveAt3_1 t], after3_1]
      rw [show (dat3 V c).leavesExact 2 t = owns (c : Thread nD τ) (ms3_2 t) fullShare ((dat3 V c).after 2 t) from by
      unfold Dat.leavesExact; rw [liveAt3_2 t], after3_2]
      rw [show (dat3 V c).leavesExact 3 t = owns (c : Thread nD τ) (ms3_3 t) fullShare ((dat3 V c).after 3 t) from by
      unfold Dat.leavesExact; rw [liveAt3_3 t], after3_3]
      rw [show (dat3 V c).leavesExact 4 t = owns (c : Thread nD τ) (ms3_4 t) fullShare ((dat3 V c).after 4 t) from by
      unfold Dat.leavesExact; rw [liveAt3_4 t], after3_4]
      rw [Dat.leavesExact_idle (dat3 V c) 5 t (idleAt3_5_B t (fun h => h0 ((hcond3_0 t).mp h)) (fun h => h1 ((hcond3_1 t).mp h))) (noFlush3_5_B t (fun h => h0 ((hcond3_0 t).mp h)) (fun h => h1 ((hcond3_1 t).mp h)))]
      by_cases hz : t.val = 0
      · exfalso; have hN : t.val < 32 := lt_of_lt_of_eq t.isLt (show cfg3.N = 32 from N_3); omega
      · rw [PhiS3_castSucc V c t, PhiS3_pos V c _ _ hz]
        rw [outsAt3_B V c t h0 h1]
        unfold out3_B_4 sout3_B_0; (try dsimp only)
        iintro ⟨⟨HS0, Hg⟩, Ho, ⟨%d0, H0⟩, ⟨%d1, H1⟩, ⟨%d2, H2⟩, ⟨%d3, H3⟩, ⟨%d4, H4⟩, ⟨%d5, H5⟩⟩
        iapply ((kernelRun3_B c (grid3.coords t) _ _ _ _ _ _ _ _ _ _ _ _ _ _ (fun h => h0 ((hcond3_0 t).mp h)) (fun h => h1 ((hcond3_1 t).mp h)) (iblk3 V c 0 t) (iblk3 V c 1 t) (iblk3 V c 2 t) (iblk3 V c 3 t) _).2.2.2 _ Set.univ _)
        isplitl [H0]; · iexact H0
        isplitl [H1]; · iexact H1
        isplitl [H2]; · iexact H2
        isplitl [H3]; · iexact H3
        isplitl [H4]; · iexists _; iexact H4
        isplitl [H5]; · iexact H5
        isplitl [HS0]; · iexact HS0
        iintro ⟨H0, H1, H2, H3, ⟨%e4, H4⟩, H5, ⟨%es0, HS0⟩⟩
        isplitl [HS0 Hg]
        · isplitl [HS0]
          · unfold owns; iexists _; isplitr
            swap; · iexact HS0
            ipureintro; exact View.read_writes_of_cover _ _ _ _ _ (scover3_B_0 c _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]
        · unfold owns; iexists _; isplitr
          swap; · iexact H4
          ipureintro; exact View.read_writes_of_cover _ _ _ _ _ (cover3_B_4 c _ _ _ _ _ _ _ _ _ _ _ _ _ _ _ _ _ _ _ _ _ _)
        iexists _; iexact H5

theorem defs₀_row3 (t : Fin cfg3.N) :
    defs₀ (F := F) .tc cfg3.body (cfg3.bodyArgs t (cfg3.slots t)) = bodyAt3 t := by
  unfold defs₀; rw [Defs.onTc_tc]

theorem body_obligation3 (c : Dev nD) : BodyObligation (dat3 (F := F) V c) (defs₀ (F := F)) Variants.none () Set.univ := fun t => by
  rw [bigSep_W3, bigSep_W3, defs₀_row3]
  exact triple_restated (sound_body3 V c t) rfl .rfl fun _ => .rfl

theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

theorem Phi_out3 (c : Dev nD) (t : Fin (cfg3.N + 1)) (ht : t.val ≠ 0) : (dat3 V c).Φ t ⊢ Pipeline.ΦA spec3 c := by
  rw [show (dat3 V c).Φ t = PhiS3 V c t.val (Nat.le_of_lt_succ t.isLt) from rfl, PhiS3_pos V c _ _ ht, PhiA3_eq]
  iintro ⟨HS0, Hg⟩
  isplitl [HS0]
  · iexists _; iexact HS0
  iexact Hg

theorem hout3 (c : Dev nD) : (dat3 V c).Φ (Fin.last cfg3.N) ⊢ Pipeline.ΦA spec3 c :=
  Phi_out3 V c _ (by rw [Fin.val_last]; have : cfg3.N = 32 := N_3; omega)

end Cert.KernelIdeal.Run

end
-- ==== Proof.Run.Region4.lean ====
/- The pipeline of custom call 4, at any contents `V` of the buffers on entry: the blocks its body reads, what the body
   leaves in each output's staging buffer, the body's triple, the proof data, the body obligation. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.KernelIdeal.Run

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

section Regions

variable (V : (c : Dev nD) → (b : Ref sig .tc) → Buf (Elt F) ((c : Thread nD τ).loc b))

noncomputable def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev r4_0 : Rect S128x128 := Rect.unit (s := S128x128) ![0, 0] S128x128.size inb_S128x128_S128x128_0_0
abbrev r4_1 : Rect S1x128 := Rect.unit (s := S1x128) ![0, 0] S1x128.size inb_S1x128_S1x128_0_0

def out4_4 (x0 : Vec F S128x128 .f32) (x1 : Vec F S128x128 .f32) (x2 : Vec F S1x128 .f32) (x3 : Vec F S128x128 .f32) : Vec F S128x128 .f32 :=
  View.canon [⟨r4_0, k4_pay1 (View.ld x0 r4_0) (View.ld x1 r4_0) (View.ld x3 r4_0) (View.ld x2 r4_1)⟩]

theorem cover4_4 (p0 : Vec F S128x128 .f32) (y : S128x128.Idx) :
    ∃ pc ∈ ([⟨r4_0, p0⟩] : List (View.Piece (Elt F) S128x128 .f32)), y ∈ pc.1.set :=
  View.cover_of_tiled [⟨r4_0, p0⟩] S128x128.size (by rfl) y

set_option maxHeartbeats 1000000 in
theorem sound_kernel4 (c : Dev nD) (E : Set ℕ) (i : grid4.Coords) (arg1 : Memref sig .tc .vmem S128x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S128x128 .f32) (harg5 : arg5.IsWhole)
    (x0 : Vec F S128x128 .f32) (x1 : Vec F S128x128 .f32) (x2 : Vec F S1x128 .f32) (x3 : Vec F S128x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out4_4 x0 x1 x2 x3)) -∗ K ⟨⟩))
      ⊢ wp frame (wpE (defs₀ (F := F)) Variants.none c none) E (cc4__c0_body i arg1 harg1 arg2 harg2 arg3 harg3 arg4 harg4 arg5 harg5) K := by
  simp only [cc4__c0_body_eq_skeleton]; unfold cc4__c0_body_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover4_4 _)

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => out4_4 (iblk4 V c 0 t) (iblk4 V c 1 t) (iblk4 V c 2 t) (iblk4 V c 3 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = out4_4 (iblk4 V c 0 t) (iblk4 V c 1 t) (iblk4 V c 2 t) (iblk4 V c 3 t) := by dsimp only [dat4]

theorem before4_0 (c : Dev nD) (t : Fin cfg4.N) (d) : (dat4 V c).before 0 t d = iblk4 V c 0 t :=
  (dat4 V c).before_in_eq_fetched 0 rfl (fun _ => rfl) (fun _ _ _ => rfl) (after4_0 V c) t d
theorem before4_1 (c : Dev nD) (t : Fin cfg4.N) (d) : (dat4 V c).before 1 t d = iblk4 V c 1 t :=
  (dat4 V c).before_in_eq_fetched 1 rfl (fun _ => rfl) (fun _ _ _ => rfl) (after4_1 V c) t d
theorem before4_2 (c : Dev nD) (t : Fin cfg4.N) (d) : (dat4 V c).before 2 t d = iblk4 V c 2 t :=
  (dat4 V c).before_in_eq_fetched 2 rfl (fun _ => rfl) (fun _ _ _ => rfl) (after4_2 V c) t d
theorem before4_3 (c : Dev nD) (t : Fin cfg4.N) (d) : (dat4 V c).before 3 t d = iblk4 V c 3 t :=
  (dat4 V c).before_in_eq_fetched 3 rfl (fun _ => rfl) (fun _ _ _ => rfl) (after4_3 V c) t d

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d)))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t))

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3]
  rw [show (dat4 V c).Φ t.succ = (dat4 V c).Φ t.castSucc from rfl,
    show (dat4 V c).owesAt () t.succ = (dat4 V c).owesAt () t.castSucc from rfl,
    after4_0, after4_1, after4_2, after4_3, after4_4]
  iintro ⟨HΦ, Ho, ⟨%d0, H0⟩, ⟨%d1, H1⟩, ⟨%d2, H2⟩, ⟨%d3, H3⟩, ⟨%d4, H4⟩⟩
  iapply (sound_kernel4 c Set.univ (grid4.coords t) _ _ _ _ _ _ _ _ _ _ (iblk4 V c 0 t) (iblk4 V c 1 t) (iblk4 V c 2 t) (iblk4 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem defs₀_row4 (t : Fin cfg4.N) :
    defs₀ (F := F) .tc cfg4.body (cfg4.bodyArgs t (cfg4.slots t)) = bodyAt4 t := by
  unfold defs₀; rw [Defs.onTc_tc]

theorem body_obligation4 (c : Dev nD) : BodyObligation (dat4 (F := F) V c) (defs₀ (F := F)) Variants.none () Set.univ := fun t => by
  rw [bigSep_W4, bigSep_W4, defs₀_row4]
  exact triple_restated (sound_body4 V c t) rfl .rfl fun _ => .rfl

end Regions

end Cert.KernelIdeal.Run

end
-- ==== Proof.Run.Region5.lean ====
/- The pipeline of custom call 5, at any contents `V` of the buffers on entry: the blocks its body reads, what the body
   leaves in each output's staging buffer, the body's triple, the proof data, the body obligation. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.KernelIdeal.Run

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

section Regions

variable (V : (c : Dev nD) → (b : Ref sig .tc) → Buf (Elt F) ((c : Thread nD τ).loc b))

noncomputable def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev r5_0 : Rect S4096x256 := Rect.unit (s := S4096x256) ![0, 0] S4096x256.size inb_S4096x256_S4096x256_0_0
abbrev r5_1 : Rect S4096x128 := Rect.unit (s := S4096x128) ![0, 0] S4096x128.size inb_S4096x128_S4096x128_0_0
abbrev r5_2 : Rect S256x256 := Rect.unit (s := S256x256) ![0, 0] S256x256.size inb_S256x256_S256x256_0_0
abbrev r5_3 : Rect S1x256 := Rect.unit (s := S1x256) ![0, 0] S1x256.size inb_S1x256_S1x256_0_0
abbrev r5_4 : Rect S256x128 := Rect.unit (s := S256x128) ![0, 0] S256x128.size inb_S256x128_S256x128_0_0
abbrev r5_5 : Rect S1x128 := Rect.unit (s := S1x128) ![0, 0] S1x128.size inb_S1x128_S1x128_0_0

def out5_7 (x0 : Vec F S4096x256 .f32) (x1 : Vec F S4096x128 .f32) (x2 : Vec F S256x128 .f32) (x3 : Vec F S1x256 .f32) (x4 : Vec F S256x128 .f32) (x5 : Vec F S1x128 .f32) (x6 : Vec F S256x256 .f32) : Vec F S256x128 .f32 :=
  View.canon [⟨r5_4, k5_pay1 (View.ld x0 r5_0) (View.ld x1 r5_1) (View.ld x6 r5_2) (View.ld x3 r5_3) (View.ld x2 r5_4) (View.ld x5 r5_5) (View.ld x4 r5_4)⟩]

theorem cover5_7 (p0 : Vec F S256x128 .f32) (y : S256x128.Idx) :
    ∃ pc ∈ ([⟨r5_4, p0⟩] : List (View.Piece (Elt F) S256x128 .f32)), y ∈ pc.1.set :=
  View.cover_of_tiled [⟨r5_4, p0⟩] S256x128.size (by rfl) y

set_option maxHeartbeats 1000000 in
theorem sound_kernel5 (c : Dev nD) (E : Set ℕ) (i : grid5.Coords) (arg1 : Memref sig .tc .vmem S4096x256 .f32) (harg1 : arg1.IsWhole) (arg2 : Memref sig .tc .vmem S4096x128 .f32) (harg2 : arg2.IsWhole) (arg3 : Memref sig .tc .vmem S256x128 .f32) (harg3 : arg3.IsWhole) (arg4 : Memref sig .tc .vmem S1x256 .f32) (harg4 : arg4.IsWhole) (arg5 : Memref sig .tc .vmem S256x128 .f32) (harg5 : arg5.IsWhole) (arg6 : Memref sig .tc .vmem S1x128 .f32) (harg6 : arg6.IsWhole) (arg7 : Memref sig .tc .vmem S256x256 .f32) (harg7 : arg7.IsWhole) (arg8 : Memref sig .tc .vmem S256x128 .f32) (harg8 : arg8.IsWhole)
    (x0 : Vec F S4096x256 .f32) (x1 : Vec F S4096x128 .f32) (x2 : Vec F S256x128 .f32) (x3 : Vec F S1x256 .f32) (x4 : Vec F S256x128 .f32) (x5 : Vec F S1x128 .f32) (x6 : Vec F S256x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out5_7 x0 x1 x2 x3 x4 x5 x6)) -∗ K ⟨⟩))
      ⊢ wp frame (wpE (defs₀ (F := F)) Variants.none c none) E (cc5__c1_body i arg1 harg1 arg2 harg2 arg3 harg3 arg4 harg4 arg5 harg5 arg6 harg6 arg7 harg7 arg8 harg8) K := by
  simp only [cc5__c1_body_eq_skeleton]; unfold cc5__c1_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover5_7 _)

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => iblk5 V c 6 t
    | ⟨7, _⟩ => out5_7 (iblk5 V c 0 t) (iblk5 V c 1 t) (iblk5 V c 2 t) (iblk5 V c 3 t) (iblk5 V c 4 t) (iblk5 V c 5 t) (iblk5 V c 6 t)
  Φ _ := Pipeline.ΦA spec5 c
  q w := Pipeline.shareOf spec5 w
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = iblk5 V c 5 t := by dsimp only [dat5]
theorem after5_6 (c : Dev nD) (t : Fin cfg5.N) : (dat5 V c).after 6 t = iblk5 V c 6 t := by dsimp only [dat5]
theorem after5_7 (c : Dev nD) (t : Fin cfg5.N) : (dat5 V c).after 7 t = out5_7 (iblk5 V c 0 t) (iblk5 V c 1 t) (iblk5 V c 2 t) (iblk5 V c 3 t) (iblk5 V c 4 t) (iblk5 V c 5 t) (iblk5 V c 6 t) := by dsimp only [dat5]

theorem before5_0 (c : Dev nD) (t : Fin cfg5.N) (d) : (dat5 V c).before 0 t d = iblk5 V c 0 t :=
  (dat5 V c).before_in_eq_fetched 0 rfl (fun _ => rfl) (fun _ _ _ => rfl) (after5_0 V c) t d
theorem before5_1 (c : Dev nD) (t : Fin cfg5.N) (d) : (dat5 V c).before 1 t d = iblk5 V c 1 t :=
  (dat5 V c).before_in_eq_fetched 1 rfl (fun _ => rfl) (fun _ _ _ => rfl) (after5_1 V c) t d
theorem before5_2 (c : Dev nD) (t : Fin cfg5.N) (d) : (dat5 V c).before 2 t d = iblk5 V c 2 t :=
  (dat5 V c).before_in_eq_fetched 2 rfl (fun _ => rfl) (fun _ _ _ => rfl) (after5_2 V c) t d
theorem before5_3 (c : Dev nD) (t : Fin cfg5.N) (d) : (dat5 V c).before 3 t d = iblk5 V c 3 t :=
  (dat5 V c).before_in_eq_fetched 3 rfl (fun _ => rfl) (fun _ _ _ => rfl) (after5_3 V c) t d
theorem before5_4 (c : Dev nD) (t : Fin cfg5.N) (d) : (dat5 V c).before 4 t d = iblk5 V c 4 t :=
  (dat5 V c).before_in_eq_fetched 4 rfl (fun _ => rfl) (fun _ _ _ => rfl) (after5_4 V c) t d
theorem before5_5 (c : Dev nD) (t : Fin cfg5.N) (d) : (dat5 V c).before 5 t d = iblk5 V c 5 t :=
  (dat5 V c).before_in_eq_fetched 5 rfl (fun _ => rfl) (fun _ _ _ => rfl) (after5_5 V c) t d
theorem before5_6 (c : Dev nD) (t : Fin cfg5.N) (d) : (dat5 V c).before 6 t d = iblk5 V c 6 t :=
  (dat5 V c).before_in_eq_fetched 6 rfl (fun _ => rfl) (fun _ _ _ => rfl) (after5_6 V c) t d

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d))
    ∗ (∃ d, owns (c : Thread nD τ) (st5_6 t) fullShare ((dat5 V c).before 6 t d))
    ∗ (∃ d, owns (c : Thread nD τ) (st5_7 t) fullShare ((dat5 V c).before 7 t d)))

def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t)
    ∗ owns (c : Thread nD τ) (st5_6 t) fullShare ((dat5 V c).after 6 t)
    ∗ owns (c : Thread nD τ) (st5_7 t) fullShare ((dat5 V c).after 7 t))

theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4, before5_5, before5_6]
  rw [show (dat5 V c).Φ t.succ = (dat5 V c).Φ t.castSucc from rfl,
    show (dat5 V c).owesAt () t.succ = (dat5 V c).owesAt () t.castSucc from rfl,
    after5_0, after5_1, after5_2, after5_3, after5_4, after5_5, after5_6, after5_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel5 c Set.univ (grid5.coords t) _ _ _ _ _ _ _ _ _ _ _ _ _ _ _ _ (iblk5 V c 0 t) (iblk5 V c 1 t) (iblk5 V c 2 t) (iblk5 V c 3 t) (iblk5 V c 4 t) (iblk5 V c 5 t) (iblk5 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem defs₀_row5 (t : Fin cfg5.N) :
    defs₀ (F := F) .tc cfg5.body (cfg5.bodyArgs t (cfg5.slots t)) = bodyAt5 t := by
  unfold defs₀; rw [Defs.onTc_tc]

theorem body_obligation5 (c : Dev nD) : BodyObligation (dat5 (F := F) V c) (defs₀ (F := F)) Variants.none () Set.univ := fun t => by
  rw [bigSep_W5, bigSep_W5, defs₀_row5]
  exact triple_restated (sound_body5 V c t) rfl .rfl fun _ => .rfl

end Regions

end Cert.KernelIdeal.Run

end
-- ==== Proof.Run.Region6.lean ====
/- The pipeline of custom call 6, at any contents `V` of the buffers on entry: the blocks its body reads, what the body
   leaves in each output's staging buffer, the body's triple, the proof data, the body obligation. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.KernelIdeal.Run

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

section Regions

variable (V : (c : Dev nD) → (b : Ref sig .tc) → Buf (Elt F) ((c : Thread nD τ).loc b))

noncomputable def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

abbrev r6_0 : Rect S128x128 := Rect.unit (s := S128x128) ![0, 0] S128x128.size inb_S128x128_S128x128_0_0
abbrev r6_1 : Rect S1x128 := Rect.unit (s := S1x128) ![0, 0] S1x128.size inb_S1x128_S1x128_0_0

def out6_4 (x0 : Vec F S128x128 .f32) (x1 : Vec F S128x128 .f32) (x2 : Vec F S1x128 .f32) (x3 : Vec F S128x128 .f32) : Vec F S128x128 .f32 :=
  View.canon [⟨r6_0, k6_pay1 (View.ld x0 r6_0) (View.ld x1 r6_0) (View.ld x3 r6_0) (View.ld x2 r6_1)⟩]

theorem cover6_4 (p0 : Vec F S128x128 .f32) (y : S128x128.Idx) :
    ∃ pc ∈ ([⟨r6_0, p0⟩] : List (View.Piece (Elt F) S128x128 .f32)), y ∈ pc.1.set :=
  View.cover_of_tiled [⟨r6_0, p0⟩] S128x128.size (by rfl) y

set_option maxHeartbeats 1000000 in
theorem sound_kernel6 (c : Dev nD) (E : Set ℕ) (i : grid6.Coords) (arg1 : Memref sig .tc .vmem S128x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S128x128 .f32) (harg5 : arg5.IsWhole)
    (x0 : Vec F S128x128 .f32) (x1 : Vec F S128x128 .f32) (x2 : Vec F S1x128 .f32) (x3 : Vec F S128x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out6_4 x0 x1 x2 x3)) -∗ K ⟨⟩))
      ⊢ wp frame (wpE (defs₀ (F := F)) Variants.none c none) E (cc6__c0_body i arg1 harg1 arg2 harg2 arg3 harg3 arg4 harg4 arg5 harg5) K := by
  simp only [cc6__c0_body_eq_skeleton]; unfold cc6__c0_body_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover6_4 _)

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => out6_4 (iblk6 V c 0 t) (iblk6 V c 1 t) (iblk6 V c 2 t) (iblk6 V c 3 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = out6_4 (iblk6 V c 0 t) (iblk6 V c 1 t) (iblk6 V c 2 t) (iblk6 V c 3 t) := by dsimp only [dat6]

theorem before6_0 (c : Dev nD) (t : Fin cfg6.N) (d) : (dat6 V c).before 0 t d = iblk6 V c 0 t :=
  (dat6 V c).before_in_eq_fetched 0 rfl (fun _ => rfl) (fun _ _ _ => rfl) (after6_0 V c) t d
theorem before6_1 (c : Dev nD) (t : Fin cfg6.N) (d) : (dat6 V c).before 1 t d = iblk6 V c 1 t :=
  (dat6 V c).before_in_eq_fetched 1 rfl (fun _ => rfl) (fun _ _ _ => rfl) (after6_1 V c) t d
theorem before6_2 (c : Dev nD) (t : Fin cfg6.N) (d) : (dat6 V c).before 2 t d = iblk6 V c 2 t :=
  (dat6 V c).before_in_eq_fetched 2 rfl (fun _ => rfl) (fun _ _ _ => rfl) (after6_2 V c) t d
theorem before6_3 (c : Dev nD) (t : Fin cfg6.N) (d) : (dat6 V c).before 3 t d = iblk6 V c 3 t :=
  (dat6 V c).before_in_eq_fetched 3 rfl (fun _ => rfl) (fun _ _ _ => rfl) (after6_3 V c) t d

def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d)))

def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t))

theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3]
  rw [show (dat6 V c).Φ t.succ = (dat6 V c).Φ t.castSucc from rfl,
    show (dat6 V c).owesAt () t.succ = (dat6 V c).owesAt () t.castSucc from rfl,
    after6_0, after6_1, after6_2, after6_3, after6_4]
  iintro ⟨HΦ, Ho, ⟨%d0, H0⟩, ⟨%d1, H1⟩, ⟨%d2, H2⟩, ⟨%d3, H3⟩, ⟨%d4, H4⟩⟩
  iapply (sound_kernel6 c Set.univ (grid6.coords t) _ _ _ _ _ _ _ _ _ _ (iblk6 V c 0 t) (iblk6 V c 1 t) (iblk6 V c 2 t) (iblk6 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem defs₀_row6 (t : Fin cfg6.N) :
    defs₀ (F := F) .tc cfg6.body (cfg6.bodyArgs t (cfg6.slots t)) = bodyAt6 t := by
  unfold defs₀; rw [Defs.onTc_tc]

theorem body_obligation6 (c : Dev nD) : BodyObligation (dat6 (F := F) V c) (defs₀ (F := F)) Variants.none () Set.univ := fun t => by
  rw [bigSep_W6, bigSep_W6, defs₀_row6]
  exact triple_restated (sound_body6 V c t) rfl .rfl fun _ => .rfl

end Regions

end Cert.KernelIdeal.Run

end
-- ==== Proof.Run.Region7.lean ====
/- The pipeline of custom call 7, at any contents `V` of the buffers on entry: the blocks its body reads, what the body
   leaves in each output's staging buffer, the body's triple, the proof data, the body obligation. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.KernelIdeal.Run

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

section Regions

variable (V : (c : Dev nD) → (b : Ref sig .tc) → Buf (Elt F) ((c : Thread nD τ).loc b))

noncomputable def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

abbrev r7_0 : Rect S4096x256 := Rect.unit (s := S4096x256) ![0, 0] S4096x256.size inb_S4096x256_S4096x256_0_0
abbrev r7_1 : Rect S4096x128 := Rect.unit (s := S4096x128) ![0, 0] S4096x128.size inb_S4096x128_S4096x128_0_0
abbrev r7_2 : Rect S256x256 := Rect.unit (s := S256x256) ![0, 0] S256x256.size inb_S256x256_S256x256_0_0
abbrev r7_3 : Rect S1x256 := Rect.unit (s := S1x256) ![0, 0] S1x256.size inb_S1x256_S1x256_0_0
abbrev r7_4 : Rect S256x128 := Rect.unit (s := S256x128) ![0, 0] S256x128.size inb_S256x128_S256x128_0_0
abbrev r7_5 : Rect S1x128 := Rect.unit (s := S1x128) ![0, 0] S1x128.size inb_S1x128_S1x128_0_0

def out7_7 (x0 : Vec F S4096x256 .f32) (x1 : Vec F S4096x128 .f32) (x2 : Vec F S256x128 .f32) (x3 : Vec F S1x256 .f32) (x4 : Vec F S256x128 .f32) (x5 : Vec F S1x128 .f32) (x6 : Vec F S256x256 .f32) : Vec F S256x128 .f32 :=
  View.canon [⟨r7_4, k7_pay1 (View.ld x0 r7_0) (View.ld x1 r7_1) (View.ld x6 r7_2) (View.ld x3 r7_3) (View.ld x2 r7_4) (View.ld x5 r7_5) (View.ld x4 r7_4)⟩]

theorem cover7_7 (p0 : Vec F S256x128 .f32) (y : S256x128.Idx) :
    ∃ pc ∈ ([⟨r7_4, p0⟩] : List (View.Piece (Elt F) S256x128 .f32)), y ∈ pc.1.set :=
  View.cover_of_tiled [⟨r7_4, p0⟩] S256x128.size (by rfl) y

set_option maxHeartbeats 1000000 in
theorem sound_kernel7 (c : Dev nD) (E : Set ℕ) (i : grid7.Coords) (arg1 : Memref sig .tc .vmem S4096x256 .f32) (harg1 : arg1.IsWhole) (arg2 : Memref sig .tc .vmem S4096x128 .f32) (harg2 : arg2.IsWhole) (arg3 : Memref sig .tc .vmem S256x128 .f32) (harg3 : arg3.IsWhole) (arg4 : Memref sig .tc .vmem S1x256 .f32) (harg4 : arg4.IsWhole) (arg5 : Memref sig .tc .vmem S256x128 .f32) (harg5 : arg5.IsWhole) (arg6 : Memref sig .tc .vmem S1x128 .f32) (harg6 : arg6.IsWhole) (arg7 : Memref sig .tc .vmem S256x256 .f32) (harg7 : arg7.IsWhole) (arg8 : Memref sig .tc .vmem S256x128 .f32) (harg8 : arg8.IsWhole)
    (x0 : Vec F S4096x256 .f32) (x1 : Vec F S4096x128 .f32) (x2 : Vec F S256x128 .f32) (x3 : Vec F S1x256 .f32) (x4 : Vec F S256x128 .f32) (x5 : Vec F S1x128 .f32) (x6 : Vec F S256x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out7_7 x0 x1 x2 x3 x4 x5 x6)) -∗ K ⟨⟩))
      ⊢ wp frame (wpE (defs₀ (F := F)) Variants.none c none) E (cc7__c1_body i arg1 harg1 arg2 harg2 arg3 harg3 arg4 harg4 arg5 harg5 arg6 harg6 arg7 harg7 arg8 harg8) K := by
  simp only [cc7__c1_body_eq_skeleton]; unfold cc7__c1_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover7_7 _)

def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => iblk7 V c 5 t
    | ⟨6, _⟩ => iblk7 V c 6 t
    | ⟨7, _⟩ => out7_7 (iblk7 V c 0 t) (iblk7 V c 1 t) (iblk7 V c 2 t) (iblk7 V c 3 t) (iblk7 V c 4 t) (iblk7 V c 5 t) (iblk7 V c 6 t)
  Φ _ := Pipeline.ΦA spec7 c
  q w := Pipeline.shareOf spec7 w
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = iblk7 V c 4 t := by dsimp only [dat7]
theorem after7_5 (c : Dev nD) (t : Fin cfg7.N) : (dat7 V c).after 5 t = iblk7 V c 5 t := by dsimp only [dat7]
theorem after7_6 (c : Dev nD) (t : Fin cfg7.N) : (dat7 V c).after 6 t = iblk7 V c 6 t := by dsimp only [dat7]
theorem after7_7 (c : Dev nD) (t : Fin cfg7.N) : (dat7 V c).after 7 t = out7_7 (iblk7 V c 0 t) (iblk7 V c 1 t) (iblk7 V c 2 t) (iblk7 V c 3 t) (iblk7 V c 4 t) (iblk7 V c 5 t) (iblk7 V c 6 t) := by dsimp only [dat7]

theorem before7_0 (c : Dev nD) (t : Fin cfg7.N) (d) : (dat7 V c).before 0 t d = iblk7 V c 0 t :=
  (dat7 V c).before_in_eq_fetched 0 rfl (fun _ => rfl) (fun _ _ _ => rfl) (after7_0 V c) t d
theorem before7_1 (c : Dev nD) (t : Fin cfg7.N) (d) : (dat7 V c).before 1 t d = iblk7 V c 1 t :=
  (dat7 V c).before_in_eq_fetched 1 rfl (fun _ => rfl) (fun _ _ _ => rfl) (after7_1 V c) t d
theorem before7_2 (c : Dev nD) (t : Fin cfg7.N) (d) : (dat7 V c).before 2 t d = iblk7 V c 2 t :=
  (dat7 V c).before_in_eq_fetched 2 rfl (fun _ => rfl) (fun _ _ _ => rfl) (after7_2 V c) t d
theorem before7_3 (c : Dev nD) (t : Fin cfg7.N) (d) : (dat7 V c).before 3 t d = iblk7 V c 3 t :=
  (dat7 V c).before_in_eq_fetched 3 rfl (fun _ => rfl) (fun _ _ _ => rfl) (after7_3 V c) t d
theorem before7_4 (c : Dev nD) (t : Fin cfg7.N) (d) : (dat7 V c).before 4 t d = iblk7 V c 4 t :=
  (dat7 V c).before_in_eq_fetched 4 rfl (fun _ => rfl) (fun _ _ _ => rfl) (after7_4 V c) t d
theorem before7_5 (c : Dev nD) (t : Fin cfg7.N) (d) : (dat7 V c).before 5 t d = iblk7 V c 5 t :=
  (dat7 V c).before_in_eq_fetched 5 rfl (fun _ => rfl) (fun _ _ _ => rfl) (after7_5 V c) t d
theorem before7_6 (c : Dev nD) (t : Fin cfg7.N) (d) : (dat7 V c).before 6 t d = iblk7 V c 6 t :=
  (dat7 V c).before_in_eq_fetched 6 rfl (fun _ => rfl) (fun _ _ _ => rfl) (after7_6 V c) t d

def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d))
    ∗ (∃ d, owns (c : Thread nD τ) (st7_5 t) fullShare ((dat7 V c).before 5 t d))
    ∗ (∃ d, owns (c : Thread nD τ) (st7_6 t) fullShare ((dat7 V c).before 6 t d))
    ∗ (∃ d, owns (c : Thread nD τ) (st7_7 t) fullShare ((dat7 V c).before 7 t d)))

def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t)
    ∗ owns (c : Thread nD τ) (st7_5 t) fullShare ((dat7 V c).after 5 t)
    ∗ owns (c : Thread nD τ) (st7_6 t) fullShare ((dat7 V c).after 6 t)
    ∗ owns (c : Thread nD τ) (st7_7 t) fullShare ((dat7 V c).after 7 t))

theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3, before7_4, before7_5, before7_6]
  rw [show (dat7 V c).Φ t.succ = (dat7 V c).Φ t.castSucc from rfl,
    show (dat7 V c).owesAt () t.succ = (dat7 V c).owesAt () t.castSucc from rfl,
    after7_0, after7_1, after7_2, after7_3, after7_4, after7_5, after7_6, after7_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel7 c Set.univ (grid7.coords t) _ _ _ _ _ _ _ _ _ _ _ _ _ _ _ _ (iblk7 V c 0 t) (iblk7 V c 1 t) (iblk7 V c 2 t) (iblk7 V c 3 t) (iblk7 V c 4 t) (iblk7 V c 5 t) (iblk7 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem defs₀_row7 (t : Fin cfg7.N) :
    defs₀ (F := F) .tc cfg7.body (cfg7.bodyArgs t (cfg7.slots t)) = bodyAt7 t := by
  unfold defs₀; rw [Defs.onTc_tc]

theorem body_obligation7 (c : Dev nD) : BodyObligation (dat7 (F := F) V c) (defs₀ (F := F)) Variants.none () Set.univ := fun t => by
  rw [bigSep_W7, bigSep_W7, defs₀_row7]
  exact triple_restated (sound_body7 V c t) rfl .rfl fun _ => .rfl

end Regions

end Cert.KernelIdeal.Run

end
-- ==== Proof.Run.Region8.lean ====
/- The pipeline of custom call 8, at any contents `V` of the buffers on entry: the blocks its body reads, what the body
   leaves in each output's staging buffer, the body's triple, the proof data, the body obligation. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.KernelIdeal.Run

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

section Regions

variable (V : (c : Dev nD) → (b : Ref sig .tc) → Buf (Elt F) ((c : Thread nD τ).loc b))

noncomputable def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

abbrev r8_0 : Rect S32x4096 := Rect.unit (s := S32x4096) ![0, 0] S32x4096.size inb_S32x4096_S32x4096_0_0
abbrev r8_1 : Rect S1x4096 := Rect.unit (s := S1x4096) ![0, 0] S1x4096.size inb_S1x4096_S1x4096_0_0

def out8_1 (x0 : Vec F S32x4096 .f32) : Vec F S1x4096 .f32 :=
  View.canon [⟨r8_1, k8_pay2 (View.ld x0 r8_0)⟩]

theorem cover8_1 (p0 : Vec F S1x4096 .f32) (y : S1x4096.Idx) :
    ∃ pc ∈ ([⟨r8_1, p0⟩] : List (View.Piece (Elt F) S1x4096 .f32)), y ∈ pc.1.set :=
  View.cover_of_tiled [⟨r8_1, p0⟩] S1x4096.size (by rfl) y

def out8_2 (x0 : Vec F S32x4096 .f32) : Vec F S1x4096 .f32 :=
  View.canon [⟨r8_1, k8_pay3 (View.ld x0 r8_0)⟩]

theorem cover8_2 (p0 : Vec F S1x4096 .f32) (y : S1x4096.Idx) :
    ∃ pc ∈ ([⟨r8_1, p0⟩] : List (View.Piece (Elt F) S1x4096 .f32)), y ∈ pc.1.set :=
  View.cover_of_tiled [⟨r8_1, p0⟩] S1x4096.size (by rfl) y

set_option maxHeartbeats 1000000 in
theorem sound_kernel8 (c : Dev nD) (E : Set ℕ) (arg0 : Memref sig .tc .vmem S32x4096 .f32) (harg0 : arg0.IsWhole) (arg1 : Memref sig .tc .vmem S1x4096 .f32) (harg1 : arg1.IsWhole) (arg2 : Memref sig .tc .vmem S1x4096 .f32) (harg2 : arg2.IsWhole)
    (x0 : Vec F S32x4096 .f32) (K : PUnit → sProp 𝕄) :
    iprop(owns (c : Thread nD τ) arg0 fullShare x0 ∗ (∃ d, owns (c : Thread nD τ) arg1 fullShare d) ∗ (∃ d, owns (c : Thread nD τ) arg2 fullShare d)
        ∗ (iprop(owns (c : Thread nD τ) arg0 fullShare x0 ∗ owns (c : Thread nD τ) arg1 fullShare (out8_1 x0) ∗ owns (c : Thread nD τ) arg2 fullShare (out8_2 x0)) -∗ K ⟨⟩))
      ⊢ wp frame (wpE (defs₀ (F := F)) Variants.none c none) E (cc8__degc_body arg0 harg0 arg1 harg1 arg2 harg2) K := by
  simp only [cc8__degc_body_eq_skeleton]; unfold cc8__degc_body_skel
  unfold owns
  iintro ⟨⟨%f0, %hf0, H0⟩, ⟨%d1, %f1, -, H1⟩, ⟨%d2, %f2, -, H2⟩, Hk⟩
  subst hf0
  sl_exec
  sl_step
  iapply Hk
  isplitl [H0]
  · iexists f0; isplitr; · ipureintro; rfl
    iexact H0
  isplitl [H1]
  · iexists _; isplitr
    swap; · iexact H1
    ipureintro
    exact View.read_writes_eq_canon _ _ _ (cover8_1 _)
  iexists _; isplitr
  swap; · iexact H2
  ipureintro
  exact View.read_writes_eq_canon _ _ _ (cover8_2 _)

def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => out8_1 (iblk8 V c 0 t)
    | ⟨2, _⟩ => out8_2 (iblk8 V c 0 t)
  Φ _ := Pipeline.ΦA spec8 c
  q _ := fullShare
  owed _ := 0

theorem A_eq8 (c : Dev nD) (w : Fin cfg8.W) : (dat8 V c).A w = V c (Pipeline.arrRef spec8 w) := by
  dsimp only [dat8]

theorem after8_0 (c : Dev nD) (t : Fin cfg8.N) : (dat8 V c).after 0 t = iblk8 V c 0 t := by dsimp only [dat8]
theorem after8_1 (c : Dev nD) (t : Fin cfg8.N) : (dat8 V c).after 1 t = out8_1 (iblk8 V c 0 t) := by dsimp only [dat8]
theorem after8_2 (c : Dev nD) (t : Fin cfg8.N) : (dat8 V c).after 2 t = out8_2 (iblk8 V c 0 t) := by dsimp only [dat8]

theorem before8_0 (c : Dev nD) (t : Fin cfg8.N) (d) : (dat8 V c).before 0 t d = iblk8 V c 0 t :=
  (dat8 V c).before_in_eq_fetched 0 rfl (fun _ => rfl) (fun _ _ _ => rfl) (after8_0 V c) t d

def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d)))

def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t))

theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0]
  rw [show (dat8 V c).Φ t.succ = (dat8 V c).Φ t.castSucc from rfl,
    show (dat8 V c).owesAt () t.succ = (dat8 V c).owesAt () t.castSucc from rfl,
    after8_0, after8_1, after8_2]
  iintro ⟨HΦ, Ho, ⟨%d0, H0⟩, ⟨%d1, H1⟩, ⟨%d2, H2⟩⟩
  iapply (sound_kernel8 c Set.univ _ _ _ _ _ _ (iblk8 V c 0 t) _)
  isplitl [H0]; · iexact H0
  isplitl [H1]; · iexists _; iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem defs₀_row8 (t : Fin cfg8.N) :
    defs₀ (F := F) .tc cfg8.body (cfg8.bodyArgs t (cfg8.slots t)) = bodyAt8 t := by
  unfold defs₀; rw [Defs.onTc_tc]

theorem body_obligation8 (c : Dev nD) : BodyObligation (dat8 (F := F) V c) (defs₀ (F := F)) Variants.none () Set.univ := fun t => by
  rw [bigSep_W8, bigSep_W8, defs₀_row8]
  exact triple_restated (sound_body8 V c t) rfl .rfl fun _ => .rfl

end Regions

end Cert.KernelIdeal.Run

end
-- ==== Proof.Run.Region9.lean ====
/- The pipeline of custom call 9, at any contents `V` of the buffers on entry: the blocks its body reads, what the body
   leaves in each output's staging buffer, the body's triple, the proof data, the body obligation. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.KernelIdeal.Run

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

section Regions

variable (V : (c : Dev nD) → (b : Ref sig .tc) → Buf (Elt F) ((c : Thread nD τ).loc b))

noncomputable def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

abbrev r9_0 : Rect S128x128 := Rect.unit (s := S128x128) ![0, 0] S128x128.size inb_S128x128_S128x128_0_0
abbrev r9_1 : Rect S4096x128 := Rect.unit (s := S4096x128) ![0, 0] S4096x128.size inb_S4096x128_S4096x128_0_0
abbrev r9_2 : Rect S128x4096 := Rect.unit (s := S128x4096) ![0, 0] S128x4096.size inb_S128x4096_S128x4096_0_0

def out9_2 (x0 : Vec F S128x128 .f32) (x1 : Vec F S4096x128 .f32) : Vec F S128x4096 .f32 :=
  View.canon [⟨r9_2, k9_pay1 (View.ld x0 r9_0) (View.ld x1 r9_1)⟩]

theorem cover9_2 (p0 : Vec F S128x4096 .f32) (y : S128x4096.Idx) :
    ∃ pc ∈ ([⟨r9_2, p0⟩] : List (View.Piece (Elt F) S128x4096 .f32)), y ∈ pc.1.set :=
  View.cover_of_tiled [⟨r9_2, p0⟩] S128x4096.size (by rfl) y

set_option maxHeartbeats 1000000 in
theorem sound_kernel9 (c : Dev nD) (E : Set ℕ) (arg0 : Memref sig .tc .vmem S128x128 .f32) (harg0 : arg0.IsWhole) (arg1 : Memref sig .tc .vmem S4096x128 .f32) (harg1 : arg1.IsWhole) (arg2 : Memref sig .tc .vmem S128x4096 .f32) (harg2 : arg2.IsWhole)
    (x0 : Vec F S128x128 .f32) (x1 : Vec F S4096x128 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out9_2 x0 x1)) -∗ K ⟨⟩))
      ⊢ wp frame (wpE (defs₀ (F := F)) Variants.none c none) E (cc9__ht_body arg0 harg0 arg1 harg1 arg2 harg2) K := by
  simp only [cc9__ht_body_eq_skeleton]; unfold cc9__ht_body_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover9_2 _)

def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => out9_2 (iblk9 V c 0 t) (iblk9 V c 1 t)
  Φ _ := Pipeline.ΦA spec9 c
  q _ := fullShare
  owed _ := 0

theorem A_eq9 (c : Dev nD) (w : Fin cfg9.W) : (dat9 V c).A w = V c (Pipeline.arrRef spec9 w) := by
  dsimp only [dat9]

theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = out9_2 (iblk9 V c 0 t) (iblk9 V c 1 t) := by dsimp only [dat9]

theorem before9_0 (c : Dev nD) (t : Fin cfg9.N) (d) : (dat9 V c).before 0 t d = iblk9 V c 0 t :=
  (dat9 V c).before_in_eq_fetched 0 rfl (fun _ => rfl) (fun _ _ _ => rfl) (after9_0 V c) t d
theorem before9_1 (c : Dev nD) (t : Fin cfg9.N) (d) : (dat9 V c).before 1 t d = iblk9 V c 1 t :=
  (dat9 V c).before_in_eq_fetched 1 rfl (fun _ => rfl) (fun _ _ _ => rfl) (after9_1 V c) t d

def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d)))

def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t))

theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1]
  rw [show (dat9 V c).Φ t.succ = (dat9 V c).Φ t.castSucc from rfl,
    show (dat9 V c).owesAt () t.succ = (dat9 V c).owesAt () t.castSucc from rfl,
    after9_0, after9_1, after9_2]
  iintro ⟨HΦ, Ho, ⟨%d0, H0⟩, ⟨%d1, H1⟩, ⟨%d2, H2⟩⟩
  iapply (sound_kernel9 c Set.univ _ _ _ _ _ _ (iblk9 V c 0 t) (iblk9 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem defs₀_row9 (t : Fin cfg9.N) :
    defs₀ (F := F) .tc cfg9.body (cfg9.bodyArgs t (cfg9.slots t)) = bodyAt9 t := by
  unfold defs₀; rw [Defs.onTc_tc]

theorem body_obligation9 (c : Dev nD) : BodyObligation (dat9 (F := F) V c) (defs₀ (F := F)) Variants.none () Set.univ := fun t => by
  rw [bigSep_W9, bigSep_W9, defs₀_row9]
  exact triple_restated (sound_body9 V c t) rfl .rfl fun _ => .rfl

end Regions

end Cert.KernelIdeal.Run

end
-- ==== Proof.Run.Region10.lean ====
/- The pipeline of custom call 10, at any contents `V` of the buffers on entry: the blocks its body reads, what the body
   leaves in each output's staging buffer, the body's triple, the proof data, the body obligation. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.KernelIdeal.Run

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

section Regions

variable (V : (c : Dev nD) → (b : Ref sig .tc) → Buf (Elt F) ((c : Thread nD τ).loc b))

noncomputable def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

abbrev r10_0 : Rect S128x128 := Rect.unit (s := S128x128) ![0, 0] S128x128.size inb_S128x128_S128x128_0_0
abbrev r10_1 : Rect S1x128 := Rect.unit (s := S1x128) ![0, 0] S1x128.size inb_S1x128_S1x128_0_0

def out10_6 (x0 : Vec F S128x128 .f32) (x1 : Vec F S128x128 .f32) (x2 : Vec F S1x128 .f32) (x3 : Vec F S128x128 .f32) (x4 : Vec F S1x128 .f32) (x5 : Vec F S128x128 .f32) : Vec F S128x128 .f32 :=
  View.canon [⟨r10_0, k10_pay1 (View.ld x0 r10_0) (View.ld x2 r10_1) (View.ld x1 r10_0) (View.ld x5 r10_0) (View.ld x4 r10_1) (View.ld x3 r10_0)⟩]

theorem cover10_6 (p0 : Vec F S128x128 .f32) (y : S128x128.Idx) :
    ∃ pc ∈ ([⟨r10_0, p0⟩] : List (View.Piece (Elt F) S128x128 .f32)), y ∈ pc.1.set :=
  View.cover_of_tiled [⟨r10_0, p0⟩] S128x128.size (by rfl) y

set_option maxHeartbeats 1000000 in
theorem sound_kernel10 (c : Dev nD) (E : Set ℕ) (i : grid10.Coords) (arg1 : Memref sig .tc .vmem S128x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S128x128 .f32) (harg7 : arg7.IsWhole)
    (x0 : Vec F S128x128 .f32) (x1 : Vec F S128x128 .f32) (x2 : Vec F S1x128 .f32) (x3 : Vec F S128x128 .f32) (x4 : Vec F S1x128 .f32) (x5 : Vec F S128x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out10_6 x0 x1 x2 x3 x4 x5)) -∗ K ⟨⟩))
      ⊢ wp frame (wpE (defs₀ (F := F)) Variants.none c none) E (cc10__scomb_body i arg1 harg1 arg2 harg2 arg3 harg3 arg4 harg4 arg5 harg5 arg6 harg6 arg7 harg7) K := by
  simp only [cc10__scomb_body_eq_skeleton]; unfold cc10__scomb_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover10_6 _)

def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => iblk10 V c 2 t
    | ⟨3, _⟩ => iblk10 V c 3 t
    | ⟨4, _⟩ => iblk10 V c 4 t
    | ⟨5, _⟩ => iblk10 V c 5 t
    | ⟨6, _⟩ => out10_6 (iblk10 V c 0 t) (iblk10 V c 1 t) (iblk10 V c 2 t) (iblk10 V c 3 t) (iblk10 V c 4 t) (iblk10 V c 5 t)
  Φ _ := Pipeline.ΦA spec10 c
  q _ := fullShare
  owed _ := 0

theorem A_eq10 (c : Dev nD) (w : Fin cfg10.W) : (dat10 V c).A w = V c (Pipeline.arrRef spec10 w) := by
  dsimp only [dat10]

theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = iblk10 V c 2 t := by dsimp only [dat10]
theorem after10_3 (c : Dev nD) (t : Fin cfg10.N) : (dat10 V c).after 3 t = iblk10 V c 3 t := by dsimp only [dat10]
theorem after10_4 (c : Dev nD) (t : Fin cfg10.N) : (dat10 V c).after 4 t = iblk10 V c 4 t := by dsimp only [dat10]
theorem after10_5 (c : Dev nD) (t : Fin cfg10.N) : (dat10 V c).after 5 t = iblk10 V c 5 t := by dsimp only [dat10]
theorem after10_6 (c : Dev nD) (t : Fin cfg10.N) : (dat10 V c).after 6 t = out10_6 (iblk10 V c 0 t) (iblk10 V c 1 t) (iblk10 V c 2 t) (iblk10 V c 3 t) (iblk10 V c 4 t) (iblk10 V c 5 t) := by dsimp only [dat10]

theorem before10_0 (c : Dev nD) (t : Fin cfg10.N) (d) : (dat10 V c).before 0 t d = iblk10 V c 0 t :=
  (dat10 V c).before_in_eq_fetched 0 rfl (fun _ => rfl) (fun _ _ _ => rfl) (after10_0 V c) t d
theorem before10_1 (c : Dev nD) (t : Fin cfg10.N) (d) : (dat10 V c).before 1 t d = iblk10 V c 1 t :=
  (dat10 V c).before_in_eq_fetched 1 rfl (fun _ => rfl) (fun _ _ _ => rfl) (after10_1 V c) t d
theorem before10_2 (c : Dev nD) (t : Fin cfg10.N) (d) : (dat10 V c).before 2 t d = iblk10 V c 2 t :=
  (dat10 V c).before_in_eq_fetched 2 rfl (fun _ => rfl) (fun _ _ _ => rfl) (after10_2 V c) t d
theorem before10_3 (c : Dev nD) (t : Fin cfg10.N) (d) : (dat10 V c).before 3 t d = iblk10 V c 3 t :=
  (dat10 V c).before_in_eq_fetched 3 rfl (fun _ => rfl) (fun _ _ _ => rfl) (after10_3 V c) t d
theorem before10_4 (c : Dev nD) (t : Fin cfg10.N) (d) : (dat10 V c).before 4 t d = iblk10 V c 4 t :=
  (dat10 V c).before_in_eq_fetched 4 rfl (fun _ => rfl) (fun _ _ _ => rfl) (after10_4 V c) t d
theorem before10_5 (c : Dev nD) (t : Fin cfg10.N) (d) : (dat10 V c).before 5 t d = iblk10 V c 5 t :=
  (dat10 V c).before_in_eq_fetched 5 rfl (fun _ => rfl) (fun _ _ _ => rfl) (after10_5 V c) t d

def bodyPre10 (c : Dev nD) (t : Fin cfg10.N) : sProp 𝕄 :=
  iprop((dat10 V c).Φ t.castSucc ∗ (dat10 V c).owesAt () t.castSucc
    ∗ (∃ d, owns (c : Thread nD τ) (st10_0 t) fullShare ((dat10 V c).before 0 t d))
    ∗ (∃ d, owns (c : Thread nD τ) (st10_1 t) fullShare ((dat10 V c).before 1 t d))
    ∗ (∃ d, owns (c : Thread nD τ) (st10_2 t) fullShare ((dat10 V c).before 2 t d))
    ∗ (∃ d, owns (c : Thread nD τ) (st10_3 t) fullShare ((dat10 V c).before 3 t d))
    ∗ (∃ d, owns (c : Thread nD τ) (st10_4 t) fullShare ((dat10 V c).before 4 t d))
    ∗ (∃ d, owns (c : Thread nD τ) (st10_5 t) fullShare ((dat10 V c).before 5 t d))
    ∗ (∃ d, owns (c : Thread nD τ) (st10_6 t) fullShare ((dat10 V c).before 6 t d)))

def bodyPost10 (c : Dev nD) (t : Fin cfg10.N) : sProp 𝕄 :=
  iprop((dat10 V c).Φ t.succ ∗ (dat10 V c).owesAt () t.succ
    ∗ owns (c : Thread nD τ) (st10_0 t) fullShare ((dat10 V c).after 0 t)
    ∗ owns (c : Thread nD τ) (st10_1 t) fullShare ((dat10 V c).after 1 t)
    ∗ owns (c : Thread nD τ) (st10_2 t) fullShare ((dat10 V c).after 2 t)
    ∗ owns (c : Thread nD τ) (st10_3 t) fullShare ((dat10 V c).after 3 t)
    ∗ owns (c : Thread nD τ) (st10_4 t) fullShare ((dat10 V c).after 4 t)
    ∗ owns (c : Thread nD τ) (st10_5 t) fullShare ((dat10 V c).after 5 t)
    ∗ owns (c : Thread nD τ) (st10_6 t) fullShare ((dat10 V c).after 6 t))

theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1, before10_2, before10_3, before10_4, before10_5]
  rw [show (dat10 V c).Φ t.succ = (dat10 V c).Φ t.castSucc from rfl,
    show (dat10 V c).owesAt () t.succ = (dat10 V c).owesAt () t.castSucc from rfl,
    after10_0, after10_1, after10_2, after10_3, after10_4, after10_5, after10_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel10 c Set.univ (grid10.coords t) _ _ _ _ _ _ _ _ _ _ _ _ _ _ (iblk10 V c 0 t) (iblk10 V c 1 t) (iblk10 V c 2 t) (iblk10 V c 3 t) (iblk10 V c 4 t) (iblk10 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem defs₀_row10 (t : Fin cfg10.N) :
    defs₀ (F := F) .tc cfg10.body (cfg10.bodyArgs t (cfg10.slots t)) = bodyAt10 t := by
  unfold defs₀; rw [Defs.onTc_tc]

theorem body_obligation10 (c : Dev nD) : BodyObligation (dat10 (F := F) V c) (defs₀ (F := F)) Variants.none () Set.univ := fun t => by
  rw [bigSep_W10, bigSep_W10, defs₀_row10]
  exact triple_restated (sound_body10 V c t) rfl .rfl fun _ => .rfl

end Regions

end Cert.KernelIdeal.Run

end
-- ==== Proof.Run.Region11.lean ====
/- The pipeline of custom call 11, at any contents `V` of the buffers on entry: the blocks its body reads, what the body
   leaves in each output's staging buffer, the body's triple, the proof data, the body obligation. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.KernelIdeal.Run

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

section Regions

variable (V : (c : Dev nD) → (b : Ref sig .tc) → Buf (Elt F) ((c : Thread nD τ).loc b))

noncomputable def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

abbrev r11_0 : Rect S128x128 := Rect.unit (s := S128x128) ![0, 0] S128x128.size inb_S128x128_S128x128_0_0
abbrev r11_1 : Rect S4096x128 := Rect.unit (s := S4096x128) ![0, 0] S4096x128.size inb_S4096x128_S4096x128_0_0
abbrev r11_2 : Rect S128x4096 := Rect.unit (s := S128x4096) ![0, 0] S128x4096.size inb_S128x4096_S128x4096_0_0

def out11_2 (x0 : Vec F S128x128 .f32) (x1 : Vec F S4096x128 .f32) : Vec F S128x4096 .f32 :=
  View.canon [⟨r11_2, k11_pay1 (View.ld x0 r11_0) (View.ld x1 r11_1)⟩]

theorem cover11_2 (p0 : Vec F S128x4096 .f32) (y : S128x4096.Idx) :
    ∃ pc ∈ ([⟨r11_2, p0⟩] : List (View.Piece (Elt F) S128x4096 .f32)), y ∈ pc.1.set :=
  View.cover_of_tiled [⟨r11_2, p0⟩] S128x4096.size (by rfl) y

set_option maxHeartbeats 1000000 in
theorem sound_kernel11 (c : Dev nD) (E : Set ℕ) (arg0 : Memref sig .tc .vmem S128x128 .f32) (harg0 : arg0.IsWhole) (arg1 : Memref sig .tc .vmem S4096x128 .f32) (harg1 : arg1.IsWhole) (arg2 : Memref sig .tc .vmem S128x4096 .f32) (harg2 : arg2.IsWhole)
    (x0 : Vec F S128x128 .f32) (x1 : Vec F S4096x128 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out11_2 x0 x1)) -∗ K ⟨⟩))
      ⊢ wp frame (wpE (defs₀ (F := F)) Variants.none c none) E (cc11__ht_body arg0 harg0 arg1 harg1 arg2 harg2) K := by
  simp only [cc11__ht_body_eq_skeleton]; unfold cc11__ht_body_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover11_2 _)

def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => out11_2 (iblk11 V c 0 t) (iblk11 V c 1 t)
  Φ _ := Pipeline.ΦA spec11 c
  q _ := fullShare
  owed _ := 0

theorem A_eq11 (c : Dev nD) (w : Fin cfg11.W) : (dat11 V c).A w = V c (Pipeline.arrRef spec11 w) := by
  dsimp only [dat11]

theorem after11_0 (c : Dev nD) (t : Fin cfg11.N) : (dat11 V c).after 0 t = iblk11 V c 0 t := by dsimp only [dat11]
theorem after11_1 (c : Dev nD) (t : Fin cfg11.N) : (dat11 V c).after 1 t = iblk11 V c 1 t := by dsimp only [dat11]
theorem after11_2 (c : Dev nD) (t : Fin cfg11.N) : (dat11 V c).after 2 t = out11_2 (iblk11 V c 0 t) (iblk11 V c 1 t) := by dsimp only [dat11]

theorem before11_0 (c : Dev nD) (t : Fin cfg11.N) (d) : (dat11 V c).before 0 t d = iblk11 V c 0 t :=
  (dat11 V c).before_in_eq_fetched 0 rfl (fun _ => rfl) (fun _ _ _ => rfl) (after11_0 V c) t d
theorem before11_1 (c : Dev nD) (t : Fin cfg11.N) (d) : (dat11 V c).before 1 t d = iblk11 V c 1 t :=
  (dat11 V c).before_in_eq_fetched 1 rfl (fun _ => rfl) (fun _ _ _ => rfl) (after11_1 V c) t d

def bodyPre11 (c : Dev nD) (t : Fin cfg11.N) : sProp 𝕄 :=
  iprop((dat11 V c).Φ t.castSucc ∗ (dat11 V c).owesAt () t.castSucc
    ∗ (∃ d, owns (c : Thread nD τ) (st11_0 t) fullShare ((dat11 V c).before 0 t d))
    ∗ (∃ d, owns (c : Thread nD τ) (st11_1 t) fullShare ((dat11 V c).before 1 t d))
    ∗ (∃ d, owns (c : Thread nD τ) (st11_2 t) fullShare ((dat11 V c).before 2 t d)))

def bodyPost11 (c : Dev nD) (t : Fin cfg11.N) : sProp 𝕄 :=
  iprop((dat11 V c).Φ t.succ ∗ (dat11 V c).owesAt () t.succ
    ∗ owns (c : Thread nD τ) (st11_0 t) fullShare ((dat11 V c).after 0 t)
    ∗ owns (c : Thread nD τ) (st11_1 t) fullShare ((dat11 V c).after 1 t)
    ∗ owns (c : Thread nD τ) (st11_2 t) fullShare ((dat11 V c).after 2 t))

theorem sound_body11 (c : Dev nD) (t : Fin cfg11.N) :
    bodyPre11 V c t ⊢ wp frame (wpE (defs₀ (F := F)) Variants.none c none) Set.univ (bodyAt11 t) (fun _ => bodyPost11 V c t) := by
  unfold bodyPre11 bodyPost11 bodyAt11
  simp only [before11_0, before11_1]
  rw [show (dat11 V c).Φ t.succ = (dat11 V c).Φ t.castSucc from rfl,
    show (dat11 V c).owesAt () t.succ = (dat11 V c).owesAt () t.castSucc from rfl,
    after11_0, after11_1, after11_2]
  iintro ⟨HΦ, Ho, ⟨%d0, H0⟩, ⟨%d1, H1⟩, ⟨%d2, H2⟩⟩
  iapply (sound_kernel11 c Set.univ _ _ _ _ _ _ (iblk11 V c 0 t) (iblk11 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem defs₀_row11 (t : Fin cfg11.N) :
    defs₀ (F := F) .tc cfg11.body (cfg11.bodyArgs t (cfg11.slots t)) = bodyAt11 t := by
  unfold defs₀; rw [Defs.onTc_tc]

theorem body_obligation11 (c : Dev nD) : BodyObligation (dat11 (F := F) V c) (defs₀ (F := F)) Variants.none () Set.univ := fun t => by
  rw [bigSep_W11, bigSep_W11, defs₀_row11]
  exact triple_restated (sound_body11 V c t) rfl .rfl fun _ => .rfl

end Regions

end Cert.KernelIdeal.Run

end
-- ==== Proof.Run.Region12.lean ====
/- The pipeline of custom call 12, at any contents `V` of the buffers on entry: the blocks its body reads, what the body
   leaves in each output's staging buffer, the body's triple, the proof data, the body obligation. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.KernelIdeal.Run

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

section Regions

variable (V : (c : Dev nD) → (b : Ref sig .tc) → Buf (Elt F) ((c : Thread nD τ).loc b))

noncomputable def iblk12 (c : Dev nD) (w : Fin cfg12.W) (t : Fin cfg12.N) : ((cfg12.win w).xblock (cfg12.grid.coords t)).Idx → Elt F (cfg12.win w).elt :=
  ((cfg12.win w).blk t).view.read (Elt F) (V c (Pipeline.arrRef spec12 w))

abbrev r12_0 : Rect S128x128 := Rect.unit (s := S128x128) ![0, 0] S128x128.size inb_S128x128_S128x128_0_0
abbrev r12_1 : Rect S1x128 := Rect.unit (s := S1x128) ![0, 0] S1x128.size inb_S1x128_S1x128_0_0

def out12_7 (x0 : Vec F S128x128 .f32) (x1 : Vec F S128x128 .f32) (x2 : Vec F S1x128 .f32) (x3 : Vec F S128x128 .f32) (x4 : Vec F S1x128 .f32) (x5 : Vec F S128x128 .f32) (x6 : Vec F S128x128 .f32) : Vec F S128x128 .f32 :=
  View.canon [⟨r12_0, k12_pay1 (View.ld x0 r12_0) (View.ld x2 r12_1) (View.ld x1 r12_0) (View.ld x5 r12_0) (View.ld x4 r12_1) (View.ld x3 r12_0) (View.ld x6 r12_0)⟩]

theorem cover12_7 (p0 : Vec F S128x128 .f32) (y : S128x128.Idx) :
    ∃ pc ∈ ([⟨r12_0, p0⟩] : List (View.Piece (Elt F) S128x128 .f32)), y ∈ pc.1.set :=
  View.cover_of_tiled [⟨r12_0, p0⟩] S128x128.size (by rfl) y

set_option maxHeartbeats 1000000 in
theorem sound_kernel12 (c : Dev nD) (E : Set ℕ) (i : grid12.Coords) (arg1 : Memref sig .tc .vmem S128x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole)
    (x0 : Vec F S128x128 .f32) (x1 : Vec F S128x128 .f32) (x2 : Vec F S1x128 .f32) (x3 : Vec F S128x128 .f32) (x4 : Vec F S1x128 .f32) (x5 : Vec F S128x128 .f32) (x6 : Vec F S128x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out12_7 x0 x1 x2 x3 x4 x5 x6)) -∗ K ⟨⟩))
      ⊢ wp frame (wpE (defs₀ (F := F)) Variants.none c none) E (cc12__scomb_fin_body i arg1 harg1 arg2 harg2 arg3 harg3 arg4 harg4 arg5 harg5 arg6 harg6 arg7 harg7 arg8 harg8) K := by
  simp only [cc12__scomb_fin_body_eq_skeleton]; unfold cc12__scomb_fin_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover12_7 _)

def dat12 (c : Dev nD) : Dat τ (Elt F) Unit ℕ (UR sig nD τ) ℕ cfg12 c where
  A w := V c (Pipeline.arrRef spec12 w)
  after w t := match w with
    | ⟨0, _⟩ => iblk12 V c 0 t
    | ⟨1, _⟩ => iblk12 V c 1 t
    | ⟨2, _⟩ => iblk12 V c 2 t
    | ⟨3, _⟩ => iblk12 V c 3 t
    | ⟨4, _⟩ => iblk12 V c 4 t
    | ⟨5, _⟩ => iblk12 V c 5 t
    | ⟨6, _⟩ => iblk12 V c 6 t
    | ⟨7, _⟩ => out12_7 (iblk12 V c 0 t) (iblk12 V c 1 t) (iblk12 V c 2 t) (iblk12 V c 3 t) (iblk12 V c 4 t) (iblk12 V c 5 t) (iblk12 V c 6 t)
  Φ _ := Pipeline.ΦA spec12 c
  q _ := fullShare
  owed _ := 0

theorem A_eq12 (c : Dev nD) (w : Fin cfg12.W) : (dat12 V c).A w = V c (Pipeline.arrRef spec12 w) := by
  dsimp only [dat12]

theorem after12_0 (c : Dev nD) (t : Fin cfg12.N) : (dat12 V c).after 0 t = iblk12 V c 0 t := by dsimp only [dat12]
theorem after12_1 (c : Dev nD) (t : Fin cfg12.N) : (dat12 V c).after 1 t = iblk12 V c 1 t := by dsimp only [dat12]
theorem after12_2 (c : Dev nD) (t : Fin cfg12.N) : (dat12 V c).after 2 t = iblk12 V c 2 t := by dsimp only [dat12]
theorem after12_3 (c : Dev nD) (t : Fin cfg12.N) : (dat12 V c).after 3 t = iblk12 V c 3 t := by dsimp only [dat12]
theorem after12_4 (c : Dev nD) (t : Fin cfg12.N) : (dat12 V c).after 4 t = iblk12 V c 4 t := by dsimp only [dat12]
theorem after12_5 (c : Dev nD) (t : Fin cfg12.N) : (dat12 V c).after 5 t = iblk12 V c 5 t := by dsimp only [dat12]
theorem after12_6 (c : Dev nD) (t : Fin cfg12.N) : (dat12 V c).after 6 t = iblk12 V c 6 t := by dsimp only [dat12]
theorem after12_7 (c : Dev nD) (t : Fin cfg12.N) : (dat12 V c).after 7 t = out12_7 (iblk12 V c 0 t) (iblk12 V c 1 t) (iblk12 V c 2 t) (iblk12 V c 3 t) (iblk12 V c 4 t) (iblk12 V c 5 t) (iblk12 V c 6 t) := by dsimp only [dat12]

theorem before12_0 (c : Dev nD) (t : Fin cfg12.N) (d) : (dat12 V c).before 0 t d = iblk12 V c 0 t :=
  (dat12 V c).before_in_eq_fetched 0 rfl (fun _ => rfl) (fun _ _ _ => rfl) (after12_0 V c) t d
theorem before12_1 (c : Dev nD) (t : Fin cfg12.N) (d) : (dat12 V c).before 1 t d = iblk12 V c 1 t :=
  (dat12 V c).before_in_eq_fetched 1 rfl (fun _ => rfl) (fun _ _ _ => rfl) (after12_1 V c) t d
theorem before12_2 (c : Dev nD) (t : Fin cfg12.N) (d) : (dat12 V c).before 2 t d = iblk12 V c 2 t :=
  (dat12 V c).before_in_eq_fetched 2 rfl (fun _ => rfl) (fun _ _ _ => rfl) (after12_2 V c) t d
theorem before12_3 (c : Dev nD) (t : Fin cfg12.N) (d) : (dat12 V c).before 3 t d = iblk12 V c 3 t :=
  (dat12 V c).before_in_eq_fetched 3 rfl (fun _ => rfl) (fun _ _ _ => rfl) (after12_3 V c) t d
theorem before12_4 (c : Dev nD) (t : Fin cfg12.N) (d) : (dat12 V c).before 4 t d = iblk12 V c 4 t :=
  (dat12 V c).before_in_eq_fetched 4 rfl (fun _ => rfl) (fun _ _ _ => rfl) (after12_4 V c) t d
theorem before12_5 (c : Dev nD) (t : Fin cfg12.N) (d) : (dat12 V c).before 5 t d = iblk12 V c 5 t :=
  (dat12 V c).before_in_eq_fetched 5 rfl (fun _ => rfl) (fun _ _ _ => rfl) (after12_5 V c) t d
theorem before12_6 (c : Dev nD) (t : Fin cfg12.N) (d) : (dat12 V c).before 6 t d = iblk12 V c 6 t :=
  (dat12 V c).before_in_eq_fetched 6 rfl (fun _ => rfl) (fun _ _ _ => rfl) (after12_6 V c) t d

def bodyPre12 (c : Dev nD) (t : Fin cfg12.N) : sProp 𝕄 :=
  iprop((dat12 V c).Φ t.castSucc ∗ (dat12 V c).owesAt () t.castSucc
    ∗ (∃ d, owns (c : Thread nD τ) (st12_0 t) fullShare ((dat12 V c).before 0 t d))
    ∗ (∃ d, owns (c : Thread nD τ) (st12_1 t) fullShare ((dat12 V c).before 1 t d))
    ∗ (∃ d, owns (c : Thread nD τ) (st12_2 t) fullShare ((dat12 V c).before 2 t d))
    ∗ (∃ d, owns (c : Thread nD τ) (st12_3 t) fullShare ((dat12 V c).before 3 t d))
    ∗ (∃ d, owns (c : Thread nD τ) (st12_4 t) fullShare ((dat12 V c).before 4 t d))
    ∗ (∃ d, owns (c : Thread nD τ) (st12_5 t) fullShare ((dat12 V c).before 5 t d))
    ∗ (∃ d, owns (c : Thread nD τ) (st12_6 t) fullShare ((dat12 V c).before 6 t d))
    ∗ (∃ d, owns (c : Thread nD τ) (st12_7 t) fullShare ((dat12 V c).before 7 t d)))

def bodyPost12 (c : Dev nD) (t : Fin cfg12.N) : sProp 𝕄 :=
  iprop((dat12 V c).Φ t.succ ∗ (dat12 V c).owesAt () t.succ
    ∗ owns (c : Thread nD τ) (st12_0 t) fullShare ((dat12 V c).after 0 t)
    ∗ owns (c : Thread nD τ) (st12_1 t) fullShare ((dat12 V c).after 1 t)
    ∗ owns (c : Thread nD τ) (st12_2 t) fullShare ((dat12 V c).after 2 t)
    ∗ owns (c : Thread nD τ) (st12_3 t) fullShare ((dat12 V c).after 3 t)
    ∗ owns (c : Thread nD τ) (st12_4 t) fullShare ((dat12 V c).after 4 t)
    ∗ owns (c : Thread nD τ) (st12_5 t) fullShare ((dat12 V c).after 5 t)
    ∗ owns (c : Thread nD τ) (st12_6 t) fullShare ((dat12 V c).after 6 t)
    ∗ owns (c : Thread nD τ) (st12_7 t) fullShare ((dat12 V c).after 7 t))

theorem sound_body12 (c : Dev nD) (t : Fin cfg12.N) :
    bodyPre12 V c t ⊢ wp frame (wpE (defs₀ (F := F)) Variants.none c none) Set.univ (bodyAt12 t) (fun _ => bodyPost12 V c t) := by
  unfold bodyPre12 bodyPost12 bodyAt12
  simp only [before12_0, before12_1, before12_2, before12_3, before12_4, before12_5, before12_6]
  rw [show (dat12 V c).Φ t.succ = (dat12 V c).Φ t.castSucc from rfl,
    show (dat12 V c).owesAt () t.succ = (dat12 V c).owesAt () t.castSucc from rfl,
    after12_0, after12_1, after12_2, after12_3, after12_4, after12_5, after12_6, after12_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel12 c Set.univ (grid12.coords t) _ _ _ _ _ _ _ _ _ _ _ _ _ _ _ _ (iblk12 V c 0 t) (iblk12 V c 1 t) (iblk12 V c 2 t) (iblk12 V c 3 t) (iblk12 V c 4 t) (iblk12 V c 5 t) (iblk12 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem defs₀_row12 (t : Fin cfg12.N) :
    defs₀ (F := F) .tc cfg12.body (cfg12.bodyArgs t (cfg12.slots t)) = bodyAt12 t := by
  unfold defs₀; rw [Defs.onTc_tc]

theorem body_obligation12 (c : Dev nD) : BodyObligation (dat12 (F := F) V c) (defs₀ (F := F)) Variants.none () Set.univ := fun t => by
  rw [bigSep_W12, bigSep_W12, defs₀_row12]
  exact triple_restated (sound_body12 V c t) rfl .rfl fun _ => .rfl

end Regions

end Cert.KernelIdeal.Run

end
-- ==== Proof.Run.Hosts0.lean ====
/- What each stretch of host operations writes; none writes an argument array. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.KernelIdeal.Run

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

abbrev argRefs : List (Ref sig .tc) := [main_arg0, main_arg1, main_arg2, main_arg3, main_arg4, main_arg5, main_arg6, main_arg7, main_arg8, main_arg9, main_arg10, main_arg11, main_arg12, main_arg13, main_arg14, main_arg15, main_arg16]

theorem hostOps0_fresh : (hostOps0 : List (HloOp τ sig (Elt F))).Forall fun op => op.fresh = ∅ := by
  simp only [List.Forall]; repeat' constructor

abbrev hostOps0_W : List (Ref sig .tc) := [main_v0, main_v1, main_v2, main_v3, main_v4, main_v5, main_v6, main_v7, main_v8, main_v9, main_v10, main_v11, main_v12, main_v13, main_v14, main_v15, main_v16, main_v17, main_v18, main_v19, main_v20, main_c]
theorem hostOps0_writes : (hostOps0 : List (HloOp τ sig (Elt F))).Forall fun op => op.writes ⊆ (hostOps0_W.map (Proc.devRef (τ := τ) .tc)).toFinset :=
  StableHlo.forall_writes_sub_of_map rfl

theorem hostOps0_args : ∀ a ∈ argRefs, a ∉ hostOps0_W := ListAll.forall_mem_of_all_decide (by decide +kernel)

theorem hostOps0_1_fresh : (hostOps0_1 : List (HloOp τ sig (Elt F))).Forall fun op => op.fresh = ∅ := by
  simp only [List.Forall]; repeat' constructor

abbrev hostOps0_1_W : List (Ref sig .tc) := [main_call0_v0, main_call0_v1, main_call0_v2, main_call0_v3, main_call0_v4, main_call0_v5, main_call0_v6, main_call0_v7, main_call0_v8, main_call0_c, main_call0_v9, main_call0_v10, main_call0_v11, main_call0_c_0, main_call0_v12, main_call0_v13, main_v21]
theorem hostOps0_1_writes : (hostOps0_1 : List (HloOp τ sig (Elt F))).Forall fun op => op.writes ⊆ (hostOps0_1_W.map (Proc.devRef (τ := τ) .tc)).toFinset :=
  StableHlo.forall_writes_sub_of_map rfl

theorem hostOps0_1_args : ∀ a ∈ argRefs, a ∉ hostOps0_1_W := ListAll.forall_mem_of_all_decide (by decide +kernel)

theorem hostOps0_2_fresh : (hostOps0_2 : List (HloOp τ sig (Elt F))).Forall fun op => op.fresh = ∅ := by
  simp only [List.Forall]; repeat' constructor

abbrev hostOps0_2_W : List (Ref sig .tc) := [main_v22, main_v23, main_v24, main_v25, main_v26, main_v27, main_v28, main_v29, main_v30, main_c_0, main_v31, main_v32, main_v33, main_v34, main_v35, main_v36, main_c_1, main_v37, main_v38, main_v39, main_v40, main_cst, main_v41, main_v42, main_v43, main_cst_2, main_v44, main_v45, main_v46, main_v47, main_v48, main_v49, main_v50]
theorem hostOps0_2_writes : (hostOps0_2 : List (HloOp τ sig (Elt F))).Forall fun op => op.writes ⊆ (hostOps0_2_W.map (Proc.devRef (τ := τ) .tc)).toFinset :=
  StableHlo.forall_writes_sub_of_map rfl

theorem hostOps0_2_args : ∀ a ∈ argRefs, a ∉ hostOps0_2_W := ListAll.forall_mem_of_all_decide (by decide +kernel)

theorem hostOps1_fresh : (hostOps1 : List (HloOp τ sig (Elt F))).Forall fun op => op.fresh = ∅ := by
  simp only [List.Forall]; repeat' constructor

abbrev hostOps1_W : List (Ref sig .tc) := [main_v52]
theorem hostOps1_writes : (hostOps1 : List (HloOp τ sig (Elt F))).Forall fun op => op.writes ⊆ (hostOps1_W.map (Proc.devRef (τ := τ) .tc)).toFinset :=
  StableHlo.forall_writes_sub_of_map rfl

theorem hostOps1_args : ∀ a ∈ argRefs, a ∉ hostOps1_W := ListAll.forall_mem_of_all_decide (by decide +kernel)

theorem hostOps2_fresh : (hostOps2 : List (HloOp τ sig (Elt F))).Forall fun op => op.fresh = ∅ := by
  simp only [List.Forall]; repeat' constructor

abbrev hostOps2_W : List (Ref sig .tc) := [main_v54]
theorem hostOps2_writes : (hostOps2 : List (HloOp τ sig (Elt F))).Forall fun op => op.writes ⊆ (hostOps2_W.map (Proc.devRef (τ := τ) .tc)).toFinset :=
  StableHlo.forall_writes_sub_of_map rfl

theorem hostOps2_args : ∀ a ∈ argRefs, a ∉ hostOps2_W := ListAll.forall_mem_of_all_decide (by decide +kernel)

theorem hostOps3_fresh : (hostOps3 : List (HloOp τ sig (Elt F))).Forall fun op => op.fresh = ∅ := by
  simp only [List.Forall]; repeat' constructor

abbrev hostOps3_W : List (Ref sig .tc) := [main_v56, main_v57, main_v58]
theorem hostOps3_writes : (hostOps3 : List (HloOp τ sig (Elt F))).Forall fun op => op.writes ⊆ (hostOps3_W.map (Proc.devRef (τ := τ) .tc)).toFinset :=
  StableHlo.forall_writes_sub_of_map rfl

theorem hostOps3_args : ∀ a ∈ argRefs, a ∉ hostOps3_W := ListAll.forall_mem_of_all_decide (by decide +kernel)

theorem hostOps4_fresh : (hostOps4 : List (HloOp τ sig (Elt F))).Forall fun op => op.fresh = ∅ := by
  simp only [List.Forall]; repeat' constructor

abbrev hostOps4_W : List (Ref sig .tc) := [main_v60, main_v61, main_v62]
theorem hostOps4_writes : (hostOps4 : List (HloOp τ sig (Elt F))).Forall fun op => op.writes ⊆ (hostOps4_W.map (Proc.devRef (τ := τ) .tc)).toFinset :=
  StableHlo.forall_writes_sub_of_map rfl

theorem hostOps4_args : ∀ a ∈ argRefs, a ∉ hostOps4_W := ListAll.forall_mem_of_all_decide (by decide +kernel)

theorem hostOps5_fresh : (hostOps5 : List (HloOp τ sig (Elt F))).Forall fun op => op.fresh = ∅ := by
  simp only [List.Forall]; repeat' constructor

abbrev hostOps5_W : List (Ref sig .tc) := [main_v64, main_v65, main_v66]
theorem hostOps5_writes : (hostOps5 : List (HloOp τ sig (Elt F))).Forall fun op => op.writes ⊆ (hostOps5_W.map (Proc.devRef (τ := τ) .tc)).toFinset :=
  StableHlo.forall_writes_sub_of_map rfl

theorem hostOps5_args : ∀ a ∈ argRefs, a ∉ hostOps5_W := ListAll.forall_mem_of_all_decide (by decide +kernel)

theorem hostOps6_fresh : (hostOps6 : List (HloOp τ sig (Elt F))).Forall fun op => op.fresh = ∅ := by
  simp only [List.Forall]; repeat' constructor

abbrev hostOps6_W : List (Ref sig .tc) := [main_v68, main_v69, main_v70]
theorem hostOps6_writes : (hostOps6 : List (HloOp τ sig (Elt F))).Forall fun op => op.writes ⊆ (hostOps6_W.map (Proc.devRef (τ := τ) .tc)).toFinset :=
  StableHlo.forall_writes_sub_of_map rfl

theorem hostOps6_args : ∀ a ∈ argRefs, a ∉ hostOps6_W := ListAll.forall_mem_of_all_decide (by decide +kernel)

theorem hostOps7_fresh : (hostOps7 : List (HloOp τ sig (Elt F))).Forall fun op => op.fresh = ∅ := by
  simp only [List.Forall]; repeat' constructor

abbrev hostOps7_W : List (Ref sig .tc) := [main_v72, main_v73, main_v74]
theorem hostOps7_writes : (hostOps7 : List (HloOp τ sig (Elt F))).Forall fun op => op.writes ⊆ (hostOps7_W.map (Proc.devRef (τ := τ) .tc)).toFinset :=
  StableHlo.forall_writes_sub_of_map rfl

theorem hostOps7_args : ∀ a ∈ argRefs, a ∉ hostOps7_W := ListAll.forall_mem_of_all_decide (by decide +kernel)

theorem hostOps8_fresh : (hostOps8 : List (HloOp τ sig (Elt F))).Forall fun op => op.fresh = ∅ := by
  simp only [List.Forall]; repeat' constructor

abbrev hostOps8_W : List (Ref sig .tc) := [main_v76, main_v77, main_v78, main_v79, main_cst_3, main_v80, main_v81, main_v82, main_cst_4, main_v83, main_c_5, main_v84, main_v85]
theorem hostOps8_writes : (hostOps8 : List (HloOp τ sig (Elt F))).Forall fun op => op.writes ⊆ (hostOps8_W.map (Proc.devRef (τ := τ) .tc)).toFinset :=
  StableHlo.forall_writes_sub_of_map rfl

theorem hostOps8_args : ∀ a ∈ argRefs, a ∉ hostOps8_W := ListAll.forall_mem_of_all_decide (by decide +kernel)

theorem hostOps9_fresh : (hostOps9 : List (HloOp τ sig (Elt F))).Forall fun op => op.fresh = ∅ := by
  simp only [List.Forall]; repeat' constructor

abbrev hostOps9_W : List (Ref sig .tc) := [main_v87, main_c_6, main_v88, main_v89, main_c_7, main_v90, main_v91, main_v92, main_v93, main_v94, main_v95, main_c_8, main_v96, main_v97, main_c_9, main_v98, main_v99, main_v100, main_v101, main_v102, main_v103, main_v104, main_v105]
theorem hostOps9_writes : (hostOps9 : List (HloOp τ sig (Elt F))).Forall fun op => op.writes ⊆ (hostOps9_W.map (Proc.devRef (τ := τ) .tc)).toFinset :=
  StableHlo.forall_writes_sub_of_map rfl

theorem hostOps9_args : ∀ a ∈ argRefs, a ∉ hostOps9_W := ListAll.forall_mem_of_all_decide (by decide +kernel)

theorem hostOps10_fresh : (hostOps10 : List (HloOp τ sig (Elt F))).Forall fun op => op.fresh = ∅ := by
  simp only [List.Forall]; repeat' constructor

abbrev hostOps10_W : List (Ref sig .tc) := [main_v107, main_v108, main_v109, main_v110, main_c_10, main_v111, main_v112, main_c_11, main_v113, main_v114, main_v115, main_v116, main_v117, main_v118, main_v119, main_cst_12, main_v120, main_v121, main_v122, main_v123, main_v124, main_v125, main_v126, main_v127, main_v128]
theorem hostOps10_writes : (hostOps10 : List (HloOp τ sig (Elt F))).Forall fun op => op.writes ⊆ (hostOps10_W.map (Proc.devRef (τ := τ) .tc)).toFinset :=
  StableHlo.forall_writes_sub_of_map rfl

theorem hostOps10_args : ∀ a ∈ argRefs, a ∉ hostOps10_W := ListAll.forall_mem_of_all_decide (by decide +kernel)

theorem hostOps11_fresh : (hostOps11 : List (HloOp τ sig (Elt F))).Forall fun op => op.fresh = ∅ := by
  simp only [List.Forall]; repeat' constructor

abbrev hostOps11_W : List (Ref sig .tc) := [main_v130, main_v131]
theorem hostOps11_writes : (hostOps11 : List (HloOp τ sig (Elt F))).Forall fun op => op.writes ⊆ (hostOps11_W.map (Proc.devRef (τ := τ) .tc)).toFinset :=
  StableHlo.forall_writes_sub_of_map rfl

theorem hostOps11_args : ∀ a ∈ argRefs, a ∉ hostOps11_W := ListAll.forall_mem_of_all_decide (by decide +kernel)

theorem hostOps12_fresh : (hostOps12 : List (HloOp τ sig (Elt F))).Forall fun op => op.fresh = ∅ := by
  simp only [List.Forall]; repeat' constructor

abbrev hostOps12_W : List (Ref sig .tc) := [main_v133, main_v134, main_v135, main_v136, main_c_13, main_v137, main_v138, main_c_14, main_v139, main_v140, main_v141, main_v142, main_v143, main_v144, main_v145, main_cst_15, main_v146, main_v147, main_v148, main_v149, main_v150, main_v151, main_v152, main_v153, main_v154]
theorem hostOps12_writes : (hostOps12 : List (HloOp τ sig (Elt F))).Forall fun op => op.writes ⊆ (hostOps12_W.map (Proc.devRef (τ := τ) .tc)).toFinset :=
  StableHlo.forall_writes_sub_of_map rfl

theorem hostOps12_args : ∀ a ∈ argRefs, a ∉ hostOps12_W := ListAll.forall_mem_of_all_decide (by decide +kernel)

theorem hostOps13_fresh : (hostOps13 : List (HloOp τ sig (Elt F))).Forall fun op => op.fresh = ∅ := by
  simp only [List.Forall]; repeat' constructor

abbrev hostOps13_W : List (Ref sig .tc) := [main_v156, main_cst_16]
theorem hostOps13_writes : (hostOps13 : List (HloOp τ sig (Elt F))).Forall fun op => op.writes ⊆ (hostOps13_W.map (Proc.devRef (τ := τ) .tc)).toFinset :=
  StableHlo.forall_writes_sub_of_map rfl

theorem hostOps13_args : ∀ a ∈ argRefs, a ∉ hostOps13_W := ListAll.forall_mem_of_all_decide (by decide +kernel)

end Cert.KernelIdeal.Run

end
-- ==== Proof.Run.Fold0.lean ====
/- The buffer contents at the boundary of every two segments, folded from the launch memory. -/
module

public import proofs.«01_k».proof.Proof.Run.Region0
public import proofs.«01_k».proof.Proof.Run.Region1
public import proofs.«01_k».proof.Proof.Run.Region2
public import proofs.«01_k».proof.Proof.Run.Region3
public import proofs.«01_k».proof.Proof.Run.Region4
public import proofs.«01_k».proof.Proof.Run.Region5
public import proofs.«01_k».proof.Proof.Run.Region6
public import proofs.«01_k».proof.Proof.Run.Region7
public import proofs.«01_k».proof.Proof.Run.Region8
public import proofs.«01_k».proof.Proof.Run.Region9
public import proofs.«01_k».proof.Proof.Run.Region10
public import proofs.«01_k».proof.Proof.Run.Region11
public import proofs.«01_k».proof.Proof.Run.Region12
public import proofs.«01_k».proof.Proof.Run.Hosts0

@[expose] public section

set_option maxRecDepth 16384

noncomputable section

namespace Cert.KernelIdeal.Run

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl

abbrev W1 : Dev nD → Valuation τ sig (Elt F) := fun c => StableHlo.after hostOps0 (W0 m ρ c)

theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)

abbrev W2 : Dev nD → Valuation τ sig (Elt F) := fun c => StableHlo.after hostOps0_1 (W1 m ρ c)

theorem W2_of (c : Dev nD) (r : Ref sig .tc) (h : r ∉ hostOps0_1_W) : W2 m ρ c (Proc.devRef .tc r) = W1 m ρ c (Proc.devRef .tc r) :=
  StableHlo.after_of_writes_sub hostOps0_1 _ hostOps0_1_writes h
theorem W2_args (c : Dev nD) : ∀ a ∈ argRefs, W2 m ρ c (Proc.devRef .tc a) = m ((c : Thread nD τ).loc a) :=
  fun a ha => (W2_of m ρ c a (hostOps0_1_args a ha)).trans (W1_args m ρ c a ha)

abbrev W3 : Dev nD → Valuation τ sig (Elt F) := fun c => StableHlo.after hostOps0_2 (W2 m ρ c)

theorem W3_of (c : Dev nD) (r : Ref sig .tc) (h : r ∉ hostOps0_2_W) : W3 m ρ c (Proc.devRef .tc r) = W2 m ρ c (Proc.devRef .tc r) :=
  StableHlo.after_of_writes_sub hostOps0_2 _ hostOps0_2_writes h
theorem W3_args (c : Dev nD) : ∀ a ∈ argRefs, W3 m ρ c (Proc.devRef .tc a) = m ((c : Thread nD τ).loc a) :=
  fun a ha => (W3_of m ρ c a (hostOps0_2_args a ha)).trans (W2_args m ρ c a ha)

abbrev V3 : (c : Dev nD) → (b : Ref sig .tc) → Buf (Elt F) ((c : Thread nD τ).loc b) := fun c b => W3 m ρ c b

def W4 (c : Dev nD) : Valuation τ sig (Elt F) :=
  Pipeline.withArrays spec0 c (W3 m ρ c) fun w => (dat0 (V3 m ρ) c).arrAt w cfg0.N
theorem W4_arr (c : Dev nD) (w : Fin cfg0.W) :
    W4 m ρ c (Proc.devRef .tc (Pipeline.arrRef spec0 w)) = (dat0 (V3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb

theorem W4_of (c : Dev nD) (r : Ref sig .tc) (h : ∀ w : Fin cfg0.W, Pipeline.arrRef spec0 w = r → (cfg0.win w).isOut = false) :
    W4 m ρ c (Proc.devRef .tc r) = W3 m ρ c (Proc.devRef .tc r) := by
  by_cases hw : ∃ w : Fin cfg0.W, Pipeline.arrRef spec0 w = r
  · obtain ⟨w, rfl⟩ := hw
    exact (W4_arr m ρ c w).trans (((dat0 (V3 m ρ) c).arrAt_in w (h w rfl) _).trans (A_eq0 (V3 m ρ) c w))
  · exact W4_of_ne m ρ c r fun w e => hw ⟨w, e⟩

theorem argsIn0 : ∀ a ∈ argRefs, ∀ w : Fin cfg0.W, Pipeline.arrRef spec0 w = a → (cfg0.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn0 a ha)).trans (W3_args m ρ c a ha)

abbrev V4 : (c : Dev nD) → (b : Ref sig .tc) → Buf (Elt F) ((c : Thread nD τ).loc b) := fun c b => W4 m ρ c b

theorem hF0 (c : Dev nD) (w : Fin cfg0.W) : (dat0 (V3 m ρ) c).arrAt w cfg0.N = V4 m ρ c (Pipeline.arrRef spec0 w) :=
  (W4_arr m ρ c w).symm
theorem hrest0 (c : Dev nD) : ∀ b, b ∉ Finset.univ.image (Pipeline.arrRef spec0) → V4 m ρ c b = V3 m ρ c b :=
  fun b hb => W4_of_ne m ρ c b fun w e => hb (Finset.mem_image.mpr ⟨w, Finset.mem_univ _, e⟩)

abbrev W5 : Dev nD → Valuation τ sig (Elt F) := fun c => StableHlo.after hostOps1 (W4 m ρ c)

theorem W5_of (c : Dev nD) (r : Ref sig .tc) (h : r ∉ hostOps1_W) : W5 m ρ c (Proc.devRef .tc r) = W4 m ρ c (Proc.devRef .tc r) :=
  StableHlo.after_of_writes_sub hostOps1 _ hostOps1_writes h
theorem W5_args (c : Dev nD) : ∀ a ∈ argRefs, W5 m ρ c (Proc.devRef .tc a) = m ((c : Thread nD τ).loc a) :=
  fun a ha => (W5_of m ρ c a (hostOps1_args a ha)).trans (W4_args m ρ c a ha)

abbrev V5 : (c : Dev nD) → (b : Ref sig .tc) → Buf (Elt F) ((c : Thread nD τ).loc b) := fun c b => W5 m ρ c b

def W6 (c : Dev nD) : Valuation τ sig (Elt F) :=
  Pipeline.withArrays spec1 c (W5 m ρ c) fun w => (dat1 (V5 m ρ) c).arrAt w cfg1.N
theorem W6_arr (c : Dev nD) (w : Fin cfg1.W) :
    W6 m ρ c (Proc.devRef .tc (Pipeline.arrRef spec1 w)) = (dat1 (V5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb

theorem W6_of (c : Dev nD) (r : Ref sig .tc) (h : ∀ w : Fin cfg1.W, Pipeline.arrRef spec1 w = r → (cfg1.win w).isOut = false) :
    W6 m ρ c (Proc.devRef .tc r) = W5 m ρ c (Proc.devRef .tc r) := by
  by_cases hw : ∃ w : Fin cfg1.W, Pipeline.arrRef spec1 w = r
  · obtain ⟨w, rfl⟩ := hw
    exact (W6_arr m ρ c w).trans (((dat1 (V5 m ρ) c).arrAt_in w (h w rfl) _).trans (A_eq1 (V5 m ρ) c w))
  · exact W6_of_ne m ρ c r fun w e => hw ⟨w, e⟩

theorem argsIn1 : ∀ a ∈ argRefs, ∀ w : Fin cfg1.W, Pipeline.arrRef spec1 w = a → (cfg1.win w).isOut = false :=
  ListAll.forall_mem_of_all_decide (by decide +kernel)
theorem W6_args (c : Dev nD) : ∀ a ∈ argRefs, W6 m ρ c (Proc.devRef .tc a) = m ((c : Thread nD τ).loc a) :=
  fun a ha => (W6_of m ρ c a (argsIn1 a ha)).trans (W5_args m ρ c a ha)

abbrev V6 : (c : Dev nD) → (b : Ref sig .tc) → Buf (Elt F) ((c : Thread nD τ).loc b) := fun c b => W6 m ρ c b

theorem hF1 (c : Dev nD) (w : Fin cfg1.W) : (dat1 (V5 m ρ) c).arrAt w cfg1.N = V6 m ρ c (Pipeline.arrRef spec1 w) :=
  (W6_arr m ρ c w).symm
theorem hrest1 (c : Dev nD) : ∀ b, b ∉ Finset.univ.image (Pipeline.arrRef spec1) → V6 m ρ c b = V5 m ρ c b :=
  fun b hb => W6_of_ne m ρ c b fun w e => hb (Finset.mem_image.mpr ⟨w, Finset.mem_univ _, e⟩)

abbrev W7 : Dev nD → Valuation τ sig (Elt F) := fun c => StableHlo.after hostOps2 (W6 m ρ c)

theorem W7_of (c : Dev nD) (r : Ref sig .tc) (h : r ∉ hostOps2_W) : W7 m ρ c (Proc.devRef .tc r) = W6 m ρ c (Proc.devRef .tc r) :=
  StableHlo.after_of_writes_sub hostOps2 _ hostOps2_writes h
theorem W7_args (c : Dev nD) : ∀ a ∈ argRefs, W7 m ρ c (Proc.devRef .tc a) = m ((c : Thread nD τ).loc a) :=
  fun a ha => (W7_of m ρ c a (hostOps2_args a ha)).trans (W6_args m ρ c a ha)

abbrev V7 : (c : Dev nD) → (b : Ref sig .tc) → Buf (Elt F) ((c : Thread nD τ).loc b) := fun c b => W7 m ρ c b

def W8 (c : Dev nD) : Valuation τ sig (Elt F) :=
  Pipeline.withArrays spec2 c (W7 m ρ c) fun w => (dat2 (V7 m ρ) c).arrAt w cfg2.N
theorem W8_arr (c : Dev nD) (w : Fin cfg2.W) :
    W8 m ρ c (Proc.devRef .tc (Pipeline.arrRef spec2 w)) = (dat2 (V7 m ρ) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m ρ c (Proc.devRef .tc b) = W7 m ρ c (Proc.devRef .tc b) := by
  unfold W8; exact Pipeline.withArrays_of_ne spec2 c _ _ b hb

theorem W8_of (c : Dev nD) (r : Ref sig .tc) (h : ∀ w : Fin cfg2.W, Pipeline.arrRef spec2 w = r → (cfg2.win w).isOut = false) :
    W8 m ρ c (Proc.devRef .tc r) = W7 m ρ c (Proc.devRef .tc r) := by
  by_cases hw : ∃ w : Fin cfg2.W, Pipeline.arrRef spec2 w = r
  · obtain ⟨w, rfl⟩ := hw
    exact (W8_arr m ρ c w).trans (((dat2 (V7 m ρ) c).arrAt_in w (h w rfl) _).trans (A_eq2 (V7 m ρ) c w))
  · exact W8_of_ne m ρ c r fun w e => hw ⟨w, e⟩

theorem argsIn2 : ∀ a ∈ argRefs, ∀ w : Fin cfg2.W, Pipeline.arrRef spec2 w = a → (cfg2.win w).isOut = false :=
  ListAll.forall_mem_of_all_decide (by decide +kernel)
theorem W8_args (c : Dev nD) : ∀ a ∈ argRefs, W8 m ρ c (Proc.devRef .tc a) = m ((c : Thread nD τ).loc a) :=
  fun a ha => (W8_of m ρ c a (argsIn2 a ha)).trans (W7_args m ρ c a ha)

abbrev V8 : (c : Dev nD) → (b : Ref sig .tc) → Buf (Elt F) ((c : Thread nD τ).loc b) := fun c b => W8 m ρ c b

theorem hF2 (c : Dev nD) (w : Fin cfg2.W) : (dat2 (V7 m ρ) c).arrAt w cfg2.N = V8 m ρ c (Pipeline.arrRef spec2 w) :=
  (W8_arr m ρ c w).symm
theorem hrest2 (c : Dev nD) : ∀ b, b ∉ Finset.univ.image (Pipeline.arrRef spec2) → V8 m ρ c b = V7 m ρ c b :=
  fun b hb => W8_of_ne m ρ c b fun w e => hb (Finset.mem_image.mpr ⟨w, Finset.mem_univ _, e⟩)

abbrev W9 : Dev nD → Valuation τ sig (Elt F) := fun c => StableHlo.after hostOps3 (W8 m ρ c)

theorem W9_of (c : Dev nD) (r : Ref sig .tc) (h : r ∉ hostOps3_W) : W9 m ρ c (Proc.devRef .tc r) = W8 m ρ c (Proc.devRef .tc r) :=
  StableHlo.after_of_writes_sub hostOps3 _ hostOps3_writes h
theorem W9_args (c : Dev nD) : ∀ a ∈ argRefs, W9 m ρ c (Proc.devRef .tc a) = m ((c : Thread nD τ).loc a) :=
  fun a ha => (W9_of m ρ c a (hostOps3_args a ha)).trans (W8_args m ρ c a ha)

abbrev V9 : (c : Dev nD) → (b : Ref sig .tc) → Buf (Elt F) ((c : Thread nD τ).loc b) := fun c b => W9 m ρ c b

def W10 (c : Dev nD) : Valuation τ sig (Elt F) :=
  Pipeline.withArrays spec3 c (W9 m ρ c) fun w => (dat3 (V9 m ρ) c).arrAt w cfg3.N
theorem W10_arr (c : Dev nD) (w : Fin cfg3.W) :
    W10 m ρ c (Proc.devRef .tc (Pipeline.arrRef spec3 w)) = (dat3 (V9 m ρ) c).arrAt w cfg3.N := by
  unfold W10; exact (dat3 (V9 m ρ) c).withArrays_arrAt launch₀3.sharedIn _ (A_eq3 (V9 m ρ) c) w
theorem W10_of_ne (c : Dev nD) (b : Ref sig .tc) (hb : ∀ w, Pipeline.arrRef spec3 w ≠ b) :
    W10 m ρ c (Proc.devRef .tc b) = W9 m ρ c (Proc.devRef .tc b) := by
  unfold W10; exact Pipeline.withArrays_of_ne spec3 c _ _ b hb

theorem W10_of (c : Dev nD) (r : Ref sig .tc) (h : ∀ w : Fin cfg3.W, Pipeline.arrRef spec3 w = r → (cfg3.win w).isOut = false) :
    W10 m ρ c (Proc.devRef .tc r) = W9 m ρ c (Proc.devRef .tc r) := by
  by_cases hw : ∃ w : Fin cfg3.W, Pipeline.arrRef spec3 w = r
  · obtain ⟨w, rfl⟩ := hw
    exact (W10_arr m ρ c w).trans (((dat3 (V9 m ρ) c).arrAt_in w (h w rfl) _).trans (A_eq3 (V9 m ρ) c w))
  · exact W10_of_ne m ρ c r fun w e => hw ⟨w, e⟩

theorem argsIn3 : ∀ a ∈ argRefs, ∀ w : Fin cfg3.W, Pipeline.arrRef spec3 w = a → (cfg3.win w).isOut = false :=
  ListAll.forall_mem_of_all_decide (by decide +kernel)
theorem W10_args (c : Dev nD) : ∀ a ∈ argRefs, W10 m ρ c (Proc.devRef .tc a) = m ((c : Thread nD τ).loc a) :=
  fun a ha => (W10_of m ρ c a (argsIn3 a ha)).trans (W9_args m ρ c a ha)

abbrev V10 : (c : Dev nD) → (b : Ref sig .tc) → Buf (Elt F) ((c : Thread nD τ).loc b) := fun c b => W10 m ρ c b

theorem hF3 (c : Dev nD) (w : Fin cfg3.W) : (dat3 (V9 m ρ) c).arrAt w cfg3.N = V10 m ρ c (Pipeline.arrRef spec3 w) :=
  (W10_arr m ρ c w).symm
theorem hrest3 (c : Dev nD) : ∀ b, b ∉ Finset.univ.image (Pipeline.arrRef spec3) → V10 m ρ c b = V9 m ρ c b :=
  fun b hb => W10_of_ne m ρ c b fun w e => hb (Finset.mem_image.mpr ⟨w, Finset.mem_univ _, e⟩)

abbrev W11 : Dev nD → Valuation τ sig (Elt F) := fun c => StableHlo.after hostOps4 (W10 m ρ c)

theorem W11_of (c : Dev nD) (r : Ref sig .tc) (h : r ∉ hostOps4_W) : W11 m ρ c (Proc.devRef .tc r) = W10 m ρ c (Proc.devRef .tc r) :=
  StableHlo.after_of_writes_sub hostOps4 _ hostOps4_writes h
theorem W11_args (c : Dev nD) : ∀ a ∈ argRefs, W11 m ρ c (Proc.devRef .tc a) = m ((c : Thread nD τ).loc a) :=
  fun a ha => (W11_of m ρ c a (hostOps4_args a ha)).trans (W10_args m ρ c a ha)

abbrev V11 : (c : Dev nD) → (b : Ref sig .tc) → Buf (Elt F) ((c : Thread nD τ).loc b) := fun c b => W11 m ρ c b

def W12 (c : Dev nD) : Valuation τ sig (Elt F) :=
  Pipeline.withArrays spec4 c (W11 m ρ c) fun w => (dat4 (V11 m ρ) c).arrAt w cfg4.N
theorem W12_arr (c : Dev nD) (w : Fin cfg4.W) :
    W12 m ρ c (Proc.devRef .tc (Pipeline.arrRef spec4 w)) = (dat4 (V11 m ρ) c).arrAt w cfg4.N := by
  unfold W12; exact Pipeline.withArrays_arr spec4 launch4.win.arr_inj c _ _ w
theorem W12_of_ne (c : Dev nD) (b : Ref sig .tc) (hb : ∀ w, Pipeline.arrRef spec4 w ≠ b) :
    W12 m ρ c (Proc.devRef .tc b) = W11 m ρ c (Proc.devRef .tc b) := by
  unfold W12; exact Pipeline.withArrays_of_ne spec4 c _ _ b hb

theorem W12_of (c : Dev nD) (r : Ref sig .tc) (h : ∀ w : Fin cfg4.W, Pipeline.arrRef spec4 w = r → (cfg4.win w).isOut = false) :
    W12 m ρ c (Proc.devRef .tc r) = W11 m ρ c (Proc.devRef .tc r) := by
  by_cases hw : ∃ w : Fin cfg4.W, Pipeline.arrRef spec4 w = r
  · obtain ⟨w, rfl⟩ := hw
    exact (W12_arr m ρ c w).trans (((dat4 (V11 m ρ) c).arrAt_in w (h w rfl) _).trans (A_eq4 (V11 m ρ) c w))
  · exact W12_of_ne m ρ c r fun w e => hw ⟨w, e⟩

theorem argsIn4 : ∀ a ∈ argRefs, ∀ w : Fin cfg4.W, Pipeline.arrRef spec4 w = a → (cfg4.win w).isOut = false :=
  ListAll.forall_mem_of_all_decide (by decide +kernel)
theorem W12_args (c : Dev nD) : ∀ a ∈ argRefs, W12 m ρ c (Proc.devRef .tc a) = m ((c : Thread nD τ).loc a) :=
  fun a ha => (W12_of m ρ c a (argsIn4 a ha)).trans (W11_args m ρ c a ha)

abbrev V12 : (c : Dev nD) → (b : Ref sig .tc) → Buf (Elt F) ((c : Thread nD τ).loc b) := fun c b => W12 m ρ c b

theorem hF4 (c : Dev nD) (w : Fin cfg4.W) : (dat4 (V11 m ρ) c).arrAt w cfg4.N = V12 m ρ c (Pipeline.arrRef spec4 w) :=
  (W12_arr m ρ c w).symm
theorem hrest4 (c : Dev nD) : ∀ b, b ∉ Finset.univ.image (Pipeline.arrRef spec4) → V12 m ρ c b = V11 m ρ c b :=
  fun b hb => W12_of_ne m ρ c b fun w e => hb (Finset.mem_image.mpr ⟨w, Finset.mem_univ _, e⟩)

abbrev W13 : Dev nD → Valuation τ sig (Elt F) := fun c => StableHlo.after hostOps5 (W12 m ρ c)

theorem W13_of (c : Dev nD) (r : Ref sig .tc) (h : r ∉ hostOps5_W) : W13 m ρ c (Proc.devRef .tc r) = W12 m ρ c (Proc.devRef .tc r) :=
  StableHlo.after_of_writes_sub hostOps5 _ hostOps5_writes h
theorem W13_args (c : Dev nD) : ∀ a ∈ argRefs, W13 m ρ c (Proc.devRef .tc a) = m ((c : Thread nD τ).loc a) :=
  fun a ha => (W13_of m ρ c a (hostOps5_args a ha)).trans (W12_args m ρ c a ha)

abbrev V13 : (c : Dev nD) → (b : Ref sig .tc) → Buf (Elt F) ((c : Thread nD τ).loc b) := fun c b => W13 m ρ c b

def W14 (c : Dev nD) : Valuation τ sig (Elt F) :=
  Pipeline.withArrays spec5 c (W13 m ρ c) fun w => (dat5 (V13 m ρ) c).arrAt w cfg5.N
theorem W14_arr (c : Dev nD) (w : Fin cfg5.W) :
    W14 m ρ c (Proc.devRef .tc (Pipeline.arrRef spec5 w)) = (dat5 (V13 m ρ) c).arrAt w cfg5.N := by
  unfold W14; exact (dat5 (V13 m ρ) c).withArrays_arrAt launch₀5.sharedIn _ (A_eq5 (V13 m ρ) c) w
theorem W14_of_ne (c : Dev nD) (b : Ref sig .tc) (hb : ∀ w, Pipeline.arrRef spec5 w ≠ b) :
    W14 m ρ c (Proc.devRef .tc b) = W13 m ρ c (Proc.devRef .tc b) := by
  unfold W14; exact Pipeline.withArrays_of_ne spec5 c _ _ b hb

theorem W14_of (c : Dev nD) (r : Ref sig .tc) (h : ∀ w : Fin cfg5.W, Pipeline.arrRef spec5 w = r → (cfg5.win w).isOut = false) :
    W14 m ρ c (Proc.devRef .tc r) = W13 m ρ c (Proc.devRef .tc r) := by
  by_cases hw : ∃ w : Fin cfg5.W, Pipeline.arrRef spec5 w = r
  · obtain ⟨w, rfl⟩ := hw
    exact (W14_arr m ρ c w).trans (((dat5 (V13 m ρ) c).arrAt_in w (h w rfl) _).trans (A_eq5 (V13 m ρ) c w))
  · exact W14_of_ne m ρ c r fun w e => hw ⟨w, e⟩

theorem argsIn5 : ∀ a ∈ argRefs, ∀ w : Fin cfg5.W, Pipeline.arrRef spec5 w = a → (cfg5.win w).isOut = false :=
  ListAll.forall_mem_of_all_decide (by decide +kernel)
theorem W14_args (c : Dev nD) : ∀ a ∈ argRefs, W14 m ρ c (Proc.devRef .tc a) = m ((c : Thread nD τ).loc a) :=
  fun a ha => (W14_of m ρ c a (argsIn5 a ha)).trans (W13_args m ρ c a ha)

abbrev V14 : (c : Dev nD) → (b : Ref sig .tc) → Buf (Elt F) ((c : Thread nD τ).loc b) := fun c b => W14 m ρ c b

theorem hF5 (c : Dev nD) (w : Fin cfg5.W) : (dat5 (V13 m ρ) c).arrAt w cfg5.N = V14 m ρ c (Pipeline.arrRef spec5 w) :=
  (W14_arr m ρ c w).symm
theorem hrest5 (c : Dev nD) : ∀ b, b ∉ Finset.univ.image (Pipeline.arrRef spec5) → V14 m ρ c b = V13 m ρ c b :=
  fun b hb => W14_of_ne m ρ c b fun w e => hb (Finset.mem_image.mpr ⟨w, Finset.mem_univ _, e⟩)

abbrev W15 : Dev nD → Valuation τ sig (Elt F) := fun c => StableHlo.after hostOps6 (W14 m ρ c)

theorem W15_of (c : Dev nD) (r : Ref sig .tc) (h : r ∉ hostOps6_W) : W15 m ρ c (Proc.devRef .tc r) = W14 m ρ c (Proc.devRef .tc r) :=
  StableHlo.after_of_writes_sub hostOps6 _ hostOps6_writes h
theorem W15_args (c : Dev nD) : ∀ a ∈ argRefs, W15 m ρ c (Proc.devRef .tc a) = m ((c : Thread nD τ).loc a) :=
  fun a ha => (W15_of m ρ c a (hostOps6_args a ha)).trans (W14_args m ρ c a ha)

abbrev V15 : (c : Dev nD) → (b : Ref sig .tc) → Buf (Elt F) ((c : Thread nD τ).loc b) := fun c b => W15 m ρ c b

def W16 (c : Dev nD) : Valuation τ sig (Elt F) :=
  Pipeline.withArrays spec6 c (W15 m ρ c) fun w => (dat6 (V15 m ρ) c).arrAt w cfg6.N
theorem W16_arr (c : Dev nD) (w : Fin cfg6.W) :
    W16 m ρ c (Proc.devRef .tc (Pipeline.arrRef spec6 w)) = (dat6 (V15 m ρ) c).arrAt w cfg6.N := by
  unfold W16; exact Pipeline.withArrays_arr spec6 launch6.win.arr_inj c _ _ w
theorem W16_of_ne (c : Dev nD) (b : Ref sig .tc) (hb : ∀ w, Pipeline.arrRef spec6 w ≠ b) :
    W16 m ρ c (Proc.devRef .tc b) = W15 m ρ c (Proc.devRef .tc b) := by
  unfold W16; exact Pipeline.withArrays_of_ne spec6 c _ _ b hb

theorem W16_of (c : Dev nD) (r : Ref sig .tc) (h : ∀ w : Fin cfg6.W, Pipeline.arrRef spec6 w = r → (cfg6.win w).isOut = false) :
    W16 m ρ c (Proc.devRef .tc r) = W15 m ρ c (Proc.devRef .tc r) := by
  by_cases hw : ∃ w : Fin cfg6.W, Pipeline.arrRef spec6 w = r
  · obtain ⟨w, rfl⟩ := hw
    exact (W16_arr m ρ c w).trans (((dat6 (V15 m ρ) c).arrAt_in w (h w rfl) _).trans (A_eq6 (V15 m ρ) c w))
  · exact W16_of_ne m ρ c r fun w e => hw ⟨w, e⟩

theorem argsIn6 : ∀ a ∈ argRefs, ∀ w : Fin cfg6.W, Pipeline.arrRef spec6 w = a → (cfg6.win w).isOut = false :=
  ListAll.forall_mem_of_all_decide (by decide +kernel)
theorem W16_args (c : Dev nD) : ∀ a ∈ argRefs, W16 m ρ c (Proc.devRef .tc a) = m ((c : Thread nD τ).loc a) :=
  fun a ha => (W16_of m ρ c a (argsIn6 a ha)).trans (W15_args m ρ c a ha)

abbrev V16 : (c : Dev nD) → (b : Ref sig .tc) → Buf (Elt F) ((c : Thread nD τ).loc b) := fun c b => W16 m ρ c b

theorem hF6 (c : Dev nD) (w : Fin cfg6.W) : (dat6 (V15 m ρ) c).arrAt w cfg6.N = V16 m ρ c (Pipeline.arrRef spec6 w) :=
  (W16_arr m ρ c w).symm
theorem hrest6 (c : Dev nD) : ∀ b, b ∉ Finset.univ.image (Pipeline.arrRef spec6) → V16 m ρ c b = V15 m ρ c b :=
  fun b hb => W16_of_ne m ρ c b fun w e => hb (Finset.mem_image.mpr ⟨w, Finset.mem_univ _, e⟩)

abbrev W17 : Dev nD → Valuation τ sig (Elt F) := fun c => StableHlo.after hostOps7 (W16 m ρ c)

theorem W17_of (c : Dev nD) (r : Ref sig .tc) (h : r ∉ hostOps7_W) : W17 m ρ c (Proc.devRef .tc r) = W16 m ρ c (Proc.devRef .tc r) :=
  StableHlo.after_of_writes_sub hostOps7 _ hostOps7_writes h
theorem W17_args (c : Dev nD) : ∀ a ∈ argRefs, W17 m ρ c (Proc.devRef .tc a) = m ((c : Thread nD τ).loc a) :=
  fun a ha => (W17_of m ρ c a (hostOps7_args a ha)).trans (W16_args m ρ c a ha)

abbrev V17 : (c : Dev nD) → (b : Ref sig .tc) → Buf (Elt F) ((c : Thread nD τ).loc b) := fun c b => W17 m ρ c b

def W18 (c : Dev nD) : Valuation τ sig (Elt F) :=
  Pipeline.withArrays spec7 c (W17 m ρ c) fun w => (dat7 (V17 m ρ) c).arrAt w cfg7.N
theorem W18_arr (c : Dev nD) (w : Fin cfg7.W) :
    W18 m ρ c (Proc.devRef .tc (Pipeline.arrRef spec7 w)) = (dat7 (V17 m ρ) c).arrAt w cfg7.N := by
  unfold W18; exact (dat7 (V17 m ρ) c).withArrays_arrAt launch₀7.sharedIn _ (A_eq7 (V17 m ρ) c) w
theorem W18_of_ne (c : Dev nD) (b : Ref sig .tc) (hb : ∀ w, Pipeline.arrRef spec7 w ≠ b) :
    W18 m ρ c (Proc.devRef .tc b) = W17 m ρ c (Proc.devRef .tc b) := by
  unfold W18; exact Pipeline.withArrays_of_ne spec7 c _ _ b hb

theorem W18_of (c : Dev nD) (r : Ref sig .tc) (h : ∀ w : Fin cfg7.W, Pipeline.arrRef spec7 w = r → (cfg7.win w).isOut = false) :
    W18 m ρ c (Proc.devRef .tc r) = W17 m ρ c (Proc.devRef .tc r) := by
  by_cases hw : ∃ w : Fin cfg7.W, Pipeline.arrRef spec7 w = r
  · obtain ⟨w, rfl⟩ := hw
    exact (W18_arr m ρ c w).trans (((dat7 (V17 m ρ) c).arrAt_in w (h w rfl) _).trans (A_eq7 (V17 m ρ) c w))
  · exact W18_of_ne m ρ c r fun w e => hw ⟨w, e⟩

theorem argsIn7 : ∀ a ∈ argRefs, ∀ w : Fin cfg7.W, Pipeline.arrRef spec7 w = a → (cfg7.win w).isOut = false :=
  ListAll.forall_mem_of_all_decide (by decide +kernel)
theorem W18_args (c : Dev nD) : ∀ a ∈ argRefs, W18 m ρ c (Proc.devRef .tc a) = m ((c : Thread nD τ).loc a) :=
  fun a ha => (W18_of m ρ c a (argsIn7 a ha)).trans (W17_args m ρ c a ha)

abbrev V18 : (c : Dev nD) → (b : Ref sig .tc) → Buf (Elt F) ((c : Thread nD τ).loc b) := fun c b => W18 m ρ c b

theorem hF7 (c : Dev nD) (w : Fin cfg7.W) : (dat7 (V17 m ρ) c).arrAt w cfg7.N = V18 m ρ c (Pipeline.arrRef spec7 w) :=
  (W18_arr m ρ c w).symm
theorem hrest7 (c : Dev nD) : ∀ b, b ∉ Finset.univ.image (Pipeline.arrRef spec7) → V18 m ρ c b = V17 m ρ c b :=
  fun b hb => W18_of_ne m ρ c b fun w e => hb (Finset.mem_image.mpr ⟨w, Finset.mem_univ _, e⟩)

abbrev W19 : Dev nD → Valuation τ sig (Elt F) := fun c => StableHlo.after hostOps8 (W18 m ρ c)

theorem W19_of (c : Dev nD) (r : Ref sig .tc) (h : r ∉ hostOps8_W) : W19 m ρ c (Proc.devRef .tc r) = W18 m ρ c (Proc.devRef .tc r) :=
  StableHlo.after_of_writes_sub hostOps8 _ hostOps8_writes h
theorem W19_args (c : Dev nD) : ∀ a ∈ argRefs, W19 m ρ c (Proc.devRef .tc a) = m ((c : Thread nD τ).loc a) :=
  fun a ha => (W19_of m ρ c a (hostOps8_args a ha)).trans (W18_args m ρ c a ha)

abbrev V19 : (c : Dev nD) → (b : Ref sig .tc) → Buf (Elt F) ((c : Thread nD τ).loc b) := fun c b => W19 m ρ c b

def W20 (c : Dev nD) : Valuation τ sig (Elt F) :=
  Pipeline.withArrays spec8 c (W19 m ρ c) fun w => (dat8 (V19 m ρ) c).arrAt w cfg8.N
theorem W20_arr (c : Dev nD) (w : Fin cfg8.W) :
    W20 m ρ c (Proc.devRef .tc (Pipeline.arrRef spec8 w)) = (dat8 (V19 m ρ) c).arrAt w cfg8.N := by
  unfold W20; exact Pipeline.withArrays_arr spec8 launch8.win.arr_inj c _ _ w
theorem W20_of_ne (c : Dev nD) (b : Ref sig .tc) (hb : ∀ w, Pipeline.arrRef spec8 w ≠ b) :
    W20 m ρ c (Proc.devRef .tc b) = W19 m ρ c (Proc.devRef .tc b) := by
  unfold W20; exact Pipeline.withArrays_of_ne spec8 c _ _ b hb

theorem W20_of (c : Dev nD) (r : Ref sig .tc) (h : ∀ w : Fin cfg8.W, Pipeline.arrRef spec8 w = r → (cfg8.win w).isOut = false) :
    W20 m ρ c (Proc.devRef .tc r) = W19 m ρ c (Proc.devRef .tc r) := by
  by_cases hw : ∃ w : Fin cfg8.W, Pipeline.arrRef spec8 w = r
  · obtain ⟨w, rfl⟩ := hw
    exact (W20_arr m ρ c w).trans (((dat8 (V19 m ρ) c).arrAt_in w (h w rfl) _).trans (A_eq8 (V19 m ρ) c w))
  · exact W20_of_ne m ρ c r fun w e => hw ⟨w, e⟩

theorem argsIn8 : ∀ a ∈ argRefs, ∀ w : Fin cfg8.W, Pipeline.arrRef spec8 w = a → (cfg8.win w).isOut = false :=
  ListAll.forall_mem_of_all_decide (by decide +kernel)
theorem W20_args (c : Dev nD) : ∀ a ∈ argRefs, W20 m ρ c (Proc.devRef .tc a) = m ((c : Thread nD τ).loc a) :=
  fun a ha => (W20_of m ρ c a (argsIn8 a ha)).trans (W19_args m ρ c a ha)

abbrev V20 : (c : Dev nD) → (b : Ref sig .tc) → Buf (Elt F) ((c : Thread nD τ).loc b) := fun c b => W20 m ρ c b

theorem hF8 (c : Dev nD) (w : Fin cfg8.W) : (dat8 (V19 m ρ) c).arrAt w cfg8.N = V20 m ρ c (Pipeline.arrRef spec8 w) :=
  (W20_arr m ρ c w).symm
theorem hrest8 (c : Dev nD) : ∀ b, b ∉ Finset.univ.image (Pipeline.arrRef spec8) → V20 m ρ c b = V19 m ρ c b :=
  fun b hb => W20_of_ne m ρ c b fun w e => hb (Finset.mem_image.mpr ⟨w, Finset.mem_univ _, e⟩)

abbrev W21 : Dev nD → Valuation τ sig (Elt F) := fun c => StableHlo.after hostOps9 (W20 m ρ c)

theorem W21_of (c : Dev nD) (r : Ref sig .tc) (h : r ∉ hostOps9_W) : W21 m ρ c (Proc.devRef .tc r) = W20 m ρ c (Proc.devRef .tc r) :=
  StableHlo.after_of_writes_sub hostOps9 _ hostOps9_writes h
theorem W21_args (c : Dev nD) : ∀ a ∈ argRefs, W21 m ρ c (Proc.devRef .tc a) = m ((c : Thread nD τ).loc a) :=
  fun a ha => (W21_of m ρ c a (hostOps9_args a ha)).trans (W20_args m ρ c a ha)

abbrev V21 : (c : Dev nD) → (b : Ref sig .tc) → Buf (Elt F) ((c : Thread nD τ).loc b) := fun c b => W21 m ρ c b

def W22 (c : Dev nD) : Valuation τ sig (Elt F) :=
  Pipeline.withArrays spec9 c (W21 m ρ c) fun w => (dat9 (V21 m ρ) c).arrAt w cfg9.N
theorem W22_arr (c : Dev nD) (w : Fin cfg9.W) :
    W22 m ρ c (Proc.devRef .tc (Pipeline.arrRef spec9 w)) = (dat9 (V21 m ρ) c).arrAt w cfg9.N := by
  unfold W22; exact Pipeline.withArrays_arr spec9 launch9.win.arr_inj c _ _ w
theorem W22_of_ne (c : Dev nD) (b : Ref sig .tc) (hb : ∀ w, Pipeline.arrRef spec9 w ≠ b) :
    W22 m ρ c (Proc.devRef .tc b) = W21 m ρ c (Proc.devRef .tc b) := by
  unfold W22; exact Pipeline.withArrays_of_ne spec9 c _ _ b hb

theorem W22_of (c : Dev nD) (r : Ref sig .tc) (h : ∀ w : Fin cfg9.W, Pipeline.arrRef spec9 w = r → (cfg9.win w).isOut = false) :
    W22 m ρ c (Proc.devRef .tc r) = W21 m ρ c (Proc.devRef .tc r) := by
  by_cases hw : ∃ w : Fin cfg9.W, Pipeline.arrRef spec9 w = r
  · obtain ⟨w, rfl⟩ := hw
    exact (W22_arr m ρ c w).trans (((dat9 (V21 m ρ) c).arrAt_in w (h w rfl) _).trans (A_eq9 (V21 m ρ) c w))
  · exact W22_of_ne m ρ c r fun w e => hw ⟨w, e⟩

theorem argsIn9 : ∀ a ∈ argRefs, ∀ w : Fin cfg9.W, Pipeline.arrRef spec9 w = a → (cfg9.win w).isOut = false :=
  ListAll.forall_mem_of_all_decide (by decide +kernel)
theorem W22_args (c : Dev nD) : ∀ a ∈ argRefs, W22 m ρ c (Proc.devRef .tc a) = m ((c : Thread nD τ).loc a) :=
  fun a ha => (W22_of m ρ c a (argsIn9 a ha)).trans (W21_args m ρ c a ha)

abbrev V22 : (c : Dev nD) → (b : Ref sig .tc) → Buf (Elt F) ((c : Thread nD τ).loc b) := fun c b => W22 m ρ c b

theorem hF9 (c : Dev nD) (w : Fin cfg9.W) : (dat9 (V21 m ρ) c).arrAt w cfg9.N = V22 m ρ c (Pipeline.arrRef spec9 w) :=
  (W22_arr m ρ c w).symm
theorem hrest9 (c : Dev nD) : ∀ b, b ∉ Finset.univ.image (Pipeline.arrRef spec9) → V22 m ρ c b = V21 m ρ c b :=
  fun b hb => W22_of_ne m ρ c b fun w e => hb (Finset.mem_image.mpr ⟨w, Finset.mem_univ _, e⟩)

abbrev W23 : Dev nD → Valuation τ sig (Elt F) := fun c => StableHlo.after hostOps10 (W22 m ρ c)

theorem W23_of (c : Dev nD) (r : Ref sig .tc) (h : r ∉ hostOps10_W) : W23 m ρ c (Proc.devRef .tc r) = W22 m ρ c (Proc.devRef .tc r) :=
  StableHlo.after_of_writes_sub hostOps10 _ hostOps10_writes h
theorem W23_args (c : Dev nD) : ∀ a ∈ argRefs, W23 m ρ c (Proc.devRef .tc a) = m ((c : Thread nD τ).loc a) :=
  fun a ha => (W23_of m ρ c a (hostOps10_args a ha)).trans (W22_args m ρ c a ha)

abbrev V23 : (c : Dev nD) → (b : Ref sig .tc) → Buf (Elt F) ((c : Thread nD τ).loc b) := fun c b => W23 m ρ c b

def W24 (c : Dev nD) : Valuation τ sig (Elt F) :=
  Pipeline.withArrays spec10 c (W23 m ρ c) fun w => (dat10 (V23 m ρ) c).arrAt w cfg10.N
theorem W24_arr (c : Dev nD) (w : Fin cfg10.W) :
    W24 m ρ c (Proc.devRef .tc (Pipeline.arrRef spec10 w)) = (dat10 (V23 m ρ) c).arrAt w cfg10.N := by
  unfold W24; exact Pipeline.withArrays_arr spec10 launch10.win.arr_inj c _ _ w
theorem W24_of_ne (c : Dev nD) (b : Ref sig .tc) (hb : ∀ w, Pipeline.arrRef spec10 w ≠ b) :
    W24 m ρ c (Proc.devRef .tc b) = W23 m ρ c (Proc.devRef .tc b) := by
  unfold W24; exact Pipeline.withArrays_of_ne spec10 c _ _ b hb

theorem W24_of (c : Dev nD) (r : Ref sig .tc) (h : ∀ w : Fin cfg10.W, Pipeline.arrRef spec10 w = r → (cfg10.win w).isOut = false) :
    W24 m ρ c (Proc.devRef .tc r) = W23 m ρ c (Proc.devRef .tc r) := by
  by_cases hw : ∃ w : Fin cfg10.W, Pipeline.arrRef spec10 w = r
  · obtain ⟨w, rfl⟩ := hw
    exact (W24_arr m ρ c w).trans (((dat10 (V23 m ρ) c).arrAt_in w (h w rfl) _).trans (A_eq10 (V23 m ρ) c w))
  · exact W24_of_ne m ρ c r fun w e => hw ⟨w, e⟩

theorem argsIn10 : ∀ a ∈ argRefs, ∀ w : Fin cfg10.W, Pipeline.arrRef spec10 w = a → (cfg10.win w).isOut = false :=
  ListAll.forall_mem_of_all_decide (by decide +kernel)
theorem W24_args (c : Dev nD) : ∀ a ∈ argRefs, W24 m ρ c (Proc.devRef .tc a) = m ((c : Thread nD τ).loc a) :=
  fun a ha => (W24_of m ρ c a (argsIn10 a ha)).trans (W23_args m ρ c a ha)

abbrev V24 : (c : Dev nD) → (b : Ref sig .tc) → Buf (Elt F) ((c : Thread nD τ).loc b) := fun c b => W24 m ρ c b

theorem hF10 (c : Dev nD) (w : Fin cfg10.W) : (dat10 (V23 m ρ) c).arrAt w cfg10.N = V24 m ρ c (Pipeline.arrRef spec10 w) :=
  (W24_arr m ρ c w).symm
theorem hrest10 (c : Dev nD) : ∀ b, b ∉ Finset.univ.image (Pipeline.arrRef spec10) → V24 m ρ c b = V23 m ρ c b :=
  fun b hb => W24_of_ne m ρ c b fun w e => hb (Finset.mem_image.mpr ⟨w, Finset.mem_univ _, e⟩)

abbrev W25 : Dev nD → Valuation τ sig (Elt F) := fun c => StableHlo.after hostOps11 (W24 m ρ c)

theorem W25_of (c : Dev nD) (r : Ref sig .tc) (h : r ∉ hostOps11_W) : W25 m ρ c (Proc.devRef .tc r) = W24 m ρ c (Proc.devRef .tc r) :=
  StableHlo.after_of_writes_sub hostOps11 _ hostOps11_writes h
theorem W25_args (c : Dev nD) : ∀ a ∈ argRefs, W25 m ρ c (Proc.devRef .tc a) = m ((c : Thread nD τ).loc a) :=
  fun a ha => (W25_of m ρ c a (hostOps11_args a ha)).trans (W24_args m ρ c a ha)

abbrev V25 : (c : Dev nD) → (b : Ref sig .tc) → Buf (Elt F) ((c : Thread nD τ).loc b) := fun c b => W25 m ρ c b

def W26 (c : Dev nD) : Valuation τ sig (Elt F) :=
  Pipeline.withArrays spec11 c (W25 m ρ c) fun w => (dat11 (V25 m ρ) c).arrAt w cfg11.N
theorem W26_arr (c : Dev nD) (w : Fin cfg11.W) :
    W26 m ρ c (Proc.devRef .tc (Pipeline.arrRef spec11 w)) = (dat11 (V25 m ρ) c).arrAt w cfg11.N := by
  unfold W26; exact Pipeline.withArrays_arr spec11 launch11.win.arr_inj c _ _ w
theorem W26_of_ne (c : Dev nD) (b : Ref sig .tc) (hb : ∀ w, Pipeline.arrRef spec11 w ≠ b) :
    W26 m ρ c (Proc.devRef .tc b) = W25 m ρ c (Proc.devRef .tc b) := by
  unfold W26; exact Pipeline.withArrays_of_ne spec11 c _ _ b hb

theorem W26_of (c : Dev nD) (r : Ref sig .tc) (h : ∀ w : Fin cfg11.W, Pipeline.arrRef spec11 w = r → (cfg11.win w).isOut = false) :
    W26 m ρ c (Proc.devRef .tc r) = W25 m ρ c (Proc.devRef .tc r) := by
  by_cases hw : ∃ w : Fin cfg11.W, Pipeline.arrRef spec11 w = r
  · obtain ⟨w, rfl⟩ := hw
    exact (W26_arr m ρ c w).trans (((dat11 (V25 m ρ) c).arrAt_in w (h w rfl) _).trans (A_eq11 (V25 m ρ) c w))
  · exact W26_of_ne m ρ c r fun w e => hw ⟨w, e⟩

theorem argsIn11 : ∀ a ∈ argRefs, ∀ w : Fin cfg11.W, Pipeline.arrRef spec11 w = a → (cfg11.win w).isOut = false :=
  ListAll.forall_mem_of_all_decide (by decide +kernel)
theorem W26_args (c : Dev nD) : ∀ a ∈ argRefs, W26 m ρ c (Proc.devRef .tc a) = m ((c : Thread nD τ).loc a) :=
  fun a ha => (W26_of m ρ c a (argsIn11 a ha)).trans (W25_args m ρ c a ha)

abbrev V26 : (c : Dev nD) → (b : Ref sig .tc) → Buf (Elt F) ((c : Thread nD τ).loc b) := fun c b => W26 m ρ c b

theorem hF11 (c : Dev nD) (w : Fin cfg11.W) : (dat11 (V25 m ρ) c).arrAt w cfg11.N = V26 m ρ c (Pipeline.arrRef spec11 w) :=
  (W26_arr m ρ c w).symm
theorem hrest11 (c : Dev nD) : ∀ b, b ∉ Finset.univ.image (Pipeline.arrRef spec11) → V26 m ρ c b = V25 m ρ c b :=
  fun b hb => W26_of_ne m ρ c b fun w e => hb (Finset.mem_image.mpr ⟨w, Finset.mem_univ _, e⟩)

abbrev W27 : Dev nD → Valuation τ sig (Elt F) := fun c => StableHlo.after hostOps12 (W26 m ρ c)

theorem W27_of (c : Dev nD) (r : Ref sig .tc) (h : r ∉ hostOps12_W) : W27 m ρ c (Proc.devRef .tc r) = W26 m ρ c (Proc.devRef .tc r) :=
  StableHlo.after_of_writes_sub hostOps12 _ hostOps12_writes h
theorem W27_args (c : Dev nD) : ∀ a ∈ argRefs, W27 m ρ c (Proc.devRef .tc a) = m ((c : Thread nD τ).loc a) :=
  fun a ha => (W27_of m ρ c a (hostOps12_args a ha)).trans (W26_args m ρ c a ha)

abbrev V27 : (c : Dev nD) → (b : Ref sig .tc) → Buf (Elt F) ((c : Thread nD τ).loc b) := fun c b => W27 m ρ c b

def W28 (c : Dev nD) : Valuation τ sig (Elt F) :=
  Pipeline.withArrays spec12 c (W27 m ρ c) fun w => (dat12 (V27 m ρ) c).arrAt w cfg12.N
theorem W28_arr (c : Dev nD) (w : Fin cfg12.W) :
    W28 m ρ c (Proc.devRef .tc (Pipeline.arrRef spec12 w)) = (dat12 (V27 m ρ) c).arrAt w cfg12.N := by
  unfold W28; exact Pipeline.withArrays_arr spec12 launch12.win.arr_inj c _ _ w
theorem W28_of_ne (c : Dev nD) (b : Ref sig .tc) (hb : ∀ w, Pipeline.arrRef spec12 w ≠ b) :
    W28 m ρ c (Proc.devRef .tc b) = W27 m ρ c (Proc.devRef .tc b) := by
  unfold W28; exact Pipeline.withArrays_of_ne spec12 c _ _ b hb

theorem W28_of (c : Dev nD) (r : Ref sig .tc) (h : ∀ w : Fin cfg12.W, Pipeline.arrRef spec12 w = r → (cfg12.win w).isOut = false) :
    W28 m ρ c (Proc.devRef .tc r) = W27 m ρ c (Proc.devRef .tc r) := by
  by_cases hw : ∃ w : Fin cfg12.W, Pipeline.arrRef spec12 w = r
  · obtain ⟨w, rfl⟩ := hw
    exact (W28_arr m ρ c w).trans (((dat12 (V27 m ρ) c).arrAt_in w (h w rfl) _).trans (A_eq12 (V27 m ρ) c w))
  · exact W28_of_ne m ρ c r fun w e => hw ⟨w, e⟩

theorem argsIn12 : ∀ a ∈ argRefs, ∀ w : Fin cfg12.W, Pipeline.arrRef spec12 w = a → (cfg12.win w).isOut = false :=
  ListAll.forall_mem_of_all_decide (by decide +kernel)
theorem W28_args (c : Dev nD) : ∀ a ∈ argRefs, W28 m ρ c (Proc.devRef .tc a) = m ((c : Thread nD τ).loc a) :=
  fun a ha => (W28_of m ρ c a (argsIn12 a ha)).trans (W27_args m ρ c a ha)

abbrev V28 : (c : Dev nD) → (b : Ref sig .tc) → Buf (Elt F) ((c : Thread nD τ).loc b) := fun c b => W28 m ρ c b

theorem hF12 (c : Dev nD) (w : Fin cfg12.W) : (dat12 (V27 m ρ) c).arrAt w cfg12.N = V28 m ρ c (Pipeline.arrRef spec12 w) :=
  (W28_arr m ρ c w).symm
theorem hrest12 (c : Dev nD) : ∀ b, b ∉ Finset.univ.image (Pipeline.arrRef spec12) → V28 m ρ c b = V27 m ρ c b :=
  fun b hb => W28_of_ne m ρ c b fun w e => hb (Finset.mem_image.mpr ⟨w, Finset.mem_univ _, e⟩)

abbrev W29 : Dev nD → Valuation τ sig (Elt F) := fun c => StableHlo.after hostOps13 (W28 m ρ c)

theorem W29_of (c : Dev nD) (r : Ref sig .tc) (h : r ∉ hostOps13_W) : W29 m ρ c (Proc.devRef .tc r) = W28 m ρ c (Proc.devRef .tc r) :=
  StableHlo.after_of_writes_sub hostOps13 _ hostOps13_writes h
theorem W29_args (c : Dev nD) : ∀ a ∈ argRefs, W29 m ρ c (Proc.devRef .tc a) = m ((c : Thread nD τ).loc a) :=
  fun a ha => (W29_of m ρ c a (hostOps13_args a ha)).trans (W28_args m ρ c a ha)

theorem W29_main_arg0 (c : Dev nD) : W29 m ρ c (Proc.devRef .tc main_arg0) = m ((c : Thread nD τ).loc main_arg0) :=
  W29_args m ρ c main_arg0 (by decide)
theorem W29_main_arg1 (c : Dev nD) : W29 m ρ c (Proc.devRef .tc main_arg1) = m ((c : Thread nD τ).loc main_arg1) :=
  W29_args m ρ c main_arg1 (by decide)
theorem W29_main_arg2 (c : Dev nD) : W29 m ρ c (Proc.devRef .tc main_arg2) = m ((c : Thread nD τ).loc main_arg2) :=
  W29_args m ρ c main_arg2 (by decide)
theorem W29_main_arg3 (c : Dev nD) : W29 m ρ c (Proc.devRef .tc main_arg3) = m ((c : Thread nD τ).loc main_arg3) :=
  W29_args m ρ c main_arg3 (by decide)
theorem W29_main_arg4 (c : Dev nD) : W29 m ρ c (Proc.devRef .tc main_arg4) = m ((c : Thread nD τ).loc main_arg4) :=
  W29_args m ρ c main_arg4 (by decide)
theorem W29_main_arg5 (c : Dev nD) : W29 m ρ c (Proc.devRef .tc main_arg5) = m ((c : Thread nD τ).loc main_arg5) :=
  W29_args m ρ c main_arg5 (by decide)
theorem W29_main_arg6 (c : Dev nD) : W29 m ρ c (Proc.devRef .tc main_arg6) = m ((c : Thread nD τ).loc main_arg6) :=
  W29_args m ρ c main_arg6 (by decide)
theorem W29_main_arg7 (c : Dev nD) : W29 m ρ c (Proc.devRef .tc main_arg7) = m ((c : Thread nD τ).loc main_arg7) :=
  W29_args m ρ c main_arg7 (by decide)
theorem W29_main_arg8 (c : Dev nD) : W29 m ρ c (Proc.devRef .tc main_arg8) = m ((c : Thread nD τ).loc main_arg8) :=
  W29_args m ρ c main_arg8 (by decide)
theorem W29_main_arg9 (c : Dev nD) : W29 m ρ c (Proc.devRef .tc main_arg9) = m ((c : Thread nD τ).loc main_arg9) :=
  W29_args m ρ c main_arg9 (by decide)
theorem W29_main_arg10 (c : Dev nD) : W29 m ρ c (Proc.devRef .tc main_arg10) = m ((c : Thread nD τ).loc main_arg10) :=
  W29_args m ρ c main_arg10 (by decide)
theorem W29_main_arg11 (c : Dev nD) : W29 m ρ c (Proc.devRef .tc main_arg11) = m ((c : Thread nD τ).loc main_arg11) :=
  W29_args m ρ c main_arg11 (by decide)
theorem W29_main_arg12 (c : Dev nD) : W29 m ρ c (Proc.devRef .tc main_arg12) = m ((c : Thread nD τ).loc main_arg12) :=
  W29_args m ρ c main_arg12 (by decide)
theorem W29_main_arg13 (c : Dev nD) : W29 m ρ c (Proc.devRef .tc main_arg13) = m ((c : Thread nD τ).loc main_arg13) :=
  W29_args m ρ c main_arg13 (by decide)
theorem W29_main_arg14 (c : Dev nD) : W29 m ρ c (Proc.devRef .tc main_arg14) = m ((c : Thread nD τ).loc main_arg14) :=
  W29_args m ρ c main_arg14 (by decide)
theorem W29_main_arg15 (c : Dev nD) : W29 m ρ c (Proc.devRef .tc main_arg15) = m ((c : Thread nD τ).loc main_arg15) :=
  W29_args m ρ c main_arg15 (by decide)
theorem W29_main_arg16 (c : Dev nD) : W29 m ρ c (Proc.devRef .tc main_arg16) = m ((c : Thread nD τ).loc main_arg16) :=
  W29_args m ρ c main_arg16 (by decide)
end Cert.KernelIdeal.Run

end
-- ==== Proof.Run.State.lean ====
/- The proof data of the thirteen pipelines and what a core holds between two segments. -/
module

public import proofs.«01_k».proof.Proof.Run.Fold0

@[expose] public section

set_option maxRecDepth 16384

noncomputable section

namespace Cert.KernelIdeal.Run

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

abbrev adm : (p : Fin 13) → (pcfgs (F := F) p).Adm := fun p => (cfgs p).toPCfg_adm

def pdats : (p : Fin 13) → (c : Dev nD) → Dat τ (Elt F) Unit ℕ (UR sig nD τ) ℕ (Pipeline.pin (pcfgs (F := F)) adm p) c
  | ⟨0, _⟩ => fun c => dat0 (V3 m ρ) c
  | ⟨1, _⟩ => fun c => dat1 (V5 m ρ) c
  | ⟨2, _⟩ => fun c => dat2 (V7 m ρ) c
  | ⟨3, _⟩ => fun c => dat3 (V9 m ρ) c
  | ⟨4, _⟩ => fun c => dat4 (V11 m ρ) c
  | ⟨5, _⟩ => fun c => dat5 (V13 m ρ) c
  | ⟨6, _⟩ => fun c => dat6 (V15 m ρ) c
  | ⟨7, _⟩ => fun c => dat7 (V17 m ρ) c
  | ⟨8, _⟩ => fun c => dat8 (V19 m ρ) c
  | ⟨9, _⟩ => fun c => dat9 (V21 m ρ) c
  | ⟨10, _⟩ => fun c => dat10 (V23 m ρ) c
  | ⟨11, _⟩ => fun c => dat11 (V25 m ρ) c
  | ⟨12, _⟩ => fun c => dat12 (V27 m ρ) c
abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W29 m ρ c) ∗ ∃ r, prngReg c r)

end Cert.KernelIdeal.Run

end
-- ==== Proof.Run.Record0.lean ====
/- Custom call 0 as a segment of the program's chain. -/
module

public import proofs.«01_k».proof.Proof.Run.State

@[expose] public section

set_option maxRecDepth 16384

noncomputable section

namespace Cert.KernelIdeal.Run

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V3 m ρ c) (A_eq0 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V3 m ρ c) (V4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Run

end
-- ==== Proof.Run.Record1.lean ====
/- Custom call 1 as a segment of the program's chain. -/
module

public import proofs.«01_k».proof.Proof.Run.State

@[expose] public section

set_option maxRecDepth 16384

noncomputable section

namespace Cert.KernelIdeal.Run

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec1 c (V5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V5 m ρ c) (A_eq1 (V5 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V5 m ρ c) (V6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Run

end
-- ==== Proof.Run.Record2.lean ====
/- Custom call 2 as a segment of the program's chain. -/
module

public import proofs.«01_k».proof.Proof.Run.State

@[expose] public section

set_option maxRecDepth 16384

noncomputable section

namespace Cert.KernelIdeal.Run

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V7 m ρ) c).loose
  hwaits := Pipeline.hwaits_of_owed_zero _ _ _ _ L lv 2 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec2 c (V7 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V7 m ρ c) (A_eq2 (V7 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V7 m ρ c) (V8 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Run

end
-- ==== Proof.Run.Record3.lean ====
/- Custom call 3 as a segment of the program's chain: its carried scratch is at anything on entry and on exit. -/
module

public import proofs.«01_k».proof.Proof.Run.State

@[expose] public section

set_option maxRecDepth 16384

noncomputable section

namespace Cert.KernelIdeal.Run

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg3 : Pipeline.RegionSeg (pcfgs (F := F)) adm (pdats m ρ) () defs₀ 𝒱₀ L lv 3 where
  win := launch₀3.win
  block_pos := launch₀3.block_pos
  stage_whole := launch₀3.stage_whole
  K := PEmpty
  osem k := k.elim
  ho := Pipeline.OwnSemFacts.none _
  hbody c := (body_obligation3 (V9 m ρ) c).loose
  hwaits := Pipeline.hwaits_of_owed_zero _ _ _ _ L lv 3 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec3 c (V9 m ρ c)
  hentry c := by
    rw [Pipeline.ownSems0_none]
    have hsplit := Pipeline.arrays_of_unscopedBufs_shared (p := 3) (pcfgs (F := F)) adm (pdats m ρ) launch₀3.win launch₀3.sharedIn launch₀3.arr_whole c
      (fun _ _ => rfl) (V9 m ρ c) (A_eq3 (V9 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = (dat3 (V9 m ρ) c).Φ 0 from rfl]
    refine BI.BIBase.Entails.trans ?_ (hin3 (V9 m ρ) c)
    unfold Pipeline.ΦA
    iintro ⟨Hp, -, Hr⟩
    isplitl [Hr]; · iexact Hr
    iexact Hp
  hout c := by
    rw [Pipeline.ownSems0_none, show (pdats m ρ 3 c).Φ (Fin.last _) = (dat3 (V9 m ρ) c).Φ (Fin.last _) from rfl]
    refine BI.BIBase.Entails.trans (hout3 (V9 m ρ) c) ?_
    unfold Pipeline.ΦA
    iintro ⟨Hr, Hp⟩
    isplitl [Hp]; · iexact Hp
    isplitr; · iempintro
    iexact Hr
  hexit c := by
    have hjoin := Pipeline.unscopedBufs_of_arrays_shared (p := 3) (pcfgs (F := F)) adm (Ix := Unit) (Name := ℕ) (U := UR sig nD τ) (Lvl := ℕ)
      launch₀3.win launch₀3.sharedIn launch₀3.arr_whole c (pdats m ρ) (fun _ _ => rfl)
      (V9 m ρ c) (V10 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Run

end
-- ==== Proof.Run.Record4.lean ====
/- Custom call 4 as a segment of the program's chain. -/
module

public import proofs.«01_k».proof.Proof.Run.State

@[expose] public section

set_option maxRecDepth 16384

noncomputable section

namespace Cert.KernelIdeal.Run

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V11 m ρ) c).loose
  hwaits := Pipeline.hwaits_of_owed_zero _ _ _ _ L lv 4 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec4 c (V11 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V11 m ρ c) (A_eq4 (V11 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V11 m ρ c) (V12 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Run

end
-- ==== Proof.Run.Record5.lean ====
/- Custom call 5 as a segment of the program's chain. -/
module

public import proofs.«01_k».proof.Proof.Run.State

@[expose] public section

set_option maxRecDepth 16384

noncomputable section

namespace Cert.KernelIdeal.Run

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg5 : Pipeline.RegionSeg (pcfgs (F := F)) adm (pdats m ρ) () defs₀ 𝒱₀ L lv 5 where
  win := launch₀5.win
  block_pos := launch₀5.block_pos
  stage_whole := launch₀5.stage_whole
  K := PEmpty
  osem k := k.elim
  ho := Pipeline.OwnSemFacts.none _
  hbody c := (body_obligation5 (V13 m ρ) c).loose
  hwaits := Pipeline.hwaits_of_owed_zero _ _ _ _ L lv 5 fun _ _ => rfl
  pre c := iprop(StableHlo.held (c : Thread nD τ) (Pipeline.ucRefs τ sig) (W13 m ρ c) ∗ R c)
  post c := iprop(StableHlo.held (c : Thread nD τ) (Pipeline.ucRefs τ sig) (W14 m ρ c) ∗ R c)
  X c := iprop(∃ r, prngReg c r)
  Y c := iprop(∃ r, prngReg c r)
  Z c := Pipeline.unscopedRest (Ix := Unit) (Name := ℕ) (U := UR sig nD τ) (Lvl := ℕ) spec5 c (V13 m ρ c)
  hentry c := by
    rw [Pipeline.ownSems0_none]
    have hsplit := Pipeline.arrays_of_unscopedBufs_shared (p := 5) (pcfgs (F := F)) adm (pdats m ρ) launch₀5.win launch₀5.sharedIn launch₀5.arr_whole c
      (fun _ _ => rfl) (V13 m ρ c) (A_eq5 (V13 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays_shared (p := 5) (pcfgs (F := F)) adm (Ix := Unit) (Name := ℕ) (U := UR sig nD τ) (Lvl := ℕ)
      launch₀5.win launch₀5.sharedIn launch₀5.arr_whole c (pdats m ρ) (fun _ _ => rfl)
      (V13 m ρ c) (V14 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Run

end
-- ==== Proof.Run.Record6.lean ====
/- Custom call 6 as a segment of the program's chain. -/
module

public import proofs.«01_k».proof.Proof.Run.State

@[expose] public section

set_option maxRecDepth 16384

noncomputable section

namespace Cert.KernelIdeal.Run

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg6 : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (body_obligation6 (V15 m ρ) c).loose
  hwaits := Pipeline.hwaits_of_owed_zero _ _ _ _ L lv 6 fun _ _ => rfl
  pre c := iprop(StableHlo.held (c : Thread nD τ) (Pipeline.ucRefs τ sig) (W15 m ρ c) ∗ R c)
  post c := iprop(StableHlo.held (c : Thread nD τ) (Pipeline.ucRefs τ sig) (W16 m ρ c) ∗ R c)
  X c := iprop(∃ r, prngReg c r)
  Y c := iprop(∃ r, prngReg c r)
  Z c := Pipeline.unscopedRest (Ix := Unit) (Name := ℕ) (U := UR sig nD τ) (Lvl := ℕ) spec6 c (V15 m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun _ => rfl) (V15 m ρ c) (A_eq6 (V15 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m ρ 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m ρ) ((pdats m ρ 6 c).share_full fun _ => rfl)
      (V15 m ρ c) (V16 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Run

end
-- ==== Proof.Run.Record7.lean ====
/- Custom call 7 as a segment of the program's chain. -/
module

public import proofs.«01_k».proof.Proof.Run.State

@[expose] public section

set_option maxRecDepth 16384

noncomputable section

namespace Cert.KernelIdeal.Run

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg7 : Pipeline.RegionSeg (pcfgs (F := F)) adm (pdats m ρ) () defs₀ 𝒱₀ L lv 7 where
  win := launch₀7.win
  block_pos := launch₀7.block_pos
  stage_whole := launch₀7.stage_whole
  K := PEmpty
  osem k := k.elim
  ho := Pipeline.OwnSemFacts.none _
  hbody c := (body_obligation7 (V17 m ρ) c).loose
  hwaits := Pipeline.hwaits_of_owed_zero _ _ _ _ L lv 7 fun _ _ => rfl
  pre c := iprop(StableHlo.held (c : Thread nD τ) (Pipeline.ucRefs τ sig) (W17 m ρ c) ∗ R c)
  post c := iprop(StableHlo.held (c : Thread nD τ) (Pipeline.ucRefs τ sig) (W18 m ρ c) ∗ R c)
  X c := iprop(∃ r, prngReg c r)
  Y c := iprop(∃ r, prngReg c r)
  Z c := Pipeline.unscopedRest (Ix := Unit) (Name := ℕ) (U := UR sig nD τ) (Lvl := ℕ) spec7 c (V17 m ρ c)
  hentry c := by
    rw [Pipeline.ownSems0_none]
    have hsplit := Pipeline.arrays_of_unscopedBufs_shared (p := 7) (pcfgs (F := F)) adm (pdats m ρ) launch₀7.win launch₀7.sharedIn launch₀7.arr_whole c
      (fun _ _ => rfl) (V17 m ρ c) (A_eq7 (V17 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m ρ 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays_shared (p := 7) (pcfgs (F := F)) adm (Ix := Unit) (Name := ℕ) (U := UR sig nD τ) (Lvl := ℕ)
      launch₀7.win launch₀7.sharedIn launch₀7.arr_whole c (pdats m ρ) (fun _ _ => rfl)
      (V17 m ρ c) (V18 m ρ c) ((pdats m ρ 7 c).arrAt · cfg7.N) (hF7 m ρ c) (hrest7 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Run

end
-- ==== Proof.Run.Record8.lean ====
/- Custom call 8 as a segment of the program's chain. -/
module

public import proofs.«01_k».proof.Proof.Run.State

@[expose] public section

set_option maxRecDepth 16384

noncomputable section

namespace Cert.KernelIdeal.Run

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 280000 in
set_option backward.isDefEq.respectTransparency.types false in
def reg8 : Pipeline.RegionSeg (pcfgs (F := F)) adm (pdats m ρ) () defs₀ 𝒱₀ L lv 8 where
  win := launch8.win.to₀
  block_pos := launch8.block_pos
  stage_whole := launch8.stage_whole
  K := PEmpty
  osem k := k.elim
  ho := Pipeline.OwnSemFacts.none _
  hbody c := (body_obligation8 (V19 m ρ) c).loose
  hwaits := Pipeline.hwaits_of_owed_zero _ _ _ _ L lv 8 fun _ _ => rfl
  pre c := iprop(StableHlo.held (c : Thread nD τ) (Pipeline.ucRefs τ sig) (W19 m ρ c) ∗ R c)
  post c := iprop(StableHlo.held (c : Thread nD τ) (Pipeline.ucRefs τ sig) (W20 m ρ c) ∗ R c)
  X c := iprop(∃ r, prngReg c r)
  Y c := iprop(∃ r, prngReg c r)
  Z c := Pipeline.unscopedRest (Ix := Unit) (Name := ℕ) (U := UR sig nD τ) (Lvl := ℕ) spec8 c (V19 m ρ c)
  hentry c := by
    rw [Pipeline.ownSems0_none]
    have hsplit := Pipeline.arrays_of_unscopedBufs (p := 8) (pcfgs (F := F)) adm (pdats m ρ) launch8.win launch8.arr_whole c
      ((pdats m ρ 8 c).share_full fun _ => rfl) (V19 m ρ c) (A_eq8 (V19 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 8 c).Φ 0 = Pipeline.ΦA spec8 c from rfl]; unfold Pipeline.ΦA
    iintro ⟨Hp, -, Hr⟩
    isplitl [Hr]; · iexact Hr
    iexact Hp
  hout c := by
    rw [Pipeline.ownSems0_none, show (pdats m ρ 8 c).Φ (Fin.last _) = Pipeline.ΦA spec8 c from rfl]; unfold Pipeline.ΦA
    iintro ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m ρ) ((pdats m ρ 8 c).share_full fun _ => rfl)
      (V19 m ρ c) (V20 m ρ c) ((pdats m ρ 8 c).arrAt · cfg8.N) (hF8 m ρ c) (hrest8 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Run

end
-- ==== Proof.Run.Record9.lean ====
/- Custom call 9 as a segment of the program's chain. -/
module

public import proofs.«01_k».proof.Proof.Run.State

@[expose] public section

set_option maxRecDepth 16384

noncomputable section

namespace Cert.KernelIdeal.Run

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 290000 in
set_option backward.isDefEq.respectTransparency.types false in
def reg9 : Pipeline.RegionSeg (pcfgs (F := F)) adm (pdats m ρ) () defs₀ 𝒱₀ L lv 9 where
  win := launch9.win.to₀
  block_pos := launch9.block_pos
  stage_whole := launch9.stage_whole
  K := PEmpty
  osem k := k.elim
  ho := Pipeline.OwnSemFacts.none _
  hbody c := (body_obligation9 (V21 m ρ) c).loose
  hwaits := Pipeline.hwaits_of_owed_zero _ _ _ _ L lv 9 fun _ _ => rfl
  pre c := iprop(StableHlo.held (c : Thread nD τ) (Pipeline.ucRefs τ sig) (W21 m ρ c) ∗ R c)
  post c := iprop(StableHlo.held (c : Thread nD τ) (Pipeline.ucRefs τ sig) (W22 m ρ c) ∗ R c)
  X c := iprop(∃ r, prngReg c r)
  Y c := iprop(∃ r, prngReg c r)
  Z c := Pipeline.unscopedRest (Ix := Unit) (Name := ℕ) (U := UR sig nD τ) (Lvl := ℕ) spec9 c (V21 m ρ c)
  hentry c := by
    rw [Pipeline.ownSems0_none]
    have hsplit := Pipeline.arrays_of_unscopedBufs (p := 9) (pcfgs (F := F)) adm (pdats m ρ) launch9.win launch9.arr_whole c
      ((pdats m ρ 9 c).share_full fun _ => rfl) (V21 m ρ c) (A_eq9 (V21 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 9 c).Φ 0 = Pipeline.ΦA spec9 c from rfl]; unfold Pipeline.ΦA
    iintro ⟨Hp, -, Hr⟩
    isplitl [Hr]; · iexact Hr
    iexact Hp
  hout c := by
    rw [Pipeline.ownSems0_none, show (pdats m ρ 9 c).Φ (Fin.last _) = Pipeline.ΦA spec9 c from rfl]; unfold Pipeline.ΦA
    iintro ⟨Hr, Hp⟩
    isplitl [Hp]; · iexact Hp
    isplitr; · iempintro
    iexact Hr
  hexit c := by
    have hjoin := Pipeline.unscopedBufs_of_arrays (p := 9) (pcfgs (F := F)) adm (Ix := Unit) (Name := ℕ) (U := UR sig nD τ) (Lvl := ℕ)
      launch9.win launch9.arr_whole c (pdats m ρ) ((pdats m ρ 9 c).share_full fun _ => rfl)
      (V21 m ρ c) (V22 m ρ c) ((pdats m ρ 9 c).arrAt · cfg9.N) (hF9 m ρ c) (hrest9 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Run

end
-- ==== Proof.Run.Record10.lean ====
/- Custom call 10 as a segment of the program's chain. -/
module

public import proofs.«01_k».proof.Proof.Run.State

@[expose] public section

set_option maxRecDepth 16384

noncomputable section

namespace Cert.KernelIdeal.Run

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 300000 in
set_option backward.isDefEq.respectTransparency.types false in
def reg10 : Pipeline.RegionSeg (pcfgs (F := F)) adm (pdats m ρ) () defs₀ 𝒱₀ L lv 10 where
  win := launch10.win.to₀
  block_pos := launch10.block_pos
  stage_whole := launch10.stage_whole
  K := PEmpty
  osem k := k.elim
  ho := Pipeline.OwnSemFacts.none _
  hbody c := (body_obligation10 (V23 m ρ) c).loose
  hwaits := Pipeline.hwaits_of_owed_zero _ _ _ _ L lv 10 fun _ _ => rfl
  pre c := iprop(StableHlo.held (c : Thread nD τ) (Pipeline.ucRefs τ sig) (W23 m ρ c) ∗ R c)
  post c := iprop(StableHlo.held (c : Thread nD τ) (Pipeline.ucRefs τ sig) (W24 m ρ c) ∗ R c)
  X c := iprop(∃ r, prngReg c r)
  Y c := iprop(∃ r, prngReg c r)
  Z c := Pipeline.unscopedRest (Ix := Unit) (Name := ℕ) (U := UR sig nD τ) (Lvl := ℕ) spec10 c (V23 m ρ c)
  hentry c := by
    rw [Pipeline.ownSems0_none]
    have hsplit := Pipeline.arrays_of_unscopedBufs (p := 10) (pcfgs (F := F)) adm (pdats m ρ) launch10.win launch10.arr_whole c
      ((pdats m ρ 10 c).share_full fun _ => rfl) (V23 m ρ c) (A_eq10 (V23 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 10 c).Φ 0 = Pipeline.ΦA spec10 c from rfl]; unfold Pipeline.ΦA
    iintro ⟨Hp, -, Hr⟩
    isplitl [Hr]; · iexact Hr
    iexact Hp
  hout c := by
    rw [Pipeline.ownSems0_none, show (pdats m ρ 10 c).Φ (Fin.last _) = Pipeline.ΦA spec10 c from rfl]; unfold Pipeline.ΦA
    iintro ⟨Hr, Hp⟩
    isplitl [Hp]; · iexact Hp
    isplitr; · iempintro
    iexact Hr
  hexit c := by
    have hjoin := Pipeline.unscopedBufs_of_arrays (p := 10) (pcfgs (F := F)) adm (Ix := Unit) (Name := ℕ) (U := UR sig nD τ) (Lvl := ℕ)
      launch10.win launch10.arr_whole c (pdats m ρ) ((pdats m ρ 10 c).share_full fun _ => rfl)
      (V23 m ρ c) (V24 m ρ c) ((pdats m ρ 10 c).arrAt · cfg10.N) (hF10 m ρ c) (hrest10 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Run

end
-- ==== Proof.Run.Record11.lean ====
/- Custom call 11 as a segment of the program's chain. -/
module

public import proofs.«01_k».proof.Proof.Run.State

@[expose] public section

set_option maxRecDepth 16384

noncomputable section

namespace Cert.KernelIdeal.Run

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 310000 in
set_option backward.isDefEq.respectTransparency.types false in
def reg11 : Pipeline.RegionSeg (pcfgs (F := F)) adm (pdats m ρ) () defs₀ 𝒱₀ L lv 11 where
  win := launch11.win.to₀
  block_pos := launch11.block_pos
  stage_whole := launch11.stage_whole
  K := PEmpty
  osem k := k.elim
  ho := Pipeline.OwnSemFacts.none _
  hbody c := (body_obligation11 (V25 m ρ) c).loose
  hwaits := Pipeline.hwaits_of_owed_zero _ _ _ _ L lv 11 fun _ _ => rfl
  pre c := iprop(StableHlo.held (c : Thread nD τ) (Pipeline.ucRefs τ sig) (W25 m ρ c) ∗ R c)
  post c := iprop(StableHlo.held (c : Thread nD τ) (Pipeline.ucRefs τ sig) (W26 m ρ c) ∗ R c)
  X c := iprop(∃ r, prngReg c r)
  Y c := iprop(∃ r, prngReg c r)
  Z c := Pipeline.unscopedRest (Ix := Unit) (Name := ℕ) (U := UR sig nD τ) (Lvl := ℕ) spec11 c (V25 m ρ c)
  hentry c := by
    rw [Pipeline.ownSems0_none]
    have hsplit := Pipeline.arrays_of_unscopedBufs (p := 11) (pcfgs (F := F)) adm (pdats m ρ) launch11.win launch11.arr_whole c
      ((pdats m ρ 11 c).share_full fun _ => rfl) (V25 m ρ c) (A_eq11 (V25 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 11 c).Φ 0 = Pipeline.ΦA spec11 c from rfl]; unfold Pipeline.ΦA
    iintro ⟨Hp, -, Hr⟩
    isplitl [Hr]; · iexact Hr
    iexact Hp
  hout c := by
    rw [Pipeline.ownSems0_none, show (pdats m ρ 11 c).Φ (Fin.last _) = Pipeline.ΦA spec11 c from rfl]; unfold Pipeline.ΦA
    iintro ⟨Hr, Hp⟩
    isplitl [Hp]; · iexact Hp
    isplitr; · iempintro
    iexact Hr
  hexit c := by
    have hjoin := Pipeline.unscopedBufs_of_arrays (p := 11) (pcfgs (F := F)) adm (Ix := Unit) (Name := ℕ) (U := UR sig nD τ) (Lvl := ℕ)
      launch11.win launch11.arr_whole c (pdats m ρ) ((pdats m ρ 11 c).share_full fun _ => rfl)
      (V25 m ρ c) (V26 m ρ c) ((pdats m ρ 11 c).arrAt · cfg11.N) (hF11 m ρ c) (hrest11 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Run

end
-- ==== Proof.Run.Record12.lean ====
/- Custom call 12 as a segment of the program's chain. -/
module

public import proofs.«01_k».proof.Proof.Run.State

@[expose] public section

set_option maxRecDepth 16384

noncomputable section

namespace Cert.KernelIdeal.Run

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 320000 in
set_option backward.isDefEq.respectTransparency.types false in
def reg12 : Pipeline.RegionSeg (pcfgs (F := F)) adm (pdats m ρ) () defs₀ 𝒱₀ L lv 12 where
  win := launch12.win.to₀
  block_pos := launch12.block_pos
  stage_whole := launch12.stage_whole
  K := PEmpty
  osem k := k.elim
  ho := Pipeline.OwnSemFacts.none _
  hbody c := (body_obligation12 (V27 m ρ) c).loose
  hwaits := Pipeline.hwaits_of_owed_zero _ _ _ _ L lv 12 fun _ _ => rfl
  pre c := iprop(StableHlo.held (c : Thread nD τ) (Pipeline.ucRefs τ sig) (W27 m ρ c) ∗ R c)
  post c := iprop(StableHlo.held (c : Thread nD τ) (Pipeline.ucRefs τ sig) (W28 m ρ c) ∗ R c)
  X c := iprop(∃ r, prngReg c r)
  Y c := iprop(∃ r, prngReg c r)
  Z c := Pipeline.unscopedRest (Ix := Unit) (Name := ℕ) (U := UR sig nD τ) (Lvl := ℕ) spec12 c (V27 m ρ c)
  hentry c := by
    rw [Pipeline.ownSems0_none]
    have hsplit := Pipeline.arrays_of_unscopedBufs (p := 12) (pcfgs (F := F)) adm (pdats m ρ) launch12.win launch12.arr_whole c
      ((pdats m ρ 12 c).share_full fun _ => rfl) (V27 m ρ c) (A_eq12 (V27 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 12 c).Φ 0 = Pipeline.ΦA spec12 c from rfl]; unfold Pipeline.ΦA
    iintro ⟨Hp, -, Hr⟩
    isplitl [Hr]; · iexact Hr
    iexact Hp
  hout c := by
    rw [Pipeline.ownSems0_none, show (pdats m ρ 12 c).Φ (Fin.last _) = Pipeline.ΦA spec12 c from rfl]; unfold Pipeline.ΦA
    iintro ⟨Hr, Hp⟩
    isplitl [Hp]; · iexact Hp
    isplitr; · iempintro
    iexact Hr
  hexit c := by
    have hjoin := Pipeline.unscopedBufs_of_arrays (p := 12) (pcfgs (F := F)) adm (Ix := Unit) (Name := ℕ) (U := UR sig nD τ) (Lvl := ℕ)
      launch12.win launch12.arr_whole c (pdats m ρ) ((pdats m ρ 12 c).share_full fun _ => rfl)
      (V27 m ρ c) (V28 m ρ c) ((pdats m ρ 12 c).arrAt · cfg12.N) (hF12 m ρ c) (hrest12 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Run

end
-- ==== Proof.Run.Whole.lean ====
/- The program as its chain of segments, and its run. -/
module

public import proofs.«01_k».proof.Proof.Run.Record0
public import proofs.«01_k».proof.Proof.Run.Record1
public import proofs.«01_k».proof.Proof.Run.Record2
public import proofs.«01_k».proof.Proof.Run.Record3
public import proofs.«01_k».proof.Proof.Run.Record4
public import proofs.«01_k».proof.Proof.Run.Record5
public import proofs.«01_k».proof.Proof.Run.Record6
public import proofs.«01_k».proof.Proof.Run.Record7
public import proofs.«01_k».proof.Proof.Run.Record8
public import proofs.«01_k».proof.Proof.Run.Record9
public import proofs.«01_k».proof.Proof.Run.Record10
public import proofs.«01_k».proof.Proof.Run.Record11
public import proofs.«01_k».proof.Proof.Run.Record12

public import Idealize.ShloMosaic.Lib.StableHlo.RunHlo

@[expose] public section

set_option maxRecDepth 16384

noncomputable section

namespace Cert.KernelIdeal.Run

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)),
    .region (reg1 m ρ),
    .host (hseg hostOps2 hostOps2_sub hostOps2_fresh (W6 m ρ)),
    .region (reg2 m ρ),
    .host (hseg hostOps3 hostOps3_sub hostOps3_fresh (W8 m ρ)),
    .region (reg3 m ρ),
    .host (hseg hostOps4 hostOps4_sub hostOps4_fresh (W10 m ρ)),
    .region (reg4 m ρ),
    .host (hseg hostOps5 hostOps5_sub hostOps5_fresh (W12 m ρ)),
    .region (reg5 m ρ),
    .host (hseg hostOps6 hostOps6_sub hostOps6_fresh (W14 m ρ)),
    .region (reg6 m ρ),
    .host (hseg hostOps7 hostOps7_sub hostOps7_fresh (W16 m ρ)),
    .region (reg7 m ρ),
    .host (hseg hostOps8 hostOps8_sub hostOps8_fresh (W18 m ρ)),
    .region (reg8 m ρ),
    .host (hseg hostOps9 hostOps9_sub hostOps9_fresh (W20 m ρ)),
    .region (reg9 m ρ),
    .host (hseg hostOps10 hostOps10_sub hostOps10_fresh (W22 m ρ)),
    .region (reg10 m ρ),
    .host (hseg hostOps11 hostOps11_sub hostOps11_fresh (W24 m ρ)),
    .region (reg11 m ρ),
    .host (hseg hostOps12 hostOps12_sub hostOps12_fresh (W26 m ρ)),
    .region (reg12 m ρ),
    .host (hseg hostOps13 hostOps13_sub hostOps13_fresh (W28 m ρ)) ]

theorem main_run (c : Dev nD) : main (F := F) c = Pipeline.Seg.run (segs m ρ) := (main_chain c).trans (by chain_rfl)

theorem no_unscoped : ∀ sm : SemLoc sig, sm.isScoped .tc = true := by decide

set_option backward.isDefEq.respectTransparency.types false in
/-- The program runs; at its end every unscoped buffer of a core holds what the fold of the segments leaves there, and
    every semaphore is zero. -/
theorem run : θ_run defs (onTc (τ := τ) (main (F := F))) ⟨m, fun _ => 0, ρ⟩ (fun r =>
      (∀ c : Dev nD, ∀ b ∈ Pipeline.ucRefs τ sig, r.2.mem (((c : Thread nD τ)).1, b) = W29 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W29 m ρ c b)
    (hfin := fun c s' => by
      iintro ⟨⟨Hh, -⟩, HSI⟩
      unfold StableHlo.held
      imodintro
      iapply (pointsTo_read_all (Pipeline.ucRefs τ sig) (fun b => (((c : Thread nD τ)).1, b)) (W29 m ρ c) s')
      isplitl [Hh] <;> iassumption)
    (hQ := fun s h hz => ⟨h, funext fun g => hz g (.inr (no_unscoped g.2))⟩)

/-- The program runs, leaves its argument arrays as they were and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16))
      ∧ r.2.sem = fun _ => 0) :=
  θ_run_mono (run m ρ) fun r h => ⟨fun c =>
      ⟨(h.1 c _ (mem_uc main_arg0 (by decide))).trans (W29_main_arg0 m ρ c),
       (h.1 c _ (mem_uc main_arg1 (by decide))).trans (W29_main_arg1 m ρ c),
       (h.1 c _ (mem_uc main_arg2 (by decide))).trans (W29_main_arg2 m ρ c),
       (h.1 c _ (mem_uc main_arg3 (by decide))).trans (W29_main_arg3 m ρ c),
       (h.1 c _ (mem_uc main_arg4 (by decide))).trans (W29_main_arg4 m ρ c),
       (h.1 c _ (mem_uc main_arg5 (by decide))).trans (W29_main_arg5 m ρ c),
       (h.1 c _ (mem_uc main_arg6 (by decide))).trans (W29_main_arg6 m ρ c),
       (h.1 c _ (mem_uc main_arg7 (by decide))).trans (W29_main_arg7 m ρ c),
       (h.1 c _ (mem_uc main_arg8 (by decide))).trans (W29_main_arg8 m ρ c),
       (h.1 c _ (mem_uc main_arg9 (by decide))).trans (W29_main_arg9 m ρ c),
       (h.1 c _ (mem_uc main_arg10 (by decide))).trans (W29_main_arg10 m ρ c),
       (h.1 c _ (mem_uc main_arg11 (by decide))).trans (W29_main_arg11 m ρ c),
       (h.1 c _ (mem_uc main_arg12 (by decide))).trans (W29_main_arg12 m ρ c),
       (h.1 c _ (mem_uc main_arg13 (by decide))).trans (W29_main_arg13 m ρ c),
       (h.1 c _ (mem_uc main_arg14 (by decide))).trans (W29_main_arg14 m ρ c),
       (h.1 c _ (mem_uc main_arg15 (by decide))).trans (W29_main_arg15 m ρ c),
       (h.1 c _ (mem_uc main_arg16 (by decide))).trans (W29_main_arg16 m ρ c)⟩, h.2⟩

end Cert.KernelIdeal.Run

end
-- ==== Proof.AtBits.lean ====
/- The printed kernel at bits runs as the idealized kernel does: their programs are one. -/
module

public import proofs.«01_k».proof.Proof.Bodies
public import proofs.«01_k».proof.Proof.Run.Whole

@[expose] public section

set_option maxRecDepth 16384

noncomputable section

namespace Cert.AtBits

open Idealize.ShloMosaic Idealize.ShloMosaic.TcCoe

set_option maxHeartbeats 40000000 in
theorem pcfgs_eq : Cert.Kernel.pcfgs (F := Bits) = Cert.KernelIdeal.pcfgs (F := Bits) := by with_unfolding_all rfl

set_option maxHeartbeats 40000000 in
theorem defs_eq : Cert.Kernel.defs (F := Bits) = Cert.KernelIdeal.defs (F := Bits) := by
  unfold Cert.Kernel.defs Cert.KernelIdeal.defs
  exact congrArg (Pipeline.defs (Cert.KernelIdeal.pcfgs (F := Bits))) defs₀_eq

theorem run_eq (s : MemSt Cert.Kernel.nD Cert.Kernel.τ Cert.Kernel.sig (Elt Bits)) :
    θ_run (Cert.Kernel.defs (F := Bits)) (onTc (τ := Cert.Kernel.τ) (Cert.Kernel.main (F := Bits))) s
      = θ_run (Cert.KernelIdeal.defs (F := Bits)) (onTc (τ := Cert.KernelIdeal.τ) (Cert.KernelIdeal.main (F := Bits))) s :=
  congrArg₂ (fun d p => θ_run d (onTc (τ := Cert.KernelIdeal.τ) p) s) defs_eq main_eq

theorem quiescent : Cert.quiescent_Kernel (hKernel := Cert.Kernel.Gen.facts) := fun m g _ => by
  rw [run_eq]
  exact Cert.KernelIdeal.Run.frame (F := Bits) m g

end Cert.AtBits

end
-- ==== Proof.Value.Inputs.lean ====
/- What the precondition says of the arguments: the edge weights are nonnegative, and the sequences, the features and the
   projections of the attention are real numbers. -/
module

public import proofs.«01_k».proof.Defs
public import Idealize.ShloMosaic.Lib.ReduceAll
public import Idealize.ShloMosaic.Lib.Pointwise

@[expose] public section

set_option maxRecDepth 16384

noncomputable section

namespace Cert.Inputs

open Cert.Pre_graph_inputs_ok
open Idealize.ShloMosaic

theorem facts : Cert.Pre_graph_inputs_ok.Facts where
  bcast_S_S131072 := by decide
  reducesTo_S131072_S_d0 := by decide
  h_S_ := by decide
  bcast_S_S2048x20x128 := by decide
  reducesTo_S2048x20x128_S_d0_1_2 := by decide
  bcast_S_S2048x128 := by decide
  reducesTo_S2048x128_S_d0_1 := by decide
  bcast_S_S384x128 := by decide
  reducesTo_S384x128_S_d0_1 := by decide
  bcast_S_S384 := by decide
  reducesTo_S384_S_d0 := by decide

theorem bits_inf : Ideal.ofBits .f32 0x7F800000#32 = ⊤ := by
  simp only [Ideal.ofBits, Ideal.ieee]
  rw [if_pos (by decide), if_pos (by decide), if_neg (by decide)]

/-- A number whose absolute value is below infinity is real. -/
theorem real_of (x : EReal) (h : Ideal.cmp .olt (max x (-x)) (Ideal.ofBits .f32 0x7F800000#32) = 1#1) : ∃ r : ℝ, x = (r : EReal) := by
  rw [bits_inf] at h
  have h' : max x (-x) < ⊤ := by
    by_contra hn
    simp [Ideal.cmp, hn] at h
  induction x with
  | bot => simp at h'
  | top => simp at h'
  | coe r => exact ⟨r, rfl⟩

theorem nonneg_of (x : EReal) (h : Ideal.cmp .oge x (Ideal.ofBits .f32 0x00000000#32) = 1#1) : 0 ≤ x := by
  rw [Ideal.ofBits_zero] at h
  by_contra hn
  simp [Ideal.cmp, hn] at h

instance : Subsingleton S_.Idx := ⟨fun a b => funext fun d => d.elim0⟩

/-- Every element of an array is real, when the conjunction of the comparisons is true. -/
theorem all_real {s : Shape} {axes : List (Fin s.rank)} (x : s.Idx → EReal) (hb : S_.BroadcastsInDim s (![] : Fin 0 → Fin s.rank))
    (hr : s.ReducesTo axes S_) (hu : 0 < S_.numel) (j : S_.Idx)
    (h : Host.reduce IntOp.andi (cmpf (F := Ideal) (φ := .f32) .olt (Host.absf x) (broadcastInDim s ![] hb (constant S_ .f32 0x7F800000#32)))
      (constantI S_ 1 1#1) hr hu j = 1#1) (i : s.Idx) : ∃ r : ℝ, x i = (r : EReal) :=
  real_of _ (Host.reduce_andi_all _ _ hr hu j h i)

variable [Facts]

theorem inputs (a0 a1 : S2048x20x128.Idx → EReal) (a2 : S2048x128.Idx → EReal) (a3 : IVec S2x131072 32) (a4 : S131072.Idx → EReal)
    (a5 : S384x128.Idx → EReal) (a6 : S384.Idx → EReal) (a7 : S128x128.Idx → EReal) (a8 : S128.Idx → EReal) (a9 : S128x256.Idx → EReal)
    (a10 : S128.Idx → EReal) (a11 a12 : S_.Idx → EReal) (a13 : S2x128x128.Idx → EReal) (a14 : S2x128.Idx → EReal)
    (a15 : S2x128x128.Idx → EReal) (a16 : S2x128.Idx → EReal)
    (h : fn (F := Ideal) a0 a1 a2 a3 a4 a5 a6 a7 a8 a9 a10 a11 a12 a13 a14 a15 a16 = fun _ => 1#1) :
    (∀ i, 0 ≤ a4 i) ∧ (∀ i, ∃ r : ℝ, a0 i = (r : EReal)) ∧ (∀ i, ∃ r : ℝ, a1 i = (r : EReal)) ∧ (∀ i, ∃ r : ℝ, a2 i = (r : EReal))
      ∧ (∀ i, ∃ r : ℝ, a5 i = (r : EReal)) ∧ (∀ i, ∃ r : ℝ, a6 i = (r : EReal)) := by
  have h0 := congrFun h ix0
  dsimp only [fn, fn_part1] at h0
  obtain ⟨h0, h6⟩ := IntOp.andi_eq_one.1 h0
  obtain ⟨h0, h5⟩ := IntOp.andi_eq_one.1 h0
  obtain ⟨h0, h2⟩ := IntOp.andi_eq_one.1 h0
  obtain ⟨h0, h1⟩ := IntOp.andi_eq_one.1 h0
  obtain ⟨h4, h0⟩ := IntOp.andi_eq_one.1 h0
  exact ⟨fun i => nonneg_of _ (Host.reduce_andi_all _ _ _ _ _ h4 i), all_real a0 _ _ _ _ h0, all_real a1 _ _ _ _ h1, all_real a2 _ _ _ _ h2,
    all_real a5 _ _ _ _ h5, all_real a6 _ _ _ _ h6⟩

end Cert.Inputs
-- ==== Proof.Value.Edges.lean ====
/- Sums over edges and reads at edges: the accumulating scatter and the gather of the sparse layers, at an index. -/
module

public import Idealize.ShloMosaic.Lib.Pointwise
public import Idealize.ShloMosaic.Lib.ValueIdxCore
public import Idealize.ShloMosaic.Lib.Routing.OpsPair
public import Idealize.ShloMosaic.Lib.Routing.Ops

@[expose] public section

noncomputable section

namespace Cert.Maths

open Idealize.ShloMosaic Idealize.ShloMosaic.Routing

/-- The sum, at node `n`, of the numbers of the edges whose index word is `n`. -/
def edgeSum {E : ℕ} (d : Fin E → BitVec 32) (u : Fin E → EReal) (n : ℕ) : EReal :=
  ∑ e, if (d e).toInt = (n : Int) then u e else 0

/-- The node an index word reads: the signed word clamped to the nodes. -/
def nodeOf (w : BitVec 32) : Fin 4096 := ⟨min (w.toInt.toNat) (4096 - 1), by omega⟩

/-- A negative index word is moved up by the number of nodes. -/
def wrap (w : BitVec 32) : BitVec 32 := Scalar.select (IntOp.cmpi .slt w 0#32) (IntOp.addi w 4096#32) w

/-- Numbers added into a vector at index words. -/
abbrev sc1 (N E : ℕ) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- Rows added into a matrix at index words. -/
abbrev sc2 (N C E : ℕ) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- A vector read at index words. -/
abbrev ga1 (N E : ℕ) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Rows of a matrix read at index words. -/
abbrev ga2 (N C E : ℕ) (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

theorem sc1_lands {N E : ℕ} (wf) (idx : IVec ⟨2, ![E, 1]⟩ 32) (e : Fin E) (n : Fin N) :
    (sc1 N E wf).resultIdx? (ix1 e) idx = some (ix1 n) ↔ (idx (ix2 e 0)).toInt = (n.val : Int) := by
  refine Iff.trans (resultIdx?_ix1 _ _ _ n) ?_
  have hs : (sc1 N E wf).siIdx (ix1 e) ⟨0, Nat.one_pos⟩ = ix2 e 0 := by
    funext b; refine Fin.ext ?_
    match b with
    | ⟨0, _⟩ => rfl
    | ⟨1, _⟩ => rfl
  have h1 : (sc1 N E wf).start (ix1 e) idx 0 = (idx (ix2 e 0)).toInt := by
    rw [← hs]; rfl
  have h2 : (sc1 N E wf).window (ix1 e) 0 = 0 := rfl
  show (sc1 N E wf).start (ix1 e) idx 0 + ((sc1 N E wf).window (ix1 e) 0 : Int) = _ ↔ _
  rw [h1, h2]; simp

theorem sc2_lands {N C E : ℕ} (wf) (idx : IVec ⟨2, ![E, 1]⟩ 32) (e : Fin E) (c' : Fin C) (n : Fin N) (c : Fin C) :
    (sc2 N C E wf).resultIdx? (ix2 e c') idx = some (ix2 n c) ↔ (idx (ix2 e 0)).toInt = (n.val : Int) ∧ c' = c := by
  refine Iff.trans (resultIdx?_ix2 _ _ _ n c) ?_
  have hs : (sc2 N C E wf).siIdx (ix2 e c') ⟨0, Nat.one_pos⟩ = ix2 e 0 := by
    funext b; refine Fin.ext ?_
    match b with
    | ⟨0, _⟩ => rfl
    | ⟨1, _⟩ => rfl
  have h1 : (sc2 N C E wf).start (ix2 e c') idx 0 = (idx (ix2 e 0)).toInt := by rw [← hs]; rfl
  have h2 : (sc2 N C E wf).window (ix2 e c') 0 = 0 := rfl
  have h3 : (sc2 N C E wf).start (ix2 e c') idx 1 = 0 := rfl
  have h4 : (sc2 N C E wf).window (ix2 e c') 1 = c'.val := rfl
  show (sc2 N C E wf).start (ix2 e c') idx 0 + ((sc2 N C E wf).window (ix2 e c') 0 : Int) = _
    ∧ (sc2 N C E wf).start (ix2 e c') idx 1 + ((sc2 N C E wf).window (ix2 e c') 1 : Int) = _ ↔ _
  rw [h1, h2, h3, h4, Fin.ext_iff]
  constructor
  · rintro ⟨a, b⟩; exact ⟨by omega, by omega⟩
  · rintro ⟨a, b⟩; exact ⟨by omega, by omega⟩

theorem scatter1 {N E : ℕ} (wf) (x : FVec Ideal ⟨1, ![N]⟩ .f32) (idx : IVec ⟨2, ![E, 1]⟩ 32) (u : FVec Ideal ⟨1, ![E]⟩ .f32) (n : Fin N) :
    Host.scatterAdd (sc1 N E wf) x idx u (ix1 n) = x (ix1 n) + edgeSum (fun e => idx (ix2 e 0)) (fun e => u (ix1 e)) n.val := by
  show x (ix1 n) + ∑ j ∈ Finset.univ.filter (fun j => (sc1 N E wf).resultIdx? j idx = some (ix1 n)), u j = _
  rw [Finset.sum_filter]
  congr 1
  refine (sum_idx1 _).trans (Finset.sum_congr rfl fun e _ => ?_)
  simp only [sc1_lands]

theorem scatter2 {N C E : ℕ} (wf) (x : FVec Ideal ⟨2, ![N, C]⟩ .f32) (idx : IVec ⟨2, ![E, 1]⟩ 32) (u : FVec Ideal ⟨2, ![E, C]⟩ .f32)
    (n : Fin N) (c : Fin C) :
    Host.scatterAdd (sc2 N C E wf) x idx u (ix2 n c)
      = x (ix2 n c) + edgeSum (fun e => idx (ix2 e 0)) (fun e => u (ix2 e c)) n.val := by
  show x (ix2 n c) + ∑ j ∈ Finset.univ.filter (fun j => (sc2 N C E wf).resultIdx? j idx = some (ix2 n c)), u j = _
  rw [Finset.sum_filter]
  congr 1
  refine (Idealize.ShloMosaic.sum_idx2 _).trans (Finset.sum_congr rfl fun e _ => ?_)
  simp only [sc2_lands]
  by_cases h : (idx (ix2 e 0)).toInt = (n.val : Int)
  · simp [h]
  · simp [h]

theorem gather1 {N E : ℕ} (wf) {α : Type} (hN : 0 < N) (x : (⟨1, ![N]⟩ : Shape).Idx → α) (idx : IVec ⟨2, ![E, 1]⟩ 32) (e : Fin E) :
    Host.gather (ga1 N E wf) x idx (ix1 e) = x (ix1 ⟨min (idx (ix2 e 0)).toInt.toNat (N - 1), by omega⟩) := by
  unfold Host.gather
  congr 1
  funext a
  obtain rfl : a = 0 := Subsingleton.elim _ _
  refine Fin.ext ?_
  have hs : (ga1 N E wf).siIdx (ix1 e) ⟨0, Nat.one_pos⟩ = ix2 e 0 := by
    funext b; refine Fin.ext ?_
    match b with
    | ⟨0, _⟩ => rfl
    | ⟨1, _⟩ => rfl
  show _ = min (idx (ix2 e 0)).toInt.toNat (N - 1)
  rw [← hs]; rfl

theorem gather2 {N C E : ℕ} (wf) {α : Type} (hN : 0 < N) (x : (⟨2, ![N, C]⟩ : Shape).Idx → α) (idx : IVec ⟨2, ![E, 1]⟩ 32) (e : Fin E)
    (c : Fin C) :
    Host.gather (ga2 N C E wf) x idx (ix2 e c) = x (ix2 ⟨min (idx (ix2 e 0)).toInt.toNat (N - 1), by omega⟩ c) := by
  unfold Host.gather
  congr 1
  funext a
  refine Fin.ext ?_
  have hs : (ga2 N C E wf).siIdx (ix2 e c) ⟨0, Nat.one_pos⟩ = ix2 e 0 := by
    funext b; refine Fin.ext ?_
    match b with
    | ⟨0, _⟩ => rfl
    | ⟨1, _⟩ => rfl
  match a with
  | ⟨0, _⟩ =>
    show _ = min (idx (ix2 e 0)).toInt.toNat (N - 1)
    rw [← hs]; rfl
  | ⟨1, _⟩ =>
    show (ga2 N C E wf).start (ix2 e c) idx 1 + (ga2 N C E wf).batchCoord (ix2 e c) 1 + (ga2 N C E wf).offCoord (ix2 e c) 1 = c.val
    rw [show (ga2 N C E wf).start (ix2 e c) idx 1 = 0 from rfl, show (ga2 N C E wf).batchCoord (ix2 e c) 1 = 0 from rfl,
      show (ga2 N C E wf).offCoord (ix2 e c) 1 = c.val from rfl]
    omega

end Cert.Maths
-- ==== Proof.Value.Softmax.lean ====
/- Attention in scalars: the running softmax of one head against the softmax of its scores, where scores and values are
   real. -/
module

public import Idealize.ShloMosaic.Lib.Pointwise

@[expose] public section

noncomputable section

namespace Cert.Maths

open Idealize.ShloMosaic

/-- The running maximum of the first `t` scores, from a low start. -/
def runM (s : ℕ → EReal) : ℕ → EReal
  | 0 => Ideal.ofBits .f32 0xF149F2CA#32
  | t + 1 => max (runM s t) (s t)

/-- The running sum of the weights of the first `t` scores. -/
def runL (s : ℕ → EReal) : ℕ → EReal
  | 0 => 0
  | t + 1 => runL s t * Ideal.exp (runM s t - runM s (t + 1)) + Ideal.exp (s t - runM s (t + 1))

/-- The running weighted sum of the first `t` values. -/
def runO (s v : ℕ → EReal) : ℕ → EReal
  | 0 => 0
  | t + 1 => runO s v t * Ideal.exp (runM s t - runM s (t + 1)) + Ideal.exp (s t - runM s (t + 1)) * v t

/-- The softmax of real scores, against real values. -/
def softR (s v : Fin 20 → ℝ) : ℝ := (∑ t, Real.exp (s t) * v t) / ∑ t, Real.exp (s t)

theorem coe_max (a b : ℝ) : ((max a b : ℝ) : EReal) = max (a : EReal) (b : EReal) :=
  EReal.coe_strictMono.monotone.map_max

theorem exp_coe (a : ℝ) : Ideal.exp (a : EReal) = ((Real.exp a : ℝ) : EReal) := rfl

theorem start_real : ∃ r : ℝ, Ideal.ofBits .f32 0xF149F2CA#32 = (r : EReal) := by
  simp only [Ideal.ofBits, Ideal.ieee]
  rw [if_neg (by decide), if_neg (by decide)]
  exact ⟨_, rfl⟩

/-- After `t` positions the running sums are those of the weights relative to the running maximum. -/
theorem run_real (s v : ℕ → ℝ) (t : ℕ) : ∃ m : ℝ, runM (fun i => (s i : EReal)) t = m
    ∧ runL (fun i => (s i : EReal)) t = ((∑ i ∈ Finset.range t, Real.exp (s i - m) : ℝ) : EReal)
    ∧ runO (fun i => (s i : EReal)) (fun i => (v i : EReal)) t = ((∑ i ∈ Finset.range t, Real.exp (s i - m) * v i : ℝ) : EReal) := by
  induction t with
  | zero =>
    obtain ⟨r, hr⟩ := start_real
    exact ⟨r, hr, by simp [runL], by simp [runO]⟩
  | succ t ih =>
    obtain ⟨m, hm, hl, ho⟩ := ih
    have hM : runM (fun i => (s i : EReal)) (t + 1) = ((max m (s t) : ℝ) : EReal) := by
      rw [coe_max, ← hm]; rfl
    have hE : ∀ i, Real.exp (s i - m) * Real.exp (m - max m (s t)) = Real.exp (s i - max m (s t)) := fun i => by
      rw [← Real.exp_add]; congr 1; ring
    refine ⟨max m (s t), hM, ?_, ?_⟩
    · rw [runL, hM, hm, hl, ← EReal.coe_sub, ← EReal.coe_sub, exp_coe, exp_coe, ← EReal.coe_mul, ← EReal.coe_add,
        Finset.sum_range_succ, Finset.sum_mul]
      simp only [hE]
    · rw [runO, hM, hm, ho, ← EReal.coe_sub, ← EReal.coe_sub, exp_coe, exp_coe, ← EReal.coe_mul, ← EReal.coe_mul,
        ← EReal.coe_add, Finset.sum_range_succ, Finset.sum_mul]
      congr 2
      exact Finset.sum_congr rfl fun i _ => by rw [← hE i]; ring

theorem div_coe (a b : ℝ) (h : b ≠ 0) : Ideal.div (a : EReal) (b : EReal) = ((a / b : ℝ) : EReal) := by
  rw [Ideal.div, if_neg (by exact_mod_cast h), div_eq_mul_inv, EReal.coe_mul, EReal.coe_inv]

theorem sum_exp_pos (s : Fin 20 → ℝ) : 0 < ∑ t, Real.exp (s t) :=
  Finset.sum_pos (fun _ _ => Real.exp_pos _) ⟨0, Finset.mem_univ _⟩

/-- A shift of the scores changes no softmax. -/
theorem softR_shift (s v : Fin 20 → ℝ) (m : ℝ) :
    (∑ t, Real.exp (s t - m) * v t) / (∑ t, Real.exp (s t - m)) = softR s v := by
  have h1 : ∀ t, Real.exp (s t - m) = Real.exp (s t) * Real.exp (-m) := fun t => by
    rw [← Real.exp_add]; congr 1
  simp only [h1]
  rw [← Finset.sum_mul, show (∑ t, Real.exp (s t) * Real.exp (-m) * v t) = (∑ t, Real.exp (s t) * v t) * Real.exp (-m) by
    rw [Finset.sum_mul]; exact Finset.sum_congr rfl fun t _ => by ring]
  exact mul_div_mul_right _ _ (Real.exp_pos _).ne'

/-- The running softmax is the softmax. -/
theorem run_soft (s v : Fin 20 → ℝ) (es ev : ℕ → EReal) (hs : ∀ t : Fin 20, es t.val = s t) (hv : ∀ t : Fin 20, ev t.val = v t)
    (hs' : ∀ n, es n = es (n % 20)) (hv' : ∀ n, ev n = ev (n % 20)) :
    Ideal.div (runO es ev 20) (runL es 20) = ((softR s v : ℝ) : EReal) := by
  have e1 : es = fun n => ((s (Fin.ofNat 20 n) : ℝ) : EReal) := funext fun n => by rw [hs' n]; exact hs (Fin.ofNat 20 n)
  have e2 : ev = fun n => ((v (Fin.ofNat 20 n) : ℝ) : EReal) := funext fun n => by rw [hv' n]; exact hv (Fin.ofNat 20 n)
  subst e1 e2
  obtain ⟨m, -, hl, ho⟩ := run_real (fun n => s (Fin.ofNat 20 n)) (fun n => v (Fin.ofNat 20 n)) 20
  have hf : ∀ t : Fin 20, Fin.ofNat 20 t.val = t := fun t => Fin.ext (Nat.mod_eq_of_lt t.isLt)
  rw [hl, ho, Finset.sum_range, Finset.sum_range]
  simp only [hf]
  rw [div_coe _ _ (sum_exp_pos fun t => s t - m).ne', softR_shift]

theorem coe_sum' {ι : Type} (S : Finset ι) (f : ι → ℝ) : ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

/-- The greatest of real scores, from the bottom, is real. -/
theorem fold_real {κ : Type} [Fintype κ] [Nonempty κ] (s : κ → ℝ) : ∃ m : ℝ, Finset.univ.fold max (⊥ : EReal) (fun t => (s t : EReal)) = m := by
  have h : ∀ S : Finset κ, S.Nonempty → ∃ m : ℝ, S.fold max (⊥ : EReal) (fun t => (s t : EReal)) = m := by
    intro S hS
    induction hS using Finset.Nonempty.cons_induction with
    | singleton a => exact ⟨s a, by simp⟩
    | cons a S ha _ ih =>
      obtain ⟨m, hm⟩ := ih
      exact ⟨max (s a) m, by rw [Finset.fold_cons, hm, coe_max]⟩
  exact h _ Finset.univ_nonempty

/-- The softmax as a quotient per position, its scores shifted by their greatest. -/
theorem soft_ref (s v : Fin 20 → ℝ) :
    (∑ t, Ideal.div (Ideal.exp ((s t : EReal) - Finset.univ.fold max (⊥ : EReal) (fun t => (s t : EReal))))
        (∑ u, Ideal.exp ((s u : EReal) - Finset.univ.fold max (⊥ : EReal) (fun t => (s t : EReal)))) * (v t : EReal))
      = ((softR s v : ℝ) : EReal) := by
  obtain ⟨m, hm⟩ := fold_real s
  rw [hm]
  simp only [← EReal.coe_sub, exp_coe, ← coe_sum', div_coe _ _ (sum_exp_pos fun t => s t - m).ne', ← EReal.coe_mul]
  congr 1
  rw [← softR_shift s v m, Finset.sum_div]
  exact Finset.sum_congr rfl fun t _ => by ring

end Cert.Maths
-- ==== Proof.Value.Layers.lean ====
/- The graph layers in scalars, and the identities between their two readings. -/
module

public import proofs.«01_k».proof.Proof.Value.Edges
public import proofs.«01_k».proof.Proof.Value.Softmax

@[expose] public section

set_option maxRecDepth 16384

noncomputable section

namespace Cert.Maths

open Idealize.ShloMosaic

/-- One dense layer at a node and a feature: the normalised adjacency on the transformed state, the self loop apart. -/
def denseL (p : Fin 4096 → Fin 4096 → EReal) (dv : Fin 4096 → EReal) (t : Fin 4096 → Fin 128 → EReal) (w : Fin 128 → Fin 128 → EReal)
    (b : Fin 128 → EReal) (n : Fin 4096) (c : Fin 128) : EReal :=
  Ideal.ofBits .f32 0x3F666666#32
      * (dv n * ((∑ k, p k n * (dv k * ∑ l, t k l * w c l)) + dv n * ∑ l, t n l * w c l) + b c)
    + Ideal.ofBits .f32 0x3DCCCCCD#32 * t n c

/-- The weighted degree of a node over the edges, its self loop included. -/
def degL (d : Fin 131072 → BitVec 32) (ew : Fin 131072 → EReal) (n : Fin 4096) : EReal := edgeSum d ew n.val + 1

/-- The normalised weight of an edge. -/
def normL (s d : Fin 131072 → BitVec 32) (ew : Fin 131072 → EReal) (e : Fin 131072) : EReal :=
  Ideal.rsqrt (degL d ew (nodeOf (wrap (s e)))) * ew e * Ideal.rsqrt (degL d ew (nodeOf (wrap (d e))))

/-- One sparse layer at a node and a feature: the sum over the edges, the self loop apart. -/
def sparseL (s d : Fin 131072 → BitVec 32) (ew : Fin 131072 → EReal) (t : Fin 4096 → Fin 128 → EReal) (w : Fin 128 → Fin 128 → EReal)
    (b : Fin 128 → EReal) (n : Fin 4096) (c : Fin 128) : EReal :=
  Ideal.ofBits .f32 0x3F666666#32
      * (edgeSum d (fun e => normL s d ew e * ∑ l, w c l * t (nodeOf (wrap (s e))) l) n.val
          + Ideal.div 1 (degL d ew n) * (∑ l, w c l * t n l) + b c)
    + Ideal.ofBits .f32 0x3DCCCCCD#32 * t n c

theorem bits_neg_half : Ideal.ofBits .f32 0xBF000000#32 = ((-(1 / 2) : ℝ) : EReal) := by
  simp only [Ideal.ofBits, Ideal.ieee]
  rw [if_neg (by decide), if_neg (by decide), if_pos (by decide), show (BitVec.extractLsb' 23 8 0xBF000000#32).toNat = 126 from by decide,
    show (BitVec.extractLsb' 0 23 0xBF000000#32).toNat = 0 from by decide]
  congr 1
  norm_num

theorem bits_neg_inf : Ideal.ofBits .f32 0xFF800000#32 = ⊥ := by
  simp only [Ideal.ofBits, Ideal.ieee]
  rw [if_pos (by decide), if_pos (by decide), if_pos (by decide)]

theorem rsqrt_top : Ideal.rsqrt ⊤ = 0 := rfl

theorem rsqrt_coe (r : ℝ) (h : 1 ≤ r) : Ideal.rsqrt (r : EReal) = (((Real.sqrt r)⁻¹ : ℝ) : EReal) := by
  show (if r < 0 then (⊥ : EReal) else if r = 0 then ⊤ else (((Real.sqrt r)⁻¹ : ℝ) : EReal)) = _
  rw [if_neg (by linarith), if_neg (by linarith)]

/-- The power is the reciprocal root of a degree that is at least one. -/
theorem pow_rsqrt (r c : EReal) (h : 1 ≤ r) :
    (if 0 < r then Ideal.pow r (Ideal.ofBits .f32 0xBF000000#32) else c) = Ideal.rsqrt r := by
  have h0 : (0 : EReal) < r := lt_of_lt_of_le (by exact_mod_cast one_pos) h
  rw [if_pos h0, bits_neg_half]
  induction r with
  | bot => exact absurd h0 (by simp)
  | top =>
    show (if (0 : EReal) < ((-(1 / 2) : ℝ) : EReal) then (⊤ : EReal) else if ((-(1 / 2) : ℝ) : EReal) = 0 then 1 else 0) = 0
    rw [if_neg (by rw [not_lt]; exact_mod_cast (by norm_num : (-(1 / 2) : ℝ) ≤ 0)), if_neg (by
      intro q; have : (-(1 / 2) : ℝ) = 0 := by exact_mod_cast q
      norm_num at this)]
  | coe r =>
    have h1 : (1 : ℝ) ≤ r := by exact_mod_cast h
    rw [rsqrt_coe r h1]
    show ((Real.rpow r (-(1 / 2)) : ℝ) : EReal) = _
    rw [Real.rpow_eq_pow, Real.rpow_neg (by linarith), ← Real.sqrt_eq_rpow]

/-- The reciprocal root of a degree that is at least one is a nonnegative real. -/
theorem rsqrt_real (r : EReal) (h : 1 ≤ r) : ∃ d : ℝ, 0 ≤ d ∧ Ideal.rsqrt r = (d : EReal) := by
  induction r with
  | bot => exact absurd (le_bot_iff.1 h) (EReal.coe_ne_bot 1)
  | top => exact ⟨0, le_refl 0, rsqrt_top⟩
  | coe r =>
    have h1 : (1 : ℝ) ≤ r := by exact_mod_cast h
    refine ⟨(Real.sqrt r)⁻¹, inv_nonneg.2 (Real.sqrt_nonneg r), rsqrt_coe r h1⟩

/-- The self loop's weight is the reciprocal of the degree. -/
theorem self_weight (r : EReal) (h : 1 ≤ r) : Ideal.rsqrt r * 1 * Ideal.rsqrt r = Ideal.div 1 r := by
  have h0 : r ≠ 0 := fun q => by rw [q] at h; exact absurd h (by norm_num)
  rw [mul_one, Ideal.div, if_neg h0, one_mul]
  induction r with
  | bot => exact absurd (le_bot_iff.1 h) (EReal.coe_ne_bot 1)
  | top => rw [rsqrt_top]; simp
  | coe r =>
    have h1 : (1 : ℝ) ≤ r := by exact_mod_cast h
    rw [rsqrt_coe r h1, ← EReal.coe_mul, ← EReal.coe_inv, ← mul_inv, Real.mul_self_sqrt (by linarith)]

theorem mul_sum_real {ι : Type} [Fintype ι] (r : ℝ) (hr : 0 ≤ r) (f : ι → EReal) : (r : EReal) * ∑ k, f k = ∑ k, (r : EReal) * f k := by
  classical
  have h : ∀ s : Finset ι, (r : EReal) * ∑ k ∈ s, f k = ∑ k ∈ s, (r : EReal) * f k := by
    intro s
    induction s using Finset.induction_on with
    | empty => simp
    | insert a s ha ih =>
      rw [Finset.sum_insert ha, Finset.sum_insert ha, EReal.left_distrib_of_nonneg_of_ne_top (by exact_mod_cast hr) (EReal.coe_ne_top r), ih]
  exact h _

/-- A row of the normalised adjacency with self loops on a vector, factored. -/
theorem dense_row (p : Fin 4096 → ℝ) (hp : ∀ k, 0 ≤ p k) (d : Fin 4096 → ℝ) (hd : ∀ k, 0 ≤ d k) (x : Fin 4096 → EReal) (n : Fin 4096) :
    ∑ k, (d k : EReal) * ((p k : EReal) + if k = n then 1 else 0) * (d n : EReal) * x k
      = (d n : EReal) * ((∑ k, (p k : EReal) * ((d k : EReal) * x k)) + (d n : EReal) * x n) := by
  have e : (d n : EReal) * x n = ∑ k, (if k = n then (1 : EReal) else 0) * ((d k : EReal) * x k) := by
    rw [Finset.sum_eq_single n]
    · rw [if_pos rfl, one_mul]
    · intro k _ hk; rw [if_neg hk, zero_mul]
    · intro h; exact absurd (Finset.mem_univ n) h
  rw [e, ← Finset.sum_add_distrib, mul_sum_real _ (hd n)]
  refine Finset.sum_congr rfl fun k _ => ?_
  rw [← EReal.right_distrib_of_nonneg (by exact_mod_cast hp k) (by split_ifs <;> norm_num)]
  ac_rfl

/-- A sum over the edges and the self loops. -/
theorem edgeSum_append (d : Fin 135168 → BitVec 32) (u : Fin 135168 → EReal) (n : ℕ) :
    edgeSum d u n = edgeSum (fun e : Fin 131072 => d ⟨e.val, by omega⟩) (fun e => u ⟨e.val, by omega⟩) n
      + edgeSum (fun k : Fin 4096 => d ⟨131072 + k.val, by omega⟩) (fun k => u ⟨131072 + k.val, by omega⟩) n :=
  Fin.sum_univ_add (a := 131072) (b := 4096) fun e : Fin (131072 + 4096) => if (d e).toInt = (n : Int) then u e else 0

theorem word_node (k : Fin 4096) : (BitVec.ofNat 32 k.val).toInt = (k.val : Int) := by
  rw [BitVec.toInt_eq_toNat_of_lt (by rw [BitVec.toNat_ofNat]; omega), BitVec.toNat_ofNat]; omega

theorem wrap_node (k : Fin 4096) : wrap (BitVec.ofNat 32 k.val) = BitVec.ofNat 32 k.val := by
  have h : BitVec.slt (BitVec.ofNat 32 k.val) 0#32 = false := by
    rw [BitVec.slt, word_node]; simp
  show (if BitVec.ofBool (BitVec.slt (BitVec.ofNat 32 k.val) 0#32) = 1#1 then _ else _) = _
  rw [h]; rfl

theorem nodeOf_node (k : Fin 4096) : nodeOf (BitVec.ofNat 32 k.val) = k := by
  refine Fin.ext ?_
  show min (BitVec.ofNat 32 k.val).toInt.toNat (4096 - 1) = k.val
  rw [word_node]; omega

/-- The sum over the self loops is the node's own term. -/
theorem edgeSum_self (u : Fin 4096 → EReal) (n : Fin 4096) : edgeSum (fun k : Fin 4096 => BitVec.ofNat 32 k.val) u n.val = u n := by
  unfold edgeSum
  rw [Finset.sum_eq_single n]
  · rw [if_pos (word_node n)]
  · intro k _ hk
    rw [if_neg]
    rw [word_node]; intro q; exact hk (Fin.ext (by exact_mod_cast q))
  · intro h; exact absurd (Finset.mem_univ n) h

theorem edgeSum_nonneg {E : ℕ} (d : Fin E → BitVec 32) (u : Fin E → EReal) (hu : ∀ e, 0 ≤ u e) (n : ℕ) : 0 ≤ edgeSum d u n :=
  Finset.sum_nonneg fun e _ => by split_ifs <;> first | exact hu e | exact le_refl 0

theorem one_le_degL (d : Fin 131072 → BitVec 32) (ew : Fin 131072 → EReal) (h : ∀ e, 0 ≤ ew e) (n : Fin 4096) : 1 ≤ degL d ew n := by
  have := add_le_add (edgeSum_nonneg d ew h n.val) (le_refl (1 : EReal))
  rwa [zero_add] at this

/-- A list over the edges, continued by one over the self loops. -/
def loops {α : Type} (a : Fin 131072 → α) (b : Fin 4096 → α) (e : Fin 135168) : α :=
  if h : e.val < 131072 then a ⟨e.val, h⟩ else b ⟨e.val - 131072, by omega⟩

theorem loops_edge {α : Type} (a : Fin 131072 → α) (b : Fin 4096 → α) (e : Fin 131072) (h : e.val < 135168) : loops a b ⟨e.val, h⟩ = a e :=
  dif_pos e.isLt

theorem loops_self {α : Type} (a : Fin 131072 → α) (b : Fin 4096 → α) (k : Fin 4096) (h : 131072 + k.val < 135168) :
    loops a b ⟨131072 + k.val, h⟩ = b k := by
  unfold loops
  rw [dif_neg (by simp only; omega)]
  exact congrArg b (Fin.ext (by simp only; omega))

theorem edgeSum_loops (d : Fin 131072 → BitVec 32) (u : Fin 135168 → EReal) (n : Fin 4096) :
    edgeSum (loops d fun k => BitVec.ofNat 32 k.val) u n.val
      = edgeSum d (fun e => u ⟨e.val, by omega⟩) n.val + u ⟨131072 + n.val, by omega⟩ := by
  rw [edgeSum_append]
  simp only [loops_edge, loops_self]
  rw [edgeSum_self (fun k => u ⟨131072 + k.val, by omega⟩)]

theorem deg_loops (d : Fin 131072 → BitVec 32) (ew : Fin 131072 → EReal) (n : Fin 4096) :
    edgeSum (loops d fun k => BitVec.ofNat 32 k.val) (loops ew fun _ => 1) n.val = degL d ew n := by
  rw [edgeSum_loops]
  simp only [loops_edge, loops_self]
  rfl

/-- A sparse layer, from the sum over the edges with the self loops appended. -/
theorem sparse_loops (s d : Fin 131072 → BitVec 32) (ew : Fin 131072 → EReal) (h0 : ∀ e, 0 ≤ ew e) (t : Fin 4096 → Fin 128 → EReal)
    (w : Fin 128 → Fin 128 → EReal) (b : Fin 128 → EReal) (n : Fin 4096) (c : Fin 128) (s' d' : Fin 135168 → BitVec 32)
    (hs : s' = loops s fun k => BitVec.ofNat 32 k.val) (hd : d' = loops d fun k => BitVec.ofNat 32 k.val) (w' : Fin 135168 → EReal)
    (hw : w' = loops ew fun _ => 1) (g : Fin 4096 → EReal) (hg : ∀ n, g n = Ideal.rsqrt (degL d ew n)) :
    Ideal.ofBits .f32 0x3F666666#32
        * (edgeSum d' (fun e => g (nodeOf (wrap (s' e))) * w' e * g (nodeOf (wrap (d' e))) * ∑ l, t (nodeOf (wrap (s' e))) l * w c l) n.val + b c)
      + Ideal.ofBits .f32 0x3DCCCCCD#32 * t n c
      = sparseL s d ew t w b n c := by
  subst hs hd hw
  rw [edgeSum_loops]
  simp only [loops_edge, loops_self, hg, wrap_node, nodeOf_node]
  rw [self_weight _ (one_le_degL _ _ h0 n)]
  unfold sparseL normL
  simp only [mul_comm (w c _)]

/-- A one-bit word read as a number. -/
theorem word_one (p : Prop) [Decidable p] :
    FloatOps.uitofp (F := Ideal) FTy.f32 (if p then 1#1 else 0#1) = if p then (1 : EReal) else 0 := by
  split_ifs
  · show ((((1#1 : BitVec 1).toNat : ℕ) : ℝ) : EReal) = 1
    simp
  · show ((((0#1 : BitVec 1).toNat : ℕ) : ℝ) : EReal) = 0
    simp

theorem eye_word {n : ℕ} (hn : n ≤ 2 ^ 32) (i j : Fin n) :
    IntOp.cmpi CmpIPredicate.eq (IntOp.addi (BitVec.ofNat 32 i.val) 0#32) (BitVec.ofNat 32 j.val) = if i = j then 1#1 else 0#1 := by
  have h : (BitVec.ofNat 32 i.val + 0#32 = BitVec.ofNat 32 j.val) ↔ i = j := by
    rw [BitVec.add_zero, ← BitVec.toNat_inj, BitVec.toNat_ofNat, BitVec.toNat_ofNat, Fin.ext_iff,
      Nat.mod_eq_of_lt (by omega), Nat.mod_eq_of_lt (by omega)]
  show BitVec.ofBool (decide (BitVec.ofNat 32 i.val + 0#32 = BitVec.ofNat 32 j.val)) = _
  by_cases hij : i = j
  · rw [if_pos hij, decide_eq_true (h.2 hij)]; rfl
  · rw [if_neg hij, decide_eq_false fun q => hij (h.1 q)]; rfl

end Cert.Maths
-- ==== Proof.Value.Maths.lean ====
/- The layers in scalars: what each stage computes at an index, as functions of its operands' entries. -/
module

public import proofs.«01_k».proof.Proof.Value.Softmax

@[expose] public section

noncomputable section

namespace Cert.Maths

open Idealize.ShloMosaic

/-- The head of a feature. -/
def headOf (j : Fin 128) : Fin 4 := ⟨j.val / 32, by omega⟩

/-- A row through a weight matrix and a bias. -/
def proj (x : Fin 128 → EReal) (w : Fin 128 → Fin 128 → EReal) (b : Fin 128 → EReal) (j : Fin 128) : EReal :=
  (∑ k, x k * w k j) + b j

/-- The scaled score of head `h`: the products of query and key over the features of the head. -/
def score (κ : EReal) (q k : Fin 128 → EReal) (h : Fin 4) : EReal :=
  ∑ j, q j * κ * k j * (if headOf j = h then 1 else 0)

/-- The output features of the attention call for one row. -/
def ugRow (κ : EReal) (x : Fin 128 → EReal) (seq : ℕ → Fin 128 → EReal) (qr : Fin 128 → EReal)
    (wq wk wv : Fin 128 → Fin 128 → EReal) (bq bk bv : Fin 128 → EReal) (wo : Fin 128 → Fin 128 → EReal)
    (bo : Fin 128 → EReal) (fw1 fw2 : Fin 128 → Fin 128 → EReal) (fb : Fin 128 → EReal) (c : Fin 128) : EReal :=
  (∑ k, x k * fw1 k c)
    + (∑ k, proj (fun j =>
        Ideal.div
          (runO (fun t => score κ (proj (fun k => x k + qr k) wq bq) (proj (seq t) wk bk) (headOf j))
            (fun t => proj (seq t) wv bv j) 20)
          (runL (fun t => score κ (proj (fun k => x k + qr k) wq bq) (proj (seq t) wk bk) (headOf j)) 20)) wo bo k * fw2 k c)
    + fb c

end Cert.Maths
-- ==== Proof.Value.AttendEq.lean ====
/- Attention for one row of real operands: the running softmax and the softmax as a quotient agree. -/
module

public import proofs.«01_k».proof.Proof.Value.Layers
public import proofs.«01_k».proof.Proof.Value.Maths

@[expose] public section

noncomputable section

namespace Cert.Maths

open Idealize.ShloMosaic

/-- A score of a head as a quotient: the product of query and key over the head's features, over the root of their number. -/
def scoreR (q k : Fin 128 → EReal) (h : Fin 4) : EReal :=
  Ideal.div (∑ i : Fin 32, q ⟨h.val * 32 + i.val, by omega⟩ * k ⟨h.val * 32 + i.val, by omega⟩) (Ideal.sqrt (Ideal.ofBits .f32 0x42000000#32))

/-- The weight of a position before it is normalised. -/
def weightR (s : Fin 20 → EReal) (t : Fin 20) : EReal :=
  Ideal.exp (s t - max (Ideal.ofBits .f32 0xFF800000#32) (Finset.univ.fold max (Ideal.ofBits .f32 0xFF800000#32) s))

/-- The output features for one row, the softmax as a quotient. -/
def refRow (x : Fin 128 → EReal) (seq : Fin 20 → Fin 128 → EReal) (qr : Fin 128 → EReal)
    (wq wk wv : Fin 128 → Fin 128 → EReal) (bq bk bv : Fin 128 → EReal) (wo : Fin 128 → Fin 128 → EReal)
    (bo : Fin 128 → EReal) (fw1 fw2 : Fin 128 → Fin 128 → EReal) (fb : Fin 128 → EReal) (c : Fin 128) : EReal :=
  (∑ k, x k * fw1 k c)
    + (∑ k, ((∑ j, (∑ t, Ideal.div (weightR (fun t => scoreR (proj (fun k => x k + qr k) wq bq) (proj (seq t) wk bk) (headOf j)) t)
            (∑ u, weightR (fun t => scoreR (proj (fun k => x k + qr k) wq bq) (proj (seq t) wk bk) (headOf j)) u) * proj (seq t) wv bv j)
          * wo j k) + bo k) * fw2 k c)
    + fb c

theorem bits_dh : Ideal.ofBits .f32 0x42000000#32 = ((32 : ℝ) : EReal) := by
  simp only [Ideal.ofBits, Ideal.ieee]
  rw [if_neg (by decide), if_neg (by decide), if_neg (by decide), show (BitVec.extractLsb' 23 8 0x42000000#32).toNat = 132 from by decide,
    show (BitVec.extractLsb' 0 23 0x42000000#32).toNat = 0 from by decide]
  congr 1
  norm_num

theorem root_dh : Ideal.sqrt (Ideal.ofBits .f32 0x42000000#32) = ((Real.sqrt 32 : ℝ) : EReal) := by
  rw [bits_dh]
  show (if (32 : ℝ) < 0 then (⊥ : EReal) else ((Real.sqrt 32 : ℝ) : EReal)) = _
  rw [if_neg (by norm_num)]

theorem proj_real (x : Fin 128 → EReal) (w : Fin 128 → Fin 128 → EReal) (b : Fin 128 → EReal) (hx : ∀ k, ∃ r : ℝ, x k = (r : EReal))
    (hw : ∀ k j, ∃ r : ℝ, w k j = (r : EReal)) (hb : ∀ k, ∃ r : ℝ, b k = (r : EReal)) (j : Fin 128) : ∃ r : ℝ, proj x w b j = (r : EReal) := by
  choose x' hx using hx
  choose w' hw using hw
  choose b' hb using hb
  unfold proj
  simp only [hx, hw, hb, ← EReal.coe_mul, ← coe_sum', ← EReal.coe_add]
  exact ⟨_, rfl⟩

/-- The sum over the features that keeps one head is the sum over the head's features. -/
theorem head_sum (f : Fin 128 → ℝ) (h : Fin 4) :
    ∑ j, f j * (if headOf j = h then 1 else 0) = ∑ i : Fin 32, f ⟨h.val * 32 + i.val, by omega⟩ := by
  rw [← Equiv.sum_comp (finProdFinEquiv (m := 4) (n := 32)) fun j : Fin 128 => f j * (if headOf j = h then 1 else 0), Fintype.sum_prod_type,
    Finset.sum_eq_single h]
  · refine Finset.sum_congr rfl fun i _ => ?_
    have e : (finProdFinEquiv (h, i) : Fin (4 * 32)) = (⟨h.val * 32 + i.val, by omega⟩ : Fin 128) := Fin.ext (by
      show i.val + 32 * h.val = h.val * 32 + i.val
      omega)
    rw [e, if_pos, mul_one]
    exact Fin.ext (by show (h.val * 32 + i.val) / 32 = h.val; omega)
  · intro a _ ha
    refine Finset.sum_eq_zero fun i _ => ?_
    rw [if_neg, mul_zero]
    intro q
    have := congrArg Fin.val q
    have e : (i.val + 32 * a.val) / 32 = h.val := this
    exact ha (Fin.ext (by omega))
  · intro q; exact absurd (Finset.mem_univ h) q

theorem score_eq (q k : Fin 128 → ℝ) (h : Fin 4) :
    score (((Real.sqrt 32)⁻¹ : ℝ) : EReal) (fun j => (q j : EReal)) (fun j => (k j : EReal)) h
      = (((∑ i : Fin 32, q ⟨h.val * 32 + i.val, by omega⟩ * k ⟨h.val * 32 + i.val, by omega⟩) / Real.sqrt 32 : ℝ) : EReal) := by
  have e : ∀ j : Fin 128, (q j : EReal) * (((Real.sqrt 32)⁻¹ : ℝ) : EReal) * (k j : EReal) * (if headOf j = h then (1 : EReal) else 0)
      = ((q j * (Real.sqrt 32)⁻¹ * k j * (if headOf j = h then 1 else 0) : ℝ) : EReal) := fun j => by
    split_ifs <;> simp
  unfold score
  simp only [e]
  rw [← coe_sum', head_sum (fun j => q j * (Real.sqrt 32)⁻¹ * k j), Finset.sum_div]
  congr 1
  refine Finset.sum_congr rfl fun i _ => ?_
  ring

theorem scoreR_eq (q k : Fin 128 → ℝ) (h : Fin 4) :
    scoreR (fun j => (q j : EReal)) (fun j => (k j : EReal)) h
      = (((∑ i : Fin 32, q ⟨h.val * 32 + i.val, by omega⟩ * k ⟨h.val * 32 + i.val, by omega⟩) / Real.sqrt 32 : ℝ) : EReal) := by
  unfold scoreR
  simp only [root_dh, ← EReal.coe_mul, ← coe_sum']
  rw [div_coe _ _ (by positivity)]

/-- The running softmax over the positions and the softmax as a quotient, of real scores and values. -/
theorem attend_eq (s v : Fin 20 → ℝ) (es ev : Fin 20 → EReal) (hs : ∀ t, es t = (s t : EReal)) (hv : ∀ t, ev t = (v t : EReal)) :
    Ideal.div (runO (fun t => es (Fin.ofNat 20 t)) (fun t => ev (Fin.ofNat 20 t)) 20) (runL (fun t => es (Fin.ofNat 20 t)) 20)
      = ∑ t, Ideal.div (weightR es t) (∑ u, weightR es u) * ev t := by
  obtain rfl : es = fun t => (s t : EReal) := funext hs
  obtain rfl : ev = fun t => (v t : EReal) := funext hv
  have hm : ∀ n, Fin.ofNat 20 (n % 20) = Fin.ofNat 20 n := fun n => Fin.ext (Nat.mod_mod _ _)
  have ht : ∀ t : Fin 20, Fin.ofNat 20 t.val = t := fun t => Fin.ext (Nat.mod_eq_of_lt t.isLt)
  rw [run_soft s v _ _ (fun t => by simp only [ht]) (fun t => by simp only [ht]) (fun n => by simp only [hm]) (fun n => by simp only [hm]), ← soft_ref]
  unfold weightR
  simp only [bits_neg_inf, max_eq_right bot_le]

theorem row_eq (x : Fin 128 → EReal) (seq : Fin 20 → Fin 128 → EReal) (qr : Fin 128 → EReal)
    (wq wk wv : Fin 128 → Fin 128 → EReal) (bq bk bv : Fin 128 → EReal) (wo : Fin 128 → Fin 128 → EReal)
    (bo : Fin 128 → EReal) (fw1 fw2 : Fin 128 → Fin 128 → EReal) (fb : Fin 128 → EReal) (c : Fin 128)
    (hx : ∀ k, ∃ r : ℝ, x k = (r : EReal)) (hseq : ∀ t k, ∃ r : ℝ, seq t k = (r : EReal)) (hqr : ∀ k, ∃ r : ℝ, qr k = (r : EReal))
    (hwq : ∀ k j, ∃ r : ℝ, wq k j = (r : EReal)) (hwk : ∀ k j, ∃ r : ℝ, wk k j = (r : EReal)) (hwv : ∀ k j, ∃ r : ℝ, wv k j = (r : EReal))
    (hbq : ∀ k, ∃ r : ℝ, bq k = (r : EReal)) (hbk : ∀ k, ∃ r : ℝ, bk k = (r : EReal)) (hbv : ∀ k, ∃ r : ℝ, bv k = (r : EReal)) :
    ugRow (((Real.sqrt 32)⁻¹ : ℝ) : EReal) x (fun t => seq (Fin.ofNat 20 t)) qr wq wk wv bq bk bv wo bo fw1 fw2 fb c
      = refRow x seq qr wq wk wv bq bk bv wo bo fw1 fw2 fb c := by
  have hxq : ∀ k, ∃ r : ℝ, x k + qr k = (r : EReal) := fun k => by
    obtain ⟨a, ha⟩ := hx k
    obtain ⟨b, hb⟩ := hqr k
    exact ⟨a + b, by rw [ha, hb, EReal.coe_add]⟩
  have hQ := proj_real (fun k => x k + qr k) wq bq hxq hwq hbq
  have hK := fun t => proj_real (seq t) wk bk (hseq t) hwk hbk
  have hV := fun t => proj_real (seq t) wv bv (hseq t) hwv hbv
  choose q hq using hQ
  choose k hk using hK
  choose v hv using hV
  have eq : proj (fun k => x k + qr k) wq bq = fun j => (q j : EReal) := funext hq
  have ek : ∀ t, proj (seq t) wk bk = fun j => (k t j : EReal) := fun t => funext (hk t)
  have key : ∀ j, Ideal.div
      (runO (fun t => score (((Real.sqrt 32)⁻¹ : ℝ) : EReal) (proj (fun k => x k + qr k) wq bq) (proj (seq (Fin.ofNat 20 t)) wk bk) (headOf j))
        (fun t => proj (seq (Fin.ofNat 20 t)) wv bv j) 20)
      (runL (fun t => score (((Real.sqrt 32)⁻¹ : ℝ) : EReal) (proj (fun k => x k + qr k) wq bq) (proj (seq (Fin.ofNat 20 t)) wk bk) (headOf j)) 20)
      = ∑ t, Ideal.div (weightR (fun t => scoreR (proj (fun k => x k + qr k) wq bq) (proj (seq t) wk bk) (headOf j)) t)
            (∑ u, weightR (fun t => scoreR (proj (fun k => x k + qr k) wq bq) (proj (seq t) wk bk) (headOf j)) u) * proj (seq t) wv bv j := fun j => by
    have h1 : ∀ t, score (((Real.sqrt 32)⁻¹ : ℝ) : EReal) (proj (fun k => x k + qr k) wq bq) (proj (seq t) wk bk) (headOf j)
        = scoreR (proj (fun k => x k + qr k) wq bq) (proj (seq t) wk bk) (headOf j) := fun t => by
      rw [eq, ek, score_eq, scoreR_eq]
    have h2 : ∀ t, ∃ r : ℝ, scoreR (proj (fun k => x k + qr k) wq bq) (proj (seq t) wk bk) (headOf j) = (r : EReal) := fun t => by
      rw [eq, ek, scoreR_eq]
      exact ⟨_, rfl⟩
    simp only [h1]
    choose s hs using h2
    exact attend_eq s (fun t => v t j) (fun t => scoreR (proj (fun k => x k + qr k) wq bq) (proj (seq t) wk bk) (headOf j))
      (fun t => proj (seq t) wv bv j) hs (fun t => hv t j)
  unfold ugRow refRow
  simp only [key]
  rfl

end Cert.Maths
-- ==== Proof.Value.Attention.lean ====
/- The attention call: its body as a running softmax over the twenty positions, and what it leaves at an index. -/
module

public import proofs.«01_k».proof.Proof.Run.Region1
public import proofs.«01_k».proof.Proof.Value.Maths
public import Idealize.ShloMosaic.Lib.Pipeline.ValueKit
public import Idealize.ShloMosaic.Lib.Pointwise

@[expose] public section

set_option maxRecDepth 16384

noncomputable section

namespace Cert.KernelIdeal.Value

open Cert.KernelIdeal Cert.KernelIdeal.Gen Cert.KernelIdeal.Run
open Idealize.ShloMosaic Idealize.ShloMosaic.TcCoe
open Idealize.ShloMosaic.Pipeline (Dat Cfg Window)

/-- Position `t` of a block of sequences, as a rectangle. -/
def rectT (t : Fin 20) : Rect S256x20x128 :=
  Rect.unit (s := S256x20x128) ![0, t.val, 0] S256x1x128.size (by revert t; decide)

/-- Position `t` of a block of sequences. -/
def seqV (x1 : Vec Ideal S256x20x128 .f32) (t : ℕ) : Vec Ideal S256x1x128 .f32 := View.ld x1 (rectT (Fin.ofNat 20 t))

/-- The running maxima of the scores after `t` positions. -/
def mV (q : FVec Ideal S256x128 .f32) (hm : FVec Ideal S128x4 .f32) (k : ℕ → FVec Ideal S256x128 .f32) : ℕ → FVec Ideal S256x4 .f32
  | 0 => k1_pay5
  | t + 1 => k1_pay12 q hm (mV q hm k t) (k t)

/-- The running sums of the weights after `t` positions. -/
def lV (q : FVec Ideal S256x128 .f32) (hm : FVec Ideal S128x4 .f32) (k : ℕ → FVec Ideal S256x128 .f32) : ℕ → FVec Ideal S256x4 .f32
  | 0 => k1_pay6
  | t + 1 => k1_pay15 q hm (mV q hm k t) (lV q hm k t) (k t)

/-- The running weighted sums of the values after `t` positions. -/
def oV (q : FVec Ideal S256x128 .f32) (hm : FVec Ideal S128x4 .f32) (ex : FVec Ideal S4x128 .f32)
    (k x : ℕ → FVec Ideal S256x128 .f32) (wv : FVec Ideal S128x128 .f32) (bv : Vec Ideal S1x128 .f32) :
    ℕ → FVec Ideal S256x128 .f32
  | 0 => k1_pay7
  | t + 1 => k1_pay16 q hm ex (mV q hm k t) (oV q hm ex k x wv bv t) (x t) (k t) wv bv

/-- A block of the attention's output features. -/
def ugV (x0 : Vec Ideal S256x128 .f32) (x1 : Vec Ideal S256x20x128 .f32) (x2 : Vec Ideal S1x128 .f32)
    (x3 x4 x5 : Vec Ideal S128x128 .f32) (x6 x7 x8 : Vec Ideal S1x128 .f32) (x9 : Vec Ideal S128x128 .f32)
    (x10 : Vec Ideal S1x128 .f32) (x11 x12 : Vec Ideal S128x128 .f32) (x13 : Vec Ideal S1x128 .f32)
    (x14 : Vec Ideal S128x4 .f32) (x15 : Vec Ideal S4x128 .f32) : Vec Ideal S256x128 .f32 :=
  let q := k1_pay2 (View.ld x0 r1_0) (View.ld x2 r1_1) (View.ld x3 r1_2) (View.ld x6 r1_1)
  let hm := k1_pay3 (View.ld x14 r1_3)
  let ex := k1_pay4 (View.ld x15 r1_4)
  let k := fun t => k1_pay9 (seqV x1 t) (View.ld x4 r1_2) (View.ld x7 r1_1)
  k1_pay157 (View.ld x0 r1_0) ex (lV q hm k 20)
    (oV q hm ex k (fun t => k1_pay8 (seqV x1 t)) (k1_pay10 (View.ld x5 r1_2)) (View.ld x8 r1_1) 20)
    (constant S256x128 .f32 0x00000000#32) (View.ld x9 r1_2) (View.ld x10 r1_1) (View.ld x11 r1_2) (View.ld x12 r1_2)
    (View.ld x13 r1_1)

/-- The kernel's query scale. -/
abbrev kap : EReal := Named.named (F := Ideal) (φ := .f32) κ "rsqrt_dh" 0x3E3504F3#32

theorem pay11_apply (q k : FVec Ideal S256x128 .f32) (hm : FVec Ideal S128x4 .f32)
    (hhm : ∀ j h, hm (ix2 j h) = if Maths.headOf j = h then 1 else 0) (r : Fin 256) (h : Fin 4) :
    k1_pay11 q hm k (ix2 r h) = ∑ j, q (ix2 r j) * k (ix2 r j) * (if Maths.headOf j = h then 1 else 0) := by
  pointwise [k1_pay11, hhm]

theorem mV_apply (q : FVec Ideal S256x128 .f32) (hm : FVec Ideal S128x4 .f32) (k : ℕ → FVec Ideal S256x128 .f32)
    (r : Fin 256) (h : Fin 4) (t : ℕ) : mV q hm k t (ix2 r h) = Maths.runM (fun i => k1_pay11 q hm (k i) (ix2 r h)) t := by
  induction t with
  | zero => rfl
  | succ t ih => rw [Maths.runM, ← ih]; rfl

theorem lV_apply (q : FVec Ideal S256x128 .f32) (hm : FVec Ideal S128x4 .f32) (k : ℕ → FVec Ideal S256x128 .f32)
    (r : Fin 256) (h : Fin 4) (t : ℕ) : lV q hm k t (ix2 r h) = Maths.runL (fun i => k1_pay11 q hm (k i) (ix2 r h)) t := by
  induction t with
  | zero => exact Ideal.ofBits_zero_f32
  | succ t ih => rw [Maths.runL, ← ih, ← mV_apply, ← mV_apply]; rfl

theorem oV_apply (q : FVec Ideal S256x128 .f32) (hm : FVec Ideal S128x4 .f32) (ex : FVec Ideal S4x128 .f32)
    (hex : ∀ h j, ex (ix2 h j) = if h = Maths.headOf j then 1 else 0)
    (k x : ℕ → FVec Ideal S256x128 .f32) (wv : FVec Ideal S128x128 .f32) (bv : Vec Ideal S1x128 .f32)
    (r : Fin 256) (j : Fin 128) (t : ℕ) : oV q hm ex k x wv bv t (ix2 r j)
      = Maths.runO (fun i => k1_pay11 q hm (k i) (ix2 r (Maths.headOf j)))
          (fun i => (∑ a, x i (ix2 r a) * wv (ix2 a j)) + bv (ix2 0 j)) t := by
  induction t with
  | zero => exact Ideal.ofBits_zero_f32
  | succ t ih =>
    rw [Maths.runO, ← ih, ← mV_apply, ← mV_apply]
    show k1_pay16 q hm ex (mV q hm k t) (oV q hm ex k x wv bv t) (x t) (k t) wv bv (ix2 r j) = _
    pointwise [k1_pay16, k1_pay13, k1_pay14, hex]
    simp only [mul_ite, mul_one, mul_zero, Finset.sum_ite_eq', Finset.mem_univ, if_true]
    rfl

theorem ugV_apply (x0 : Vec Ideal S256x128 .f32) (x1 : Vec Ideal S256x20x128 .f32) (x2 : Vec Ideal S1x128 .f32)
    (x3 x4 x5 : Vec Ideal S128x128 .f32) (x6 x7 x8 : Vec Ideal S1x128 .f32) (x9 : Vec Ideal S128x128 .f32)
    (x10 : Vec Ideal S1x128 .f32) (x11 x12 : Vec Ideal S128x128 .f32) (x13 : Vec Ideal S1x128 .f32)
    (x14 : Vec Ideal S128x4 .f32) (x15 : Vec Ideal S4x128 .f32)
    (hhm : ∀ j h, x14 (ix2 j h) = if Maths.headOf j = h then 1 else 0)
    (hex : ∀ h j, x15 (ix2 h j) = if h = Maths.headOf j then 1 else 0) (r : Fin 256) (j : Fin 128) :
    ugV x0 x1 x2 x3 x4 x5 x6 x7 x8 x9 x10 x11 x12 x13 x14 x15 (ix2 r j)
      = Maths.ugRow kap (fun k => x0 (ix2 r k)) (fun t k => x1 (ix3 r (Fin.ofNat 20 t) k)) (fun k => x2 (ix2 0 k))
          (fun a b => x3 (ix2 a b)) (fun a b => x4 (ix2 a b)) (fun a b => x5 (ix2 a b))
          (fun a => x6 (ix2 0 a)) (fun a => x7 (ix2 0 a)) (fun a => x8 (ix2 0 a))
          (fun a b => x9 (ix2 a b)) (fun a => x10 (ix2 0 a)) (fun a b => x11 (ix2 a b)) (fun a b => x12 (ix2 a b))
          (fun a => x13 (ix2 0 a)) j := by
  have hhm' : ∀ j h, k1_pay3 (View.ld x14 r1_3) (ix2 j h) = if Maths.headOf j = h then 1 else 0 := fun j h => by
    rw [← hhm j h]; pointwise [k1_pay3]
  have hex' : ∀ h j, k1_pay4 (View.ld x15 r1_4) (ix2 h j) = if h = Maths.headOf j then 1 else 0 := fun h j => by
    rw [← hex h j]; pointwise [k1_pay4]
  have hseq : ∀ (t : ℕ) (k : Fin 128), k1_pay8 (seqV x1 t) (ix2 r k) = x1 (ix3 r (Fin.ofNat 20 t) k) := fun t k => by
    pointwise [k1_pay8, seqV, rectT]
  have hq : ∀ j, k1_pay2 (View.ld x0 r1_0) (View.ld x2 r1_1) (View.ld x3 r1_2) (View.ld x6 r1_1) (ix2 r j)
      = Maths.proj (fun k => x0 (ix2 r k) + x2 (ix2 0 k)) (fun a b => x3 (ix2 a b)) (fun a => x6 (ix2 0 a)) j * kap := fun j => by
    pointwise [k1_pay2, Maths.proj]
  have hk : ∀ t j, k1_pay9 (seqV x1 t) (View.ld x4 r1_2) (View.ld x7 r1_1) (ix2 r j)
      = Maths.proj (fun k => x1 (ix3 r (Fin.ofNat 20 t) k)) (fun a b => x4 (ix2 a b)) (fun a => x7 (ix2 0 a)) j := fun t j => by
    pointwise [k1_pay9, Maths.proj]
    simp only [hseq]
  have hw : ∀ a b, k1_pay10 (View.ld x5 r1_2) (ix2 a b) = x5 (ix2 a b) := fun a b => by pointwise [k1_pay10]
  have hb : ∀ a, View.ld x8 r1_1 (ix2 0 a) = x8 (ix2 0 a) := fun a => by pointwise
  unfold ugV
  pointwise [k1_pay157]
  simp only [hex', mul_ite, mul_one, mul_zero, Finset.sum_ite_eq', Finset.mem_univ, if_true, lV_apply,
    oV_apply _ _ _ hex', pay11_apply _ _ _ hhm', hq, hk, hseq, hw, hb]
  simp only [Maths.ugRow, Maths.score, Maths.proj, mul_ite, mul_one, mul_zero]

/-- The output features of a half, from the call's operands. -/
def ugG (x0 : S2048x128.Idx → EReal) (x1 : S2048x20x128.Idx → EReal) (x2 : S1x128.Idx → EReal)
    (x3 x4 x5 : S128x128.Idx → EReal) (x6 x7 x8 : S1x128.Idx → EReal) (x9 : S128x128.Idx → EReal)
    (x10 : S1x128.Idx → EReal) (x11 x12 : S128x128.Idx → EReal) (x13 : S1x128.Idx → EReal) : S2048x128.Idx → EReal := fun i =>
  Maths.ugRow kap (fun k => x0 (ix2 (i 0) k)) (fun t k => x1 (ix3 (i 0) (Fin.ofNat 20 t) k)) (fun k => x2 (ix2 0 k))
    (fun a b => x3 (ix2 a b)) (fun a b => x4 (ix2 a b)) (fun a b => x5 (ix2 a b))
    (fun a => x6 (ix2 0 a)) (fun a => x7 (ix2 0 a)) (fun a => x8 (ix2 0 a))
    (fun a b => x9 (ix2 a b)) (fun a => x10 (ix2 0 a)) (fun a b => x11 (ix2 a b)) (fun a b => x12 (ix2 a b))
    (fun a => x13 (ix2 0 a)) (i 1)

/-- A block of the features through a gain and `tanh`. -/
def thV (u : Vec Ideal S256x128 .f32) (g : Vec Ideal S1x1 .f32) : Vec Ideal S256x128 .f32 := k1_pay1 u (View.ld g r1_25)

/-- The features of a half through a gain and `tanh`. -/
def thG (g : S1x1.Idx → EReal) (u : S2048x128.Idx → EReal) : S2048x128.Idx → EReal := fun i => Ideal.tanh (g (ix2 0 0) * u i)

theorem thV_apply (u : Vec Ideal S256x128 .f32) (g : Vec Ideal S1x1 .f32) (r : Fin 256) (j : Fin 128) :
    thV u g (ix2 r j) = Ideal.tanh (g (ix2 0 0) * u (ix2 r j)) := by
  pointwise [thV, k1_pay1]
-- ==== Proof.Value.Attend1.lean ====
/- The attention call of the first half: what it leaves in its output arrays, at an index. -/
module

public import proofs.«01_k».proof.Proof.Run.Region1
public import proofs.«01_k».proof.Proof.Value.Attention
public import Idealize.ShloMosaic.Lib.Pipeline.ValueKit
public import Idealize.ShloMosaic.Lib.Pointwise

@[expose] public section

set_option maxRecDepth 16384

noncomputable section

namespace Cert.KernelIdeal.Value

open Cert.KernelIdeal Cert.KernelIdeal.Gen Cert.KernelIdeal.Run
open Idealize.ShloMosaic Idealize.ShloMosaic.TcCoe
open Idealize.ShloMosaic.Pipeline (Dat Cfg Window)

variable (V : (c : Dev nD) → (b : Ref sig .tc) → Buf (Elt Ideal) ((c : Thread nD τ).loc b))

theorem out1_18_eq (x0 : Vec Ideal S256x128 .f32) (x1 : Vec Ideal S256x20x128 .f32) (x2 : Vec Ideal S1x128 .f32)
    (x3 x4 x5 : Vec Ideal S128x128 .f32) (x6 x7 x8 : Vec Ideal S1x128 .f32) (x9 : Vec Ideal S128x128 .f32)
    (x10 : Vec Ideal S1x128 .f32) (x11 x12 : Vec Ideal S128x128 .f32) (x13 : Vec Ideal S1x128 .f32)
    (x14 : Vec Ideal S128x4 .f32) (x15 : Vec Ideal S4x128 .f32) :
    out1_18 x0 x1 x2 x3 x4 x5 x6 x7 x8 x9 x10 x11 x12 x13 x14 x15
      = View.canon [⟨r1_0, ugV x0 x1 x2 x3 x4 x5 x6 x7 x8 x9 x10 x11 x12 x13 x14 x15⟩] := rfl

theorem out1_19_eq (x0 : Vec Ideal S256x128 .f32) (x1 : Vec Ideal S256x20x128 .f32) (x2 : Vec Ideal S1x128 .f32)
    (x3 x4 x5 : Vec Ideal S128x128 .f32) (x6 x7 x8 : Vec Ideal S1x128 .f32) (x9 : Vec Ideal S128x128 .f32)
    (x10 : Vec Ideal S1x128 .f32) (x11 x12 : Vec Ideal S128x128 .f32) (x13 : Vec Ideal S1x128 .f32)
    (x14 : Vec Ideal S128x4 .f32) (x15 : Vec Ideal S4x128 .f32) (x16 : Vec Ideal S1x1 .f32) :
    out1_19 x0 x1 x2 x3 x4 x5 x6 x7 x8 x9 x10 x11 x12 x13 x14 x15 x16
      = View.canon [⟨r1_0, thV (ugV x0 x1 x2 x3 x4 x5 x6 x7 x8 x9 x10 x11 x12 x13 x14 x15) x16⟩] := rfl

theorem out1_20_eq (x0 : Vec Ideal S256x128 .f32) (x1 : Vec Ideal S256x20x128 .f32) (x2 : Vec Ideal S1x128 .f32)
    (x3 x4 x5 : Vec Ideal S128x128 .f32) (x6 x7 x8 : Vec Ideal S1x128 .f32) (x9 : Vec Ideal S128x128 .f32)
    (x10 : Vec Ideal S1x128 .f32) (x11 x12 : Vec Ideal S128x128 .f32) (x13 : Vec Ideal S1x128 .f32)
    (x14 : Vec Ideal S128x4 .f32) (x15 : Vec Ideal S4x128 .f32) (x17 : Vec Ideal S1x1 .f32) :
    out1_20 x0 x1 x2 x3 x4 x5 x6 x7 x8 x9 x10 x11 x12 x13 x14 x15 x17
      = View.canon [⟨r1_0, thV (ugV x0 x1 x2 x3 x4 x5 x6 x7 x8 x9 x10 x11 x12 x13 x14 x15) x17⟩] := rfl

theorem idx1 : ∀ t : Fin cfg1.N, win1_0.index t 0 = t.val ∧ win1_0.index t 1 = 0
    ∧ win1_1.index t 0 = t.val ∧ win1_1.index t 1 = 0 ∧ win1_1.index t 2 = 0
    ∧ win1_18.index t 0 = t.val ∧ win1_18.index t 1 = 0 ∧ win1_19.index t 0 = t.val ∧ win1_19.index t 1 = 0
    ∧ win1_20.index t 0 = t.val ∧ win1_20.index t 1 = 0
    ∧ win1_2.index t 0 = 0 ∧ win1_2.index t 1 = 0 ∧ win1_3.index t 0 = 0 ∧ win1_3.index t 1 = 0
    ∧ win1_4.index t 0 = 0 ∧ win1_4.index t 1 = 0 ∧ win1_5.index t 0 = 0 ∧ win1_5.index t 1 = 0
    ∧ win1_6.index t 0 = 0 ∧ win1_6.index t 1 = 0 ∧ win1_7.index t 0 = 0 ∧ win1_7.index t 1 = 0
    ∧ win1_8.index t 0 = 0 ∧ win1_8.index t 1 = 0 ∧ win1_9.index t 0 = 0 ∧ win1_9.index t 1 = 0
    ∧ win1_10.index t 0 = 0 ∧ win1_10.index t 1 = 0 ∧ win1_11.index t 0 = 0 ∧ win1_11.index t 1 = 0
    ∧ win1_12.index t 0 = 0 ∧ win1_12.index t 1 = 0 ∧ win1_13.index t 0 = 0 ∧ win1_13.index t 1 = 0
    ∧ win1_14.index t 0 = 0 ∧ win1_14.index t 1 = 0 ∧ win1_15.index t 0 = 0 ∧ win1_15.index t 1 = 0
    ∧ win1_16.index t 0 = 0 ∧ win1_16.index t 1 = 0 ∧ win1_17.index t 0 = 0 ∧ win1_17.index t 1 = 0 := by decide +kernel

/-- The features of this half, from the arrays the call reads. -/
abbrev ugA1 (c : Dev nD) : S2048x128.Idx → EReal :=
  ugG (V c main_arg2) (V c main_arg0) (V c main_v52) (V c main_v1) (V c main_v3) (V c main_v5)
      (V c main_v7) (V c main_v9) (V c main_v11) (V c main_v12) (V c main_v13) (V c main_v15) (V c main_v17) (V c main_v18)

theorem arr1_18 (c : Dev nD) (hm : S128x4.Idx → EReal) (ex : S4x128.Idx → EReal) (hhm : V c main_v27 = hm) (hex : V c main_v28 = ex)
    (h1 : ∀ j h, hm (ix2 j h) = if Maths.headOf j = h then 1 else 0)
    (h2 : ∀ h j, ex (ix2 h j) = if h = Maths.headOf j then 1 else 0) :
    (dat1 V c).arrAt 18 cfg1.N = ugA1 V c := by
  refine (dat1 V c).arrAt_eq_of_covers 18 _ (by decide +kernel) fun tt hf y => ?_
  blk_simp
  rw [after1_18, out1_18_eq]
  have e14 : iblk1 V c 14 tt = hm := by rw [← hhm]; funext x; blk_ext [iblk1, idx1 tt]
  have e15 : iblk1 V c 15 tt = ex := by rw [← hex]; funext x; blk_ext [iblk1, idx1 tt]
  rw [e14, e15]
  frame_out
  idx_vars y
  rw [ugV_apply _ _ _ _ _ _ _ _ _ _ _ _ _ _ _ _ h1 h2]
  pointwise [ugG]
  blk_point [iblk1, idx1 tt]

theorem arr1_19 (c : Dev nD) (hm : S128x4.Idx → EReal) (ex : S4x128.Idx → EReal) (hhm : V c main_v27 = hm) (hex : V c main_v28 = ex)
    (h1 : ∀ j h, hm (ix2 j h) = if Maths.headOf j = h then 1 else 0)
    (h2 : ∀ h j, ex (ix2 h j) = if h = Maths.headOf j then 1 else 0) :
    (dat1 V c).arrAt 19 cfg1.N = thG (V c main_v43) (ugA1 V c) := by
  refine (dat1 V c).arrAt_eq_of_covers 19 _ (by decide +kernel) fun tt hf y => ?_
  blk_simp
  rw [after1_19, out1_19_eq]
  have e14 : iblk1 V c 14 tt = hm := by rw [← hhm]; funext x; blk_ext [iblk1, idx1 tt]
  have e15 : iblk1 V c 15 tt = ex := by rw [← hex]; funext x; blk_ext [iblk1, idx1 tt]
  rw [e14, e15]
  frame_out
  idx_vars y
  rw [thV_apply, ugV_apply _ _ _ _ _ _ _ _ _ _ _ _ _ _ _ _ h1 h2]
  pointwise [thG, ugG]
  blk_point [iblk1, idx1 tt]

theorem arr1_20 (c : Dev nD) (hm : S128x4.Idx → EReal) (ex : S4x128.Idx → EReal) (hhm : V c main_v27 = hm) (hex : V c main_v28 = ex)
    (h1 : ∀ j h, hm (ix2 j h) = if Maths.headOf j = h then 1 else 0)
    (h2 : ∀ h j, ex (ix2 h j) = if h = Maths.headOf j then 1 else 0) :
    (dat1 V c).arrAt 20 cfg1.N = thG (V c main_v46) (ugA1 V c) := by
  refine (dat1 V c).arrAt_eq_of_covers 20 _ (by decide +kernel) fun tt hf y => ?_
  blk_simp
  rw [after1_20, out1_20_eq]
  have e14 : iblk1 V c 14 tt = hm := by rw [← hhm]; funext x; blk_ext [iblk1, idx1 tt]
  have e15 : iblk1 V c 15 tt = ex := by rw [← hex]; funext x; blk_ext [iblk1, idx1 tt]
  rw [e14, e15]
  frame_out
  idx_vars y
  rw [thV_apply, ugV_apply _ _ _ _ _ _ _ _ _ _ _ _ _ _ _ _ h1 h2]
  pointwise [thG, ugG]
  blk_point [iblk1, idx1 tt]
-- ==== Proof.Value.Attend2.lean ====
/- The attention call of the second half: what it leaves in its output arrays, at an index. -/
module

public import proofs.«01_k».proof.Proof.Run.Region2
public import proofs.«01_k».proof.Proof.Value.Attention
public import Idealize.ShloMosaic.Lib.Pipeline.ValueKit
public import Idealize.ShloMosaic.Lib.Pointwise

@[expose] public section

set_option maxRecDepth 16384

noncomputable section

namespace Cert.KernelIdeal.Value

open Cert.KernelIdeal Cert.KernelIdeal.Gen Cert.KernelIdeal.Run
open Idealize.ShloMosaic Idealize.ShloMosaic.TcCoe
open Idealize.ShloMosaic.Pipeline (Dat Cfg Window)

variable (V : (c : Dev nD) → (b : Ref sig .tc) → Buf (Elt Ideal) ((c : Thread nD τ).loc b))

theorem out2_18_eq (x0 : Vec Ideal S256x128 .f32) (x1 : Vec Ideal S256x20x128 .f32) (x2 : Vec Ideal S1x128 .f32)
    (x3 x4 x5 : Vec Ideal S128x128 .f32) (x6 x7 x8 : Vec Ideal S1x128 .f32) (x9 : Vec Ideal S128x128 .f32)
    (x10 : Vec Ideal S1x128 .f32) (x11 x12 : Vec Ideal S128x128 .f32) (x13 : Vec Ideal S1x128 .f32)
    (x14 : Vec Ideal S128x4 .f32) (x15 : Vec Ideal S4x128 .f32) :
    out2_18 x0 x1 x2 x3 x4 x5 x6 x7 x8 x9 x10 x11 x12 x13 x14 x15
      = View.canon [⟨r1_0, ugV x0 x1 x2 x3 x4 x5 x6 x7 x8 x9 x10 x11 x12 x13 x14 x15⟩] := rfl

theorem out2_19_eq (x0 : Vec Ideal S256x128 .f32) (x1 : Vec Ideal S256x20x128 .f32) (x2 : Vec Ideal S1x128 .f32)
    (x3 x4 x5 : Vec Ideal S128x128 .f32) (x6 x7 x8 : Vec Ideal S1x128 .f32) (x9 : Vec Ideal S128x128 .f32)
    (x10 : Vec Ideal S1x128 .f32) (x11 x12 : Vec Ideal S128x128 .f32) (x13 : Vec Ideal S1x128 .f32)
    (x14 : Vec Ideal S128x4 .f32) (x15 : Vec Ideal S4x128 .f32) (x16 : Vec Ideal S1x1 .f32) :
    out2_19 x0 x1 x2 x3 x4 x5 x6 x7 x8 x9 x10 x11 x12 x13 x14 x15 x16
      = View.canon [⟨r1_0, thV (ugV x0 x1 x2 x3 x4 x5 x6 x7 x8 x9 x10 x11 x12 x13 x14 x15) x16⟩] := rfl

theorem out2_20_eq (x0 : Vec Ideal S256x128 .f32) (x1 : Vec Ideal S256x20x128 .f32) (x2 : Vec Ideal S1x128 .f32)
    (x3 x4 x5 : Vec Ideal S128x128 .f32) (x6 x7 x8 : Vec Ideal S1x128 .f32) (x9 : Vec Ideal S128x128 .f32)
    (x10 : Vec Ideal S1x128 .f32) (x11 x12 : Vec Ideal S128x128 .f32) (x13 : Vec Ideal S1x128 .f32)
    (x14 : Vec Ideal S128x4 .f32) (x15 : Vec Ideal S4x128 .f32) (x17 : Vec Ideal S1x1 .f32) :
    out2_20 x0 x1 x2 x3 x4 x5 x6 x7 x8 x9 x10 x11 x12 x13 x14 x15 x17
      = View.canon [⟨r1_0, thV (ugV x0 x1 x2 x3 x4 x5 x6 x7 x8 x9 x10 x11 x12 x13 x14 x15) x17⟩] := rfl

theorem idx2 : ∀ t : Fin cfg2.N, win2_0.index t 0 = t.val ∧ win2_0.index t 1 = 0
    ∧ win2_1.index t 0 = t.val ∧ win2_1.index t 1 = 0 ∧ win2_1.index t 2 = 0
    ∧ win2_18.index t 0 = t.val ∧ win2_18.index t 1 = 0 ∧ win2_19.index t 0 = t.val ∧ win2_19.index t 1 = 0
    ∧ win2_20.index t 0 = t.val ∧ win2_20.index t 1 = 0
    ∧ win2_2.index t 0 = 0 ∧ win2_2.index t 1 = 0 ∧ win2_3.index t 0 = 0 ∧ win2_3.index t 1 = 0
    ∧ win2_4.index t 0 = 0 ∧ win2_4.index t 1 = 0 ∧ win2_5.index t 0 = 0 ∧ win2_5.index t 1 = 0
    ∧ win2_6.index t 0 = 0 ∧ win2_6.index t 1 = 0 ∧ win2_7.index t 0 = 0 ∧ win2_7.index t 1 = 0
    ∧ win2_8.index t 0 = 0 ∧ win2_8.index t 1 = 0 ∧ win2_9.index t 0 = 0 ∧ win2_9.index t 1 = 0
    ∧ win2_10.index t 0 = 0 ∧ win2_10.index t 1 = 0 ∧ win2_11.index t 0 = 0 ∧ win2_11.index t 1 = 0
    ∧ win2_12.index t 0 = 0 ∧ win2_12.index t 1 = 0 ∧ win2_13.index t 0 = 0 ∧ win2_13.index t 1 = 0
    ∧ win2_14.index t 0 = 0 ∧ win2_14.index t 1 = 0 ∧ win2_15.index t 0 = 0 ∧ win2_15.index t 1 = 0
    ∧ win2_16.index t 0 = 0 ∧ win2_16.index t 1 = 0 ∧ win2_17.index t 0 = 0 ∧ win2_17.index t 1 = 0 := by decide +kernel

/-- The features of this half, from the arrays the call reads. -/
abbrev ugA2 (c : Dev nD) : S2048x128.Idx → EReal :=
  ugG (V c main_arg2) (V c main_arg1) (V c main_v54) (V c main_v1) (V c main_v3) (V c main_v5)
      (V c main_v7) (V c main_v9) (V c main_v11) (V c main_v12) (V c main_v13) (V c main_v15) (V c main_v17) (V c main_v18)

theorem arr2_18 (c : Dev nD) (hm : S128x4.Idx → EReal) (ex : S4x128.Idx → EReal) (hhm : V c main_v27 = hm) (hex : V c main_v28 = ex)
    (h1 : ∀ j h, hm (ix2 j h) = if Maths.headOf j = h then 1 else 0)
    (h2 : ∀ h j, ex (ix2 h j) = if h = Maths.headOf j then 1 else 0) :
    (dat2 V c).arrAt 18 cfg2.N = ugA2 V c := by
  refine (dat2 V c).arrAt_eq_of_covers 18 _ (by decide +kernel) fun tt hf y => ?_
  blk_simp
  rw [after2_18, out2_18_eq]
  have e14 : iblk2 V c 14 tt = hm := by rw [← hhm]; funext x; blk_ext [iblk2, idx2 tt]
  have e15 : iblk2 V c 15 tt = ex := by rw [← hex]; funext x; blk_ext [iblk2, idx2 tt]
  rw [e14, e15]
  frame_out
  idx_vars y
  rw [ugV_apply _ _ _ _ _ _ _ _ _ _ _ _ _ _ _ _ h1 h2]
  pointwise [ugG]
  blk_point [iblk2, idx2 tt]

theorem arr2_19 (c : Dev nD) (hm : S128x4.Idx → EReal) (ex : S4x128.Idx → EReal) (hhm : V c main_v27 = hm) (hex : V c main_v28 = ex)
    (h1 : ∀ j h, hm (ix2 j h) = if Maths.headOf j = h then 1 else 0)
    (h2 : ∀ h j, ex (ix2 h j) = if h = Maths.headOf j then 1 else 0) :
    (dat2 V c).arrAt 19 cfg2.N = thG (V c main_v43) (ugA2 V c) := by
  refine (dat2 V c).arrAt_eq_of_covers 19 _ (by decide +kernel) fun tt hf y => ?_
  blk_simp
  rw [after2_19, out2_19_eq]
  have e14 : iblk2 V c 14 tt = hm := by rw [← hhm]; funext x; blk_ext [iblk2, idx2 tt]
  have e15 : iblk2 V c 15 tt = ex := by rw [← hex]; funext x; blk_ext [iblk2, idx2 tt]
  rw [e14, e15]
  frame_out
  idx_vars y
  rw [thV_apply, ugV_apply _ _ _ _ _ _ _ _ _ _ _ _ _ _ _ _ h1 h2]
  pointwise [thG, ugG]
  blk_point [iblk2, idx2 tt]

theorem arr2_20 (c : Dev nD) (hm : S128x4.Idx → EReal) (ex : S4x128.Idx → EReal) (hhm : V c main_v27 = hm) (hex : V c main_v28 = ex)
    (h1 : ∀ j h, hm (ix2 j h) = if Maths.headOf j = h then 1 else 0)
    (h2 : ∀ h j, ex (ix2 h j) = if h = Maths.headOf j then 1 else 0) :
    (dat2 V c).arrAt 20 cfg2.N = thG (V c main_v46) (ugA2 V c) := by
  refine (dat2 V c).arrAt_eq_of_covers 20 _ (by decide +kernel) fun tt hf y => ?_
  blk_simp
  rw [after2_20, out2_20_eq]
  have e14 : iblk2 V c 14 tt = hm := by rw [← hhm]; funext x; blk_ext [iblk2, idx2 tt]
  have e15 : iblk2 V c 15 tt = ex := by rw [← hex]; funext x; blk_ext [iblk2, idx2 tt]
  rw [e14, e15]
  frame_out
  idx_vars y
  rw [thV_apply, ugV_apply _ _ _ _ _ _ _ _ _ _ _ _ _ _ _ _ h1 h2]
  pointwise [thG, ugG]
  blk_point [iblk2, idx2 tt]
-- ==== Proof.Value.Sums.lean ====
/- The sums of the last positions: what the first call leaves in its output array, at an index. -/
module

public import proofs.«01_k».proof.Proof.Run.Region0
public import Idealize.ShloMosaic.Lib.Pipeline.ValueKit
public import Idealize.ShloMosaic.Lib.Pointwise

@[expose] public section

set_option maxRecDepth 16384

noncomputable section

namespace Cert.KernelIdeal.Value

open Cert.KernelIdeal Cert.KernelIdeal.Gen Cert.KernelIdeal.Run
open Idealize.ShloMosaic Idealize.ShloMosaic.TcCoe
open Idealize.ShloMosaic.Pipeline (Dat Cfg Window)

variable (V : (c : Dev nD) → (b : Ref sig .tc) → Buf (Elt Ideal) ((c : Thread nD τ).loc b))

/-- The two column sums as two rows. -/
def qsG (a b : S2048x128.Idx → EReal) : S2x128.Idx → EReal := fun i =>
  if (i 0).val < 1 then ∑ k : Fin 2048, a (ix2 k (i 1)) else ∑ k : Fin 2048, b (ix2 k (i 1))

theorem idx0 : ∀ t : Fin cfg0.N, win0_0.index t 0 = 0 ∧ win0_0.index t 1 = 0 ∧ win0_1.index t 0 = 0 ∧ win0_1.index t 1 = 0
    ∧ win0_2.index t 0 = 0 ∧ win0_2.index t 1 = 0 := by decide +kernel

theorem arr0 (c : Dev nD) : (dat0 V c).arrAt 2 cfg0.N = qsG (V c main_v48) (V c main_v50) := by
  refine (dat0 V c).arrAt_eq_of_covers 2 _ (by decide +kernel) fun t hf y => ?_
  blk_simp
  rw [after0_2]
  frame_out
  idx_vars y
  have hy : (((win0_2.blk t).view.emb (ix2 y0 y1)) 0).val = y0.val := by blk_simp [idx0 t]
  have hy' : ((((View.whole main_v51).slice (win0_2.rect t)).emb (ix2 y0 y1)) 0).val = y0.val := hy
  pointwise [k0_pay1, qsG]
  rw [hy']
  by_cases h : y0.val < 1
  · rw [dif_pos h, if_pos h]
    blk_point [iblk0, idx0 t]
  · rw [dif_neg h, if_neg h]
    blk_point [iblk0, idx0 t]
-- ==== Proof.Value.Hosts.lean ====
/- The host operations between the calls: what each stretch leaves in the arrays the calls read, at an index. -/
module

public import proofs.«01_k».proof.Proof.Run.Whole
public import proofs.«01_k».proof.Proof.Value.Maths
public import Idealize.ShloMosaic.Lib.Pointwise

@[expose] public section

set_option maxRecDepth 16384
set_option maxHeartbeats 2000000

noncomputable section

namespace Cert.KernelIdeal.Value

open Cert.KernelIdeal Cert.KernelIdeal.Gen Cert.KernelIdeal.Run
open Idealize.ShloMosaic Idealize.ShloMosaic.TcCoe

variable (V : Valuation τ sig (Elt Ideal))

theorem host0_v1 (a : S384x128.Idx → EReal) (ha : V (Proc.devRef .tc main_arg5) = a) (i j : Fin 128) :
    (StableHlo.after hostOps0 V (Proc.devRef .tc main_v1) : S128x128.Idx → EReal) (ix2 i j) = a (ix2 (⟨0 + j.val, by omega⟩ : Fin 384) i) := by
  simp only [hostOps0]
  after_results_simp
  rw [ha]
  pointwise

theorem host0_v3 (a : S384x128.Idx → EReal) (ha : V (Proc.devRef .tc main_arg5) = a) (i j : Fin 128) :
    (StableHlo.after hostOps0 V (Proc.devRef .tc main_v3) : S128x128.Idx → EReal) (ix2 i j) = a (ix2 (⟨128 + j.val, by omega⟩ : Fin 384) i) := by
  simp only [hostOps0]
  after_results_simp
  rw [ha]
  pointwise

theorem host0_v5 (a : S384x128.Idx → EReal) (ha : V (Proc.devRef .tc main_arg5) = a) (i j : Fin 128) :
    (StableHlo.after hostOps0 V (Proc.devRef .tc main_v5) : S128x128.Idx → EReal) (ix2 i j) = a (ix2 (⟨256 + j.val, by omega⟩ : Fin 384) i) := by
  simp only [hostOps0]
  after_results_simp
  rw [ha]
  pointwise

theorem host0_v7 (a : S384.Idx → EReal) (ha : V (Proc.devRef .tc main_arg6) = a) (j : Fin 128) :
    (StableHlo.after hostOps0 V (Proc.devRef .tc main_v7) : S1x128.Idx → EReal) (ix2 0 j) = a (ix1 (⟨0 + j.val, by omega⟩ : Fin 384)) := by
  simp only [hostOps0]
  after_results_simp
  rw [ha]
  pointwise

theorem host0_v9 (a : S384.Idx → EReal) (ha : V (Proc.devRef .tc main_arg6) = a) (j : Fin 128) :
    (StableHlo.after hostOps0 V (Proc.devRef .tc main_v9) : S1x128.Idx → EReal) (ix2 0 j) = a (ix1 (⟨128 + j.val, by omega⟩ : Fin 384)) := by
  simp only [hostOps0]
  after_results_simp
  rw [ha]
  pointwise

theorem host0_v11 (a : S384.Idx → EReal) (ha : V (Proc.devRef .tc main_arg6) = a) (j : Fin 128) :
    (StableHlo.after hostOps0 V (Proc.devRef .tc main_v11) : S1x128.Idx → EReal) (ix2 0 j) = a (ix1 (⟨256 + j.val, by omega⟩ : Fin 384)) := by
  simp only [hostOps0]
  after_results_simp
  rw [ha]
  pointwise

theorem host0_v12 (a : S128x128.Idx → EReal) (ha : V (Proc.devRef .tc main_arg7) = a) (i j : Fin 128) :
    (StableHlo.after hostOps0 V (Proc.devRef .tc main_v12) : S128x128.Idx → EReal) (ix2 i j) = a (ix2 j i) := by
  simp only [hostOps0]
  after_results_simp
  rw [ha]
  pointwise

theorem host0_v13 (a : S128.Idx → EReal) (ha : V (Proc.devRef .tc main_arg8) = a) (j : Fin 128) :
    (StableHlo.after hostOps0 V (Proc.devRef .tc main_v13) : S1x128.Idx → EReal) (ix2 0 j) = a (ix1 j) := by
  simp only [hostOps0]
  after_results_simp
  rw [ha]
  pointwise

theorem host0_v15 (a : S128x256.Idx → EReal) (ha : V (Proc.devRef .tc main_arg9) = a) (i j : Fin 128) :
    (StableHlo.after hostOps0 V (Proc.devRef .tc main_v15) : S128x128.Idx → EReal) (ix2 i j) = a (ix2 j (⟨0 + i.val, by omega⟩ : Fin 256)) := by
  simp only [hostOps0]
  after_results_simp
  rw [ha]
  pointwise

theorem host0_v17 (a : S128x256.Idx → EReal) (ha : V (Proc.devRef .tc main_arg9) = a) (i j : Fin 128) :
    (StableHlo.after hostOps0 V (Proc.devRef .tc main_v17) : S128x128.Idx → EReal) (ix2 i j) = a (ix2 j (⟨128 + i.val, by omega⟩ : Fin 256)) := by
  simp only [hostOps0]
  after_results_simp
  rw [ha]
  pointwise

theorem host0_v18 (a : S128.Idx → EReal) (ha : V (Proc.devRef .tc main_arg10) = a) (j : Fin 128) :
    (StableHlo.after hostOps0 V (Proc.devRef .tc main_v18) : S1x128.Idx → EReal) (ix2 0 j) = a (ix1 j) := by
  simp only [hostOps0]
  after_results_simp
  rw [ha]
  pointwise

end Cert.KernelIdeal.Value
-- ==== Proof.Value.Hosts2.lean ====
/- The host operations between the calls: what each later stretch leaves in the arrays the calls read, at an index. -/
module

public import proofs.«01_k».proof.Proof.Run.Whole
public import proofs.«01_k».proof.Proof.Value.Maths
public import proofs.«01_k».proof.Proof.Value.Layers
public import Idealize.ShloMosaic.Lib.Pointwise

@[expose] public section

set_option maxRecDepth 16384
set_option maxHeartbeats 2000000

noncomputable section

namespace Cert.KernelIdeal.Value

open Cert.KernelIdeal Cert.KernelIdeal.Gen Cert.KernelIdeal.Run
open Idealize.ShloMosaic Idealize.ShloMosaic.TcCoe

variable (V : Valuation τ sig (Elt Ideal))

theorem head_word : ∀ (j : Fin 128) (h : Fin 4),
    IntOp.cmpi CmpIPredicate.eq (BitVec.ofNat 32 (j.val / 32)) (BitVec.ofNat 32 h.val) = if Maths.headOf j = h then 1#1 else 0#1 := by
  decide +kernel

theorem host0_1_v21 (a : IVec S128x1 32) (ha : V (Proc.devRef .tc main_v20) = a) (b : IVec S_ 32) (hb : V (Proc.devRef .tc main_c) = b)
    (h1 : ∀ j : Fin 128, a (ix2 j 0) = BitVec.ofNat 32 j.val) (h2 : ∀ i, b i = 32#32) (j : Fin 128) :
    (StableHlo.after hostOps0_1 V (Proc.devRef .tc main_v21) : IVec S128x1 32) (ix2 j 0) = BitVec.ofNat 32 (j.val / 32) := by
  simp only [hostOps0_1, StableHlo.TRef.nullary, StableHlo.TRef.unary, StableHlo.TRef.binary, StableHlo.TRef.ternary]
  after_results_simp
  simp only [StableHlo.TRef.toBuf, StableHlo.TRef.ofBuf, cast_eq]
  rw [ha, hb]
  pointwise [h1, h2]
  simp only [id_eq, h2]
  clear ha hb h1 h2
  revert j
  decide +kernel

theorem host0_2_v27 (a : IVec S128x1 32) (ha : V (Proc.devRef .tc main_v21) = a)
    (h1 : ∀ j : Fin 128, a (ix2 j 0) = BitVec.ofNat 32 (j.val / 32)) (j : Fin 128) (h : Fin 4) :
    (StableHlo.after hostOps0_2 V (Proc.devRef .tc main_v27) : S128x4.Idx → EReal) (ix2 j h) = if Maths.headOf j = h then (1 : EReal) else 0 := by
  simp only [hostOps0_2]
  after_results_simp
  rw [ha]
  pointwise [h1]
  rw [head_word]
  exact Maths.word_one _

theorem host0_2_v28 (a : IVec S128x1 32) (ha : V (Proc.devRef .tc main_v21) = a)
    (h1 : ∀ j : Fin 128, a (ix2 j 0) = BitVec.ofNat 32 (j.val / 32)) (j : Fin 128) (h : Fin 4) :
    (StableHlo.after hostOps0_2 V (Proc.devRef .tc main_v28) : S4x128.Idx → EReal) (ix2 h j) = if h = Maths.headOf j then (1 : EReal) else 0 := by
  simp only [hostOps0_2]
  after_results_simp
  rw [ha]
  pointwise [h1]
  rw [head_word]
  simp only [eq_comm (a := h)]
  exact Maths.word_one _

theorem host0_2_v34 (i j : Fin 128) :
    (StableHlo.after hostOps0_2 V (Proc.devRef .tc main_v34) : S128x128.Idx → EReal) (ix2 i j) = if i = j then (1 : EReal) else 0 := by
  simp only [hostOps0_2]
  after_results_simp
  pointwise
  rw [Maths.eye_word (by decide) i j]
  exact Maths.word_one _

theorem host0_2_v40 (i j : Fin 256) :
    (StableHlo.after hostOps0_2 V (Proc.devRef .tc main_v40) : S256x256.Idx → EReal) (ix2 i j) = if i = j then (1 : EReal) else 0 := by
  simp only [hostOps0_2]
  after_results_simp
  pointwise
  rw [Maths.eye_word (by decide) i j]
  exact Maths.word_one _

theorem host0_2_v43 (a : S_.Idx → EReal) (ha : V (Proc.devRef .tc main_arg11) = a)  :
    (StableHlo.after hostOps0_2 V (Proc.devRef .tc main_v43) : S1x1.Idx → EReal) (ix2 0 0) = a ix0 := by
  simp only [hostOps0_2]
  after_results_simp
  rw [ha]
  pointwise

theorem host0_2_v46 (a : S_.Idx → EReal) (ha : V (Proc.devRef .tc main_arg12) = a)  :
    (StableHlo.after hostOps0_2 V (Proc.devRef .tc main_v46) : S1x1.Idx → EReal) (ix2 0 0) = a ix0 := by
  simp only [hostOps0_2]
  after_results_simp
  rw [ha]
  pointwise

theorem host0_2_v48 (a : S2048x20x128.Idx → EReal) (ha : V (Proc.devRef .tc main_arg0) = a) (i : Fin 2048) (j : Fin 128) :
    (StableHlo.after hostOps0_2 V (Proc.devRef .tc main_v48) : S2048x128.Idx → EReal) (ix2 i j) = a (ix3 i 19 j) := by
  simp only [hostOps0_2]
  after_results_simp
  rw [ha]
  pointwise

theorem host0_2_v50 (a : S2048x20x128.Idx → EReal) (ha : V (Proc.devRef .tc main_arg1) = a) (i : Fin 2048) (j : Fin 128) :
    (StableHlo.after hostOps0_2 V (Proc.devRef .tc main_v50) : S2048x128.Idx → EReal) (ix2 i j) = a (ix3 i 19 j) := by
  simp only [hostOps0_2]
  after_results_simp
  rw [ha]
  pointwise

theorem host1_v52 (a : S2x128.Idx → EReal) (ha : V (Proc.devRef .tc main_v51) = a) (j : Fin 128) :
    (StableHlo.after hostOps1 V (Proc.devRef .tc main_v52) : S1x128.Idx → EReal) (ix2 0 j) = a (ix2 0 j) := by
  simp only [hostOps1]
  after_results_simp
  rw [ha]
  pointwise

theorem host2_v54 (a : S2x128.Idx → EReal) (ha : V (Proc.devRef .tc main_v51) = a) (j : Fin 128) :
    (StableHlo.after hostOps2 V (Proc.devRef .tc main_v54) : S1x128.Idx → EReal) (ix2 0 j) = a (ix2 1 j) := by
  simp only [hostOps2]
  after_results_simp
  rw [ha]
  pointwise

theorem host3_v56 (a b : S2048x128.Idx → EReal) (ha : V (Proc.devRef .tc main_v53_0) = a) (hb : V (Proc.devRef .tc main_v55_0) = b)
    (i : Fin 4096) (j : Fin 128) :
    (StableHlo.after hostOps3 V (Proc.devRef .tc main_v56) : S4096x128.Idx → EReal) (ix2 i j)
      = if h : i.val < 2048 then a (ix2 ⟨i.val, h⟩ j) else b (ix2 ⟨i.val - 2048, by omega⟩ j) := by
  simp only [hostOps3]
  after_results_simp
  subst ha hb
  pointwise

theorem host3_v57 (a b : S2048x128.Idx → EReal) (ha : V (Proc.devRef .tc main_v53_1) = a) (hb : V (Proc.devRef .tc main_v55_1) = b)
    (i : Fin 4096) (j : Fin 128) :
    (StableHlo.after hostOps3 V (Proc.devRef .tc main_v57) : S4096x128.Idx → EReal) (ix2 i j)
      = if h : i.val < 2048 then a (ix2 ⟨i.val, h⟩ j) else b (ix2 ⟨i.val - 2048, by omega⟩ j) := by
  simp only [hostOps3]
  after_results_simp
  subst ha hb
  pointwise

theorem host3_v58 (a b : S2048x128.Idx → EReal) (ha : V (Proc.devRef .tc main_v53_2) = a) (hb : V (Proc.devRef .tc main_v55_2) = b)
    (i : Fin 4096) (j : Fin 128) :
    (StableHlo.after hostOps3 V (Proc.devRef .tc main_v58) : S4096x128.Idx → EReal) (ix2 i j)
      = if h : i.val < 2048 then a (ix2 ⟨i.val, h⟩ j) else b (ix2 ⟨i.val - 2048, by omega⟩ j) := by
  simp only [hostOps3]
  after_results_simp
  subst ha hb
  pointwise

theorem host4_v62 (a : S2x128x128.Idx → EReal) (ha : V (Proc.devRef .tc main_arg13) = a) (i j : Fin 128) :
    (StableHlo.after hostOps4 V (Proc.devRef .tc main_v62) : S128x128.Idx → EReal) (ix2 i j) = a (ix3 0 j i) := by
  simp only [hostOps4]
  after_results_simp
  rw [ha]
  pointwise

theorem host5_v66 (a : S2x128.Idx → EReal) (ha : V (Proc.devRef .tc main_arg14) = a) (j : Fin 128) :
    (StableHlo.after hostOps5 V (Proc.devRef .tc main_v66) : S1x128.Idx → EReal) (ix2 0 j) = a (ix2 0 j) := by
  simp only [hostOps5]
  after_results_simp
  rw [ha]
  pointwise

theorem host6_v70 (a : S2x128x128.Idx → EReal) (ha : V (Proc.devRef .tc main_arg13) = a) (i j : Fin 128) :
    (StableHlo.after hostOps6 V (Proc.devRef .tc main_v70) : S128x128.Idx → EReal) (ix2 i j) = a (ix3 1 j i) := by
  simp only [hostOps6]
  after_results_simp
  rw [ha]
  pointwise

theorem host7_v74 (a : S2x128.Idx → EReal) (ha : V (Proc.devRef .tc main_arg14) = a) (j : Fin 128) :
    (StableHlo.after hostOps7 V (Proc.devRef .tc main_v74) : S1x128.Idx → EReal) (ix2 0 j) = a (ix2 1 j) := by
  simp only [hostOps7]
  after_results_simp
  rw [ha]
  pointwise

theorem host9_v105 (a : S2x128x128.Idx → EReal) (ha : V (Proc.devRef .tc main_arg15) = a) (i j : Fin 128) :
    (StableHlo.after hostOps9 V (Proc.devRef .tc main_v105) : S128x128.Idx → EReal) (ix2 i j) = a (ix3 0 i j) := by
  simp only [hostOps9]
  after_results_simp
  rw [ha]
  pointwise

theorem host11_v131 (a : S2x128x128.Idx → EReal) (ha : V (Proc.devRef .tc main_arg15) = a) (i j : Fin 128) :
    (StableHlo.after hostOps11 V (Proc.devRef .tc main_v131) : S128x128.Idx → EReal) (ix2 i j) = a (ix3 1 i j) := by
  simp only [hostOps11]
  after_results_simp
  rw [ha]
  pointwise

theorem host10_v128 (a : S2x128.Idx → EReal) (ha : V (Proc.devRef .tc main_arg16) = a) (j : Fin 128) :
    (StableHlo.after hostOps10 V (Proc.devRef .tc main_v128) : S1x128.Idx → EReal) (ix2 0 j) = a (ix2 0 j) := by
  simp only [hostOps10]
  after_results_simp
  rw [ha]
  pointwise

theorem host12_v154 (a : S2x128.Idx → EReal) (ha : V (Proc.devRef .tc main_arg16) = a) (j : Fin 128) :
    (StableHlo.after hostOps12 V (Proc.devRef .tc main_v154) : S1x128.Idx → EReal) (ix2 0 j) = a (ix2 1 j) := by
  simp only [hostOps12]
  after_results_simp
  rw [ha]
  pointwise

end Cert.KernelIdeal.Value
-- ==== Proof.Value.RefAttend.lean ====
/- The reference's attention, at an index. -/
module

public import proofs.«01_k».proof.Proof.Gen.ReferenceIdeal.Run
public import proofs.«01_k».proof.Proof.Value.AttendEq
public import Idealize.ShloMosaic.Lib.Pointwise

@[expose] public section

set_option maxRecDepth 16384
set_option maxHeartbeats 2000000

noncomputable section

namespace Cert.ReferenceIdeal.Value

open Cert.ReferenceIdeal Cert.ReferenceIdeal.Gen
open Idealize.ShloMosaic Idealize.ShloMosaic.TcCoe

variable (V : Valuation τ sig (Elt Ideal))

theorem headmax (v : FVec Ideal S4096x4x1x20 .f32) (c : FVec Ideal S_ .f32) (n : Fin 4096) (h : Fin 4) :
    Host.reduce (FloatOps.maximumf (F := Ideal) (φ := .f32)) v c reducesTo_S4096x4x1x20_S4096x4x1_d3 h_S_ (ix3 n h 0)
      = Finset.univ.fold max (c (Shape.Idx.first h_S_)) fun k : Fin 20 => v (ix4 n h 0 k) := by
  simp only [pointwise]

/-- The sequence of a node, of demand for the first half and of supply for the second. -/
def seqR (a0 a1 : S2048x20x128.Idx → EReal) (n : Fin 4096) (t : Fin 20) (k : Fin 128) : EReal :=
  if h : n.val < 2048 then a0 (ix3 ⟨n.val, h⟩ t k) else a1 (ix3 ⟨n.val - 2048, by omega⟩ t k)

/-- The features of a node, the same for both halves. -/
def rowR (a2 : S2048x128.Idx → EReal) (n : Fin 4096) (k : Fin 128) : EReal :=
  if h : n.val < 2048 then a2 (ix2 ⟨n.val, h⟩ k) else a2 (ix2 ⟨n.val - 2048, by omega⟩ k)

/-- The sum of the last positions of a half, at a feature. -/
def lastR (a0 a1 : S2048x20x128.Idx → EReal) (n : Fin 4096) (k : Fin 128) : EReal :=
  if n.val < 2048 then ∑ m, a0 (ix3 m 19 k) else ∑ m, a1 (ix3 m 19 k)

theorem r1 (a0 a1 : S2048x20x128.Idx → EReal) (h0 : V (Proc.devRef .tc main_arg0) = a0) (h1 : V (Proc.devRef .tc main_arg1) = a1)
    (n : Fin 4096) (t : Fin 20) (k : Fin 128) :
    (res_main_v1 V : S4096x20x128.Idx → EReal) (ix3 n t k) = seqR a0 a1 n t k := by
  unfold res_main_v1
  rw [h0, h1]
  pointwise
  rfl

theorem r46 (x : S4096x20x128.Idx → EReal) (hx : res_main_v1 V = x) (a0 a1 : S2048x20x128.Idx → EReal) (a2 : S2048x128.Idx → EReal)
    (a5 : S384x128.Idx → EReal) (a6 : S384.Idx → EReal)
    (h0 : V (Proc.devRef .tc main_arg0) = a0) (h1 : V (Proc.devRef .tc main_arg1) = a1) (h2 : V (Proc.devRef .tc main_arg2) = a2)
    (h5 : V (Proc.devRef .tc main_arg5) = a5) (h6 : V (Proc.devRef .tc main_arg6) = a6) (n : Fin 4096) (h : Fin 4) (t : Fin 20) :
    (res_main_v46 V : S4096x4x1x20.Idx → EReal) (ix4 n h 0 t)
      = Maths.scoreR (Maths.proj (fun k => rowR a2 n k + lastR a0 a1 n k) (fun k j => a5 (ix2 ⟨0 + j.val, by omega⟩ k)) (fun j => a6 (ix1 ⟨0 + j.val, by omega⟩)))
          (Maths.proj (fun k => x (ix3 n t k)) (fun k j => a5 (ix2 ⟨128 + j.val, by omega⟩ k)) (fun j => a6 (ix1 ⟨128 + j.val, by omega⟩))) h := by
  unfold res_main_v46
  rw [hx, h0, h1, h2, h5, h6]
  pointwise
  unfold Maths.scoreR Maths.proj rowR lastR
  by_cases q : n.val < 2048
  · simp only [dif_pos q, if_pos q, zero_add]
  · simp only [dif_neg q, if_neg q, zero_add]

theorem r53 (x : FVec Ideal S4096x4x1x20 .f32) (hx : res_main_v46 V = x) (n : Fin 4096) (h : Fin 4) (t : Fin 20) :
    (res_main_v53 V : S4096x4x1x20.Idx → EReal) (ix4 n h 0 t) = Maths.weightR (fun t => x (ix4 n h 0 t)) t := by
  unfold res_main_v53
  rw [hx]
  have hM : ∀ (n : Fin 4096) (h : Fin 4), Host.reduce (FloatOps.maximumf (F := Ideal) (φ := .f32)) x (constant S_ .f32 0xFF800000#32) reducesTo_S4096x4x1x20_S4096x4x1_d3 h_S_ (ix3 n h 0)
      = Finset.univ.fold max (Ideal.ofBits .f32 0xFF800000#32) fun k : Fin 20 => x (ix4 n h 0 k) := fun n h => headmax _ _ n h
  generalize Host.reduce (FloatOps.maximumf (F := Ideal) (φ := .f32)) x (constant S_ .f32 0xFF800000#32) reducesTo_S4096x4x1x20_S4096x4x1_d3 h_S_ = M at hM ⊢
  pointwise [hM]
  rfl

theorem r72 (y : S4096x20x128.Idx → EReal) (hy : res_main_v1 V = y) (x : S4096x4x1x20.Idx → EReal) (hx : res_main_v53 V = x)
    (a2 : S2048x128.Idx → EReal) (a5 : S384x128.Idx → EReal) (a6 : S384.Idx → EReal) (a7 : S128x128.Idx → EReal) (a8 : S128.Idx → EReal)
    (a9 : S128x256.Idx → EReal) (a10 : S128.Idx → EReal)
    (h2 : V (Proc.devRef .tc main_arg2) = a2) (h5 : V (Proc.devRef .tc main_arg5) = a5) (h6 : V (Proc.devRef .tc main_arg6) = a6)
    (h7 : V (Proc.devRef .tc main_arg7) = a7) (h8 : V (Proc.devRef .tc main_arg8) = a8) (h9 : V (Proc.devRef .tc main_arg9) = a9)
    (h10 : V (Proc.devRef .tc main_arg10) = a10) (n : Fin 4096) (c : Fin 128) :
    (res_main_v72 V : S4096x128.Idx → EReal) (ix2 n c)
      = (∑ k, rowR a2 n k * a9 (ix2 c ⟨0 + k.val, by omega⟩))
        + (∑ k : Fin 128, ((∑ j, (∑ t, Ideal.div (x (ix4 n (Maths.headOf j) 0 t)) (∑ u, x (ix4 n (Maths.headOf j) 0 u))
            * Maths.proj (fun k => y (ix3 n t k)) (fun k j => a5 (ix2 ⟨256 + j.val, by omega⟩ k)) (fun j => a6 (ix1 ⟨256 + j.val, by omega⟩)) j)
              * a7 (ix2 k j)) + a8 (ix1 k)) * a9 (ix2 c ⟨128 + k.val, by omega⟩)) + a10 (ix1 c) := by
  unfold res_main_v72
  rw [hx, hy, h2, h5, h6, h7, h8, h9, h10]
  pointwise
  unfold Maths.proj rowR
  simp only [zero_add]
  rfl

/-- The reference's output features, as one row of attention. -/
theorem u_row (a0 a1 : S2048x20x128.Idx → EReal) (a2 : S2048x128.Idx → EReal)
    (a5 : S384x128.Idx → EReal) (a6 : S384.Idx → EReal) (a7 : S128x128.Idx → EReal) (a8 : S128.Idx → EReal)
    (a9 : S128x256.Idx → EReal) (a10 : S128.Idx → EReal)
    (h0 : V (Proc.devRef .tc main_arg0) = a0) (h1 : V (Proc.devRef .tc main_arg1) = a1)
    (h2 : V (Proc.devRef .tc main_arg2) = a2) (h5 : V (Proc.devRef .tc main_arg5) = a5) (h6 : V (Proc.devRef .tc main_arg6) = a6)
    (h7 : V (Proc.devRef .tc main_arg7) = a7) (h8 : V (Proc.devRef .tc main_arg8) = a8) (h9 : V (Proc.devRef .tc main_arg9) = a9)
    (h10 : V (Proc.devRef .tc main_arg10) = a10) (n : Fin 4096) (c : Fin 128) :
    (res_main_v72 V : S4096x128.Idx → EReal) (ix2 n c)
      = Maths.refRow (rowR a2 n) (seqR a0 a1 n) (lastR a0 a1 n)
          (fun k j => a5 (ix2 ⟨0 + j.val, by omega⟩ k)) (fun k j => a5 (ix2 ⟨128 + j.val, by omega⟩ k)) (fun k j => a5 (ix2 ⟨256 + j.val, by omega⟩ k))
          (fun j => a6 (ix1 ⟨0 + j.val, by omega⟩)) (fun j => a6 (ix1 ⟨128 + j.val, by omega⟩)) (fun j => a6 (ix1 ⟨256 + j.val, by omega⟩))
          (fun j k => a7 (ix2 k j)) (fun k => a8 (ix1 k)) (fun k c => a9 (ix2 c ⟨0 + k.val, by omega⟩)) (fun k c => a9 (ix2 c ⟨128 + k.val, by omega⟩))
          (fun c => a10 (ix1 c)) c := by
  rw [r72 V _ rfl _ rfl a2 a5 a6 a7 a8 a9 a10 h2 h5 h6 h7 h8 h9 h10]
  simp only [r53 V _ rfl, r46 V _ rfl a0 a1 a2 a5 a6 h0 h1 h2 h5 h6, r1 V a0 a1 h0 h1]
  rfl

end Cert.ReferenceIdeal.Value
-- ==== Proof.Value.Trace1.lean ====
/- The output features and their two images through `tanh`, from the launch contents. -/
module

public import proofs.«01_k».proof.Proof.Run.Fold0
public import proofs.«01_k».proof.Proof.Value.Attend1
public import proofs.«01_k».proof.Proof.Value.Attend2
public import proofs.«01_k».proof.Proof.Value.Sums
public import proofs.«01_k».proof.Proof.Value.Hosts
public import proofs.«01_k».proof.Proof.Value.Hosts2
public import proofs.«01_k».proof.Proof.Value.RefAttend

@[expose] public section

set_option maxRecDepth 16384

noncomputable section

namespace Cert.KernelIdeal.Value

open Cert.KernelIdeal Cert.KernelIdeal.Gen Cert.KernelIdeal.Run
open Idealize.ShloMosaic Idealize.ShloMosaic.TcCoe
open Cert.ReferenceIdeal.Value (rowR seqR lastR)

variable (m : (ℓ : Loc nD τ sig) → Buf (Elt Ideal) ℓ) (ρ : Dev nD → PrngReg) (c : Dev nD)

/-- What a core's buffer holds at the launch. -/
abbrev at0 (r : Ref sig .tc) : Buf (Elt Ideal) ((c : Thread nD τ).loc r) := m ((c : Thread nD τ).loc r)

/-! The arguments, as arrays of numbers. -/

abbrev A0 : S2048x20x128.Idx → EReal := at0 m c main_arg0
abbrev A1 : S2048x20x128.Idx → EReal := at0 m c main_arg1
abbrev A2 : S2048x128.Idx → EReal := at0 m c main_arg2
abbrev A3 : IVec S2x131072 32 := at0 m c main_arg3
abbrev A4 : S131072.Idx → EReal := at0 m c main_arg4
abbrev A5 : S384x128.Idx → EReal := at0 m c main_arg5
abbrev A6 : S384.Idx → EReal := at0 m c main_arg6
abbrev A7 : S128x128.Idx → EReal := at0 m c main_arg7
abbrev A8 : S128.Idx → EReal := at0 m c main_arg8
abbrev A9 : S128x256.Idx → EReal := at0 m c main_arg9
abbrev A10 : S128.Idx → EReal := at0 m c main_arg10
abbrev A11 : S_.Idx → EReal := at0 m c main_arg11
abbrev A12 : S_.Idx → EReal := at0 m c main_arg12
abbrev A13 : S2x128x128.Idx → EReal := at0 m c main_arg13
abbrev A14 : S2x128.Idx → EReal := at0 m c main_arg14
abbrev A15 : S2x128x128.Idx → EReal := at0 m c main_arg15
abbrev A16 : S2x128.Idx → EReal := at0 m c main_arg16

/-- The buffers the host fills before the first call and never again. -/
def early : List (Ref sig .tc) :=
  [main_v1, main_v3, main_v5, main_v7, main_v9, main_v11, main_v12, main_v13, main_v15, main_v17, main_v18, main_v27, main_v28,
   main_v34, main_v40, main_v43, main_v46]

theorem early_in0 : ∀ r ∈ early, ∀ w : Fin cfg0.W, Pipeline.arrRef spec0 w = r → (cfg0.win w).isOut = false :=
  ListAll.forall_mem_of_all_decide (by decide +kernel)
theorem early_in1 : ∀ r ∈ early, ∀ w : Fin cfg1.W, Pipeline.arrRef spec1 w = r → (cfg1.win w).isOut = false :=
  ListAll.forall_mem_of_all_decide (by decide +kernel)
theorem early_host1 : ∀ r ∈ early, r ∉ hostOps1_W := ListAll.forall_mem_of_all_decide (by decide +kernel)
theorem early_host2 : ∀ r ∈ early, r ∉ hostOps2_W := ListAll.forall_mem_of_all_decide (by decide +kernel)

theorem keep5 (r : Ref sig .tc) (h : r ∈ early) : W5 m ρ c (Proc.devRef .tc r) = W3 m ρ c (Proc.devRef .tc r) :=
  (W5_of m ρ c r (early_host1 r h)).trans (W4_of m ρ c r (early_in0 r h))
theorem keep7 (r : Ref sig .tc) (h : r ∈ early) : W7 m ρ c (Proc.devRef .tc r) = W3 m ρ c (Proc.devRef .tc r) :=
  ((W7_of m ρ c r (early_host2 r h)).trans (W6_of m ρ c r (early_in1 r h))).trans (keep5 m ρ c r h)

/-- The buffers of the first stretch, untouched by the next two. -/
def first : List (Ref sig .tc) :=
  [main_v1, main_v3, main_v5, main_v7, main_v9, main_v11, main_v12, main_v13, main_v15, main_v17, main_v18]

theorem first_host : ∀ r ∈ first, r ∉ hostOps0_1_W ∧ r ∉ hostOps0_2_W := ListAll.forall_mem_of_all_decide (by decide +kernel)

theorem keep3 (r : Ref sig .tc) (h : r ∈ first) : W3 m ρ c (Proc.devRef .tc r) = W1 m ρ c (Proc.devRef .tc r) :=
  (W3_of m ρ c r (first_host r h).2).trans (W2_of m ρ c r (first_host r h).1)

theorem w1_v20 (j : Fin 128) : (W1 m ρ c (Proc.devRef .tc main_v20) : IVec S128x1 32) (ix2 j 0) = BitVec.ofNat 32 j.val := by
  simp only [W1, hostOps0]
  after_results_simp
  pointwise

theorem w1_c (i : S_.Idx) : (W1 m ρ c (Proc.devRef .tc main_c) : IVec S_ 32) i = 32#32 := by
  simp only [W1, hostOps0]
  after_results_simp
  rfl

theorem w2_v21 (j : Fin 128) : (W2 m ρ c (Proc.devRef .tc main_v21) : IVec S128x1 32) (ix2 j 0) = BitVec.ofNat 32 (j.val / 32) :=
  host0_1_v21 _ _ rfl _ rfl (w1_v20 m ρ c) (w1_c m ρ c) j

theorem w3_v27 (j : Fin 128) (h : Fin 4) :
    (W3 m ρ c (Proc.devRef .tc main_v27) : S128x4.Idx → EReal) (ix2 j h) = if Maths.headOf j = h then (1 : EReal) else 0 :=
  host0_2_v27 _ _ rfl (w2_v21 m ρ c) j h

theorem w3_v28 (h : Fin 4) (j : Fin 128) :
    (W3 m ρ c (Proc.devRef .tc main_v28) : S4x128.Idx → EReal) (ix2 h j) = if h = Maths.headOf j then (1 : EReal) else 0 :=
  host0_2_v28 _ _ rfl (w2_v21 m ρ c) j h

theorem row_congr (κ : EReal) (x : Fin 128 → EReal) (seq : ℕ → Fin 128 → EReal) (qr : Fin 128 → EReal)
    {wq wk wv wo fw1 fw2 wq' wk' wv' wo' fw1' fw2' : Fin 128 → Fin 128 → EReal} {bq bk bv bo fb bq' bk' bv' bo' fb' : Fin 128 → EReal}
    (e1 : ∀ i j, wq i j = wq' i j) (e3 : ∀ i j, wk i j = wk' i j) (e5 : ∀ i j, wv i j = wv' i j) (e7 : ∀ j, bq j = bq' j)
    (e9 : ∀ j, bk j = bk' j) (e11 : ∀ j, bv j = bv' j) (e12 : ∀ i j, wo i j = wo' i j) (e13 : ∀ j, bo j = bo' j)
    (e15 : ∀ i j, fw1 i j = fw1' i j) (e17 : ∀ i j, fw2 i j = fw2' i j) (e18 : ∀ j, fb j = fb' j) (j : Fin 128) :
    Maths.ugRow κ x seq qr wq wk wv bq bk bv wo bo fw1 fw2 fb j = Maths.ugRow κ x seq qr wq' wk' wv' bq' bk' bv' wo' bo' fw1' fw2' fb' j := by
  obtain rfl := funext₂ e1
  obtain rfl := funext₂ e3
  obtain rfl := funext₂ e5
  obtain rfl := funext e7
  obtain rfl := funext e9
  obtain rfl := funext e11
  obtain rfl := funext₂ e12
  obtain rfl := funext e13
  obtain rfl := funext₂ e15
  obtain rfl := funext₂ e17
  obtain rfl := funext e18
  rfl

/-- The features of one row of a half, the weights read from the launch contents. -/
theorem half_at (V : Valuation τ sig (Elt Ideal)) (hV : ∀ r ∈ early, V (Proc.devRef .tc r) = W3 m ρ c (Proc.devRef .tc r))
    (x0 : S2048x128.Idx → EReal) (x1 : S2048x20x128.Idx → EReal) (x2 : S1x128.Idx → EReal)
    (a5 : S384x128.Idx → EReal) (a6 : S384.Idx → EReal) (a7 : S128x128.Idx → EReal) (a8 : S128.Idx → EReal)
    (a9 : S128x256.Idx → EReal) (a10 : S128.Idx → EReal)
    (h5 : at0 m c main_arg5 = a5) (h6 : at0 m c main_arg6 = a6) (h7 : at0 m c main_arg7 = a7)
    (h8 : at0 m c main_arg8 = a8) (h9 : at0 m c main_arg9 = a9) (h10 : at0 m c main_arg10 = a10) (r : Fin 2048) (j : Fin 128) :
    ugG x0 x1 x2 (V (Proc.devRef .tc main_v1)) (V (Proc.devRef .tc main_v3)) (V (Proc.devRef .tc main_v5))
      (V (Proc.devRef .tc main_v7)) (V (Proc.devRef .tc main_v9)) (V (Proc.devRef .tc main_v11)) (V (Proc.devRef .tc main_v12))
      (V (Proc.devRef .tc main_v13)) (V (Proc.devRef .tc main_v15)) (V (Proc.devRef .tc main_v17)) (V (Proc.devRef .tc main_v18)) (ix2 r j)
      = Maths.ugRow kap (fun k => x0 (ix2 r k)) (fun t k => x1 (ix3 r (Fin.ofNat 20 t) k)) (fun k => x2 (ix2 0 k))
          (fun k j => a5 (ix2 ⟨0 + j.val, by omega⟩ k)) (fun k j => a5 (ix2 ⟨128 + j.val, by omega⟩ k)) (fun k j => a5 (ix2 ⟨256 + j.val, by omega⟩ k))
          (fun j => a6 (ix1 ⟨0 + j.val, by omega⟩)) (fun j => a6 (ix1 ⟨128 + j.val, by omega⟩)) (fun j => a6 (ix1 ⟨256 + j.val, by omega⟩))
          (fun j k => a7 (ix2 k j)) (fun k => a8 (ix1 k)) (fun k c => a9 (ix2 c ⟨0 + k.val, by omega⟩)) (fun k c => a9 (ix2 c ⟨128 + k.val, by omega⟩))
          (fun c => a10 (ix1 c)) j := by
  have hv : ∀ r, r ∈ early → r ∈ first → V (Proc.devRef .tc r) = W1 m ρ c (Proc.devRef .tc r) := fun r h h' => (hV r h).trans (keep3 m ρ c r h')
  have e1 := host0_v1 (W0 m ρ c) a5 h5
  have e3 := host0_v3 (W0 m ρ c) a5 h5
  have e5 := host0_v5 (W0 m ρ c) a5 h5
  have e7 := host0_v7 (W0 m ρ c) a6 h6
  have e9 := host0_v9 (W0 m ρ c) a6 h6
  have e11 := host0_v11 (W0 m ρ c) a6 h6
  have e12 := host0_v12 (W0 m ρ c) a7 h7
  have e13 := host0_v13 (W0 m ρ c) a8 h8
  have e15 := host0_v15 (W0 m ρ c) a9 h9
  have e17 := host0_v17 (W0 m ρ c) a9 h9
  have e18 := host0_v18 (W0 m ρ c) a10 h10
  rw [hv main_v1 (by decide) (by decide), hv main_v3 (by decide) (by decide), hv main_v5 (by decide) (by decide),
    hv main_v7 (by decide) (by decide), hv main_v9 (by decide) (by decide), hv main_v11 (by decide) (by decide),
    hv main_v12 (by decide) (by decide), hv main_v13 (by decide) (by decide), hv main_v15 (by decide) (by decide),
    hv main_v17 (by decide) (by decide), hv main_v18 (by decide) (by decide)]
  unfold ugG
  exact row_congr _ _ _ _ e1 e3 e5 e7 e9 e11 e12 e13 e15 e17 e18 j

/-- The output features of all nodes, from the launch contents. -/
def feat (n : Fin 4096) (j : Fin 128) : EReal :=
  Maths.ugRow kap (rowR (A2 m c) n) (fun t => seqR (A0 m c) (A1 m c) n (Fin.ofNat 20 t))
    (lastR (A0 m c) (A1 m c) n)
    (fun k j => (A5 m c) (ix2 ⟨0 + j.val, by omega⟩ k))
    (fun k j => (A5 m c) (ix2 ⟨128 + j.val, by omega⟩ k))
    (fun k j => (A5 m c) (ix2 ⟨256 + j.val, by omega⟩ k))
    (fun j => (A6 m c) (ix1 ⟨0 + j.val, by omega⟩))
    (fun j => (A6 m c) (ix1 ⟨128 + j.val, by omega⟩))
    (fun j => (A6 m c) (ix1 ⟨256 + j.val, by omega⟩))
    (fun j k => (A7 m c) (ix2 k j)) (fun k => (A8 m c) (ix1 k))
    (fun k c' => (A9 m c) (ix2 c' ⟨0 + k.val, by omega⟩))
    (fun k c' => (A9 m c) (ix2 c' ⟨128 + k.val, by omega⟩))
    (fun c' => (A10 m c) (ix1 c')) j

theorem w4_v51 : (W4 m ρ c (Proc.devRef .tc main_v51) : S2x128.Idx → EReal)
    = qsG (W3 m ρ c (Proc.devRef .tc main_v48)) (W3 m ρ c (Proc.devRef .tc main_v50)) :=
  (W4_arr m ρ c 2).trans (arr0 (V3 m ρ) c)

theorem w3_v48 (i : Fin 2048) (j : Fin 128) : (W3 m ρ c (Proc.devRef .tc main_v48) : S2048x128.Idx → EReal) (ix2 i j)
    = (A0 m c) (ix3 i 19 j) :=
  host0_2_v48 _ _ (W2_args m ρ c main_arg0 (by decide)) i j

theorem w3_v50 (i : Fin 2048) (j : Fin 128) : (W3 m ρ c (Proc.devRef .tc main_v50) : S2048x128.Idx → EReal) (ix2 i j)
    = (A1 m c) (ix3 i 19 j) :=
  host0_2_v50 _ _ (W2_args m ρ c main_arg1 (by decide)) i j

theorem qs_zero (a b : S2048x128.Idx → EReal) (f : Fin 2048 → EReal) (j : Fin 128) (h : ∀ k, a (ix2 k j) = f k) : qsG a b (ix2 0 j) = ∑ k, f k := by
  obtain rfl := funext h
  exact if_pos Nat.zero_lt_one

theorem qs_one (a b : S2048x128.Idx → EReal) (f : Fin 2048 → EReal) (j : Fin 128) (h : ∀ k, b (ix2 k j) = f k) : qsG a b (ix2 1 j) = ∑ k, f k := by
  obtain rfl := funext h
  exact if_neg (Nat.lt_irrefl 1)

theorem w4_v51_0 (j : Fin 128) : (W4 m ρ c (Proc.devRef .tc main_v51) : S2x128.Idx → EReal) (ix2 0 j)
    = ∑ k : Fin 2048, A0 m c (ix3 k 19 j) := by
  rw [w4_v51]
  exact qs_zero _ _ _ j fun k => w3_v48 m ρ c k j

theorem w4_v51_1 (j : Fin 128) : (W4 m ρ c (Proc.devRef .tc main_v51) : S2x128.Idx → EReal) (ix2 1 j)
    = ∑ k : Fin 2048, A1 m c (ix3 k 19 j) := by
  rw [w4_v51]
  exact qs_one _ _ _ j fun k => w3_v50 m ρ c k j

theorem w5_v52 (j : Fin 128) : (W5 m ρ c (Proc.devRef .tc main_v52) : S1x128.Idx → EReal) (ix2 0 j)
    = ∑ k : Fin 2048, A0 m c (ix3 k 19 j) :=
  (host1_v52 _ _ rfl j).trans (w4_v51_0 m ρ c j)

theorem w7_v54 (j : Fin 128) : (W7 m ρ c (Proc.devRef .tc main_v54) : S1x128.Idx → EReal) (ix2 0 j)
    = ∑ k : Fin 2048, A1 m c (ix3 k 19 j) := by
  refine (host2_v54 _ _ ?_ j).trans (w4_v51_1 m ρ c j)
  rw [W6_of m ρ c main_v51 (by decide), W5_of m ρ c main_v51 (by decide)]

/-- The features of the first half. -/
theorem half1 (n : Fin 4096) (h : n.val < 2048) (j : Fin 128) : ugA1 (V5 m ρ) c (ix2 ⟨n.val, h⟩ j) = feat m c n j := by
  refine (half_at m ρ c (W5 m ρ c) (keep5 m ρ c) _ _ _ _ _ _ _ _ _ rfl rfl rfl rfl rfl rfl _ j).trans ?_
  unfold feat
  congr 1
  · funext k
    unfold rowR
    rw [dif_pos h]
    exact congrFun (W5_args m ρ c main_arg2 (by decide)) _
  · funext t k
    unfold seqR
    rw [dif_pos h]
    exact congrFun (W5_args m ρ c main_arg0 (by decide)) _
  · funext k
    unfold lastR
    rw [if_pos h]
    exact w5_v52 m ρ c k

/-- The features of the second half. -/
theorem half2 (n : Fin 4096) (h : ¬ n.val < 2048) (j : Fin 128) : ugA2 (V7 m ρ) c (ix2 ⟨n.val - 2048, by omega⟩ j) = feat m c n j := by
  refine (half_at m ρ c (W7 m ρ c) (keep7 m ρ c) _ _ _ _ _ _ _ _ _ rfl rfl rfl rfl rfl rfl _ j).trans ?_
  unfold feat
  congr 1
  · funext k
    unfold rowR
    rw [dif_neg h]
    exact congrFun (W7_args m ρ c main_arg2 (by decide)) _
  · funext t k
    unfold seqR
    rw [dif_neg h]
    exact congrFun (W7_args m ρ c main_arg1 (by decide)) _
  · funext k
    unfold lastR
    rw [if_neg h]
    exact w7_v54 m ρ c k

theorem heads5 (j : Fin 128) (h : Fin 4) : (V5 m ρ c main_v27 : S128x4.Idx → EReal) (ix2 j h) = if Maths.headOf j = h then (1 : EReal) else 0 :=
  (congrFun (keep5 m ρ c main_v27 (by decide)) _).trans (w3_v27 m ρ c j h)
theorem spread5 (h : Fin 4) (j : Fin 128) : (V5 m ρ c main_v28 : S4x128.Idx → EReal) (ix2 h j) = if h = Maths.headOf j then (1 : EReal) else 0 :=
  (congrFun (keep5 m ρ c main_v28 (by decide)) _).trans (w3_v28 m ρ c h j)
theorem heads7 (j : Fin 128) (h : Fin 4) : (V7 m ρ c main_v27 : S128x4.Idx → EReal) (ix2 j h) = if Maths.headOf j = h then (1 : EReal) else 0 :=
  (congrFun (keep7 m ρ c main_v27 (by decide)) _).trans (w3_v27 m ρ c j h)
theorem spread7 (h : Fin 4) (j : Fin 128) : (V7 m ρ c main_v28 : S4x128.Idx → EReal) (ix2 h j) = if h = Maths.headOf j then (1 : EReal) else 0 :=
  (congrFun (keep7 m ρ c main_v28 (by decide)) _).trans (w3_v28 m ρ c h j)

theorem w8_v53_0 : (W8 m ρ c (Proc.devRef .tc main_v53_0) : S2048x128.Idx → EReal) = ugA1 (V5 m ρ) c := by
  rw [W8_of m ρ c main_v53_0 (by decide), W7_of m ρ c main_v53_0 (by decide)]
  exact (W6_arr m ρ c 18).trans (arr1_18 (V5 m ρ) c _ _ rfl rfl (heads5 m ρ c) (spread5 m ρ c))

theorem w8_v53_1 : (W8 m ρ c (Proc.devRef .tc main_v53_1) : S2048x128.Idx → EReal) = thG (V5 m ρ c main_v43) (ugA1 (V5 m ρ) c) := by
  rw [W8_of m ρ c main_v53_1 (by decide), W7_of m ρ c main_v53_1 (by decide)]
  exact (W6_arr m ρ c 19).trans (arr1_19 (V5 m ρ) c _ _ rfl rfl (heads5 m ρ c) (spread5 m ρ c))

theorem w8_v53_2 : (W8 m ρ c (Proc.devRef .tc main_v53_2) : S2048x128.Idx → EReal) = thG (V5 m ρ c main_v46) (ugA1 (V5 m ρ) c) := by
  rw [W8_of m ρ c main_v53_2 (by decide), W7_of m ρ c main_v53_2 (by decide)]
  exact (W6_arr m ρ c 20).trans (arr1_20 (V5 m ρ) c _ _ rfl rfl (heads5 m ρ c) (spread5 m ρ c))

theorem w8_v55_0 : (W8 m ρ c (Proc.devRef .tc main_v55_0) : S2048x128.Idx → EReal) = ugA2 (V7 m ρ) c :=
  (W8_arr m ρ c 18).trans (arr2_18 (V7 m ρ) c _ _ rfl rfl (heads7 m ρ c) (spread7 m ρ c))

theorem w8_v55_1 : (W8 m ρ c (Proc.devRef .tc main_v55_1) : S2048x128.Idx → EReal) = thG (V7 m ρ c main_v43) (ugA2 (V7 m ρ) c) :=
  (W8_arr m ρ c 19).trans (arr2_19 (V7 m ρ) c _ _ rfl rfl (heads7 m ρ c) (spread7 m ρ c))

theorem w8_v55_2 : (W8 m ρ c (Proc.devRef .tc main_v55_2) : S2048x128.Idx → EReal) = thG (V7 m ρ c main_v46) (ugA2 (V7 m ρ) c) :=
  (W8_arr m ρ c 20).trans (arr2_20 (V7 m ρ) c _ _ rfl rfl (heads7 m ρ c) (spread7 m ρ c))

/-- The features the later calls read. -/
theorem w9_v56 (n : Fin 4096) (j : Fin 128) : (W9 m ρ c (Proc.devRef .tc main_v56) : S4096x128.Idx → EReal) (ix2 n j) = feat m c n j := by
  refine (host3_v56 _ _ _ (w8_v53_0 m ρ c) (w8_v55_0 m ρ c) n j).trans ?_
  by_cases h : n.val < 2048
  · rw [dif_pos h]
    exact half1 m ρ c n h j
  · rw [dif_neg h]
    exact half2 m ρ c n h j

theorem gain43 (V : S1x1.Idx → EReal) (hV : V = W3 m ρ c (Proc.devRef .tc main_v43)) : V (ix2 0 0) = (A11 m c) ix0 := by
  rw [hV]
  exact host0_2_v43 _ _ (W2_args m ρ c main_arg11 (by decide))

theorem gain46 (V : S1x1.Idx → EReal) (hV : V = W3 m ρ c (Proc.devRef .tc main_v46)) : V (ix2 0 0) = (A12 m c) ix0 := by
  rw [hV]
  exact host0_2_v46 _ _ (W2_args m ρ c main_arg12 (by decide))

theorem th_at (g : S1x1.Idx → EReal) (u : S2048x128.Idx → EReal) (a x : EReal) (r : Fin 2048) (j : Fin 128) (hg : g (ix2 0 0) = a)
    (hu : u (ix2 r j) = x) : thG g u (ix2 r j) = Ideal.tanh (a * x) := by
  subst hg hu
  rfl

theorem w9_v57 (n : Fin 4096) (j : Fin 128) : (W9 m ρ c (Proc.devRef .tc main_v57) : S4096x128.Idx → EReal) (ix2 n j)
    = Ideal.tanh ((A11 m c) ix0 * feat m c n j) := by
  refine (host3_v57 _ _ _ (w8_v53_1 m ρ c) (w8_v55_1 m ρ c) n j).trans ?_
  by_cases h : n.val < 2048
  · rw [dif_pos h]
    exact th_at _ _ _ _ _ _ (gain43 m ρ c _ (keep5 m ρ c main_v43 (by decide))) (half1 m ρ c n h j)
  · rw [dif_neg h]
    exact th_at _ _ _ _ _ _ (gain43 m ρ c _ (keep7 m ρ c main_v43 (by decide))) (half2 m ρ c n h j)

theorem w9_v58 (n : Fin 4096) (j : Fin 128) : (W9 m ρ c (Proc.devRef .tc main_v58) : S4096x128.Idx → EReal) (ix2 n j)
    = Ideal.tanh ((A12 m c) ix0 * feat m c n j) := by
  refine (host3_v58 _ _ _ (w8_v53_2 m ρ c) (w8_v55_2 m ρ c) n j).trans ?_
  by_cases h : n.val < 2048
  · rw [dif_pos h]
    exact th_at _ _ _ _ _ _ (gain46 m ρ c _ (keep5 m ρ c main_v46 (by decide))) (half1 m ρ c n h j)
  · rw [dif_neg h]
    exact th_at _ _ _ _ _ _ (gain46 m ρ c _ (keep7 m ρ c main_v46 (by decide))) (half2 m ρ c n h j)

end Cert.KernelIdeal.Value
-- ==== Proof.Value.Adj.lean ====
/- The adjacency call: its two outputs, at an index. -/
module

public import proofs.«01_k».proof.Proof.Run.Region3
public import Idealize.ShloMosaic.Lib.Pipeline.ValueKit
public import Idealize.ShloMosaic.Lib.Pointwise

@[expose] public section

set_option maxRecDepth 16384

noncomputable section

namespace Cert.KernelIdeal.Value

open Cert.KernelIdeal Cert.KernelIdeal.Gen Cert.KernelIdeal.Run
open Idealize.ShloMosaic Idealize.ShloMosaic.TcCoe
open Idealize.ShloMosaic.Pipeline (Dat Cfg Window)

variable (V : (c : Dev nD) → (b : Ref sig .tc) → Buf (Elt Ideal) ((c : Thread nD τ).loc b))

/-- The block of the prediction at a point. -/
abbrev predB (c : Dev nD) (t : Fin cfg3.N) : FVec Ideal S128x4096 .f32 :=
  k3_pay3 (iblk3 V c 2 t) (iblk3 V c 1 t) (iblk3 V c 3 t) (iblk3 V c 0 t)

/-- The carried degrees after a point, from those before it. -/
abbrev degB (c : Dev nD) (t : Fin cfg3.N) (d : Vec Ideal S1x4096 .f32) : FVec Ideal S1x4096 .f32 :=
  k3_pay1 (k3_pay5 (iblk3 V c 2 t) (iblk3 V c 1 t) (iblk3 V c 3 t) (iblk3 V c 0 t) d)

theorem outs3_A (c : Dev nD) (t : Fin cfg3.N) (h0 : t.val % 32 = 0) :
    (outsAt3 V c t.val t.isLt).1 = predB V c t ∧ (outsAt3 V c t.val t.isLt).2.2 = degB V c t (k3_pay4 (F := Ideal)) := by
  rw [outsAt3_A V c t h0 (by omega)]
  constructor <;> (dsimp only; frame_out)

theorem outs3_B (c : Dev nD) (t : Fin cfg3.N) (h0 : ¬t.val % 32 = 0) (h1 : ¬t.val % 32 = 31) :
    (outsAt3 V c t.val t.isLt).1 = predB V c t
      ∧ (outsAt3 V c t.val t.isLt).2.2 = degB V c t (outsAt3 V c (t.val - 1) (Nat.lt_of_le_of_lt (Nat.sub_le _ _) t.isLt)).2.2 := by
  rw [outsAt3_B V c t h0 h1]
  constructor <;> (dsimp only; frame_out)
  exact congrArg (degB V c t) (Memref.IsWhole.read_unread (m := scM3_0) (Memref.isWhole_whole _) _)

theorem outs3_C (c : Dev nD) (t : Fin cfg3.N) (h0 : ¬t.val % 32 = 0) (h1 : t.val % 32 = 31) :
    (outsAt3 V c t.val t.isLt).1 = predB V c t
      ∧ (outsAt3 V c t.val t.isLt).2.1
        = k3_pay2 (F := Ideal) (degB V c t (outsAt3 V c (t.val - 1) (Nat.lt_of_le_of_lt (Nat.sub_le _ _) t.isLt)).2.2)
      ∧ (outsAt3 V c t.val t.isLt).2.2 = degB V c t (outsAt3 V c (t.val - 1) (Nat.lt_of_le_of_lt (Nat.sub_le _ _) t.isLt)).2.2 := by
  rw [outsAt3_C V c t h0 h1]
  refine ⟨?_, ?_, ?_⟩ <;> (dsimp only; frame_out)
  · exact congrArg (fun d => k3_pay2 (F := Ideal) (degB V c t d)) (Memref.IsWhole.read_unread (m := scM3_0) (Memref.isWhole_whole _) _)
  · exact congrArg (degB V c t) (Memref.IsWhole.read_unread (m := scM3_0) (Memref.isWhole_whole _) _)

theorem outs3_1 (c : Dev nD) (t : Fin cfg3.N) : (outsAt3 V c t.val t.isLt).1 = predB V c t := by
  by_cases h0 : t.val % 32 = 0
  · exact (outs3_A V c t h0).1
  by_cases h1 : t.val % 32 = 31
  · exact (outs3_C V c t h0 h1).1
  · exact (outs3_B V c t h0 h1).1

/-- The column sums of the prediction's block at a point number. -/
def colB (c : Dev nD) (j : Fin 4096) (n : ℕ) : EReal :=
  if h : n < cfg3.N then ∑ l : Fin 128, predB V c ⟨n, h⟩ (ix2 l j) else 0

theorem degB_at (c : Dev nD) (t : Fin cfg3.N) (d : Vec Ideal S1x4096 .f32) (j : Fin 4096) :
    degB V c t d (ix2 0 j) = d (ix2 0 j) + colB V c j t.val := by
  rw [colB, dif_pos t.isLt]
  pointwise [k3_pay1, k3_pay5]

theorem deg3 (c : Dev nD) (j : Fin 4096) (n : ℕ) (hn : n < cfg3.N) :
    (outsAt3 V c n hn).2.2 (ix2 0 j) = 1 + ∑ s ∈ Finset.range (n + 1), colB V c j s := by
  induction n with
  | zero =>
    rw [(outs3_A V c ⟨0, hn⟩ rfl).2, degB_at, Finset.sum_range_one]
    pointwise [k3_pay4]
  | succ n ih =>
    have hN : cfg3.N = 32 := N_3
    have h0 : ¬(n + 1) % 32 = 0 := by omega
    have e : (outsAt3 V c (n + 1) hn).2.2 = degB V c ⟨n + 1, hn⟩ (outsAt3 V c n (by omega)).2.2 := by
      by_cases h1 : (n + 1) % 32 = 31
      · exact (outs3_C V c ⟨n + 1, hn⟩ h0 h1).2.2
      · exact (outs3_B V c ⟨n + 1, hn⟩ h0 h1).2
    rw [e, degB_at, ih, Finset.sum_range_succ _ (n + 1), add_assoc]

/-- What the softmax reads. -/
def adjR (s u : S4096x128.Idx → EReal) (i j : Fin 4096) : EReal :=
  max ((∑ k : Fin 128, s (ix2 i k) * u (ix2 j k)) - ∑ k : Fin 128, u (ix2 i k) * s (ix2 j k)) 0

/-- The softmax's exponentials. -/
def adjE (s u : S4096x128.Idx → EReal) (i j : Fin 4096) : EReal :=
  Ideal.exp (adjR s u i j - Finset.univ.fold max (Ideal.ofBits .f32 0xFF800000#32) fun l => adjR s u i l)

/-- The prediction: the softmax's excess over the threshold. -/
def predG (s u : S4096x128.Idx → EReal) : S4096x4096.Idx → EReal := fun i =>
  max (Ideal.div (adjE s u (i 0) (i 1)) (∑ l : Fin 4096, adjE s u (i 0) l) - Ideal.ofBits .f32 0x3DCCCCCD#32) 0

theorem idx3 : ∀ t : Fin cfg3.N, win3_0.index t 0 = 0 ∧ win3_0.index t 1 = 0 ∧ win3_1.index t 0 = 0 ∧ win3_1.index t 1 = 0
    ∧ win3_2.index t 0 = t.val ∧ win3_2.index t 1 = 0 ∧ win3_3.index t 0 = t.val ∧ win3_3.index t 1 = 0
    ∧ win3_4.index t 0 = t.val ∧ win3_4.index t 1 = 0 ∧ win3_5.index t 0 = 0 ∧ win3_5.index t 1 = 0 := by decide +kernel

theorem predB_at (c : Dev nD) (t : Fin cfg3.N) (l : Fin 128) (j : Fin 4096) :
    predB V c t (ix2 l j) = predG (V c main_v57) (V c main_v58) (ix2 ⟨t.val * 128 + l.val, by have := t.isLt; have : cfg3.N = 32 := N_3; omega⟩ j) := by
  have h0 : iblk3 V c 0 t = V c main_v57 := by funext x; blk_ext [iblk3, idx3 t]
  have h1 : iblk3 V c 1 t = V c main_v58 := by funext x; blk_ext [iblk3, idx3 t]
  have h2 : ∀ x : Fin 128, iblk3 V c 2 t (ix2 l x) = V c main_v57 (ix2 ⟨t.val * 128 + l.val, by have := t.isLt; have : cfg3.N = 32 := N_3; omega⟩ x) :=
    fun x => by blk_ext [iblk3, idx3 t]
  have h3 : ∀ x : Fin 128, iblk3 V c 3 t (ix2 l x) = V c main_v58 (ix2 ⟨t.val * 128 + l.val, by have := t.isLt; have : cfg3.N = 32 := N_3; omega⟩ x) :=
    fun x => by blk_ext [iblk3, idx3 t]
  pointwise [k3_pay3, predG, adjE, adjR, h0, h1, h2, h3]

theorem arr3_4 (c : Dev nD) : (dat3 V c).arrAt 4 cfg3.N = predG (V c main_v57) (V c main_v58) := by
  refine (dat3 V c).arrAt_eq_of_covers 4 _ (by decide +kernel) fun t hf y => ?_
  blk_simp
  rw [after3_4, outs3_1]
  idx_vars y
  rw [predB_at]
  blk_ext [idx3 t]

/-- The last point. -/
abbrev t31 : Fin cfg3.N := ⟨31, by decide +kernel⟩

theorem sum_colB (c : Dev nD) (j : Fin 4096) :
    ∑ s ∈ Finset.range 32, colB V c j s = ∑ l : Fin 4096, predG (V c main_v57) (V c main_v58) (ix2 l j) := by
  have hN : cfg3.N = 32 := N_3
  rw [Finset.sum_range]
  refine (Finset.sum_congr rfl fun s _ => ?_).trans (Fin.sum_mul_add_congr (L := 4096) (S := 32) (n := 128)
    (F := fun s l => predG (V c main_v57) (V c main_v58) (ix2 ⟨s.val * 128 + l.val, by omega⟩ j)) fun s l hl => rfl)
  rw [colB, dif_pos (by omega)]
  exact Finset.sum_congr rfl fun l _ => predB_at V c ⟨s.val, by omega⟩ l j

theorem arr3_5 (c : Dev nD) : (dat3 V c).arrAt 5 cfg3.N
    = fun i => Ideal.rsqrt (1 + ∑ k : Fin 4096, predG (V c main_v57) (V c main_v58) (ix2 k (i 1))) := by
  refine (dat3 V c).arrAt_eq_of_after_last 5 t31 (by decide +kernel) _ fun j => ?_
  blk_simp
  rw [after3_5]
  obtain ⟨-, e, -⟩ := outs3_C V c t31 (by decide) (by decide)
  idx_vars j
  rw [e]
  pointwise [k3_pay2]
  obtain rfl : j0 = 0 := by omega
  rw [degB_at, ← sum_colB, Finset.sum_range_succ _ 31, ← add_assoc]
  exact congrArg (fun d => Ideal.rsqrt (d + colB V c j1 31)) (deg3 V c j1 30 _)

end Cert.KernelIdeal.Value

end
-- ==== Proof.Value.Dense.lean ====
/- The first dense graph layer, region by region: what each leaves in its output array, at an index. -/
module

public import proofs.«01_k».proof.Proof.Run.Region4
public import proofs.«01_k».proof.Proof.Run.Region5
public import Idealize.ShloMosaic.Lib.Pipeline.ValueKit
public import Idealize.ShloMosaic.Lib.Pointwise

@[expose] public section

set_option maxRecDepth 16384

noncomputable section

namespace Cert.KernelIdeal.Value

open Cert.KernelIdeal Cert.KernelIdeal.Gen Cert.KernelIdeal.Run
open Idealize.ShloMosaic Idealize.ShloMosaic.TcCoe
open Idealize.ShloMosaic.Pipeline (Dat Cfg Window)

variable (V : (c : Dev nD) → (b : Ref sig .tc) → Buf (Elt Ideal) ((c : Thread nD τ).loc b))

/-- The scaled features of a dense layer: row `r` of `x·w` times entry `r` of the row `d`. -/
def xdG (x : S4096x128.Idx → EReal) (w : S128x128.Idx → EReal) (d : S1x4096.Idx → EReal) : S4096x128.Idx → EReal :=
  fun i => d (ix2 0 (i 0)) * ∑ k : Fin 128, x (ix2 (i 0) k) * w (ix2 k (i 1))

/-- A dense layer from its scaled features `x`: the aggregate of column `j` of `p`, the self loop, the bias, the mix with the
    layer's input `t`. -/
def denseG (p : S4096x4096.Idx → EReal) (x : S4096x128.Idx → EReal) (d : S1x4096.Idx → EReal) (t : S4096x128.Idx → EReal)
    (b : S1x128.Idx → EReal) : S4096x128.Idx → EReal :=
  fun i => Ideal.ofBits .f32 0x3F666666#32 * (d (ix2 0 (i 0)) * ((∑ k : Fin 4096, p (ix2 k (i 0)) * x (ix2 k (i 1))) + x i) + b (ix2 0 (i 1)))
    + Ideal.ofBits .f32 0x3DCCCCCD#32 * t i

theorem idx4 : ∀ t : Fin cfg4.N, win4_0.index t 0 = t.val ∧ win4_0.index t 1 = 0 ∧ win4_1.index t 0 = 0 ∧ win4_1.index t 1 = 0
    ∧ win4_2.index t 0 = 0 ∧ win4_2.index t 1 = t.val ∧ win4_3.index t 0 = 0 ∧ win4_3.index t 1 = 0
    ∧ win4_4.index t 0 = t.val ∧ win4_4.index t 1 = 0 := by decide +kernel

theorem arr4 (c : Dev nD) (e : S128x128.Idx → EReal) (hE : V c main_v34 = e) (he : ∀ a b, e (ix2 a b) = if a = b then 1 else 0) :
    (dat4 V c).arrAt 4 cfg4.N = xdG (V c main_v56) (V c main_v62) (V c main_v59_1) := by
  refine (dat4 V c).arrAt_eq_of_covers 4 _ (by decide +kernel) fun t hf y => ?_
  blk_simp
  rw [after4_4]
  frame_out
  have h : iblk4 V c 3 t = e := by rw [← hE]; funext x; blk_ext [iblk4, idx4 t]
  idx_vars y
  pointwise [k4_pay1, xdG, h, he]
  simp only [ite_mul, one_mul, zero_mul, Finset.sum_ite_eq, Finset.mem_univ, if_true]
  blk_point [iblk4, idx4 t]

theorem idx5 : ∀ t : Fin cfg5.N, win5_0.index t 0 = 0 ∧ win5_0.index t 1 = t.val ∧ win5_1.index t 0 = 0 ∧ win5_1.index t 1 = 0
    ∧ win5_2.index t 0 = t.val ∧ win5_2.index t 1 = 0 ∧ win5_3.index t 0 = 0 ∧ win5_3.index t 1 = t.val
    ∧ win5_4.index t 0 = t.val ∧ win5_4.index t 1 = 0 ∧ win5_5.index t 0 = 0 ∧ win5_5.index t 1 = 0
    ∧ win5_6.index t 0 = 0 ∧ win5_6.index t 1 = 0 ∧ win5_7.index t 0 = t.val ∧ win5_7.index t 1 = 0 := by decide +kernel

theorem arr5 (c : Dev nD) (e : S256x256.Idx → EReal) (hE : V c main_v40 = e) (he : ∀ a b, e (ix2 a b) = if a = b then 1 else 0) :
    (dat5 V c).arrAt 7 cfg5.N = denseG (V c main_v59_0) (V c main_v63) (V c main_v59_1) (V c main_v56) (V c main_v66) := by
  refine (dat5 V c).arrAt_eq_of_covers 7 _ (by decide +kernel) fun t hf y => ?_
  blk_simp
  rw [after5_7]
  frame_out
  have h : iblk5 V c 6 t = e := by rw [← hE]; funext x; blk_ext [iblk5, idx5 t]
  idx_vars y
  pointwise [k5_pay1, denseG, h, he]
  simp only [ite_mul, one_mul, zero_mul, Finset.sum_ite_eq, Finset.mem_univ, if_true]
  blk_point [iblk5, idx5 t]

end Cert.KernelIdeal.Value

end
-- ==== Proof.Value.Dense2.lean ====
/- The second dense graph layer, region by region: what each leaves in its output array, at an index. -/
module

public import proofs.«01_k».proof.Proof.Run.Region6
public import proofs.«01_k».proof.Proof.Run.Region7
public import proofs.«01_k».proof.Proof.Value.Dense
public import Idealize.ShloMosaic.Lib.Pipeline.ValueKit
public import Idealize.ShloMosaic.Lib.Pointwise

@[expose] public section

set_option maxRecDepth 16384

noncomputable section

namespace Cert.KernelIdeal.Value

open Cert.KernelIdeal Cert.KernelIdeal.Gen Cert.KernelIdeal.Run
open Idealize.ShloMosaic Idealize.ShloMosaic.TcCoe
open Idealize.ShloMosaic.Pipeline (Dat Cfg Window)

variable (V : (c : Dev nD) → (b : Ref sig .tc) → Buf (Elt Ideal) ((c : Thread nD τ).loc b))

theorem idx6 : ∀ t : Fin cfg6.N, win6_0.index t 0 = t.val ∧ win6_0.index t 1 = 0 ∧ win6_1.index t 0 = 0 ∧ win6_1.index t 1 = 0
    ∧ win6_2.index t 0 = 0 ∧ win6_2.index t 1 = t.val ∧ win6_3.index t 0 = 0 ∧ win6_3.index t 1 = 0
    ∧ win6_4.index t 0 = t.val ∧ win6_4.index t 1 = 0 := by decide +kernel

theorem arr6 (c : Dev nD) (e : S128x128.Idx → EReal) (hE : V c main_v34 = e) (he : ∀ a b, e (ix2 a b) = if a = b then 1 else 0) :
    (dat6 V c).arrAt 4 cfg6.N = xdG (V c main_v67) (V c main_v70) (V c main_v59_1) := by
  refine (dat6 V c).arrAt_eq_of_covers 4 _ (by decide +kernel) fun t hf y => ?_
  blk_simp
  rw [after6_4]
  frame_out
  have h : iblk6 V c 3 t = e := by rw [← hE]; funext x; blk_ext [iblk6, idx6 t]
  idx_vars y
  pointwise [k6_pay1, xdG, h, he]
  simp only [ite_mul, one_mul, zero_mul, Finset.sum_ite_eq, Finset.mem_univ, if_true]
  blk_point [iblk6, idx6 t]

theorem idx7 : ∀ t : Fin cfg7.N, win7_0.index t 0 = 0 ∧ win7_0.index t 1 = t.val ∧ win7_1.index t 0 = 0 ∧ win7_1.index t 1 = 0
    ∧ win7_2.index t 0 = t.val ∧ win7_2.index t 1 = 0 ∧ win7_3.index t 0 = 0 ∧ win7_3.index t 1 = t.val
    ∧ win7_4.index t 0 = t.val ∧ win7_4.index t 1 = 0 ∧ win7_5.index t 0 = 0 ∧ win7_5.index t 1 = 0
    ∧ win7_6.index t 0 = 0 ∧ win7_6.index t 1 = 0 ∧ win7_7.index t 0 = t.val ∧ win7_7.index t 1 = 0 := by decide +kernel

theorem arr7 (c : Dev nD) (e : S256x256.Idx → EReal) (hE : V c main_v40 = e) (he : ∀ a b, e (ix2 a b) = if a = b then 1 else 0) :
    (dat7 V c).arrAt 7 cfg7.N = denseG (V c main_v59_0) (V c main_v71) (V c main_v59_1) (V c main_v67) (V c main_v74) := by
  refine (dat7 V c).arrAt_eq_of_covers 7 _ (by decide +kernel) fun t hf y => ?_
  blk_simp
  rw [after7_7]
  frame_out
  have h : iblk7 V c 6 t = e := by rw [← hE]; funext x; blk_ext [iblk7, idx7 t]
  idx_vars y
  pointwise [k7_pay1, denseG, h, he]
  simp only [ite_mul, one_mul, zero_mul, Finset.sum_ite_eq, Finset.mem_univ, if_true]
  blk_point [iblk7, idx7 t]

end Cert.KernelIdeal.Value

end
-- ==== Proof.Value.Trace2.lean ====
/- The prediction and the two dense layers, from the launch contents. -/
module

public import proofs.«01_k».proof.Proof.Value.Trace1
public import proofs.«01_k».proof.Proof.Value.Adj
public import proofs.«01_k».proof.Proof.Value.Dense
public import proofs.«01_k».proof.Proof.Value.Dense2
public import proofs.«01_k».proof.Proof.Value.Layers

@[expose] public section

set_option maxRecDepth 16384

noncomputable section

namespace Cert.KernelIdeal.Value

open Cert.KernelIdeal Cert.KernelIdeal.Gen Cert.KernelIdeal.Run
open Idealize.ShloMosaic Idealize.ShloMosaic.TcCoe

variable (m : (ℓ : Loc nD τ sig) → Buf (Elt Ideal) ℓ) (ρ : Dev nD → PrngReg) (c : Dev nD)

/-- The output features as an array. -/
def featA : S4096x128.Idx → EReal := fun y => feat m c (y 0) (y 1)

/-- The two images of the features through `tanh`. -/
def featS : S4096x128.Idx → EReal := fun y => Ideal.tanh (A11 m c ix0 * featA m c y)
def featT : S4096x128.Idx → EReal := fun y => Ideal.tanh (A12 m c ix0 * featA m c y)

/-- The prediction, entry by entry. -/
def predK (i j : Fin 4096) : EReal := predG (featS m c) (featT m c) (ix2 i j)

/-- The inverse root of a node's degree under the prediction. -/
def dinvK (n : Fin 4096) : EReal := Ideal.rsqrt (1 + ∑ k : Fin 4096, predK m c k n)

theorem w9_v57_eq : (W9 m ρ c (Proc.devRef .tc main_v57) : S4096x128.Idx → EReal) = featS m c := by
  funext y
  idx_vars y
  exact w9_v57 m ρ c _ _

theorem w9_v58_eq : (W9 m ρ c (Proc.devRef .tc main_v58) : S4096x128.Idx → EReal) = featT m c := by
  funext y
  idx_vars y
  exact w9_v58 m ρ c _ _

theorem w9_v56_eq : (W9 m ρ c (Proc.devRef .tc main_v56) : S4096x128.Idx → EReal) = featA m c := by
  funext y
  idx_vars y
  exact w9_v56 m ρ c _ _

theorem w10_v59_0 : (W10 m ρ c (Proc.devRef .tc main_v59_0) : S4096x4096.Idx → EReal) = predG (featS m c) (featT m c) :=
  ((W10_arr m ρ c 4).trans (arr3_4 (V9 m ρ) c)).trans (congrArg₂ predG (w9_v57_eq m ρ c) (w9_v58_eq m ρ c))

theorem dinv_at (s u s' u' : S4096x128.Idx → EReal) (hs : s = s') (hu : u = u') (n : Fin 4096) :
    (fun i : S1x4096.Idx => Ideal.rsqrt (1 + ∑ k : Fin 4096, predG s u (ix2 k (i 1)))) (ix2 0 n)
      = Ideal.rsqrt (1 + ∑ k : Fin 4096, predG s' u' (ix2 k n)) := by
  subst hs hu
  rfl

theorem w10_v59_1 (n : Fin 4096) : (W10 m ρ c (Proc.devRef .tc main_v59_1) : S1x4096.Idx → EReal) (ix2 0 n) = dinvK m c n :=
  (congrFun ((W10_arr m ρ c 5).trans (arr3_5 (V9 m ρ) c)) _).trans (dinv_at _ _ _ _ (w9_v57_eq m ρ c) (w9_v58_eq m ρ c) n)

theorem w3_v34 (V : S128x128.Idx → EReal) (hV : V = W3 m ρ c (Proc.devRef .tc main_v34)) (i j : Fin 128) :
    V (ix2 i j) = if i = j then (1 : EReal) else 0 := by
  rw [hV]
  exact host0_2_v34 _ i j

theorem w3_v40 (V : S256x256.Idx → EReal) (hV : V = W3 m ρ c (Proc.devRef .tc main_v40)) (i j : Fin 256) :
    V (ix2 i j) = if i = j then (1 : EReal) else 0 := by
  rw [hV]
  exact host0_2_v40 _ i j

theorem v34_11 : W11 m ρ c (Proc.devRef .tc main_v34) = W3 m ρ c (Proc.devRef .tc main_v34) := by
  rw [W11_of m ρ c main_v34 (by decide), W10_of m ρ c main_v34 (by decide), W9_of m ρ c main_v34 (by decide),
    W8_of m ρ c main_v34 (by decide), keep7 m ρ c main_v34 (by decide)]

theorem v34_15 : W15 m ρ c (Proc.devRef .tc main_v34) = W3 m ρ c (Proc.devRef .tc main_v34) := by
  rw [W15_of m ρ c main_v34 (by decide), W14_of m ρ c main_v34 (by decide), W13_of m ρ c main_v34 (by decide),
    W12_of m ρ c main_v34 (by decide), v34_11]

theorem v40_13 : W13 m ρ c (Proc.devRef .tc main_v40) = W3 m ρ c (Proc.devRef .tc main_v40) := by
  rw [W13_of m ρ c main_v40 (by decide), W12_of m ρ c main_v40 (by decide), W11_of m ρ c main_v40 (by decide),
    W10_of m ρ c main_v40 (by decide), W9_of m ρ c main_v40 (by decide), W8_of m ρ c main_v40 (by decide), keep7 m ρ c main_v40 (by decide)]

theorem v40_17 : W17 m ρ c (Proc.devRef .tc main_v40) = W3 m ρ c (Proc.devRef .tc main_v40) := by
  rw [W17_of m ρ c main_v40 (by decide), W16_of m ρ c main_v40 (by decide), W15_of m ρ c main_v40 (by decide),
    W14_of m ρ c main_v40 (by decide), v40_13]

theorem v56_11 : W11 m ρ c (Proc.devRef .tc main_v56) = W9 m ρ c (Proc.devRef .tc main_v56) := by
  rw [W11_of m ρ c main_v56 (by decide), W10_of m ρ c main_v56 (by decide)]

theorem v56_13 : W13 m ρ c (Proc.devRef .tc main_v56) = W9 m ρ c (Proc.devRef .tc main_v56) := by
  rw [W13_of m ρ c main_v56 (by decide), W12_of m ρ c main_v56 (by decide), v56_11]

theorem v59_1_11 : W11 m ρ c (Proc.devRef .tc main_v59_1) = W10 m ρ c (Proc.devRef .tc main_v59_1) := W11_of m ρ c main_v59_1 (by decide)

theorem v59_1_13 : W13 m ρ c (Proc.devRef .tc main_v59_1) = W10 m ρ c (Proc.devRef .tc main_v59_1) := by
  rw [W13_of m ρ c main_v59_1 (by decide), W12_of m ρ c main_v59_1 (by decide), v59_1_11]

theorem v59_1_15 : W15 m ρ c (Proc.devRef .tc main_v59_1) = W10 m ρ c (Proc.devRef .tc main_v59_1) := by
  rw [W15_of m ρ c main_v59_1 (by decide), W14_of m ρ c main_v59_1 (by decide), v59_1_13]

theorem v59_1_17 : W17 m ρ c (Proc.devRef .tc main_v59_1) = W10 m ρ c (Proc.devRef .tc main_v59_1) := by
  rw [W17_of m ρ c main_v59_1 (by decide), W16_of m ρ c main_v59_1 (by decide), v59_1_15]

theorem v59_0_13 : W13 m ρ c (Proc.devRef .tc main_v59_0) = W10 m ρ c (Proc.devRef .tc main_v59_0) := by
  rw [W13_of m ρ c main_v59_0 (by decide), W12_of m ρ c main_v59_0 (by decide), W11_of m ρ c main_v59_0 (by decide)]

theorem v59_0_17 : W17 m ρ c (Proc.devRef .tc main_v59_0) = W10 m ρ c (Proc.devRef .tc main_v59_0) := by
  rw [W17_of m ρ c main_v59_0 (by decide), W16_of m ρ c main_v59_0 (by decide), W15_of m ρ c main_v59_0 (by decide),
    W14_of m ρ c main_v59_0 (by decide), v59_0_13]

theorem v67_17 : W17 m ρ c (Proc.devRef .tc main_v67) = W14 m ρ c (Proc.devRef .tc main_v67) := by
  rw [W17_of m ρ c main_v67 (by decide), W16_of m ρ c main_v67 (by decide), W15_of m ρ c main_v67 (by decide)]

theorem xd_at (x : S4096x128.Idx → EReal) (w : S128x128.Idx → EReal) (d : S1x4096.Idx → EReal)
    (X : Fin 4096 → Fin 128 → EReal) (W : Fin 128 → Fin 128 → EReal) (D : Fin 4096 → EReal)
    (hx : ∀ n l, x (ix2 n l) = X n l) (hw : ∀ l j, w (ix2 l j) = W j l) (hd : ∀ n, d (ix2 0 n) = D n) (n : Fin 4096) (j : Fin 128) :
    xdG x w d (ix2 n j) = D n * ∑ l, X n l * W j l := by
  unfold xdG
  simp only [← hx, ← hw, ← hd]
  rfl

theorem dense_at (p : S4096x4096.Idx → EReal) (x : S4096x128.Idx → EReal) (d : S1x4096.Idx → EReal) (t : S4096x128.Idx → EReal)
    (b : S1x128.Idx → EReal) (P : Fin 4096 → Fin 4096 → EReal) (D : Fin 4096 → EReal) (T : Fin 4096 → Fin 128 → EReal)
    (W : Fin 128 → Fin 128 → EReal) (B : Fin 128 → EReal) (hp : ∀ k n, p (ix2 k n) = P k n)
    (hx : ∀ n j, x (ix2 n j) = D n * ∑ l, T n l * W j l) (hd : ∀ n, d (ix2 0 n) = D n) (ht : ∀ n j, t (ix2 n j) = T n j)
    (hb : ∀ j, b (ix2 0 j) = B j) (n : Fin 4096) (j : Fin 128) : denseG p x d t b (ix2 n j) = Maths.denseL P D T W B n j := by
  obtain rfl : (fun k n => p (ix2 k n)) = P := funext₂ hp
  obtain rfl : (fun n => d (ix2 0 n)) = D := funext hd
  obtain rfl : (fun n j => t (ix2 n j)) = T := funext₂ ht
  obtain rfl : (fun j => b (ix2 0 j)) = B := funext hb
  unfold Maths.denseL
  simp only [← hx]
  rfl

theorem w12_v63 (n : Fin 4096) (j : Fin 128) : (W12 m ρ c (Proc.devRef .tc main_v63) : S4096x128.Idx → EReal) (ix2 n j)
    = dinvK m c n * ∑ l, feat m c n l * A13 m c (ix3 0 j l) :=
  (congrFun ((W12_arr m ρ c 4).trans (arr4 (V11 m ρ) c _ rfl (w3_v34 m ρ c _ (v34_11 m ρ c)))) _).trans
    (xd_at _ _ _ (feat m c) (fun j l => A13 m c (ix3 0 j l)) (dinvK m c)
      (fun n l => (congrFun (v56_11 m ρ c) _).trans (w9_v56 m ρ c n l))
      (fun l j => host4_v62 _ _ (W10_args m ρ c main_arg13 (by decide)) l j)
      (fun n => (congrFun (v59_1_11 m ρ c) _).trans (w10_v59_1 m ρ c n)) n j)

/-- The first dense layer. -/
def dense1K (n : Fin 4096) (j : Fin 128) : EReal :=
  Maths.denseL (predK m c) (dinvK m c) (feat m c) (fun j l => A13 m c (ix3 0 j l)) (fun j => A14 m c (ix2 0 j)) n j

/-- The second dense layer. -/
def dense2K (n : Fin 4096) (j : Fin 128) : EReal :=
  Maths.denseL (predK m c) (dinvK m c) (dense1K m c) (fun j l => A13 m c (ix3 1 j l)) (fun j => A14 m c (ix2 1 j)) n j

theorem w14_v67 (n : Fin 4096) (j : Fin 128) : (W14 m ρ c (Proc.devRef .tc main_v67) : S4096x128.Idx → EReal) (ix2 n j) = dense1K m c n j :=
  (congrFun ((W14_arr m ρ c 7).trans (arr5 (V13 m ρ) c _ rfl (w3_v40 m ρ c _ (v40_13 m ρ c)))) _).trans
    (dense_at _ _ _ _ _ (predK m c) (dinvK m c) (feat m c) (fun j l => A13 m c (ix3 0 j l)) (fun j => A14 m c (ix2 0 j))
      (fun k n => congrFun ((v59_0_13 m ρ c).trans (w10_v59_0 m ρ c)) _)
      (fun n j => (congrFun (W13_of m ρ c main_v63 (by decide)) _).trans (w12_v63 m ρ c n j))
      (fun n => (congrFun (v59_1_13 m ρ c) _).trans (w10_v59_1 m ρ c n))
      (fun n j => (congrFun (v56_13 m ρ c) _).trans (w9_v56 m ρ c n j))
      (fun j => host5_v66 _ _ (W12_args m ρ c main_arg14 (by decide)) j) n j)

theorem w16_v71 (n : Fin 4096) (j : Fin 128) : (W16 m ρ c (Proc.devRef .tc main_v71) : S4096x128.Idx → EReal) (ix2 n j)
    = dinvK m c n * ∑ l, dense1K m c n l * A13 m c (ix3 1 j l) :=
  (congrFun ((W16_arr m ρ c 4).trans (arr6 (V15 m ρ) c _ rfl (w3_v34 m ρ c _ (v34_15 m ρ c)))) _).trans
    (xd_at _ _ _ (dense1K m c) (fun j l => A13 m c (ix3 1 j l)) (dinvK m c)
      (fun n l => (congrFun (W15_of m ρ c main_v67 (by decide)) _).trans (w14_v67 m ρ c n l))
      (fun l j => host6_v70 _ _ (W14_args m ρ c main_arg13 (by decide)) l j)
      (fun n => (congrFun (v59_1_15 m ρ c) _).trans (w10_v59_1 m ρ c n)) n j)

theorem w18_v75 (n : Fin 4096) (j : Fin 128) : (W18 m ρ c (Proc.devRef .tc main_v75) : S4096x128.Idx → EReal) (ix2 n j) = dense2K m c n j :=
  (congrFun ((W18_arr m ρ c 7).trans (arr7 (V17 m ρ) c _ rfl (w3_v40 m ρ c _ (v40_17 m ρ c)))) _).trans
    (dense_at _ _ _ _ _ (predK m c) (dinvK m c) (dense1K m c) (fun j l => A13 m c (ix3 1 j l)) (fun j => A14 m c (ix2 1 j))
      (fun k n => congrFun ((v59_0_17 m ρ c).trans (w10_v59_0 m ρ c)) _)
      (fun n j => (congrFun (W17_of m ρ c main_v71 (by decide)) _).trans (w16_v71 m ρ c n j))
      (fun n => (congrFun (v59_1_17 m ρ c) _).trans (w10_v59_1 m ρ c n))
      (fun n j => (congrFun (v67_17 m ρ c) _).trans (w14_v67 m ρ c n j))
      (fun j => host7_v74 _ _ (W16_args m ρ c main_arg14 (by decide)) j) n j)

end Cert.KernelIdeal.Value
-- ==== Proof.Value.Sparse.lean ====
/- The sparse graph layers, region by region: what each leaves in its output array, at an index. -/
module

public import proofs.«01_k».proof.Proof.Run.Region8
public import proofs.«01_k».proof.Proof.Run.Region9
public import proofs.«01_k».proof.Proof.Run.Region10
public import proofs.«01_k».proof.Proof.Run.Region11
public import proofs.«01_k».proof.Proof.Run.Region12
public import Idealize.ShloMosaic.Lib.Pipeline.ValueKit
public import Idealize.ShloMosaic.Lib.Pointwise

@[expose] public section

set_option maxRecDepth 16384

noncomputable section

namespace Cert.KernelIdeal.Value

open Cert.KernelIdeal Cert.KernelIdeal.Gen Cert.KernelIdeal.Run
open Idealize.ShloMosaic Idealize.ShloMosaic.TcCoe
open Idealize.ShloMosaic.Pipeline (Dat Cfg Window)

variable (V : (c : Dev nD) → (b : Ref sig .tc) → Buf (Elt Ideal) ((c : Thread nD τ).loc b))

/-- `W·xᵀ`: the weights times the transposed features. -/
def htG (a : S128x128.Idx → EReal) (x : S4096x128.Idx → EReal) : S128x4096.Idx → EReal :=
  fun i => ∑ k : Fin 128, a (ix2 (i 0) k) * x (ix2 (i 1) k)

/-- A sparse layer from its transposed aggregate `a` and features `h`: the self loop, the bias, the mix with the layer's
    input `t`. -/
def sparseG (a h : S128x4096.Idx → EReal) (d : S1x4096.Idx → EReal) (t : S4096x128.Idx → EReal)
    (b : S1x128.Idx → EReal) : S4096x128.Idx → EReal :=
  fun i => Ideal.ofBits .f32 0x3F666666#32 * (a (ix2 (i 1) (i 0)) + d (ix2 0 (i 0)) * h (ix2 (i 1) (i 0)) + b (ix2 0 (i 1)))
    + Ideal.ofBits .f32 0x3DCCCCCD#32 * t i

/-- The weighted degrees with the self loop, from the partial sums. -/
def degG (p : S32x4096.Idx → EReal) (j : Fin 4096) : EReal := (∑ k : Fin 32, p (ix2 k j)) + 1

theorem idx8 : ∀ t : Fin cfg8.N, win8_0.index t 0 = 0 ∧ win8_0.index t 1 = 0 ∧ win8_1.index t 0 = 0 ∧ win8_1.index t 1 = 0
    ∧ win8_2.index t 0 = 0 ∧ win8_2.index t 1 = 0 := by decide +kernel

theorem arr8_1 (c : Dev nD) : (dat8 V c).arrAt 1 cfg8.N = fun i => Ideal.rsqrt (degG (V c main_v85) (i 1)) := by
  refine (dat8 V c).arrAt_eq_of_covers 1 _ (by decide +kernel) fun t hf y => ?_
  blk_simp
  rw [after8_1]
  frame_out
  pointwise [k8_pay1, k8_pay2, degG]
  blk_point [iblk8, idx8 t]

theorem arr8_2 (c : Dev nD) : (dat8 V c).arrAt 2 cfg8.N = fun i => Ideal.div 1 (degG (V c main_v85) (i 1)) := by
  refine (dat8 V c).arrAt_eq_of_covers 2 _ (by decide +kernel) fun t hf y => ?_
  blk_simp
  rw [after8_2]
  frame_out
  pointwise [k8_pay1, k8_pay3, degG]
  blk_point [iblk8, idx8 t]

theorem idx9 : ∀ t : Fin cfg9.N, win9_0.index t 0 = 0 ∧ win9_0.index t 1 = 0 ∧ win9_1.index t 0 = 0 ∧ win9_1.index t 1 = 0
    ∧ win9_2.index t 0 = 0 ∧ win9_2.index t 1 = 0 := by decide +kernel

theorem arr9 (c : Dev nD) : (dat9 V c).arrAt 2 cfg9.N = htG (V c main_v105) (V c main_v56) := by
  refine (dat9 V c).arrAt_eq_of_covers 2 _ (by decide +kernel) fun t hf y => ?_
  blk_simp
  rw [after9_2]
  frame_out
  pointwise [k9_pay1, htG]
  blk_point [iblk9, idx9 t]

theorem idx11 : ∀ t : Fin cfg11.N, win11_0.index t 0 = 0 ∧ win11_0.index t 1 = 0 ∧ win11_1.index t 0 = 0 ∧ win11_1.index t 1 = 0
    ∧ win11_2.index t 0 = 0 ∧ win11_2.index t 1 = 0 := by decide +kernel

theorem arr11 (c : Dev nD) : (dat11 V c).arrAt 2 cfg11.N = htG (V c main_v131) (V c main_v129) := by
  refine (dat11 V c).arrAt_eq_of_covers 2 _ (by decide +kernel) fun t hf y => ?_
  blk_simp
  rw [after11_2]
  frame_out
  pointwise [k11_pay1, htG]
  blk_point [iblk11, idx11 t]

theorem idx10 : ∀ t : Fin cfg10.N, win10_0.index t 0 = 0 ∧ win10_0.index t 1 = t.val ∧ win10_1.index t 0 = 0 ∧ win10_1.index t 1 = t.val
    ∧ win10_2.index t 0 = 0 ∧ win10_2.index t 1 = t.val ∧ win10_3.index t 0 = t.val ∧ win10_3.index t 1 = 0
    ∧ win10_4.index t 0 = 0 ∧ win10_4.index t 1 = 0 ∧ win10_5.index t 0 = 0 ∧ win10_5.index t 1 = 0
    ∧ win10_6.index t 0 = t.val ∧ win10_6.index t 1 = 0 := by decide +kernel

theorem arr10 (c : Dev nD) (e : S128x128.Idx → EReal) (hE : V c main_v34 = e) (he : ∀ a b, e (ix2 a b) = if a = b then 1 else 0) :
    (dat10 V c).arrAt 6 cfg10.N = sparseG (V c main_v125) (V c main_v106) (V c main_v86_1) (V c main_v56) (V c main_v128) := by
  refine (dat10 V c).arrAt_eq_of_covers 6 _ (by decide +kernel) fun t hf y => ?_
  blk_simp
  rw [after10_6]
  frame_out
  have h : iblk10 V c 5 t = e := by rw [← hE]; funext x; blk_ext [iblk10, idx10 t]
  idx_vars y
  pointwise [k10_pay1, sparseG, h, he]
  simp only [mul_ite, mul_one, mul_zero, Finset.sum_ite_eq', Finset.mem_univ, if_true]
  blk_point [iblk10, idx10 t]

theorem idx12 : ∀ t : Fin cfg12.N, win12_0.index t 0 = 0 ∧ win12_0.index t 1 = t.val ∧ win12_1.index t 0 = 0 ∧ win12_1.index t 1 = t.val
    ∧ win12_2.index t 0 = 0 ∧ win12_2.index t 1 = t.val ∧ win12_3.index t 0 = t.val ∧ win12_3.index t 1 = 0
    ∧ win12_4.index t 0 = 0 ∧ win12_4.index t 1 = 0 ∧ win12_5.index t 0 = 0 ∧ win12_5.index t 1 = 0
    ∧ win12_6.index t 0 = t.val ∧ win12_6.index t 1 = 0 ∧ win12_7.index t 0 = t.val ∧ win12_7.index t 1 = 0 := by decide +kernel

theorem arr12 (c : Dev nD) (e : S128x128.Idx → EReal) (hE : V c main_v34 = e) (he : ∀ a b, e (ix2 a b) = if a = b then 1 else 0)
    (a : S4096x128.Idx → EReal) (ha : V c main_v75 = a) :
    (dat12 V c).arrAt 7 cfg12.N
      = fun i => sparseG (V c main_v151) (V c main_v132) (V c main_v86_1) (V c main_v129) (V c main_v154) i + a i := by
  subst ha
  refine (dat12 V c).arrAt_eq_of_covers 7 _ (by decide +kernel) fun t hf y => ?_
  blk_simp
  rw [after12_7]
  frame_out
  have h : iblk12 V c 5 t = e := by rw [← hE]; funext x; blk_ext [iblk12, idx12 t]
  idx_vars y
  pointwise [k12_pay1, sparseG, h, he]
  simp only [mul_ite, mul_one, mul_zero, Finset.sum_ite_eq', Finset.mem_univ, if_true]
  blk_point [iblk12, idx12 t]

end Cert.KernelIdeal.Value

end
-- ==== Proof.Value.Hosts3.lean ====
/- The host operations between the calls: the edge lists and the sums over edges of the sparse layers, at an index. -/
module

public import proofs.«01_k».proof.Proof.Run.Whole
public import proofs.«01_k».proof.Proof.Value.Edges
public import Idealize.ShloMosaic.Lib.Routing.OpsSet
public import proofs.«01_k».proof.Proof.Value.Maths
public import Idealize.ShloMosaic.Lib.Pointwise

@[expose] public section

set_option maxRecDepth 16384
set_option maxHeartbeats 2000000

noncomputable section

namespace Cert.KernelIdeal.Value

open Cert.KernelIdeal Cert.KernelIdeal.Gen Cert.KernelIdeal.Run
open Idealize.ShloMosaic Idealize.ShloMosaic.TcCoe

variable (V : Valuation τ sig (Elt Ideal))

theorem kg1 {α : Type} (x : S4096.Idx → α) (idx : IVec S131072x1 32) (e : Fin 131072) :
    Host.gather gather_S4096_S131072x1_S131072_n_0_n_n_0_1_1 x idx (ix1 e) = x (ix1 (Maths.nodeOf (idx (ix2 e 0)))) :=
  Maths.gather1 _ (by omega) x idx e

theorem kg2 {α : Type} (x : S4096x128.Idx → α) (idx : IVec S131072x1 32) (e : Fin 131072) (c : Fin 128) :
    Host.gather gather_S4096x128_S131072x1_S131072x128_1_0_n_n_0_1_1128 x idx (ix2 e c) = x (ix2 (Maths.nodeOf (idx (ix2 e 0))) c) :=
  Maths.gather2 _ (by omega) x idx e c

theorem ks1 (x : FVec Ideal S4096 .f32) (idx : IVec S131072x1 32) (u : FVec Ideal S131072 .f32) (n : Fin 4096) :
    Host.scatterAdd scatter_S4096_S131072x1_S131072_n_0_0_1 x idx u (ix1 n)
      = x (ix1 n) + Maths.edgeSum (fun e => idx (ix2 e 0)) (fun e => u (ix1 e)) n.val :=
  Maths.scatter1 _ x idx u n

theorem ks2 (x : FVec Ideal S4096x128 .f32) (idx : IVec S131072x1 32) (u : FVec Ideal S131072x128 .f32) (n : Fin 4096) (c : Fin 128) :
    Host.scatterAdd scatter_S4096x128_S131072x1_S131072x128_1_0_0_1 x idx u (ix2 n c)
      = x (ix2 n c) + Maths.edgeSum (fun e => idx (ix2 e 0)) (fun e => u (ix2 e c)) n.val :=
  Maths.scatter2 _ x idx u n c

theorem host8_v77 (a : IVec S2x131072 32) (ha : V (Proc.devRef .tc main_arg3) = a) (e : Fin 131072) :
    (StableHlo.after hostOps8 V (Proc.devRef .tc main_v77) : IVec S131072 32) (ix1 e) = a (ix2 0 e) := by
  simp only [hostOps8]
  after_results_simp
  rw [ha]
  pointwise

theorem host8_v79 (a : IVec S2x131072 32) (ha : V (Proc.devRef .tc main_arg3) = a) (e : Fin 131072) :
    (StableHlo.after hostOps8 V (Proc.devRef .tc main_v79) : IVec S131072 32) (ix1 e) = a (ix2 1 e) := by
  simp only [hostOps8]
  after_results_simp
  rw [ha]
  pointwise

theorem host8_v85 (a : IVec S2x131072 32) (ha : V (Proc.devRef .tc main_arg3) = a) (w : S131072.Idx → EReal)
    (hw : V (Proc.devRef .tc main_arg4) = w) (k : Fin 32) (n : Fin 4096) :
    (StableHlo.after hostOps8 V (Proc.devRef .tc main_v85) : S32x4096.Idx → EReal) (ix2 k n)
      = if k = 0 then Maths.edgeSum (fun e => a (ix2 1 e)) (fun e => w (ix1 e)) n.val else 0 := by
  simp only [hostOps8]
  after_results_simp
  rw [ha, hw]
  have hit : ∀ (u : Fin 4096) (r : Fin 32) (m : Fin 4096),
      scatter_S32x4096_S1_S4096_0_0_0_0.resultIdx? (ix1 u) (broadcastInDim S1 ![] bcast_S_S1 (constantI S_ 32 0#32)) = some (ix2 r m)
        ↔ r = 0 ∧ u = m := by
    intro u r m
    refine Iff.trans (Routing.resultIdx?_ix2 _ _ _ r m) ?_
    have h1 : scatter_S32x4096_S1_S4096_0_0_0_0.start (ix1 u) (broadcastInDim S1 ![] bcast_S_S1 (constantI S_ 32 0#32)) 0 = 0 := rfl
    have h2 : scatter_S32x4096_S1_S4096_0_0_0_0.window (ix1 u) 0 = 0 := rfl
    have h3 : scatter_S32x4096_S1_S4096_0_0_0_0.start (ix1 u) (broadcastInDim S1 ![] bcast_S_S1 (constantI S_ 32 0#32)) 1 = 0 := rfl
    have h4 : scatter_S32x4096_S1_S4096_0_0_0_0.window (ix1 u) 1 = u.val := rfl
    rw [h1, h2, h3, h4, Fin.ext_iff, Fin.ext_iff]
    constructor
    · rintro ⟨p, q⟩; exact ⟨by simp only [Fin.val_zero]; omega, by omega⟩
    · rintro ⟨p, q⟩; simp only [Fin.val_zero] at p; exact ⟨by omega, by omega⟩
  split_ifs with hk
  · subst hk
    refine Routing.scatter_set_hit _ _ _ _ (ix2 0 n) _ (fun u hu => ?_) (ix1 n) ((hit n 0 n).2 ⟨rfl, rfl⟩)
    idx_vars u
    obtain ⟨_, rfl⟩ := (hit u0 0 n).1 hu
    pointwise [ks1]
  · rw [Routing.scatter_set_miss]
    · pointwise
    · intro u hu
      idx_vars u
      exact hk ((hit u0 k n).1 hu).1

theorem host9_v103 (a : IVec S131072 32) (ha : V (Proc.devRef .tc main_v77) = a) (b : IVec S131072 32) (hb : V (Proc.devRef .tc main_v79) = b)
    (w : S131072.Idx → EReal) (hw : V (Proc.devRef .tc main_arg4) = w) (d : S1x4096.Idx → EReal) (hd : V (Proc.devRef .tc main_v86_0) = d)
    (e : Fin 131072) :
    (StableHlo.after hostOps9 V (Proc.devRef .tc main_v103) : S131072.Idx → EReal) (ix1 e)
      = d (ix2 0 (Maths.nodeOf (Maths.wrap (a (ix1 e))))) * w (ix1 e) * d (ix2 0 (Maths.nodeOf (Maths.wrap (b (ix1 e))))) := by
  simp only [hostOps9]
  after_results_simp
  rw [ha, hb, hw, hd]
  pointwise [kg1]
  rfl

theorem host10_v125 (a : IVec S131072 32) (ha : V (Proc.devRef .tc main_v77) = a) (b : IVec S131072 32) (hb : V (Proc.devRef .tc main_v79) = b)
    (w : S131072.Idx → EReal) (hw : V (Proc.devRef .tc main_v103) = w) (g : S128x4096.Idx → EReal) (hg : V (Proc.devRef .tc main_v106) = g)
    (c : Fin 128) (n : Fin 4096) :
    (StableHlo.after hostOps10 V (Proc.devRef .tc main_v125) : S128x4096.Idx → EReal) (ix2 c n)
      = Maths.edgeSum (fun e => b (ix1 e)) (fun e => w (ix1 e) * g (ix2 c (Maths.nodeOf (Maths.wrap (a (ix1 e)))))) n.val := by
  simp only [hostOps10]
  after_results_simp
  rw [ha, hb, hw, hg]
  pointwise [ks2, kg2]
  rfl

theorem host12_v151 (a : IVec S131072 32) (ha : V (Proc.devRef .tc main_v77) = a) (b : IVec S131072 32) (hb : V (Proc.devRef .tc main_v79) = b)
    (w : S131072.Idx → EReal) (hw : V (Proc.devRef .tc main_v103) = w) (g : S128x4096.Idx → EReal) (hg : V (Proc.devRef .tc main_v132) = g)
    (c : Fin 128) (n : Fin 4096) :
    (StableHlo.after hostOps12 V (Proc.devRef .tc main_v151) : S128x4096.Idx → EReal) (ix2 c n)
      = Maths.edgeSum (fun e => b (ix1 e)) (fun e => w (ix1 e) * g (ix2 c (Maths.nodeOf (Maths.wrap (a (ix1 e)))))) n.val := by
  simp only [hostOps12]
  after_results_simp
  rw [ha, hb, hw, hg]
  pointwise [ks2, kg2]
  rfl

end Cert.KernelIdeal.Value
-- ==== Proof.Value.Trace3.lean ====
/- The two sparse layers and the results, from the launch contents. -/
module

public import proofs.«01_k».proof.Proof.Value.Trace2
public import proofs.«01_k».proof.Proof.Value.Sparse
public import proofs.«01_k».proof.Proof.Value.Hosts3

@[expose] public section

set_option maxRecDepth 16384

noncomputable section

namespace Cert.KernelIdeal.Value

open Cert.KernelIdeal Cert.KernelIdeal.Gen Cert.KernelIdeal.Run
open Idealize.ShloMosaic Idealize.ShloMosaic.TcCoe

variable (m : (ℓ : Loc nD τ sig) → Buf (Elt Ideal) ℓ) (ρ : Dev nD → PrngReg) (c : Dev nD)

/-- The sources, the destinations and the weights of the edges. -/
def srcK (e : Fin 131072) : BitVec 32 := A3 m c (ix2 0 e)
def dstK (e : Fin 131072) : BitVec 32 := A3 m c (ix2 1 e)
def ewK (e : Fin 131072) : EReal := A4 m c (ix1 e)

/-- The first sparse layer. -/
def sparse1K (n : Fin 4096) (j : Fin 128) : EReal :=
  Maths.sparseL (srcK m c) (dstK m c) (ewK m c) (feat m c) (fun j l => A15 m c (ix3 0 j l)) (fun j => A16 m c (ix2 0 j)) n j

/-- The second sparse layer. -/
def sparse2K (n : Fin 4096) (j : Fin 128) : EReal :=
  Maths.sparseL (srcK m c) (dstK m c) (ewK m c) (sparse1K m c) (fun j l => A15 m c (ix3 1 j l)) (fun j => A16 m c (ix2 1 j)) n j

theorem w19_v77 (e : Fin 131072) : (W19 m ρ c (Proc.devRef .tc main_v77) : IVec S131072 32) (ix1 e) = srcK m c e :=
  host8_v77 _ _ (W18_args m ρ c main_arg3 (by decide)) e

theorem w19_v79 (e : Fin 131072) : (W19 m ρ c (Proc.devRef .tc main_v79) : IVec S131072 32) (ix1 e) = dstK m c e :=
  host8_v79 _ _ (W18_args m ρ c main_arg3 (by decide)) e

theorem deg_at (p : S32x4096.Idx → EReal) (n : Fin 4096)
    (hp : ∀ k, p (ix2 k n) = if k = 0 then Maths.edgeSum (dstK m c) (ewK m c) n.val else 0) : degG p n = Maths.degL (dstK m c) (ewK m c) n := by
  unfold degG Maths.degL
  simp only [hp, Finset.sum_ite_eq', Finset.mem_univ, if_true]

theorem w19_deg (n : Fin 4096) : degG (W19 m ρ c (Proc.devRef .tc main_v85)) n = Maths.degL (dstK m c) (ewK m c) n :=
  deg_at m c _ n fun k => host8_v85 _ _ (W18_args m ρ c main_arg3 (by decide)) _ (W18_args m ρ c main_arg4 (by decide)) k n

theorem w20_v86_0 (n : Fin 4096) : (W20 m ρ c (Proc.devRef .tc main_v86_0) : S1x4096.Idx → EReal) (ix2 0 n)
    = Ideal.rsqrt (Maths.degL (dstK m c) (ewK m c) n) :=
  (congrFun ((W20_arr m ρ c 1).trans (arr8_1 (V19 m ρ) c)) _).trans (congrArg Ideal.rsqrt (w19_deg m ρ c n))

theorem w20_v86_1 (n : Fin 4096) : (W20 m ρ c (Proc.devRef .tc main_v86_1) : S1x4096.Idx → EReal) (ix2 0 n)
    = Ideal.div 1 (Maths.degL (dstK m c) (ewK m c) n) :=
  (congrFun ((W20_arr m ρ c 2).trans (arr8_2 (V19 m ρ) c)) _).trans (congrArg (Ideal.div 1) (w19_deg m ρ c n))

theorem v77_20 : W20 m ρ c (Proc.devRef .tc main_v77) = W19 m ρ c (Proc.devRef .tc main_v77) := W20_of m ρ c main_v77 (by decide)
theorem v79_20 : W20 m ρ c (Proc.devRef .tc main_v79) = W19 m ρ c (Proc.devRef .tc main_v79) := W20_of m ρ c main_v79 (by decide)

theorem v77_22 : W22 m ρ c (Proc.devRef .tc main_v77) = W19 m ρ c (Proc.devRef .tc main_v77) := by
  rw [W22_of m ρ c main_v77 (by decide), W21_of m ρ c main_v77 (by decide), v77_20]
theorem v79_22 : W22 m ρ c (Proc.devRef .tc main_v79) = W19 m ρ c (Proc.devRef .tc main_v79) := by
  rw [W22_of m ρ c main_v79 (by decide), W21_of m ρ c main_v79 (by decide), v79_20]
theorem v103_22 : W22 m ρ c (Proc.devRef .tc main_v103) = W21 m ρ c (Proc.devRef .tc main_v103) := W22_of m ρ c main_v103 (by decide)

theorem v77_26 : W26 m ρ c (Proc.devRef .tc main_v77) = W19 m ρ c (Proc.devRef .tc main_v77) := by
  rw [W26_of m ρ c main_v77 (by decide), W25_of m ρ c main_v77 (by decide), W24_of m ρ c main_v77 (by decide), W23_of m ρ c main_v77 (by decide), v77_22]
theorem v79_26 : W26 m ρ c (Proc.devRef .tc main_v79) = W19 m ρ c (Proc.devRef .tc main_v79) := by
  rw [W26_of m ρ c main_v79 (by decide), W25_of m ρ c main_v79 (by decide), W24_of m ρ c main_v79 (by decide), W23_of m ρ c main_v79 (by decide), v79_22]
theorem v103_26 : W26 m ρ c (Proc.devRef .tc main_v103) = W21 m ρ c (Proc.devRef .tc main_v103) := by
  rw [W26_of m ρ c main_v103 (by decide), W25_of m ρ c main_v103 (by decide), W24_of m ρ c main_v103 (by decide), W23_of m ρ c main_v103 (by decide), v103_22]

theorem v86_1_23 : W23 m ρ c (Proc.devRef .tc main_v86_1) = W20 m ρ c (Proc.devRef .tc main_v86_1) := by
  rw [W23_of m ρ c main_v86_1 (by decide), W22_of m ρ c main_v86_1 (by decide), W21_of m ρ c main_v86_1 (by decide)]
theorem v86_1_27 : W27 m ρ c (Proc.devRef .tc main_v86_1) = W20 m ρ c (Proc.devRef .tc main_v86_1) := by
  rw [W27_of m ρ c main_v86_1 (by decide), W26_of m ρ c main_v86_1 (by decide), W25_of m ρ c main_v86_1 (by decide),
    W24_of m ρ c main_v86_1 (by decide), v86_1_23]

theorem v56_21 : W21 m ρ c (Proc.devRef .tc main_v56) = W9 m ρ c (Proc.devRef .tc main_v56) := by
  rw [W21_of m ρ c main_v56 (by decide), W20_of m ρ c main_v56 (by decide), W19_of m ρ c main_v56 (by decide), W18_of m ρ c main_v56 (by decide),
    W17_of m ρ c main_v56 (by decide), W16_of m ρ c main_v56 (by decide), W15_of m ρ c main_v56 (by decide), W14_of m ρ c main_v56 (by decide), v56_13]
theorem v56_23 : W23 m ρ c (Proc.devRef .tc main_v56) = W9 m ρ c (Proc.devRef .tc main_v56) := by
  rw [W23_of m ρ c main_v56 (by decide), W22_of m ρ c main_v56 (by decide), v56_21]

theorem v34_23 : W23 m ρ c (Proc.devRef .tc main_v34) = W3 m ρ c (Proc.devRef .tc main_v34) := by
  rw [W23_of m ρ c main_v34 (by decide), W22_of m ρ c main_v34 (by decide), W21_of m ρ c main_v34 (by decide), W20_of m ρ c main_v34 (by decide),
    W19_of m ρ c main_v34 (by decide), W18_of m ρ c main_v34 (by decide), W17_of m ρ c main_v34 (by decide), W16_of m ρ c main_v34 (by decide), v34_15]
theorem v34_27 : W27 m ρ c (Proc.devRef .tc main_v34) = W3 m ρ c (Proc.devRef .tc main_v34) := by
  rw [W27_of m ρ c main_v34 (by decide), W26_of m ρ c main_v34 (by decide), W25_of m ρ c main_v34 (by decide), W24_of m ρ c main_v34 (by decide), v34_23]

theorem v75_27 : W27 m ρ c (Proc.devRef .tc main_v75) = W18 m ρ c (Proc.devRef .tc main_v75) := by
  rw [W27_of m ρ c main_v75 (by decide), W26_of m ρ c main_v75 (by decide), W25_of m ρ c main_v75 (by decide), W24_of m ρ c main_v75 (by decide),
    W23_of m ρ c main_v75 (by decide), W22_of m ρ c main_v75 (by decide), W21_of m ρ c main_v75 (by decide), W20_of m ρ c main_v75 (by decide),
    W19_of m ρ c main_v75 (by decide)]

theorem v129_27 : W27 m ρ c (Proc.devRef .tc main_v129) = W24 m ρ c (Proc.devRef .tc main_v129) := by
  rw [W27_of m ρ c main_v129 (by decide), W26_of m ρ c main_v129 (by decide), W25_of m ρ c main_v129 (by decide)]

theorem norm_at (a b : IVec S131072 32) (d : S1x4096.Idx → EReal) (w : S131072.Idx → EReal) (ha : ∀ e, a (ix1 e) = srcK m c e)
    (hb : ∀ e, b (ix1 e) = dstK m c e) (hw : ∀ e, w (ix1 e) = ewK m c e) (hd : ∀ n, d (ix2 0 n) = Ideal.rsqrt (Maths.degL (dstK m c) (ewK m c) n))
    (e : Fin 131072) :
    d (ix2 0 (Maths.nodeOf (Maths.wrap (a (ix1 e))))) * w (ix1 e) * d (ix2 0 (Maths.nodeOf (Maths.wrap (b (ix1 e)))))
      = Maths.normL (srcK m c) (dstK m c) (ewK m c) e := by
  rw [ha, hb, hw, hd, hd]
  rfl

theorem w21_v103 (e : Fin 131072) : (W21 m ρ c (Proc.devRef .tc main_v103) : S131072.Idx → EReal) (ix1 e)
    = Maths.normL (srcK m c) (dstK m c) (ewK m c) e :=
  (host9_v103 _ _ (v77_20 m ρ c) _ (v79_20 m ρ c) _ (W20_args m ρ c main_arg4 (by decide)) _ rfl e).trans
    (norm_at m c _ _ _ _ (w19_v77 m ρ c) (w19_v79 m ρ c) (fun _ => rfl) (w20_v86_0 m ρ c) e)

theorem ht_at (a : S128x128.Idx → EReal) (x : S4096x128.Idx → EReal) (W : Fin 128 → Fin 128 → EReal) (T : Fin 4096 → Fin 128 → EReal)
    (ha : ∀ j l, a (ix2 j l) = W j l) (hx : ∀ n l, x (ix2 n l) = T n l) (j : Fin 128) (n : Fin 4096) :
    htG a x (ix2 j n) = ∑ l, W j l * T n l := by
  unfold htG
  simp only [← ha, ← hx]
  rfl

theorem sparse_at (a h : S128x4096.Idx → EReal) (d : S1x4096.Idx → EReal) (t : S4096x128.Idx → EReal) (b : S1x128.Idx → EReal)
    (w : S131072.Idx → EReal) (src dst : IVec S131072 32)
    (T : Fin 4096 → Fin 128 → EReal) (W : Fin 128 → Fin 128 → EReal) (B : Fin 128 → EReal)
    (ha : ∀ j n, a (ix2 j n) = Maths.edgeSum (fun e => dst (ix1 e)) (fun e => w (ix1 e) * h (ix2 j (Maths.nodeOf (Maths.wrap (src (ix1 e)))))) n.val)
    (hs : ∀ e, src (ix1 e) = srcK m c e) (hd : ∀ e, dst (ix1 e) = dstK m c e)
    (hw : ∀ e, w (ix1 e) = Maths.normL (srcK m c) (dstK m c) (ewK m c) e)
    (hh : ∀ j n, h (ix2 j n) = ∑ l, W j l * T n l) (hdd : ∀ n, d (ix2 0 n) = Ideal.div 1 (Maths.degL (dstK m c) (ewK m c) n))
    (ht : ∀ n j, t (ix2 n j) = T n j) (hb : ∀ j, b (ix2 0 j) = B j) (n : Fin 4096) (j : Fin 128) :
    sparseG a h d t b (ix2 n j) = Maths.sparseL (srcK m c) (dstK m c) (ewK m c) T W B n j := by
  have e : sparseG a h d t b (ix2 n j) = Ideal.ofBits .f32 0x3F666666#32 * (a (ix2 j n) + d (ix2 0 n) * h (ix2 j n) + b (ix2 0 j))
    + Ideal.ofBits .f32 0x3DCCCCCD#32 * t (ix2 n j) := rfl
  rw [e, ha, hdd, hb, ht, hh]
  unfold Maths.sparseL
  simp only [hs, hd, hw, hh]

theorem w22_v106 (j : Fin 128) (n : Fin 4096) : (W22 m ρ c (Proc.devRef .tc main_v106) : S128x4096.Idx → EReal) (ix2 j n)
    = ∑ l, A15 m c (ix3 0 j l) * feat m c n l :=
  (congrFun ((W22_arr m ρ c 2).trans (arr9 (V21 m ρ) c)) _).trans
    (ht_at _ _ (fun j l => A15 m c (ix3 0 j l)) (feat m c)
      (fun j l => host9_v105 _ _ (W20_args m ρ c main_arg15 (by decide)) j l)
      (fun n l => (congrFun (v56_21 m ρ c) _).trans (w9_v56 m ρ c n l)) j n)

theorem w24_v129 (n : Fin 4096) (j : Fin 128) : (W24 m ρ c (Proc.devRef .tc main_v129) : S4096x128.Idx → EReal) (ix2 n j) = sparse1K m c n j :=
  (congrFun ((W24_arr m ρ c 6).trans (arr10 (V23 m ρ) c _ rfl (w3_v34 m ρ c _ (v34_23 m ρ c)))) _).trans
    (sparse_at m c _ _ _ _ _ (W21 m ρ c (Proc.devRef .tc main_v103)) (W19 m ρ c (Proc.devRef .tc main_v77)) (W19 m ρ c (Proc.devRef .tc main_v79))
      (feat m c) (fun j l => A15 m c (ix3 0 j l)) (fun j => A16 m c (ix2 0 j))
      (fun j n => host10_v125 _ _ (v77_22 m ρ c) _ (v79_22 m ρ c) _ (v103_22 m ρ c) _ (W23_of m ρ c main_v106 (by decide)).symm j n)
      (w19_v77 m ρ c) (w19_v79 m ρ c) (w21_v103 m ρ c)
      (fun j n => (congrFun (W23_of m ρ c main_v106 (by decide)) _).trans (w22_v106 m ρ c j n))
      (fun n => (congrFun (v86_1_23 m ρ c) _).trans (w20_v86_1 m ρ c n))
      (fun n j => (congrFun (v56_23 m ρ c) _).trans (w9_v56 m ρ c n j))
      (fun j => host10_v128 _ _ (W22_args m ρ c main_arg16 (by decide)) j) n j)

theorem w26_v132 (j : Fin 128) (n : Fin 4096) : (W26 m ρ c (Proc.devRef .tc main_v132) : S128x4096.Idx → EReal) (ix2 j n)
    = ∑ l, A15 m c (ix3 1 j l) * sparse1K m c n l :=
  (congrFun ((W26_arr m ρ c 2).trans (arr11 (V25 m ρ) c)) _).trans
    (ht_at _ _ (fun j l => A15 m c (ix3 1 j l)) (sparse1K m c)
      (fun j l => host11_v131 _ _ (W24_args m ρ c main_arg15 (by decide)) j l)
      (fun n l => (congrFun (W25_of m ρ c main_v129 (by decide)) _).trans (w24_v129 m ρ c n l)) j n)

theorem out_at (a : EReal) (f : S4096x128.Idx → EReal) (g : S4096x128.Idx → EReal) (n : Fin 4096) (j : Fin 128) (b : EReal)
    (hf : f (ix2 n j) = a) (hg : g (ix2 n j) = b) : (fun i => f i + g i) (ix2 n j) = a + b := by
  subst hf hg
  rfl

/-- The aggregated features. -/
theorem w28_v155 (n : Fin 4096) (j : Fin 128) : (W28 m ρ c (Proc.devRef .tc main_v155) : S4096x128.Idx → EReal) (ix2 n j)
    = sparse2K m c n j + dense2K m c n j :=
  (congrFun ((W28_arr m ρ c 7).trans (arr12 (V27 m ρ) c _ rfl (w3_v34 m ρ c _ (v34_27 m ρ c)) _ rfl)) _).trans
    (out_at _ _ _ _ _ _
      (sparse_at m c _ _ _ _ _ (W21 m ρ c (Proc.devRef .tc main_v103)) (W19 m ρ c (Proc.devRef .tc main_v77)) (W19 m ρ c (Proc.devRef .tc main_v79))
        (sparse1K m c) (fun j l => A15 m c (ix3 1 j l)) (fun j => A16 m c (ix2 1 j))
        (fun j n => host12_v151 _ _ (v77_26 m ρ c) _ (v79_26 m ρ c) _ (v103_26 m ρ c) _ (W27_of m ρ c main_v132 (by decide)).symm j n)
        (w19_v77 m ρ c) (w19_v79 m ρ c) (w21_v103 m ρ c)
        (fun j n => (congrFun (W27_of m ρ c main_v132 (by decide)) _).trans (w26_v132 m ρ c j n))
        (fun n => (congrFun (v86_1_27 m ρ c) _).trans (w20_v86_1 m ρ c n))
        (fun n j => (congrFun (v129_27 m ρ c) _).trans (w24_v129 m ρ c n j))
        (fun j => host12_v154 _ _ (W26_args m ρ c main_arg16 (by decide)) j) n j)
      ((congrFun (v75_27 m ρ c) _).trans (w18_v75 m ρ c n j)))

theorem w29_v155 (n : Fin 4096) (j : Fin 128) : (W29 m ρ c (Proc.devRef .tc main_v155) : S4096x128.Idx → EReal) (ix2 n j)
    = sparse2K m c n j + dense2K m c n j :=
  (congrFun (W29_of m ρ c main_v155 (by decide)) _).trans (w28_v155 m ρ c n j)

theorem w29_v59_0 : (W29 m ρ c (Proc.devRef .tc main_v59_0) : S4096x4096.Idx → EReal) = predG (featS m c) (featT m c) := by
  rw [W29_of m ρ c main_v59_0 (by decide), W28_of m ρ c main_v59_0 (by decide), W27_of m ρ c main_v59_0 (by decide), W26_of m ρ c main_v59_0 (by decide),
    W25_of m ρ c main_v59_0 (by decide), W24_of m ρ c main_v59_0 (by decide), W23_of m ρ c main_v59_0 (by decide), W22_of m ρ c main_v59_0 (by decide),
    W21_of m ρ c main_v59_0 (by decide), W20_of m ρ c main_v59_0 (by decide), W19_of m ρ c main_v59_0 (by decide), W18_of m ρ c main_v59_0 (by decide),
    v59_0_17, w10_v59_0]

end Cert.KernelIdeal.Value
-- ==== Proof.Value.RefAdj.lean ====
/- The reference's adjacency and prediction, at an index. -/
module

public import proofs.«01_k».proof.Proof.Gen.ReferenceIdeal.Run
public import proofs.«01_k».proof.Proof.Value.Layers
public import proofs.«01_k».proof.Proof.Value.Maths
public import proofs.«01_k».proof.Proof.Value.Adj
public import Idealize.ShloMosaic.Lib.Pointwise

@[expose] public section

set_option maxRecDepth 16384
set_option maxHeartbeats 2000000

noncomputable section

namespace Cert.ReferenceIdeal.Value

open Cert.ReferenceIdeal Cert.ReferenceIdeal.Gen
open Idealize.ShloMosaic Idealize.ShloMosaic.TcCoe

variable (V : Valuation τ sig (Elt Ideal))

theorem r80 (u : S4096x128.Idx → EReal) (hu : res_main_v72 V = u) (a b : S_.Idx → EReal) (ha : V (Proc.devRef .tc main_arg11) = a)
    (hb : V (Proc.devRef .tc main_arg12) = b) (i j : Fin 4096) :
    (res_main_v80 V : S4096x4096.Idx → EReal) (ix2 i j)
      = ∑ x : Fin 128, Ideal.tanh (a ix0 * u (ix2 i x)) * Ideal.tanh (b ix0 * u (ix2 j x)) := by
  unfold res_main_v80
  rw [hu, ha, hb]
  pointwise

theorem r83 (x : S4096x4096.Idx → EReal) (hx : res_main_v80 V = x) (i j : Fin 4096) :
    (res_main_v83 V : S4096x4096.Idx → EReal) (ix2 i j) = max (x (ix2 i j) - x (ix2 j i)) (0 : EReal) := by
  unfold res_main_v83
  rw [hx]
  pointwise

theorem rowmax (v : FVec Ideal S4096x4096 .f32) (c : FVec Ideal S_ .f32) (i : Fin 4096) :
    Host.reduce FloatOps.maximumf v c reducesTo_S4096x4096_S4096_d1 h_S_ (ix1 i)
      = Finset.univ.fold max (c (Shape.Idx.first h_S_)) fun k : Fin 4096 => v (ix2 i k) := by
  simp only [pointwise]

theorem init_at : (constant (F := Ideal) S_ .f32 0xFF800000#32) (Shape.Idx.first h_S_) = Ideal.ofBits .f32 0xFF800000#32 := rfl

theorem rowmax_init (x : FVec Ideal S4096x4096 .f32) (l : Fin 4096) :
    Host.reduce FloatOps.maximumf x (constant S_ .f32 0xFF800000#32) reducesTo_S4096x4096_S4096_d1 h_S_ (ix1 l)
      = Finset.univ.fold max (Ideal.ofBits .f32 0xFF800000#32) fun k : Fin 4096 => x (ix2 l k) := by
  rw [rowmax, init_at]

theorem exp_at (x : FVec Ideal S4096x4096 .f32) (M : FVec Ideal S4096 .f32) (i j : Fin 4096) :
    Host.exp (subf x (broadcastInDim S4096x4096 ![0, 1] bcast_S4096x1_S4096x4096_0_1 (broadcastInDim S4096x1 ![0] bcast_S4096_S4096x1_0
      (maximumf (broadcastInDim S4096 ![] bcast_S_S4096 (constant S_ .f32 0xFF800000#32)) M)))) (ix2 i j)
      = Ideal.exp (x (ix2 i j) - max (Ideal.ofBits .f32 0xFF800000#32) (M (ix1 i))) := by
  pointwise

theorem r90 (x : FVec Ideal S4096x4096 .f32) (hx : res_main_v83 V = x) (i j : Fin 4096) :
    (res_main_v90 V : S4096x4096.Idx → EReal) (ix2 i j)
      = Ideal.exp (x (ix2 i j) - max (Ideal.ofBits .f32 0xFF800000#32)
          (Finset.univ.fold max (Ideal.ofBits .f32 0xFF800000#32) fun k : Fin 4096 => x (ix2 i k))) := by
  unfold res_main_v90
  rw [hx]
  exact (exp_at x _ i j).trans (congrArg (fun y => Ideal.exp (x (ix2 i j) - max (Ideal.ofBits .f32 0xFF800000#32) y)) (rowmax_init x i))

theorem r97 (x : S4096x4096.Idx → EReal) (hx : res_main_v90 V = x) (i j : Fin 4096) :
    (res_main_v97 V : S4096x4096.Idx → EReal) (ix2 i j)
      = max (Ideal.div (x (ix2 i j)) (∑ k : Fin 4096, x (ix2 i k)) - Ideal.ofBits .f32 0x3DCCCCCD#32) (0 : EReal) := by
  unfold res_main_v97
  rw [hx]
  pointwise

/-- The reference's prediction is the softmax's excess, of the two transformed features. -/
theorem pred_eq (u : S4096x128.Idx → EReal) (hu : res_main_v72 V = u) (a b : S_.Idx → EReal) (ha : V (Proc.devRef .tc main_arg11) = a)
    (hb : V (Proc.devRef .tc main_arg12) = b) (i j : Fin 4096) :
    (res_main_v97 V : S4096x4096.Idx → EReal) (ix2 i j)
      = KernelIdeal.Value.predG (fun y => Ideal.tanh (a ix0 * u y)) (fun y => Ideal.tanh (b ix0 * u y)) (ix2 i j) := by
  have hR : ∀ i j : Fin 4096, (res_main_v83 V : S4096x4096.Idx → EReal) (ix2 i j)
      = KernelIdeal.Value.adjR (fun y => Ideal.tanh (a ix0 * u y)) (fun y => Ideal.tanh (b ix0 * u y)) i j := fun i j => by
    rw [r83 V _ rfl, r80 V u hu a b ha hb, r80 V u hu a b ha hb]
    unfold KernelIdeal.Value.adjR
    simp only [mul_comm (Ideal.tanh (b ix0 * u _))]
  have hE : ∀ i j : Fin 4096, (res_main_v90 V : S4096x4096.Idx → EReal) (ix2 i j)
      = KernelIdeal.Value.adjE (fun y => Ideal.tanh (a ix0 * u y)) (fun y => Ideal.tanh (b ix0 * u y)) i j := fun i j => by
    rw [r90 V _ rfl]
    unfold KernelIdeal.Value.adjE
    simp only [hR]
    rw [max_eq_right]
    rw [Maths.bits_neg_inf]; exact bot_le
  rw [r97 V _ rfl]
  unfold KernelIdeal.Value.predG
  simp only [hE]
  rfl

theorem tanh_real (x : EReal) : ∃ r : ℝ, Ideal.tanh x = (r : EReal) := by
  induction x with
  | bot => exact ⟨-1, rfl⟩
  | top => exact ⟨1, rfl⟩
  | coe r => exact ⟨_, rfl⟩

/-- The prediction of real features is a nonnegative real. -/
theorem pred_real (s t : S4096x128.Idx → EReal) (hs : ∀ i, ∃ r : ℝ, s i = (r : EReal)) (ht : ∀ i, ∃ r : ℝ, t i = (r : EReal)) :
    ∃ p : Fin 4096 → Fin 4096 → ℝ, (∀ i j, 0 ≤ p i j) ∧ ∀ i j, KernelIdeal.Value.predG s t (ix2 i j) = ((p i j : ℝ) : EReal) := by
  choose s' hs using hs
  choose t' ht using ht
  have hR : ∀ i j, ∃ r : ℝ, KernelIdeal.Value.adjR s t i j = (r : EReal) := fun i j => by
    unfold KernelIdeal.Value.adjR
    simp only [hs, ht, ← EReal.coe_mul, ← Maths.coe_sum', ← EReal.coe_sub]
    exact ⟨_, (Maths.coe_max _ 0).symm⟩
  choose r hr using hR
  have hE : ∀ i j, ∃ e : ℝ, 0 < e ∧ KernelIdeal.Value.adjE s t i j = (e : EReal) := fun i j => by
    unfold KernelIdeal.Value.adjE
    simp only [hr]
    obtain ⟨m, hm⟩ := Maths.fold_real fun l => r i l
    rw [Maths.bits_neg_inf, hm, ← EReal.coe_sub]
    exact ⟨_, Real.exp_pos _, rfl⟩
  choose e he0 he using hE
  obtain ⟨q, hq⟩ : ∃ q : ℝ, Ideal.ofBits .f32 0x3DCCCCCD#32 = (q : EReal) := by
    simp only [Ideal.ofBits, Ideal.ieee]
    rw [if_neg (by decide), if_neg (by decide)]
    exact ⟨_, rfl⟩
  refine ⟨fun i j => max (e i j / (∑ l, e i l) - q) 0, fun i j => le_max_right _ _, fun i j => ?_⟩
  show max (Ideal.div (KernelIdeal.Value.adjE s t i j) (∑ l : Fin 4096, KernelIdeal.Value.adjE s t i l) - Ideal.ofBits .f32 0x3DCCCCCD#32) 0 = _
  simp only [he, hq]
  rw [← Maths.coe_sum', Maths.div_coe _ _ (ne_of_gt (Finset.sum_pos (fun l _ => he0 i l) ⟨0, Finset.mem_univ _⟩)), ← EReal.coe_sub, Maths.coe_max]
  rfl

end Cert.ReferenceIdeal.Value
-- ==== Proof.Value.RefDense.lean ====
/- The reference's dense layers, at an index. -/
module

public import proofs.«01_k».proof.Proof.Gen.ReferenceIdeal.Run
public import proofs.«01_k».proof.Proof.Value.Layers
public import proofs.«01_k».proof.Proof.Value.Maths
public import Idealize.ShloMosaic.Lib.Pointwise

@[expose] public section

set_option maxRecDepth 16384
set_option maxHeartbeats 2000000

noncomputable section

namespace Cert.ReferenceIdeal.Value

open Cert.ReferenceIdeal Cert.ReferenceIdeal.Gen
open Idealize.ShloMosaic Idealize.ShloMosaic.TcCoe

variable (V : Valuation τ sig (Elt Ideal))

theorem r108 (p : S4096x4096.Idx → EReal) (hp : res_main_v97 V = p) (i j : Fin 4096) :
    (res_main_v108 V : S4096x4096.Idx → EReal) (ix2 i j) = p (ix2 i j) + if i = j then (1 : EReal) else 0 := by
  unfold res_main_v108
  rw [hp]
  pointwise
  rw [Maths.eye_word (by decide) i j, Maths.word_one]

theorem r109 (x : S4096x4096.Idx → EReal) (hx : res_main_v108 V = x) (j : Fin 4096) :
    (res_main_v109 V : S4096.Idx → EReal) (ix1 j) = ∑ k : Fin 4096, x (ix2 k j) := by
  unfold res_main_v109
  rw [hx]
  pointwise

theorem r114 (d : S4096.Idx → EReal) (hd : res_main_v109 V = d) (j : Fin 4096) :
    (res_main_v114 V : S4096.Idx → EReal) (ix1 j)
      = if 0 < d (ix1 j) then Ideal.pow (d (ix1 j)) (Ideal.ofBits .f32 0xBF000000#32) else id (constant (F := Ideal) S_ .f32 0#32) ix0 := by
  unfold res_main_v114
  rw [hd]
  pointwise

theorem r132 (u : S4096x128.Idx → EReal) (hu : res_main_v72 V = u) (d : S4096.Idx → EReal) (hd : res_main_v114 V = d)
    (p : S4096x4096.Idx → EReal) (hp : res_main_v108 V = p) (w : S2x128x128.Idx → EReal) (hw : V (Proc.devRef .tc main_arg13) = w)
    (b : S2x128.Idx → EReal) (hb : V (Proc.devRef .tc main_arg14) = b) (n : Fin 4096) (c : Fin 128) :
    (res_main_v132 V : S4096x128.Idx → EReal) (ix2 n c)
      = Ideal.ofBits .f32 0x3F666666#32
          * (∑ k : Fin 4096, d (ix1 k) * p (ix2 k n) * d (ix1 n) * (∑ l : Fin 128, u (ix2 k l) * w (ix3 0 c l)) + b (ix2 0 c))
        + Ideal.ofBits .f32 0x3DCCCCCD#32 * u (ix2 n c) := by
  unfold res_main_v132
  rw [hu, hd, hp, hw, hb]
  pointwise

/-- The degrees are one more than the prediction's column sums. -/
theorem deg_eq (p : Fin 4096 → Fin 4096 → ℝ) (hp : ∀ i j, (res_main_v97 V : S4096x4096.Idx → EReal) (ix2 i j) = ((p i j : ℝ) : EReal)) (j : Fin 4096) :
    (res_main_v109 V : S4096.Idx → EReal) (ix1 j) = 1 + ∑ k : Fin 4096, ((p k j : ℝ) : EReal) := by
  rw [r109 V _ rfl, add_comm]
  simp only [r108 V _ rfl, hp]
  rw [Finset.sum_add_distrib, Finset.sum_eq_single (s := Finset.univ) (f := fun k => if k = j then (1 : EReal) else 0) j]
  · rw [if_pos rfl]
  · intro k _ hk; rw [if_neg hk]
  · intro h; exact absurd (Finset.mem_univ j) h

theorem one_le_deg (p : Fin 4096 → Fin 4096 → ℝ) (hp0 : ∀ i j, 0 ≤ p i j) (j : Fin 4096) :
    (1 : EReal) ≤ 1 + ∑ k : Fin 4096, ((p k j : ℝ) : EReal) := by
  have h : (0 : EReal) ≤ ∑ k : Fin 4096, ((p k j : ℝ) : EReal) := Finset.sum_nonneg fun k _ => by exact_mod_cast hp0 k j
  have := add_le_add (le_refl (1 : EReal)) h
  rwa [add_zero] at this

theorem dinv_eq (p : Fin 4096 → Fin 4096 → ℝ) (hp0 : ∀ i j, 0 ≤ p i j)
    (hp : ∀ i j, (res_main_v97 V : S4096x4096.Idx → EReal) (ix2 i j) = ((p i j : ℝ) : EReal)) (j : Fin 4096) :
    (res_main_v114 V : S4096.Idx → EReal) (ix1 j) = Ideal.rsqrt (1 + ∑ k : Fin 4096, ((p k j : ℝ) : EReal)) := by
  rw [r114 V _ rfl, deg_eq V p hp]
  exact Maths.pow_rsqrt _ _ (one_le_deg p hp0 j)

/-- A dense layer, from the row sums of the normalised adjacency. -/
theorem dense_eq (p : Fin 4096 → Fin 4096 → ℝ) (hp0 : ∀ i j, 0 ≤ p i j) (t : Fin 4096 → Fin 128 → EReal) (w : Fin 128 → Fin 128 → EReal)
    (b : Fin 128 → EReal) (n : Fin 4096) (c : Fin 128) :
    Ideal.ofBits .f32 0x3F666666#32
        * (∑ k : Fin 4096, Ideal.rsqrt (1 + ∑ i : Fin 4096, ((p i k : ℝ) : EReal)) * (((p k n : ℝ) : EReal) + if k = n then (1 : EReal) else 0)
            * Ideal.rsqrt (1 + ∑ i : Fin 4096, ((p i n : ℝ) : EReal)) * (∑ l : Fin 128, t k l * w c l) + b c)
      + Ideal.ofBits .f32 0x3DCCCCCD#32 * t n c
      = Maths.denseL (fun k n => ((p k n : ℝ) : EReal)) (fun k => Ideal.rsqrt (1 + ∑ i : Fin 4096, ((p i k : ℝ) : EReal))) t w b n c := by
  have h := fun k => Maths.rsqrt_real _ (one_le_deg p hp0 k)
  choose d hd0 hd using h
  unfold Maths.denseL
  simp only [hd]
  rw [Maths.dense_row (fun k => p k n) (fun k => hp0 k n) d hd0]

theorem dense1 (p : Fin 4096 → Fin 4096 → ℝ) (hp0 : ∀ i j, 0 ≤ p i j)
    (hp : ∀ i j, (res_main_v97 V : S4096x4096.Idx → EReal) (ix2 i j) = ((p i j : ℝ) : EReal))
    (u : S4096x128.Idx → EReal) (hu : res_main_v72 V = u) (w : S2x128x128.Idx → EReal) (hw : V (Proc.devRef .tc main_arg13) = w)
    (b : S2x128.Idx → EReal) (hb : V (Proc.devRef .tc main_arg14) = b) (n : Fin 4096) (c : Fin 128) :
    (res_main_v132 V : S4096x128.Idx → EReal) (ix2 n c)
      = Maths.denseL (fun k n => ((p k n : ℝ) : EReal)) (fun k => Ideal.rsqrt (1 + ∑ i : Fin 4096, ((p i k : ℝ) : EReal)))
          (fun n c => u (ix2 n c)) (fun c l => w (ix3 0 c l)) (fun c => b (ix2 0 c)) n c := by
  rw [r132 V u hu _ rfl _ rfl w hw b hb, ← dense_eq p hp0]
  simp only [dinv_eq V p hp0 hp, r108 V _ rfl, hp]

end Cert.ReferenceIdeal.Value
-- ==== Proof.Value.RefSparse.lean ====
/- The reference's sparse layers, at an index. -/
module

public import proofs.«01_k».proof.Proof.Gen.ReferenceIdeal.Run
public import proofs.«01_k».proof.Proof.Value.Layers
public import proofs.«01_k».proof.Proof.Value.Maths
public import Idealize.ShloMosaic.Lib.Pointwise

@[expose] public section

set_option maxRecDepth 16384
set_option maxHeartbeats 2000000

noncomputable section

namespace Cert.ReferenceIdeal.Value

open Cert.ReferenceIdeal Cert.ReferenceIdeal.Gen
open Idealize.ShloMosaic Idealize.ShloMosaic.TcCoe

variable (V : Valuation τ sig (Elt Ideal))

theorem rg1 {α : Type} (x : S4096.Idx → α) (idx : IVec S135168x1 32) (e : Fin 135168) :
    Host.gather gather_S4096_S135168x1_S135168_n_0_n_n_0_1_1 x idx (ix1 e) = x (ix1 (Maths.nodeOf (idx (ix2 e 0)))) :=
  Maths.gather1 _ (by omega) x idx e

theorem rg2 {α : Type} (x : S4096x128.Idx → α) (idx : IVec S135168x1 32) (e : Fin 135168) (c : Fin 128) :
    Host.gather gather_S4096x128_S135168x1_S135168x128_1_0_n_n_0_1_1128 x idx (ix2 e c) = x (ix2 (Maths.nodeOf (idx (ix2 e 0))) c) :=
  Maths.gather2 _ (by omega) x idx e c

theorem rs1 (x : FVec Ideal S4096 .f32) (idx : IVec S135168x1 32) (u : FVec Ideal S135168 .f32) (n : Fin 4096) :
    Host.scatterAdd scatter_S4096_S135168x1_S135168_n_0_0_1 x idx u (ix1 n)
      = x (ix1 n) + Maths.edgeSum (fun e => idx (ix2 e 0)) (fun e => u (ix1 e)) n.val :=
  Maths.scatter1 _ x idx u n

theorem rs2 (x : FVec Ideal S4096x128 .f32) (idx : IVec S135168x1 32) (u : FVec Ideal S135168x128 .f32) (n : Fin 4096) (c : Fin 128) :
    Host.scatterAdd scatter_S4096x128_S135168x1_S135168x128_1_0_0_1 x idx u (ix2 n c)
      = x (ix2 n c) + Maths.edgeSum (fun e => idx (ix2 e 0)) (fun e => u (ix2 e c)) n.val :=
  Maths.scatter2 _ x idx u n c

theorem r177 (s : IVec S2x131072 32) (hs : V (Proc.devRef .tc main_arg3) = s) (e : Fin 135168) :
    (res_main_v177 V : IVec S135168 32) (ix1 e) = Maths.loops (fun e => s (ix2 0 e)) (fun k => BitVec.ofNat 32 k.val) e := by
  subst hs
  unfold Maths.loops
  unfold res_main_v177 res_main_v169 res_main_v176
  pointwise

theorem r178 (s : IVec S2x131072 32) (hs : V (Proc.devRef .tc main_arg3) = s) (e : Fin 135168) :
    (res_main_v178 V : IVec S135168 32) (ix1 e) = Maths.loops (fun e => s (ix2 1 e)) (fun k => BitVec.ofNat 32 k.val) e := by
  subst hs
  unfold Maths.loops
  unfold res_main_v178 res_main_v171 res_main_v176
  pointwise

theorem r180 (w : S131072.Idx → EReal) (hw : V (Proc.devRef .tc main_arg4) = w) (e : Fin 135168) :
    (res_main_v180 V : S135168.Idx → EReal) (ix1 e) = Maths.loops (fun e => w (ix1 e)) (fun _ => 1) e := by
  subst hw
  unfold Maths.loops
  unfold res_main_v180
  pointwise

theorem r183 (d : IVec S135168 32) (hd : res_main_v178 V = d) (w : S135168.Idx → EReal) (hw : res_main_v180 V = w) (n : Fin 4096) :
    (res_main_v183 V : S4096.Idx → EReal) (ix1 n) = Maths.edgeSum (fun e => d (ix1 e)) (fun e => w (ix1 e)) n.val := by
  unfold res_main_v183
  rw [hd, hw]
  pointwise [rs1]

theorem r188 (d : S4096.Idx → EReal) (hd : res_main_v183 V = d) (j : Fin 4096) :
    (res_main_v188 V : S4096.Idx → EReal) (ix1 j)
      = if 0 < d (ix1 j) then Ideal.pow (d (ix1 j)) (Ideal.ofBits .f32 0xBF000000#32) else id (constant (F := Ideal) S_ .f32 0#32) ix0 := by
  unfold res_main_v188
  rw [hd]
  pointwise

theorem r227 (u : S4096x128.Idx → EReal) (hu : res_main_v72 V = u) (s : IVec S135168 32) (hs : res_main_v177 V = s) (d : IVec S135168 32)
    (hd : res_main_v178 V = d) (w : S135168.Idx → EReal) (hw : res_main_v180 V = w) (g : S4096.Idx → EReal) (hg : res_main_v188 V = g)
    (wt : S2x128x128.Idx → EReal) (hwt : V (Proc.devRef .tc main_arg15) = wt) (b : S2x128.Idx → EReal)
    (hb : V (Proc.devRef .tc main_arg16) = b) (n : Fin 4096) (c : Fin 128) :
    (res_main_v227 V : S4096x128.Idx → EReal) (ix2 n c)
      = Ideal.ofBits .f32 0x3F666666#32
          * (Maths.edgeSum (fun e => d (ix1 e)) (fun e => g (ix1 (Maths.nodeOf (Maths.wrap (s (ix1 e))))) * w (ix1 e)
                * g (ix1 (Maths.nodeOf (Maths.wrap (d (ix1 e))))) * ∑ l : Fin 128, u (ix2 (Maths.nodeOf (Maths.wrap (s (ix1 e)))) l) * wt (ix3 0 c l)) n.val
              + b (ix2 0 c))
        + Ideal.ofBits .f32 0x3DCCCCCD#32 * u (ix2 n c) := by
  unfold res_main_v227
  rw [hu, hs, hd, hw, hg, hwt, hb]
  pointwise [rs2, rg1, rg2]
  rfl

section Layer

variable (s : IVec S2x131072 32) (hs : V (Proc.devRef .tc main_arg3) = s) (w : S131072.Idx → EReal) (hw : V (Proc.devRef .tc main_arg4) = w)

include hs hw in
theorem sdeg_eq (n : Fin 4096) :
    (res_main_v183 V : S4096.Idx → EReal) (ix1 n) = Maths.degL (fun e => s (ix2 1 e)) (fun e => w (ix1 e)) n := by
  rw [r183 V _ rfl _ rfl, ← Maths.deg_loops]
  simp only [r178 V s hs, r180 V w hw]

include hs hw in
theorem sdinv_eq (h0 : ∀ e, 0 ≤ w e) (n : Fin 4096) :
    (res_main_v188 V : S4096.Idx → EReal) (ix1 n) = Ideal.rsqrt (Maths.degL (fun e => s (ix2 1 e)) (fun e => w (ix1 e)) n) := by
  rw [r188 V _ rfl, sdeg_eq V s hs w hw]
  exact Maths.pow_rsqrt _ _ (Maths.one_le_degL _ _ (fun e => h0 _) n)

include hs hw in
theorem sparse1 (h0 : ∀ e, 0 ≤ w e) (u : S4096x128.Idx → EReal) (hu : res_main_v72 V = u)
    (wt : S2x128x128.Idx → EReal) (hwt : V (Proc.devRef .tc main_arg15) = wt) (b : S2x128.Idx → EReal)
    (hb : V (Proc.devRef .tc main_arg16) = b) (n : Fin 4096) (c : Fin 128) :
    (res_main_v227 V : S4096x128.Idx → EReal) (ix2 n c)
      = Maths.sparseL (fun e => s (ix2 0 e)) (fun e => s (ix2 1 e)) (fun e => w (ix1 e)) (fun n c => u (ix2 n c))
          (fun c l => wt (ix3 0 c l)) (fun c => b (ix2 0 c)) n c := by
  rw [r227 V u hu _ rfl _ rfl _ rfl _ rfl wt hwt b hb]
  exact Maths.sparse_loops _ _ _ (fun e => h0 _) (fun n c => u (ix2 n c)) (fun c l => wt (ix3 0 c l)) (fun c => b (ix2 0 c)) n c _ _
    (funext fun e => r177 V s hs e) (funext fun e => r178 V s hs e) _ (funext fun e => r180 V w hw e)
    (fun n => (res_main_v188 V : S4096.Idx → EReal) (ix1 n)) (sdinv_eq V s hs w hw h0)

end Layer

end Cert.ReferenceIdeal.Value
-- ==== Proof.Value.RefOut.lean ====
/- The reference's aggregated features, as two layers of each kind. -/
module

public import proofs.«01_k».proof.Proof.Value.RefDense
public import proofs.«01_k».proof.Proof.Value.RefSparse

@[expose] public section

set_option maxRecDepth 16384
set_option maxHeartbeats 2000000

noncomputable section

namespace Cert.ReferenceIdeal.Value

open Cert.ReferenceIdeal Cert.ReferenceIdeal.Gen
open Idealize.ShloMosaic Idealize.ShloMosaic.TcCoe

variable (V : Valuation τ sig (Elt Ideal))

/-! The second layer's tables are the first's. -/

theorem same143 : res_main_v143 V = res_main_v108 V := rfl
theorem same144 : res_main_v144 V = res_main_v109 V := by
  unfold res_main_v144 res_main_v109
  rw [same143]
theorem same149 : res_main_v149 V = res_main_v114 V := by
  unfold res_main_v149 res_main_v114
  rw [same144]
theorem same233 : res_main_v233 V = res_main_v177 V := rfl
theorem same234 : res_main_v234 V = res_main_v178 V := rfl
theorem same236 : res_main_v236 V = res_main_v180 V := rfl
theorem same239 : res_main_v239 V = res_main_v183 V := by
  unfold res_main_v239 res_main_v183
  rw [same234, same236]
theorem same244 : res_main_v244 V = res_main_v188 V := by
  unfold res_main_v244 res_main_v188
  rw [same239]

theorem r284 (u : S4096x128.Idx → EReal) (hu : res_main_v132 V = u) (dv : S4096.Idx → EReal) (hdv : res_main_v114 V = dv)
    (p : S4096x4096.Idx → EReal) (hp : res_main_v108 V = p) (wd : S2x128x128.Idx → EReal) (hwd : V (Proc.devRef .tc main_arg13) = wd)
    (bd : S2x128.Idx → EReal) (hbd : V (Proc.devRef .tc main_arg14) = bd)
    (t : S4096x128.Idx → EReal) (ht : res_main_v227 V = t) (s : IVec S135168 32) (hs : res_main_v177 V = s) (d : IVec S135168 32)
    (hd : res_main_v178 V = d) (w : S135168.Idx → EReal) (hw : res_main_v180 V = w) (g : S4096.Idx → EReal) (hg : res_main_v188 V = g)
    (wt : S2x128x128.Idx → EReal) (hwt : V (Proc.devRef .tc main_arg15) = wt) (b : S2x128.Idx → EReal)
    (hb : V (Proc.devRef .tc main_arg16) = b) (n : Fin 4096) (c : Fin 128) :
    (val6 V (Proc.devRef .tc main_v284) : S4096x128.Idx → EReal) (ix2 n c)
      = (Ideal.ofBits .f32 0x3F666666#32
            * (∑ k : Fin 4096, dv (ix1 k) * p (ix2 k n) * dv (ix1 n) * (∑ l : Fin 128, u (ix2 k l) * wd (ix3 1 c l)) + bd (ix2 1 c))
          + Ideal.ofBits .f32 0x3DCCCCCD#32 * u (ix2 n c))
        + (Ideal.ofBits .f32 0x3F666666#32
            * (Maths.edgeSum (fun e => d (ix1 e)) (fun e => g (ix1 (Maths.nodeOf (Maths.wrap (s (ix1 e))))) * w (ix1 e)
                  * g (ix1 (Maths.nodeOf (Maths.wrap (d (ix1 e))))) * ∑ l : Fin 128, t (ix2 (Maths.nodeOf (Maths.wrap (s (ix1 e)))) l) * wt (ix3 1 c l)) n.val
                + b (ix2 1 c))
          + Ideal.ofBits .f32 0x3DCCCCCD#32 * t (ix2 n c)) := by
  rw [val6_main_v284, same143, same149, same233, same234, same236, same244, hu, hdv, hp, hwd, hbd, ht, hs, hd, hw, hg, hwt, hb]
  pointwise [rs2, rg1, rg2]
  rfl

/-- The reference's aggregated features at a node and a feature. -/
theorem out_eq (p : Fin 4096 → Fin 4096 → ℝ) (hp0 : ∀ i j, 0 ≤ p i j)
    (hp : ∀ i j, (res_main_v97 V : S4096x4096.Idx → EReal) (ix2 i j) = ((p i j : ℝ) : EReal))
    (u : Fin 4096 → Fin 128 → EReal) (hu : ∀ n c, (res_main_v72 V : S4096x128.Idx → EReal) (ix2 n c) = u n c)
    (wd : S2x128x128.Idx → EReal) (hwd : V (Proc.devRef .tc main_arg13) = wd) (bd : S2x128.Idx → EReal) (hbd : V (Proc.devRef .tc main_arg14) = bd)
    (s : IVec S2x131072 32) (hs : V (Proc.devRef .tc main_arg3) = s) (w : S131072.Idx → EReal) (hw : V (Proc.devRef .tc main_arg4) = w)
    (h0 : ∀ e, 0 ≤ w e) (wt : S2x128x128.Idx → EReal) (hwt : V (Proc.devRef .tc main_arg15) = wt) (b : S2x128.Idx → EReal)
    (hb : V (Proc.devRef .tc main_arg16) = b) (n : Fin 4096) (c : Fin 128) :
    (val6 V (Proc.devRef .tc main_v284) : S4096x128.Idx → EReal) (ix2 n c)
      = Maths.denseL (fun k n => ((p k n : ℝ) : EReal)) (fun k => Ideal.rsqrt (1 + ∑ i : Fin 4096, ((p i k : ℝ) : EReal)))
          (Maths.denseL (fun k n => ((p k n : ℝ) : EReal)) (fun k => Ideal.rsqrt (1 + ∑ i : Fin 4096, ((p i k : ℝ) : EReal)))
            u (fun c l => wd (ix3 0 c l)) (fun c => bd (ix2 0 c))) (fun c l => wd (ix3 1 c l)) (fun c => bd (ix2 1 c)) n c
        + Maths.sparseL (fun e => s (ix2 0 e)) (fun e => s (ix2 1 e)) (fun e => w (ix1 e))
            (Maths.sparseL (fun e => s (ix2 0 e)) (fun e => s (ix2 1 e)) (fun e => w (ix1 e)) u (fun c l => wt (ix3 0 c l)) (fun c => b (ix2 0 c)))
            (fun c l => wt (ix3 1 c l)) (fun c => b (ix2 1 c)) n c := by
  obtain rfl : (fun n c => (res_main_v72 V : S4096x128.Idx → EReal) (ix2 n c)) = u := funext₂ hu
  rw [r284 V _ rfl _ rfl _ rfl wd hwd bd hbd _ rfl _ rfl _ rfl _ rfl _ rfl wt hwt b hb]
  refine congrArg₂ (· + ·) ?_ ?_
  · rw [← dense_eq p hp0]
    simp only [dinv_eq V p hp0 hp, r108 V _ rfl, hp, dense1 V p hp0 hp _ rfl wd hwd bd hbd]
  · have e := funext₂ (sparse1 V s hs w hw h0 _ rfl wt hwt b hb)
    rw [← e]
    exact Maths.sparse_loops _ _ _ (fun e => h0 _) (fun n c => (res_main_v227 V : S4096x128.Idx → EReal) (ix2 n c)) (fun c l => wt (ix3 1 c l))
      (fun c => b (ix2 1 c)) n c _ _
      (funext fun e => r177 V s hs e) (funext fun e => r178 V s hs e) _ (funext fun e => r180 V w hw e)
      (fun n => (res_main_v188 V : S4096.Idx → EReal) (ix1 n)) (sdinv_eq V s hs w hw h0)

end Cert.ReferenceIdeal.Value
-- ==== Proof.Value.Equal.lean ====
/- The kernel's results are the reference's, from equal arguments that meet the precondition. -/
module

public import proofs.«01_k».proof.Proof.Value.AttendEq
public import proofs.«01_k».proof.Proof.Value.Trace3
public import proofs.«01_k».proof.Proof.Value.RefAdj
public import proofs.«01_k».proof.Proof.Value.RefOut

@[expose] public section

set_option maxRecDepth 16384

noncomputable section

namespace Cert.KernelIdeal.Value

open Cert.KernelIdeal Cert.KernelIdeal.Gen Cert.KernelIdeal.Run
open Idealize.ShloMosaic Idealize.ShloMosaic.TcCoe
open Cert.ReferenceIdeal.Value (rowR seqR lastR)

/-- The named constant is the inverse square root of a head's width. -/
theorem kap_eq : kap = (((Real.sqrt 32)⁻¹ : ℝ) : EReal) := rfl

/-- A sum of real numbers is real. -/
theorem sum_real {ι : Type} [Fintype ι] (f : ι → EReal) (hf : ∀ i, ∃ r : ℝ, f i = (r : EReal)) : ∃ r : ℝ, ∑ i, f i = (r : EReal) := by
  choose g hg using hf
  exact ⟨∑ i, g i, by simp only [hg, Maths.coe_sum']⟩

/-- The arguments are what the claims ask of them: nonnegative edge weights, real sequences, features and projections. -/
structure Good (m : (ℓ : Loc nD τ sig) → Buf (Elt Ideal) ℓ) (c : Dev nD) : Prop where
  a4 : ∀ i, 0 ≤ A4 m c i
  a0 : ∀ i, ∃ r : ℝ, A0 m c i = (r : EReal)
  a1 : ∀ i, ∃ r : ℝ, A1 m c i = (r : EReal)
  a2 : ∀ i, ∃ r : ℝ, A2 m c i = (r : EReal)
  a5 : ∀ i, ∃ r : ℝ, A5 m c i = (r : EReal)
  a6 : ∀ i, ∃ r : ℝ, A6 m c i = (r : EReal)

/-- The reference's arguments are the kernel's. -/
structure Same (m : (ℓ : Loc nD τ sig) → Buf (Elt Ideal) ℓ) (c : Dev nD) (V : Valuation ReferenceIdeal.τ ReferenceIdeal.sig (Elt Ideal)) : Prop where
  h0 : V (Proc.devRef .tc ReferenceIdeal.main_arg0) = A0 m c
  h1 : V (Proc.devRef .tc ReferenceIdeal.main_arg1) = A1 m c
  h2 : V (Proc.devRef .tc ReferenceIdeal.main_arg2) = A2 m c
  h3 : V (Proc.devRef .tc ReferenceIdeal.main_arg3) = A3 m c
  h4 : V (Proc.devRef .tc ReferenceIdeal.main_arg4) = A4 m c
  h5 : V (Proc.devRef .tc ReferenceIdeal.main_arg5) = A5 m c
  h6 : V (Proc.devRef .tc ReferenceIdeal.main_arg6) = A6 m c
  h7 : V (Proc.devRef .tc ReferenceIdeal.main_arg7) = A7 m c
  h8 : V (Proc.devRef .tc ReferenceIdeal.main_arg8) = A8 m c
  h9 : V (Proc.devRef .tc ReferenceIdeal.main_arg9) = A9 m c
  h10 : V (Proc.devRef .tc ReferenceIdeal.main_arg10) = A10 m c
  h11 : V (Proc.devRef .tc ReferenceIdeal.main_arg11) = A11 m c
  h12 : V (Proc.devRef .tc ReferenceIdeal.main_arg12) = A12 m c
  h13 : V (Proc.devRef .tc ReferenceIdeal.main_arg13) = A13 m c
  h14 : V (Proc.devRef .tc ReferenceIdeal.main_arg14) = A14 m c
  h15 : V (Proc.devRef .tc ReferenceIdeal.main_arg15) = A15 m c
  h16 : V (Proc.devRef .tc ReferenceIdeal.main_arg16) = A16 m c

variable (m : (ℓ : Loc nD τ sig) → Buf (Elt Ideal) ℓ) (ρ : Dev nD → PrngReg) (c : Dev nD)
variable (V : Valuation ReferenceIdeal.τ ReferenceIdeal.sig (Elt Ideal))

/-- The features out of the attention. -/
theorem feat_eq (g : Good m c) (s : Same m c V) (n : Fin 4096) (j : Fin 128) :
    (ReferenceIdeal.Value.res_main_v72 V : S4096x128.Idx → EReal) (ix2 n j) = feat m c n j := by
  have hseq : ∀ t k, ∃ r : ℝ, seqR (A0 m c) (A1 m c) n t k = (r : EReal) := fun t k => by
    unfold seqR
    split
    exacts [g.a0 _, g.a1 _]
  have hrow : ∀ k, ∃ r : ℝ, rowR (A2 m c) n k = (r : EReal) := fun k => by
    unfold rowR
    split
    exacts [g.a2 _, g.a2 _]
  have hlast : ∀ k, ∃ r : ℝ, lastR (A0 m c) (A1 m c) n k = (r : EReal) := fun k => by
    unfold lastR
    split
    exacts [sum_real _ fun _ => g.a0 _, sum_real _ fun _ => g.a1 _]
  rw [ReferenceIdeal.Value.u_row V _ _ _ _ _ _ _ _ _ s.h0 s.h1 s.h2 s.h5 s.h6 s.h7 s.h8 s.h9 s.h10]
  unfold feat
  rw [kap_eq]
  exact (Maths.row_eq _ _ _ _ _ _ _ _ _ _ _ _ _ _ j hrow hseq hlast (fun _ _ => g.a5 _) (fun _ _ => g.a5 _) (fun _ _ => g.a5 _)
    (fun _ => g.a6 _) (fun _ => g.a6 _) (fun _ => g.a6 _)).symm

theorem featA_eq (g : Good m c) (s : Same m c V) : (ReferenceIdeal.Value.res_main_v72 V : S4096x128.Idx → EReal) = featA m c := by
  funext y
  idx_vars y
  exact feat_eq m c V g s _ _

/-- The prediction. -/
theorem v97_eq (g : Good m c) (s : Same m c V) :
    (ReferenceIdeal.Value.res_main_v97 V : S4096x4096.Idx → EReal) = predG (featS m c) (featT m c) := by
  funext y
  idx_vars y
  exact ReferenceIdeal.Value.pred_eq V _ (featA_eq m c V g s) _ _ s.h11 s.h12 _ _

/-- The aggregated features. -/
theorem v284_eq (g : Good m c) (s : Same m c V) :
    (ReferenceIdeal.Value.val6 V (Proc.devRef .tc ReferenceIdeal.main_v284) : S4096x128.Idx → EReal)
      = (W29 m ρ c (Proc.devRef .tc main_v155) : S4096x128.Idx → EReal) := by
  obtain ⟨p, hp0, hp⟩ := ReferenceIdeal.Value.pred_real (featS m c) (featT m c) (fun _ => ReferenceIdeal.Value.tanh_real _)
    (fun _ => ReferenceIdeal.Value.tanh_real _)
  funext y
  idx_vars y
  refine (ReferenceIdeal.Value.out_eq V p hp0 (fun i k => (congrFun (v97_eq m c V g s) _).trans (hp i k)) (feat m c) (feat_eq m c V g s) _ s.h13 _ s.h14
    _ s.h3 _ s.h4 g.a4 _ s.h15 _ s.h16 _ _).trans ?_
  have hP : (fun k n => ((p k n : ℝ) : EReal)) = predK m c := funext₂ fun k n => (hp k n).symm
  have hD : (fun k => Ideal.rsqrt (1 + ∑ i : Fin 4096, ((p i k : ℝ) : EReal))) = dinvK m c := funext fun k => by
    unfold dinvK
    rw [← hP]
  rw [hP, hD, w29_v155, add_comm]
  rfl

/-- The features, once over the other. -/
theorem w29_v156 : W29 m ρ c (Proc.devRef .tc main_v156)
    = concatenate S4096x128 0 [⟨S2048x128, A2 m c⟩, ⟨S2048x128, A2 m c⟩] concatenates_S2048x128_S2048x128_S4096x128_d0 := by
  simp only [W29, hostOps13]
  after_results_simp
  rw [W28_args m ρ c main_arg2 (by decide)]

theorem w29_cst_16 : W29 m ρ c (Proc.devRef .tc main_cst_16) = constant (F := Ideal) S_ .f32 0x00000000#32 := by
  simp only [W29, hostOps13]
  after_results_simp

end Cert.KernelIdeal.Value
-- ==== Proof.lean ====
/- The proof of the claims: the kernel is one program with the idealized kernel at bits (Proof/AtBits), the idealized kernel
   runs region by region (Proof/Run), and its results are the reference's (Proof/Value). -/
module

public import proofs.«01_k».proof.Defs
public import proofs.«01_k».proof.Proof.AtBits
public import proofs.«01_k».proof.Proof.Run.Whole
public import proofs.«01_k».proof.Proof.Value.Inputs
public import proofs.«01_k».proof.Proof.Value.Equal
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import Idealize.ShloMosaic.Adequacy
public import Idealize.ShloMosaic.Init
public import Idealize.ShloMosaic.Lib.Claim

@[expose] public section

noncomputable section

namespace Cert.Proof

open Idealize.ShloMosaic Idealize.ShloMosaic.TcCoe Idealize.SL.Sem

/-- The kernel's frame: its run at bits is the idealized program's. -/
theorem frame_p : Cert.quiescent_Kernel (hKernel := Cert.Kernel.Gen.facts) := Cert.AtBits.quiescent

/-- The idealized kernel's frame. -/
theorem frame_pi : Cert.quiescent_KernelIdeal (hKernelIdeal := Cert.KernelIdeal.Gen.facts) :=
  fun m g _ => Cert.KernelIdeal.Run.frame (F := Ideal) m g

/-- The reference's frame: its operations write no argument, and it declares no semaphore. -/
theorem frame_ri : Cert.quiescent_ReferenceIdeal (hReferenceIdeal := Cert.ReferenceIdeal.Gen.facts) := fun m g _ =>
  (θ_run Cert.ReferenceIdeal.defs _ _).mono
    (fun r h => ⟨fun c => (h c).2.2.2.2, sem_eq_zero_of_no_sems (by decide) r.2⟩)
    (Cert.ReferenceIdeal.Value.run (F := Ideal) m g)

/-- The idealized kernel's frame, from the arguments the value claim is about. -/
theorem frame_pi_pre : Cert.quiescent_KernelIdeal_pre_graph_inputs_ok (hKernelIdeal := Cert.KernelIdeal.Gen.facts) (hPre_graph_inputs_ok := Cert.Inputs.facts) :=
  fun m g _ => frame_pi m g trivial

/-- The reference's frame, from those arguments. -/
theorem frame_ri_pre : Cert.quiescent_ReferenceIdeal_pre_graph_inputs_ok (hReferenceIdeal := Cert.ReferenceIdeal.Gen.facts) (hPre_graph_inputs_ok := Cert.Inputs.facts) :=
  fun m g _ => frame_ri m g trivial

/-- The named constant stands for the inverse square root of a head's width. -/
theorem preserves : Cert.preserves_Kernel_KernelIdeal :=
  IdealRules.named_const.statement Cert.KernelIdeal.κ "rsqrt_dh" .f32 0x3E3504F3#32 (((Real.sqrt 32)⁻¹ : ℝ) : EReal) rfl

/-- The precondition, as facts about the arguments. -/
theorem good (m : (ℓ : Loc KernelIdeal.nD KernelIdeal.τ KernelIdeal.sig) → Buf (Elt Ideal) ℓ)
    (h : Pre_KernelIdeal_graph_inputs_ok (hPre_graph_inputs_ok := Cert.Inputs.facts) m) (c : Dev KernelIdeal.nD) :
    KernelIdeal.Value.Good m c := by
  haveI := Cert.Inputs.facts
  obtain ⟨h4, h0, h1, h2, h5, h6⟩ := Cert.Inputs.inputs _ _ _ _ _ _ _ _ _ _ _ _ _ _ _ _ _ (h c)
  exact ⟨h4, h0, h1, h2, h5, h6⟩

/-- The four results of the idealized kernel are the reference's. -/
theorem algebraic : Cert.algebraic_KernelIdeal_ReferenceIdeal_pre_graph_inputs_ok (hKernelIdeal := Cert.KernelIdeal.Gen.facts)
    (hReferenceIdeal := Cert.ReferenceIdeal.Gen.facts) (hPre_graph_inputs_ok := Cert.Inputs.facts) := by
  intro m g m' g' hpre hargs
  have hs : ∀ c, KernelIdeal.Value.Same m c (StableHlo.launchContents m' c) := fun c => by
    obtain ⟨h0, h1, h2, h3, h4, h5, h6, h7, h8, h9, h10, h11, h12, h13, h14, h15, h16⟩ := hargs c
    exact ⟨h0, h1, h2, h3, h4, h5, h6, h7, h8, h9, h10, h11, h12, h13, h14, h15, h16⟩
  refine ⟨fun c => KernelIdeal.Run.W29 m g c (Proc.devRef .tc KernelIdeal.main_v156), fun c => KernelIdeal.Run.W29 m g c (Proc.devRef .tc KernelIdeal.main_v155),
    fun c => KernelIdeal.Run.W29 m g c (Proc.devRef .tc KernelIdeal.main_v59_0), fun c => KernelIdeal.Run.W29 m g c (Proc.devRef .tc KernelIdeal.main_cst_16), ?_, ?_⟩
  · exact θ_run_mono (θ_run_and (KernelIdeal.Run.run m g) (KernelIdeal.Run.frame m g)) fun r h c =>
      ⟨h.1.1 c _ (KernelIdeal.Run.mem_uc KernelIdeal.main_v156 (by decide)), h.1.1 c _ (KernelIdeal.Run.mem_uc KernelIdeal.main_v155 (by decide)),
        h.1.1 c _ (KernelIdeal.Run.mem_uc KernelIdeal.main_v59_0 (by decide)), h.1.1 c _ (KernelIdeal.Run.mem_uc KernelIdeal.main_cst_16 (by decide)), h.2.1 c⟩
  · refine (θ_run Cert.ReferenceIdeal.defs _ _).mono (fun r h c => ?_) (Cert.ReferenceIdeal.Value.run (F := Ideal) m' g')
    obtain ⟨e0, e1, e2, e3, ea⟩ := h c
    refine ⟨e0.trans ?_, e1.trans ?_, e2.trans ?_, e3.trans ?_, ea⟩
    · exact (congrArg (fun a => concatenate KernelIdeal.S4096x128 0 [⟨KernelIdeal.S2048x128, a⟩, ⟨KernelIdeal.S2048x128, a⟩]
          KernelIdeal.Gen.concatenates_S2048x128_S2048x128_S4096x128_d0) (hs c).h2).trans (KernelIdeal.Value.w29_v156 m g c).symm
    · exact (ReferenceIdeal.Value.val6_main_v284 _).symm.trans (KernelIdeal.Value.v284_eq m g c _ (good m hpre c) (hs c))
    · exact (KernelIdeal.Value.v97_eq m c _ (good m hpre c) (hs c)).trans (KernelIdeal.Value.w29_v59_0 m g c).symm
    · exact (KernelIdeal.Value.w29_cst_16 m g c).symm

theorem claim : Cert.Claim :=
  ⟨Cert.Kernel.Gen.facts, Cert.KernelIdeal.Gen.facts, Cert.ReferenceIdeal.Gen.facts, Cert.Inputs.facts, frame_p, frame_pi, frame_pi_pre, frame_ri,
    frame_ri_pre, preserves, algebraic⟩

end Cert.Proof

end
